-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_finite_in [hPre_finite_in : Cert.Pre_finite_in.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.1 = (fun _ => 1#1)
    ∧ (Cert.Pre_finite_in.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.1 = (fun _ => 1#1)
    ∧ (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.2 = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_finite_mlp [hPre_finite_mlp : Cert.Pre_finite_mlp.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.2.2.1 = (fun _ => 1#1)
    ∧ (Cert.Pre_finite_mlp.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5)) (m ((c.tc : Thread Cert.MlpKernelIdeal.nD Cert.MlpKernelIdeal.τ).loc Cert.MlpKernelIdeal.main_arg6)) (m ((c.tc : Thread Cert.MlpKernelIdeal.nD Cert.MlpKernelIdeal.τ).loc Cert.MlpKernelIdeal.main_arg7))).2.2.2.2.2.2.2 = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_finite_mlp [hPre_finite_mlp : Cert.Pre_finite_mlp.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.2.2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.2.2.2.2.1 = (fun _ => 1#1)
    ∧ (Cert.Pre_finite_mlp.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7))).2.2.2.2.2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_InfKernel (m : (ℓ : Loc Cert.InfKernel.nD Cert.InfKernel.τ Cert.InfKernel.sig) → Buf (Elt Bits) ℓ) : Prop :=
  True

def Pre_InfKernelIdeal (m : (ℓ : Loc Cert.InfKernelIdeal.nD Cert.InfKernelIdeal.τ Cert.InfKernelIdeal.sig) → Buf (Elt Ideal) ℓ) : Prop :=
  True

def Pre_InfReferenceIdeal (m : (ℓ : Loc Cert.InfReferenceIdeal.nD Cert.InfReferenceIdeal.τ Cert.InfReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_PoolfKernel (m : (ℓ : Loc Cert.PoolfKernel.nD Cert.PoolfKernel.τ Cert.PoolfKernel.sig) → Buf (Elt Bits) ℓ) : Prop :=
  True

def Pre_PoolfKernelIdeal (m : (ℓ : Loc Cert.PoolfKernelIdeal.nD Cert.PoolfKernelIdeal.τ Cert.PoolfKernelIdeal.sig) → Buf (Elt Ideal) ℓ) : Prop :=
  True

def Pre_PoolfKernelIdeal_finite_poolf [hPre_finite_poolf : Cert.Pre_finite_poolf.Facts] (m : (ℓ : Loc Cert.PoolfKernelIdeal.nD Cert.PoolfKernelIdeal.τ Cert.PoolfKernelIdeal.sig) → Buf (Elt Ideal) ℓ) : Prop :=
  ∀ c : Dev Cert.PoolfKernelIdeal.nD,
    (Cert.Pre_finite_poolf.fn (F := Ideal) (m ((c.tc : Thread Cert.PoolfKernelIdeal.nD Cert.PoolfKernelIdeal.τ).loc Cert.PoolfKernelIdeal.main_arg0)) (m ((c.tc : Thread Cert.PoolfKernelIdeal.nD Cert.PoolfKernelIdeal.τ).loc Cert.PoolfKernelIdeal.main_arg1)) (m ((c.tc : Thread Cert.PoolfKernelIdeal.nD Cert.PoolfKernelIdeal.τ).loc Cert.PoolfKernelIdeal.main_arg2))) = (fun _ => 1#1)

def Pre_PoolfReferenceIdeal (m : (ℓ : Loc Cert.PoolfReferenceIdeal.nD Cert.PoolfReferenceIdeal.τ Cert.PoolfReferenceIdeal.sig) → Buf (Elt Ideal) ℓ) : Prop :=
  True

def Pre_PoolfReferenceIdeal_finite_poolf [hPre_finite_poolf : Cert.Pre_finite_poolf.Facts] (m : (ℓ : Loc Cert.PoolfReferenceIdeal.nD Cert.PoolfReferenceIdeal.τ Cert.PoolfReferenceIdeal.sig) → Buf (Elt Ideal) ℓ) : Prop :=
  ∀ c : Dev Cert.PoolfReferenceIdeal.nD,
    (Cert.Pre_finite_poolf.fn (F := Ideal) (m ((c.tc : Thread Cert.PoolfReferenceIdeal.nD Cert.PoolfReferenceIdeal.τ).loc Cert.PoolfReferenceIdeal.main_arg0)) (m ((c.tc : Thread Cert.PoolfReferenceIdeal.nD Cert.PoolfReferenceIdeal.τ).loc Cert.PoolfReferenceIdeal.main_arg1)) (m ((c.tc : Thread Cert.PoolfReferenceIdeal.nD Cert.PoolfReferenceIdeal.τ).loc Cert.PoolfReferenceIdeal.main_arg2))) = (fun _ => 1#1)

def Pre_GradKernel (m : (ℓ : Loc Cert.GradKernel.nD Cert.GradKernel.τ Cert.GradKernel.sig) → Buf (Elt Bits) ℓ) : Prop :=
  True

def Pre_GradKernelIdeal (m : (ℓ : Loc Cert.GradKernelIdeal.nD Cert.GradKernelIdeal.τ Cert.GradKernelIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_finite_in [hInKernelIdeal : Cert.InKernelIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_finite_in m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpKernelIdeal_pre_finite_mlp [hMlpKernelIdeal : Cert.MlpKernelIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_finite_mlp m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_MlpReferenceIdeal_pre_finite_mlp [hMlpReferenceIdeal : Cert.MlpReferenceIdeal.Facts] [hPre_finite_mlp : Cert.Pre_finite_mlp.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_finite_mlp m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_InfKernel [hInfKernel : Cert.InfKernel.Facts] : Prop :=
  ∀ (m : (ℓ : Loc Cert.InfKernel.nD Cert.InfKernel.τ Cert.InfKernel.sig) → Buf (Elt Bits) ℓ) (g : Dev Cert.InfKernel.nD → PrngReg), Pre_InfKernel m →
    θ_run (Cert.InfKernel.defs (F := Bits)) (onTc (τ := Cert.InfKernel.τ) (Cert.InfKernel.main (F := Bits))) ⟨m, fun _ => 0, g⟩ (fun r => (∀ c : Dev Cert.InfKernel.nD,
      r.2.mem ((c.tc : Thread Cert.InfKernel.nD Cert.InfKernel.τ).loc Cert.InfKernel.main_arg0) = m ((c.tc : Thread Cert.InfKernel.nD Cert.InfKernel.τ).loc Cert.InfKernel.main_arg0)
      ∧ r.2.mem ((c.tc : Thread Cert.InfKernel.nD Cert.InfKernel.τ).loc Cert.InfKernel.main_arg1) = m ((c.tc : Thread Cert.InfKernel.nD Cert.InfKernel.τ).loc Cert.InfKernel.main_arg1))
      ∧ r.2.sem = fun _ => 0)

def quiescent_InfKernelIdeal [hInfKernelIdeal : Cert.InfKernelIdeal.Facts] : Prop :=
  ∀ (m : (ℓ : Loc Cert.InfKernelIdeal.nD Cert.InfKernelIdeal.τ Cert.InfKernelIdeal.sig) → Buf (Elt Ideal) ℓ) (g : Dev Cert.InfKernelIdeal.nD → PrngReg), Pre_InfKernelIdeal m →
    θ_run (Cert.InfKernelIdeal.defs (F := Ideal)) (onTc (τ := Cert.InfKernelIdeal.τ) (Cert.InfKernelIdeal.main (F := Ideal))) ⟨m, fun _ => 0, g⟩ (fun r => (∀ c : Dev Cert.InfKernelIdeal.nD,
      r.2.mem ((c.tc : Thread Cert.InfKernelIdeal.nD Cert.InfKernelIdeal.τ).loc Cert.InfKernelIdeal.main_arg0) = m ((c.tc : Thread Cert.InfKernelIdeal.nD Cert.InfKernelIdeal.τ).loc Cert.InfKernelIdeal.main_arg0)
      ∧ r.2.mem ((c.tc : Thread Cert.InfKernelIdeal.nD Cert.InfKernelIdeal.τ).loc Cert.InfKernelIdeal.main_arg1) = m ((c.tc : Thread Cert.InfKernelIdeal.nD Cert.InfKernelIdeal.τ).loc Cert.InfKernelIdeal.main_arg1))
      ∧ r.2.sem = fun _ => 0)

def quiescent_InfReferenceIdeal [hInfReferenceIdeal : Cert.InfReferenceIdeal.Facts] : Prop :=
  ∀ (m : (ℓ : Loc Cert.InfReferenceIdeal.nD Cert.InfReferenceIdeal.τ Cert.InfReferenceIdeal.sig) → Buf (Elt Ideal) ℓ) (g : Dev Cert.InfReferenceIdeal.nD → PrngReg), Pre_InfReferenceIdeal m →
    θ_run (Cert.InfReferenceIdeal.defs (F := Ideal)) (onTc (τ := Cert.InfReferenceIdeal.τ) (Cert.InfReferenceIdeal.main (F := Ideal))) ⟨m, fun _ => 0, g⟩ (fun r => (∀ c : Dev Cert.InfReferenceIdeal.nD,
      r.2.mem ((c.tc : Thread Cert.InfReferenceIdeal.nD Cert.InfReferenceIdeal.τ).loc Cert.InfReferenceIdeal.main_arg0) = m ((c.tc : Thread Cert.InfReferenceIdeal.nD Cert.InfReferenceIdeal.τ).loc Cert.InfReferenceIdeal.main_arg0)
      ∧ r.2.mem ((c.tc : Thread Cert.InfReferenceIdeal.nD Cert.InfReferenceIdeal.τ).loc Cert.InfReferenceIdeal.main_arg1) = m ((c.tc : Thread Cert.InfReferenceIdeal.nD Cert.InfReferenceIdeal.τ).loc Cert.InfReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_PoolfKernel [hPoolfKernel : Cert.PoolfKernel.Facts] : Prop :=
  ∀ (m : (ℓ : Loc Cert.PoolfKernel.nD Cert.PoolfKernel.τ Cert.PoolfKernel.sig) → Buf (Elt Bits) ℓ) (g : Dev Cert.PoolfKernel.nD → PrngReg), Pre_PoolfKernel m →
    θ_run (Cert.PoolfKernel.defs (F := Bits)) (onTc (τ := Cert.PoolfKernel.τ) (Cert.PoolfKernel.main (F := Bits))) ⟨m, fun _ => 0, g⟩ (fun r => (∀ c : Dev Cert.PoolfKernel.nD,
      r.2.mem ((c.tc : Thread Cert.PoolfKernel.nD Cert.PoolfKernel.τ).loc Cert.PoolfKernel.main_arg0) = m ((c.tc : Thread Cert.PoolfKernel.nD Cert.PoolfKernel.τ).loc Cert.PoolfKernel.main_arg0)
      ∧ r.2.mem ((c.tc : Thread Cert.PoolfKernel.nD Cert.PoolfKernel.τ).loc Cert.PoolfKernel.main_arg1) = m ((c.tc : Thread Cert.PoolfKernel.nD Cert.PoolfKernel.τ).loc Cert.PoolfKernel.main_arg1)
      ∧ r.2.mem ((c.tc : Thread Cert.PoolfKernel.nD Cert.PoolfKernel.τ).loc Cert.PoolfKernel.main_arg2) = m ((c.tc : Thread Cert.PoolfKernel.nD Cert.PoolfKernel.τ).loc Cert.PoolfKernel.main_arg2))
      ∧ r.2.sem = fun _ => 0)

def quiescent_PoolfKernelIdeal [hPoolfKernelIdeal : Cert.PoolfKernelIdeal.Facts] : Prop :=
  ∀ (m : (ℓ : Loc Cert.PoolfKernelIdeal.nD Cert.PoolfKernelIdeal.τ Cert.PoolfKernelIdeal.sig) → Buf (Elt Ideal) ℓ) (g : Dev Cert.PoolfKernelIdeal.nD → PrngReg), Pre_PoolfKernelIdeal m →
    θ_run (Cert.PoolfKernelIdeal.defs (F := Ideal)) (onTc (τ := Cert.PoolfKernelIdeal.τ) (Cert.PoolfKernelIdeal.main (F := Ideal))) ⟨m, fun _ => 0, g⟩ (fun r => (∀ c : Dev Cert.PoolfKernelIdeal.nD,
      r.2.mem ((c.tc : Thread Cert.PoolfKernelIdeal.nD Cert.PoolfKernelIdeal.τ).loc Cert.PoolfKernelIdeal.main_arg0) = m ((c.tc : Thread Cert.PoolfKernelIdeal.nD Cert.PoolfKernelIdeal.τ).loc Cert.PoolfKernelIdeal.main_arg0)
      ∧ r.2.mem ((c.tc : Thread Cert.PoolfKernelIdeal.nD Cert.PoolfKernelIdeal.τ).loc Cert.PoolfKernelIdeal.main_arg1) = m ((c.tc : Thread Cert.PoolfKernelIdeal.nD Cert.PoolfKernelIdeal.τ).loc Cert.PoolfKernelIdeal.main_arg1)
      ∧ r.2.mem ((c.tc : Thread Cert.PoolfKernelIdeal.nD Cert.PoolfKernelIdeal.τ).loc Cert.PoolfKernelIdeal.main_arg2) = m ((c.tc : Thread Cert.PoolfKernelIdeal.nD Cert.PoolfKernelIdeal.τ).loc Cert.PoolfKernelIdeal.main_arg2))
      ∧ r.2.sem = fun _ => 0)

def quiescent_PoolfKernelIdeal_pre_finite_poolf [hPoolfKernelIdeal : Cert.PoolfKernelIdeal.Facts] [hPre_finite_poolf : Cert.Pre_finite_poolf.Facts] : Prop :=
  ∀ (m : (ℓ : Loc Cert.PoolfKernelIdeal.nD Cert.PoolfKernelIdeal.τ Cert.PoolfKernelIdeal.sig) → Buf (Elt Ideal) ℓ) (g : Dev Cert.PoolfKernelIdeal.nD → PrngReg), Pre_PoolfKernelIdeal_finite_poolf m →
    θ_run (Cert.PoolfKernelIdeal.defs (F := Ideal)) (onTc (τ := Cert.PoolfKernelIdeal.τ) (Cert.PoolfKernelIdeal.main (F := Ideal))) ⟨m, fun _ => 0, g⟩ (fun r => (∀ c : Dev Cert.PoolfKernelIdeal.nD,
      r.2.mem ((c.tc : Thread Cert.PoolfKernelIdeal.nD Cert.PoolfKernelIdeal.τ).loc Cert.PoolfKernelIdeal.main_arg0) = m ((c.tc : Thread Cert.PoolfKernelIdeal.nD Cert.PoolfKernelIdeal.τ).loc Cert.PoolfKernelIdeal.main_arg0)
      ∧ r.2.mem ((c.tc : Thread Cert.PoolfKernelIdeal.nD Cert.PoolfKernelIdeal.τ).loc Cert.PoolfKernelIdeal.main_arg1) = m ((c.tc : Thread Cert.PoolfKernelIdeal.nD Cert.PoolfKernelIdeal.τ).loc Cert.PoolfKernelIdeal.main_arg1)
      ∧ r.2.mem ((c.tc : Thread Cert.PoolfKernelIdeal.nD Cert.PoolfKernelIdeal.τ).loc Cert.PoolfKernelIdeal.main_arg2) = m ((c.tc : Thread Cert.PoolfKernelIdeal.nD Cert.PoolfKernelIdeal.τ).loc Cert.PoolfKernelIdeal.main_arg2))
      ∧ r.2.sem = fun _ => 0)

def quiescent_PoolfReferenceIdeal [hPoolfReferenceIdeal : Cert.PoolfReferenceIdeal.Facts] : Prop :=
  ∀ (m : (ℓ : Loc Cert.PoolfReferenceIdeal.nD Cert.PoolfReferenceIdeal.τ Cert.PoolfReferenceIdeal.sig) → Buf (Elt Ideal) ℓ) (g : Dev Cert.PoolfReferenceIdeal.nD → PrngReg), Pre_PoolfReferenceIdeal m →
    θ_run (Cert.PoolfReferenceIdeal.defs (F := Ideal)) (onTc (τ := Cert.PoolfReferenceIdeal.τ) (Cert.PoolfReferenceIdeal.main (F := Ideal))) ⟨m, fun _ => 0, g⟩ (fun r => (∀ c : Dev Cert.PoolfReferenceIdeal.nD,
      r.2.mem ((c.tc : Thread Cert.PoolfReferenceIdeal.nD Cert.PoolfReferenceIdeal.τ).loc Cert.PoolfReferenceIdeal.main_arg0) = m ((c.tc : Thread Cert.PoolfReferenceIdeal.nD Cert.PoolfReferenceIdeal.τ).loc Cert.PoolfReferenceIdeal.main_arg0)
      ∧ r.2.mem ((c.tc : Thread Cert.PoolfReferenceIdeal.nD Cert.PoolfReferenceIdeal.τ).loc Cert.PoolfReferenceIdeal.main_arg1) = m ((c.tc : Thread Cert.PoolfReferenceIdeal.nD Cert.PoolfReferenceIdeal.τ).loc Cert.PoolfReferenceIdeal.main_arg1)
      ∧ r.2.mem ((c.tc : Thread Cert.PoolfReferenceIdeal.nD Cert.PoolfReferenceIdeal.τ).loc Cert.PoolfReferenceIdeal.main_arg2) = m ((c.tc : Thread Cert.PoolfReferenceIdeal.nD Cert.PoolfReferenceIdeal.τ).loc Cert.PoolfReferenceIdeal.main_arg2))
      ∧ r.2.sem = fun _ => 0)

def quiescent_PoolfReferenceIdeal_pre_finite_poolf [hPoolfReferenceIdeal : Cert.PoolfReferenceIdeal.Facts] [hPre_finite_poolf : Cert.Pre_finite_poolf.Facts] : Prop :=
  ∀ (m : (ℓ : Loc Cert.PoolfReferenceIdeal.nD Cert.PoolfReferenceIdeal.τ Cert.PoolfReferenceIdeal.sig) → Buf (Elt Ideal) ℓ) (g : Dev Cert.PoolfReferenceIdeal.nD → PrngReg), Pre_PoolfReferenceIdeal_finite_poolf m →
    θ_run (Cert.PoolfReferenceIdeal.defs (F := Ideal)) (onTc (τ := Cert.PoolfReferenceIdeal.τ) (Cert.PoolfReferenceIdeal.main (F := Ideal))) ⟨m, fun _ => 0, g⟩ (fun r => (∀ c : Dev Cert.PoolfReferenceIdeal.nD,
      r.2.mem ((c.tc : Thread Cert.PoolfReferenceIdeal.nD Cert.PoolfReferenceIdeal.τ).loc Cert.PoolfReferenceIdeal.main_arg0) = m ((c.tc : Thread Cert.PoolfReferenceIdeal.nD Cert.PoolfReferenceIdeal.τ).loc Cert.PoolfReferenceIdeal.main_arg0)
      ∧ r.2.mem ((c.tc : Thread Cert.PoolfReferenceIdeal.nD Cert.PoolfReferenceIdeal.τ).loc Cert.PoolfReferenceIdeal.main_arg1) = m ((c.tc : Thread Cert.PoolfReferenceIdeal.nD Cert.PoolfReferenceIdeal.τ).loc Cert.PoolfReferenceIdeal.main_arg1)
      ∧ r.2.mem ((c.tc : Thread Cert.PoolfReferenceIdeal.nD Cert.PoolfReferenceIdeal.τ).loc Cert.PoolfReferenceIdeal.main_arg2) = m ((c.tc : Thread Cert.PoolfReferenceIdeal.nD Cert.PoolfReferenceIdeal.τ).loc Cert.PoolfReferenceIdeal.main_arg2))
      ∧ r.2.sem = fun _ => 0)

def quiescent_GradKernel [hGradKernel : Cert.GradKernel.Facts] : Prop :=
  ∀ (m : (ℓ : Loc Cert.GradKernel.nD Cert.GradKernel.τ Cert.GradKernel.sig) → Buf (Elt Bits) ℓ) (g : Dev Cert.GradKernel.nD → PrngReg), Pre_GradKernel m →
    θ_run (Cert.GradKernel.defs (F := Bits)) (onTc (τ := Cert.GradKernel.τ) (Cert.GradKernel.main (F := Bits))) ⟨m, fun _ => 0, g⟩ (fun r => (∀ c : Dev Cert.GradKernel.nD,
      r.2.mem ((c.tc : Thread Cert.GradKernel.nD Cert.GradKernel.τ).loc Cert.GradKernel.main_arg0) = m ((c.tc : Thread Cert.GradKernel.nD Cert.GradKernel.τ).loc Cert.GradKernel.main_arg0)
      ∧ r.2.mem ((c.tc : Thread Cert.GradKernel.nD Cert.GradKernel.τ).loc Cert.GradKernel.main_arg1) = m ((c.tc : Thread Cert.GradKernel.nD Cert.GradKernel.τ).loc Cert.GradKernel.main_arg1))
      ∧ r.2.sem = fun _ => 0)

def quiescent_GradKernelIdeal [hGradKernelIdeal : Cert.GradKernelIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg), Pre_GradKernelIdeal m →
    θ_run (Cert.GradKernelIdeal.defs (F := Ideal)) (onTc (τ := Cert.GradKernelIdeal.τ) (Cert.GradKernelIdeal.main (F := Ideal))) ⟨m, fun _ => 0, g⟩ (fun r => (∀ c : Dev Cert.GradKernelIdeal.nD,
      r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
      ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  True

def algebraic_InKernelIdeal_InReferenceIdeal_pre_finite_in [hInKernelIdeal : Cert.InKernelIdeal.Facts] [hInReferenceIdeal : Cert.InReferenceIdeal.Facts] [hPre_finite_in : Cert.Pre_finite_in.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_finite_in m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v12_0)) (v1 : (c : Dev Cert.InKernelIdeal.nD) → Buf (Elt Ideal) ((c.tc : Thread Cert.InKernelIdeal.nD Cert.InKernelIdeal.τ).loc Cert.InKernelIdeal.main_v12_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v12_0) = v0 c
          ∧ r.2.mem ((c.tc : Thread Cert.InKernelIdeal.nD Cert.InKernelIdeal.τ).loc Cert.InKernelIdeal.main_v12_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v42) = v0 c
          ∧ r.2.mem ((c.tc : Thread Cert.InReferenceIdeal.nD Cert.InReferenceIdeal.τ).loc Cert.InReferenceIdeal.main_v41) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v22_0)) (v1 : (c : Dev Cert.LossKernelIdeal.nD) → Buf (Elt Ideal) ((c.tc : Thread Cert.LossKernelIdeal.nD Cert.LossKernelIdeal.τ).loc Cert.LossKernelIdeal.main_v22_1)) (v2 : (c : Dev Cert.LossKernelIdeal.nD) → Buf (Elt Ideal) ((c.tc : Thread Cert.LossKernelIdeal.nD Cert.LossKernelIdeal.τ).loc Cert.LossKernelIdeal.main_v22_2)) (v3 : (c : Dev Cert.LossKernelIdeal.nD) → Buf (Elt Ideal) ((c.tc : Thread Cert.LossKernelIdeal.nD Cert.LossKernelIdeal.τ).loc Cert.LossKernelIdeal.main_v22_3)) (v4 : (c : Dev Cert.LossKernelIdeal.nD) → Buf (Elt Ideal) ((c.tc : Thread Cert.LossKernelIdeal.nD Cert.LossKernelIdeal.τ).loc Cert.LossKernelIdeal.main_v22_4)) (v5 : (c : Dev Cert.LossKernelIdeal.nD) → Buf (Elt Ideal) ((c.tc : Thread Cert.LossKernelIdeal.nD Cert.LossKernelIdeal.τ).loc Cert.LossKernelIdeal.main_v22_5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v22_0) = v0 c
          ∧ r.2.mem ((c.tc : Thread Cert.LossKernelIdeal.nD Cert.LossKernelIdeal.τ).loc Cert.LossKernelIdeal.main_v22_1) = v1 c
          ∧ r.2.mem ((c.tc : Thread Cert.LossKernelIdeal.nD Cert.LossKernelIdeal.τ).loc Cert.LossKernelIdeal.main_v22_2) = v2 c
          ∧ r.2.mem ((c.tc : Thread Cert.LossKernelIdeal.nD Cert.LossKernelIdeal.τ).loc Cert.LossKernelIdeal.main_v22_3) = v3 c
          ∧ r.2.mem ((c.tc : Thread Cert.LossKernelIdeal.nD Cert.LossKernelIdeal.τ).loc Cert.LossKernelIdeal.main_v22_4) = v4 c
          ∧ r.2.mem ((c.tc : Thread Cert.LossKernelIdeal.nD Cert.LossKernelIdeal.τ).loc Cert.LossKernelIdeal.main_v22_5) = v5 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v101) = v0 c
          ∧ r.2.mem ((c.tc : Thread Cert.LossReferenceIdeal.nD Cert.LossReferenceIdeal.τ).loc Cert.LossReferenceIdeal.main_v103) = v1 c
          ∧ r.2.mem ((c.tc : Thread Cert.LossReferenceIdeal.nD Cert.LossReferenceIdeal.τ).loc Cert.LossReferenceIdeal.main_v104) = v2 c
          ∧ r.2.mem ((c.tc : Thread Cert.LossReferenceIdeal.nD Cert.LossReferenceIdeal.τ).loc Cert.LossReferenceIdeal.main_v106) = v3 c
          ∧ r.2.mem ((c.tc : Thread Cert.LossReferenceIdeal.nD Cert.LossReferenceIdeal.τ).loc Cert.LossReferenceIdeal.main_v108) = v4 c
          ∧ r.2.mem ((c.tc : Thread Cert.LossReferenceIdeal.nD Cert.LossReferenceIdeal.τ).loc Cert.LossReferenceIdeal.main_v109) = v5 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_MlpKernel_MlpKernelIdeal : Prop :=
  True

def algebraic_MlpKernelIdeal_MlpReferenceIdeal_pre_finite_mlp [hMlpKernelIdeal : Cert.MlpKernelIdeal.Facts] [hMlpReferenceIdeal : Cert.MlpReferenceIdeal.Facts] [hPre_finite_mlp : Cert.Pre_finite_mlp.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal_finite_mlp m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)) →
    ∃ (v0 : (c : Dev Cert.MlpKernelIdeal.nD) → Buf (Elt Ideal) ((c.tc : Thread Cert.MlpKernelIdeal.nD Cert.MlpKernelIdeal.τ).loc Cert.MlpKernelIdeal.main_v40_0)) (v1 : (c : Dev Cert.MlpKernelIdeal.nD) → Buf (Elt Ideal) ((c.tc : Thread Cert.MlpKernelIdeal.nD Cert.MlpKernelIdeal.τ).loc Cert.MlpKernelIdeal.main_v40_1)) (v2 : (c : Dev Cert.MlpKernelIdeal.nD) → Buf (Elt Ideal) ((c.tc : Thread Cert.MlpKernelIdeal.nD Cert.MlpKernelIdeal.τ).loc Cert.MlpKernelIdeal.main_v40_2)) (v3 : (c : Dev Cert.MlpKernelIdeal.nD) → Buf (Elt Ideal) ((c.tc : Thread Cert.MlpKernelIdeal.nD Cert.MlpKernelIdeal.τ).loc Cert.MlpKernelIdeal.main_v40_3)) (v4 : (c : Dev Cert.MlpKernelIdeal.nD) → Buf (Elt Ideal) ((c.tc : Thread Cert.MlpKernelIdeal.nD Cert.MlpKernelIdeal.τ).loc Cert.MlpKernelIdeal.main_v40_4)) (v5 : (c : Dev Cert.MlpKernelIdeal.nD) → Buf (Elt Ideal) ((c.tc : Thread Cert.MlpKernelIdeal.nD Cert.MlpKernelIdeal.τ).loc Cert.MlpKernelIdeal.main_v40_5)) (v6 : (c : Dev Cert.MlpKernelIdeal.nD) → Buf (Elt Ideal) ((c.tc : Thread Cert.MlpKernelIdeal.nD Cert.MlpKernelIdeal.τ).loc Cert.MlpKernelIdeal.main_v40_6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v40_0) = v0 c
          ∧ r.2.mem ((c.tc : Thread Cert.MlpKernelIdeal.nD Cert.MlpKernelIdeal.τ).loc Cert.MlpKernelIdeal.main_v40_1) = v1 c
          ∧ r.2.mem ((c.tc : Thread Cert.MlpKernelIdeal.nD Cert.MlpKernelIdeal.τ).loc Cert.MlpKernelIdeal.main_v40_2) = v2 c
          ∧ r.2.mem ((c.tc : Thread Cert.MlpKernelIdeal.nD Cert.MlpKernelIdeal.τ).loc Cert.MlpKernelIdeal.main_v40_3) = v3 c
          ∧ r.2.mem ((c.tc : Thread Cert.MlpKernelIdeal.nD Cert.MlpKernelIdeal.τ).loc Cert.MlpKernelIdeal.main_v40_4) = v4 c
          ∧ r.2.mem ((c.tc : Thread Cert.MlpKernelIdeal.nD Cert.MlpKernelIdeal.τ).loc Cert.MlpKernelIdeal.main_v40_5) = v5 c
          ∧ r.2.mem ((c.tc : Thread Cert.MlpKernelIdeal.nD Cert.MlpKernelIdeal.τ).loc Cert.MlpKernelIdeal.main_v40_6) = v6 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v71) = v0 c
          ∧ r.2.mem ((c.tc : Thread Cert.MlpReferenceIdeal.nD Cert.MlpReferenceIdeal.τ).loc Cert.MlpReferenceIdeal.main_v72) = v1 c
          ∧ r.2.mem ((c.tc : Thread Cert.MlpReferenceIdeal.nD Cert.MlpReferenceIdeal.τ).loc Cert.MlpReferenceIdeal.main_v74) = v2 c
          ∧ r.2.mem ((c.tc : Thread Cert.MlpReferenceIdeal.nD Cert.MlpReferenceIdeal.τ).loc Cert.MlpReferenceIdeal.main_v75) = v3 c
          ∧ r.2.mem ((c.tc : Thread Cert.MlpReferenceIdeal.nD Cert.MlpReferenceIdeal.τ).loc Cert.MlpReferenceIdeal.main_v63) = v4 c
          ∧ r.2.mem ((c.tc : Thread Cert.MlpReferenceIdeal.nD Cert.MlpReferenceIdeal.τ).loc Cert.MlpReferenceIdeal.main_v76) = v5 c
          ∧ r.2.mem ((c.tc : Thread Cert.MlpReferenceIdeal.nD Cert.MlpReferenceIdeal.τ).loc Cert.MlpReferenceIdeal.main_v78) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_AttnKernel_AttnKernelIdeal : Prop :=
  IdealRules.named_const.Statement Cert.AttnKernelIdeal.κ "mask" .f32 0xF149F2CA#32 ⊥

def preserves_InfKernel_InfKernelIdeal : Prop :=
  True

def algebraic_InfKernelIdeal_InfReferenceIdeal [hInfKernelIdeal : Cert.InfKernelIdeal.Facts] [hInfReferenceIdeal : Cert.InfReferenceIdeal.Facts] : Prop :=
  ∀ (m : (ℓ : Loc Cert.InfKernelIdeal.nD Cert.InfKernelIdeal.τ Cert.InfKernelIdeal.sig) → Buf (Elt Ideal) ℓ) (g : Dev Cert.InfKernelIdeal.nD → PrngReg)
    (m' : (ℓ : Loc Cert.InfReferenceIdeal.nD Cert.InfReferenceIdeal.τ Cert.InfReferenceIdeal.sig) → Buf (Elt Ideal) ℓ) (g' : Dev Cert.InfReferenceIdeal.nD → PrngReg), Pre_InfKernelIdeal m →
    (∀ c : Dev Cert.InfKernelIdeal.nD,
      m' ((c.tc : Thread Cert.InfReferenceIdeal.nD Cert.InfReferenceIdeal.τ).loc Cert.InfReferenceIdeal.main_arg0) = m ((c.tc : Thread Cert.InfKernelIdeal.nD Cert.InfKernelIdeal.τ).loc Cert.InfKernelIdeal.main_arg0)
      ∧ m' ((c.tc : Thread Cert.InfReferenceIdeal.nD Cert.InfReferenceIdeal.τ).loc Cert.InfReferenceIdeal.main_arg1) = m ((c.tc : Thread Cert.InfKernelIdeal.nD Cert.InfKernelIdeal.τ).loc Cert.InfKernelIdeal.main_arg1)) →
    ∃ (v0 : (c : Dev Cert.InfKernelIdeal.nD) → Buf (Elt Ideal) ((c.tc : Thread Cert.InfKernelIdeal.nD Cert.InfKernelIdeal.τ).loc Cert.InfKernelIdeal.main_v28_0)) (v1 : (c : Dev Cert.InfKernelIdeal.nD) → Buf (Elt Ideal) ((c.tc : Thread Cert.InfKernelIdeal.nD Cert.InfKernelIdeal.τ).loc Cert.InfKernelIdeal.main_v28_1)) (v2 : (c : Dev Cert.InfKernelIdeal.nD) → Buf (Elt Ideal) ((c.tc : Thread Cert.InfKernelIdeal.nD Cert.InfKernelIdeal.τ).loc Cert.InfKernelIdeal.main_v28_2)) (v3 : (c : Dev Cert.InfKernelIdeal.nD) → Buf (Elt Ideal) ((c.tc : Thread Cert.InfKernelIdeal.nD Cert.InfKernelIdeal.τ).loc Cert.InfKernelIdeal.main_v28_3)),
      θ_run (Cert.InfKernelIdeal.defs (F := Ideal)) (onTc (τ := Cert.InfKernelIdeal.τ) (Cert.InfKernelIdeal.main (F := Ideal))) ⟨m, fun _ => 0, g⟩ (fun r => ∀ c : Dev Cert.InfKernelIdeal.nD,
          r.2.mem ((c.tc : Thread Cert.InfKernelIdeal.nD Cert.InfKernelIdeal.τ).loc Cert.InfKernelIdeal.main_v28_0) = v0 c
          ∧ r.2.mem ((c.tc : Thread Cert.InfKernelIdeal.nD Cert.InfKernelIdeal.τ).loc Cert.InfKernelIdeal.main_v28_1) = v1 c
          ∧ r.2.mem ((c.tc : Thread Cert.InfKernelIdeal.nD Cert.InfKernelIdeal.τ).loc Cert.InfKernelIdeal.main_v28_2) = v2 c
          ∧ r.2.mem ((c.tc : Thread Cert.InfKernelIdeal.nD Cert.InfKernelIdeal.τ).loc Cert.InfKernelIdeal.main_v28_3) = v3 c
          ∧ r.2.mem ((c.tc : Thread Cert.InfKernelIdeal.nD Cert.InfKernelIdeal.τ).loc Cert.InfKernelIdeal.main_arg0) = m ((c.tc : Thread Cert.InfKernelIdeal.nD Cert.InfKernelIdeal.τ).loc Cert.InfKernelIdeal.main_arg0)
          ∧ r.2.mem ((c.tc : Thread Cert.InfKernelIdeal.nD Cert.InfKernelIdeal.τ).loc Cert.InfKernelIdeal.main_arg1) = m ((c.tc : Thread Cert.InfKernelIdeal.nD Cert.InfKernelIdeal.τ).loc Cert.InfKernelIdeal.main_arg1))
      ∧ θ_run (Cert.InfReferenceIdeal.defs (F := Ideal)) (onTc (τ := Cert.InfReferenceIdeal.τ) (Cert.InfReferenceIdeal.main (F := Ideal))) ⟨m', fun _ => 0, g'⟩ (fun r => ∀ c : Dev Cert.InfReferenceIdeal.nD,
          r.2.mem ((c.tc : Thread Cert.InfReferenceIdeal.nD Cert.InfReferenceIdeal.τ).loc Cert.InfReferenceIdeal.main_v71) = v0 c
          ∧ r.2.mem ((c.tc : Thread Cert.InfReferenceIdeal.nD Cert.InfReferenceIdeal.τ).loc Cert.InfReferenceIdeal.main_v74) = v1 c
          ∧ r.2.mem ((c.tc : Thread Cert.InfReferenceIdeal.nD Cert.InfReferenceIdeal.τ).loc Cert.InfReferenceIdeal.main_v77) = v2 c
          ∧ r.2.mem ((c.tc : Thread Cert.InfReferenceIdeal.nD Cert.InfReferenceIdeal.τ).loc Cert.InfReferenceIdeal.main_v78) = v3 c
          ∧ r.2.mem ((c.tc : Thread Cert.InfReferenceIdeal.nD Cert.InfReferenceIdeal.τ).loc Cert.InfReferenceIdeal.main_arg0) = m' ((c.tc : Thread Cert.InfReferenceIdeal.nD Cert.InfReferenceIdeal.τ).loc Cert.InfReferenceIdeal.main_arg0)
          ∧ r.2.mem ((c.tc : Thread Cert.InfReferenceIdeal.nD Cert.InfReferenceIdeal.τ).loc Cert.InfReferenceIdeal.main_arg1) = m' ((c.tc : Thread Cert.InfReferenceIdeal.nD Cert.InfReferenceIdeal.τ).loc Cert.InfReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v7_0)) (v1 : (c : Dev Cert.OutKernelIdeal.nD) → Buf (Elt Ideal) ((c.tc : Thread Cert.OutKernelIdeal.nD Cert.OutKernelIdeal.τ).loc Cert.OutKernelIdeal.main_v7_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v7_0) = v0 c
          ∧ r.2.mem ((c.tc : Thread Cert.OutKernelIdeal.nD Cert.OutKernelIdeal.τ).loc Cert.OutKernelIdeal.main_v7_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v18) = v0 c
          ∧ r.2.mem ((c.tc : Thread Cert.OutReferenceIdeal.nD Cert.OutReferenceIdeal.τ).loc Cert.OutReferenceIdeal.main_v20) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_PoolfKernel_PoolfKernelIdeal : Prop :=
  True

def algebraic_PoolfKernelIdeal_PoolfReferenceIdeal_pre_finite_poolf [hPoolfKernelIdeal : Cert.PoolfKernelIdeal.Facts] [hPoolfReferenceIdeal : Cert.PoolfReferenceIdeal.Facts] [hPre_finite_poolf : Cert.Pre_finite_poolf.Facts] : Prop :=
  ∀ (m : (ℓ : Loc Cert.PoolfKernelIdeal.nD Cert.PoolfKernelIdeal.τ Cert.PoolfKernelIdeal.sig) → Buf (Elt Ideal) ℓ) (g : Dev Cert.PoolfKernelIdeal.nD → PrngReg)
    (m' : (ℓ : Loc Cert.PoolfReferenceIdeal.nD Cert.PoolfReferenceIdeal.τ Cert.PoolfReferenceIdeal.sig) → Buf (Elt Ideal) ℓ) (g' : Dev Cert.PoolfReferenceIdeal.nD → PrngReg), Pre_PoolfKernelIdeal_finite_poolf m →
    (∀ c : Dev Cert.PoolfKernelIdeal.nD,
      m' ((c.tc : Thread Cert.PoolfReferenceIdeal.nD Cert.PoolfReferenceIdeal.τ).loc Cert.PoolfReferenceIdeal.main_arg0) = m ((c.tc : Thread Cert.PoolfKernelIdeal.nD Cert.PoolfKernelIdeal.τ).loc Cert.PoolfKernelIdeal.main_arg0)
      ∧ m' ((c.tc : Thread Cert.PoolfReferenceIdeal.nD Cert.PoolfReferenceIdeal.τ).loc Cert.PoolfReferenceIdeal.main_arg1) = m ((c.tc : Thread Cert.PoolfKernelIdeal.nD Cert.PoolfKernelIdeal.τ).loc Cert.PoolfKernelIdeal.main_arg1)
      ∧ m' ((c.tc : Thread Cert.PoolfReferenceIdeal.nD Cert.PoolfReferenceIdeal.τ).loc Cert.PoolfReferenceIdeal.main_arg2) = m ((c.tc : Thread Cert.PoolfKernelIdeal.nD Cert.PoolfKernelIdeal.τ).loc Cert.PoolfKernelIdeal.main_arg2)) →
    ∃ (v0 : (c : Dev Cert.PoolfKernelIdeal.nD) → Buf (Elt Ideal) ((c.tc : Thread Cert.PoolfKernelIdeal.nD Cert.PoolfKernelIdeal.τ).loc Cert.PoolfKernelIdeal.main_v4)),
      θ_run (Cert.PoolfKernelIdeal.defs (F := Ideal)) (onTc (τ := Cert.PoolfKernelIdeal.τ) (Cert.PoolfKernelIdeal.main (F := Ideal))) ⟨m, fun _ => 0, g⟩ (fun r => ∀ c : Dev Cert.PoolfKernelIdeal.nD,
          r.2.mem ((c.tc : Thread Cert.PoolfKernelIdeal.nD Cert.PoolfKernelIdeal.τ).loc Cert.PoolfKernelIdeal.main_v4) = v0 c
          ∧ r.2.mem ((c.tc : Thread Cert.PoolfKernelIdeal.nD Cert.PoolfKernelIdeal.τ).loc Cert.PoolfKernelIdeal.main_arg0) = m ((c.tc : Thread Cert.PoolfKernelIdeal.nD Cert.PoolfKernelIdeal.τ).loc Cert.PoolfKernelIdeal.main_arg0)
          ∧ r.2.mem ((c.tc : Thread Cert.PoolfKernelIdeal.nD Cert.PoolfKernelIdeal.τ).loc Cert.PoolfKernelIdeal.main_arg1) = m ((c.tc : Thread Cert.PoolfKernelIdeal.nD Cert.PoolfKernelIdeal.τ).loc Cert.PoolfKernelIdeal.main_arg1)
          ∧ r.2.mem ((c.tc : Thread Cert.PoolfKernelIdeal.nD Cert.PoolfKernelIdeal.τ).loc Cert.PoolfKernelIdeal.main_arg2) = m ((c.tc : Thread Cert.PoolfKernelIdeal.nD Cert.PoolfKernelIdeal.τ).loc Cert.PoolfKernelIdeal.main_arg2))
      ∧ θ_run (Cert.PoolfReferenceIdeal.defs (F := Ideal)) (onTc (τ := Cert.PoolfReferenceIdeal.τ) (Cert.PoolfReferenceIdeal.main (F := Ideal))) ⟨m', fun _ => 0, g'⟩ (fun r => ∀ c : Dev Cert.PoolfReferenceIdeal.nD,
          r.2.mem ((c.tc : Thread Cert.PoolfReferenceIdeal.nD Cert.PoolfReferenceIdeal.τ).loc Cert.PoolfReferenceIdeal.main_v80) = v0 c
          ∧ r.2.mem ((c.tc : Thread Cert.PoolfReferenceIdeal.nD Cert.PoolfReferenceIdeal.τ).loc Cert.PoolfReferenceIdeal.main_arg0) = m' ((c.tc : Thread Cert.PoolfReferenceIdeal.nD Cert.PoolfReferenceIdeal.τ).loc Cert.PoolfReferenceIdeal.main_arg0)
          ∧ r.2.mem ((c.tc : Thread Cert.PoolfReferenceIdeal.nD Cert.PoolfReferenceIdeal.τ).loc Cert.PoolfReferenceIdeal.main_arg1) = m' ((c.tc : Thread Cert.PoolfReferenceIdeal.nD Cert.PoolfReferenceIdeal.τ).loc Cert.PoolfReferenceIdeal.main_arg1)
          ∧ r.2.mem ((c.tc : Thread Cert.PoolfReferenceIdeal.nD Cert.PoolfReferenceIdeal.τ).loc Cert.PoolfReferenceIdeal.main_arg2) = m' ((c.tc : Thread Cert.PoolfReferenceIdeal.nD Cert.PoolfReferenceIdeal.τ).loc Cert.PoolfReferenceIdeal.main_arg2))

def preserves_GradKernel_GradKernelIdeal : Prop :=
  True

def algebraic_GradKernelIdeal_GradReferenceIdeal [hGradKernelIdeal : Cert.GradKernelIdeal.Facts] [hGradReferenceIdeal : Cert.GradReferenceIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradKernelIdeal m →
    (∀ c : Dev Cert.GradKernelIdeal.nD,
      m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0)
      ∧ m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1)) →
    ∃ (v0 : (c : Dev Cert.GradKernelIdeal.nD) → Buf (Elt Ideal) ((c.tc : Thread Cert.GradKernelIdeal.nD Cert.GradKernelIdeal.τ).loc Cert.GradKernelIdeal.main_v8_0)) (v1 : (c : Dev Cert.GradKernelIdeal.nD) → Buf (Elt Ideal) ((c.tc : Thread Cert.GradKernelIdeal.nD Cert.GradKernelIdeal.τ).loc Cert.GradKernelIdeal.main_v8_1)),
      θ_run (Cert.GradKernelIdeal.defs (F := Ideal)) (onTc (τ := Cert.GradKernelIdeal.τ) (Cert.GradKernelIdeal.main (F := Ideal))) ⟨m, fun _ => 0, g⟩ (fun r => ∀ c : Dev Cert.GradKernelIdeal.nD,
          r.2.mem ((c.tc : Thread Cert.GradKernelIdeal.nD Cert.GradKernelIdeal.τ).loc Cert.GradKernelIdeal.main_v8_0) = v0 c
          ∧ r.2.mem ((c.tc : Thread Cert.GradKernelIdeal.nD Cert.GradKernelIdeal.τ).loc Cert.GradKernelIdeal.main_v8_1) = v1 c
          ∧ r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
          ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v4) = v0 c
          ∧ r.2.mem ((c.tc : Thread Cert.GradReferenceIdeal.nD Cert.GradReferenceIdeal.τ).loc Cert.GradReferenceIdeal.main_v5) = v1 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hLossKernel : Cert.LossKernel.Facts) (hLossKernelIdeal : Cert.LossKernelIdeal.Facts) (hLossReferenceIdeal : Cert.LossReferenceIdeal.Facts) (hMlpKernel : Cert.MlpKernel.Facts) (hMlpKernelIdeal : Cert.MlpKernelIdeal.Facts) (hMlpReferenceIdeal : Cert.MlpReferenceIdeal.Facts) (hAttnKernel : Cert.AttnKernel.Facts) (hAttnKernelIdeal : Cert.AttnKernelIdeal.Facts) (hInfKernel : Cert.InfKernel.Facts) (hInfKernelIdeal : Cert.InfKernelIdeal.Facts) (hInfReferenceIdeal : Cert.InfReferenceIdeal.Facts) (hOutKernel : Cert.OutKernel.Facts) (hOutKernelIdeal : Cert.OutKernelIdeal.Facts) (hOutReferenceIdeal : Cert.OutReferenceIdeal.Facts) (hPoolfKernel : Cert.PoolfKernel.Facts) (hPoolfKernelIdeal : Cert.PoolfKernelIdeal.Facts) (hPoolfReferenceIdeal : Cert.PoolfReferenceIdeal.Facts) (hGradKernel : Cert.GradKernel.Facts) (hGradKernelIdeal : Cert.GradKernelIdeal.Facts) (hGradReferenceIdeal : Cert.GradReferenceIdeal.Facts) (hPre_finite : Cert.Pre_finite.Facts) (hPre_finite_in : Cert.Pre_finite_in.Facts) (hPre_finite_loss : Cert.Pre_finite_loss.Facts) (hPre_finite_mlp : Cert.Pre_finite_mlp.Facts) (hPre_finite_poolf : Cert.Pre_finite_poolf.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InKernelIdeal_pre_finite_in (hInKernelIdeal := hInKernelIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_MlpKernel (hMlpKernel := hMlpKernel)
    ∧ quiescent_MlpKernelIdeal (hMlpKernelIdeal := hMlpKernelIdeal)
    ∧ quiescent_MlpKernelIdeal_pre_finite_mlp (hMlpKernelIdeal := hMlpKernelIdeal) (hPre_finite_mlp := hPre_finite_mlp)
    ∧ quiescent_MlpReferenceIdeal (hMlpReferenceIdeal := hMlpReferenceIdeal)
    ∧ quiescent_MlpReferenceIdeal_pre_finite_mlp (hMlpReferenceIdeal := hMlpReferenceIdeal) (hPre_finite_mlp := hPre_finite_mlp)
    ∧ quiescent_AttnKernel (hAttnKernel := hAttnKernel)
    ∧ quiescent_AttnKernelIdeal (hAttnKernelIdeal := hAttnKernelIdeal)
    ∧ quiescent_InfKernel (hInfKernel := hInfKernel)
    ∧ quiescent_InfKernelIdeal (hInfKernelIdeal := hInfKernelIdeal)
    ∧ quiescent_InfReferenceIdeal (hInfReferenceIdeal := hInfReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_PoolfKernel (hPoolfKernel := hPoolfKernel)
    ∧ quiescent_PoolfKernelIdeal (hPoolfKernelIdeal := hPoolfKernelIdeal)
    ∧ quiescent_PoolfKernelIdeal_pre_finite_poolf (hPoolfKernelIdeal := hPoolfKernelIdeal) (hPre_finite_poolf := hPre_finite_poolf)
    ∧ quiescent_PoolfReferenceIdeal (hPoolfReferenceIdeal := hPoolfReferenceIdeal)
    ∧ quiescent_PoolfReferenceIdeal_pre_finite_poolf (hPoolfReferenceIdeal := hPoolfReferenceIdeal) (hPre_finite_poolf := hPre_finite_poolf)
    ∧ quiescent_GradKernel (hGradKernel := hGradKernel)
    ∧ quiescent_GradKernelIdeal (hGradKernelIdeal := hGradKernelIdeal)
    ∧ quiescent_GradReferenceIdeal (hGradReferenceIdeal := hGradReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal_pre_finite_in (hInKernelIdeal := hInKernelIdeal) (hInReferenceIdeal := hInReferenceIdeal) (hPre_finite_in := hPre_finite_in)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_MlpKernel_MlpKernelIdeal
    ∧ algebraic_MlpKernelIdeal_MlpReferenceIdeal_pre_finite_mlp (hMlpKernelIdeal := hMlpKernelIdeal) (hMlpReferenceIdeal := hMlpReferenceIdeal) (hPre_finite_mlp := hPre_finite_mlp)
    ∧ preserves_AttnKernel_AttnKernelIdeal
    ∧ preserves_InfKernel_InfKernelIdeal
    ∧ algebraic_InfKernelIdeal_InfReferenceIdeal (hInfKernelIdeal := hInfKernelIdeal) (hInfReferenceIdeal := hInfReferenceIdeal)
    ∧ preserves_OutKernel_OutKernelIdeal
    ∧ algebraic_OutKernelIdeal_OutReferenceIdeal (hOutKernelIdeal := hOutKernelIdeal) (hOutReferenceIdeal := hOutReferenceIdeal)
    ∧ preserves_PoolfKernel_PoolfKernelIdeal
    ∧ algebraic_PoolfKernelIdeal_PoolfReferenceIdeal_pre_finite_poolf (hPoolfKernelIdeal := hPoolfKernelIdeal) (hPoolfReferenceIdeal := hPoolfReferenceIdeal) (hPre_finite_poolf := hPre_finite_poolf)
    ∧ preserves_GradKernel_GradKernelIdeal
    ∧ algebraic_GradKernelIdeal_GradReferenceIdeal (hGradKernelIdeal := hGradKernelIdeal) (hGradReferenceIdeal := hGradReferenceIdeal)
-- ==== Pre_finite.lean ====
abbrev S4x2048x512 : Shape := ⟨3, ![4, 2048, 512]⟩
abbrev S1x4x128x128 : Shape := ⟨4, ![1, 4, 128, 128]⟩
abbrev S1x512 : Shape := ⟨2, ![1, 512]⟩
abbrev S_ : Shape := ⟨0, ![]⟩

class Facts : Prop where
  bcast_S_S4x2048x512 : S_.BroadcastsInDim S4x2048x512 (![] : Fin 0 → Fin S4x2048x512.rank)
  bcast_S_S1x4x128x128 : S_.BroadcastsInDim S1x4x128x128 (![] : Fin 0 → Fin S1x4x128x128.rank)
  bcast_S_S1x512 : S_.BroadcastsInDim S1x512 (![] : Fin 0 → Fin S1x512.rank)

variable [Facts]

def fn {F : FTy → Type} [FloatOps F] (main_arg0 : FVec F S4x2048x512 .f32) (main_arg1 : FVec F S1x4x128x128 .f32) (main_arg2 : FVec F S1x512 .f32) (main_arg3 : FVec F S4x2048x512 .f32) : IVec S4x2048x512 1 × IVec S1x4x128x128 1 × IVec S1x512 1 × IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S1x4x128x128 .f32 := Host.absf main_arg1
  let main_cst_0 : FVec F S_ .f32 := constant S_ .f32 0x7F800000#32
  let main_v4 : FVec F S1x4x128x128 .f32 := broadcastInDim S1x4x128x128 ![] bcast_S_S1x4x128x128 main_cst_0
  let main_v5 : IVec S1x4x128x128 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S4x2048x512 .f32 := Host.absf main_arg3
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  (main_v2, main_v5, main_v8, main_v11)
-- ==== Pre_finite_in.lean ====
abbrev S4x2048x1024 : Shape := ⟨3, ![4, 2048, 1024]⟩
abbrev S1x1024 : Shape := ⟨2, ![1, 1024]⟩
abbrev S1x1024x1280 : Shape := ⟨3, ![1, 1024, 1280]⟩
abbrev S4x2048x1280 : Shape := ⟨3, ![4, 2048, 1280]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x1280 : S_.BroadcastsInDim S1x1024x1280 (![] : Fin 0 → Fin S1x1024x1280.rank)
  bcast_S_S4x2048x1280 : S_.BroadcastsInDim S4x2048x1280 (![] : Fin 0 → Fin S4x2048x1280.rank)

variable [Facts]

def fn {F : FTy → Type} [FloatOps F] (main_arg0 : FVec F S4x2048x1024 .f32) (main_arg1 : FVec F S1x1024 .f32) (main_arg2 : FVec F S1x1024x1280 .f32) (main_arg3 : FVec F S4x2048x1280 .f32) (main_arg4 : FVec F S4x2048x1024 .f32) : IVec S4x2048x1024 1 × IVec S1x1024 1 × IVec S1x1024x1280 1 × IVec S4x2048x1280 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1280 .f32 := Host.absf main_arg2
  let main_cst_1 : FVec F S_ .f32 := constant S_ .f32 0x7F800000#32
  let main_v7 : FVec F S1x1024x1280 .f32 := broadcastInDim S1x1024x1280 ![] bcast_S_S1x1024x1280 main_cst_1
  let main_v8 : IVec S1x1024x1280 1 := cmpf .olt main_v6 main_v7
  let main_v9 : FVec F S4x2048x1280 .f32 := Host.absf main_arg3
  let main_cst_2 : FVec F S_ .f32 := constant S_ .f32 0x7F800000#32
  let main_v10 : FVec F S4x2048x1280 .f32 := broadcastInDim S4x2048x1280 ![] bcast_S_S4x2048x1280 main_cst_2
  let main_v11 : IVec S4x2048x1280 1 := cmpf .olt main_v9 main_v10
  (main_v2, main_v5, main_v8, main_v11)
-- ==== Pre_finite_loss.lean ====
abbrev S4x2048x1024 : Shape := ⟨3, ![4, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn {F : FTy → Type} [FloatOps F] (main_arg0 : FVec F S4x2048x1024 .f32) (main_arg1 : FVec F S1x1024 .f32) (main_arg2 : FVec F S1x1024x4096 .f32) (main_arg3 : FVec F S1x4096x1024 .f32) (main_arg4 : FVec F S1024 .f32) (main_arg5 : FVec F S4x2048x1024 .f32) : IVec S4x2048x1024 1 × IVec S1x1024 1 × IVec S1x1024x4096 1 × IVec S1x4096x1024 1 × IVec S1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4x2048x1024 .f32 := Host.absf main_arg5
  let main_cst_4 : FVec F S_ .f32 := constant S_ .f32 0x7F800000#32
  let main_v16 : FVec F S4x2048x1024 .f32 := broadcastInDim S4x2048x1024 ![] bcast_S_S4x2048x1024 main_cst_4
  let main_v17 : IVec S4x2048x1024 1 := cmpf .olt main_v15 main_v16
  (main_v2, main_v5, main_v8, main_v11, main_v14, main_v17)
-- ==== Pre_finite_mlp.lean ====
abbrev S4x2048x1024 : Shape := ⟨3, ![4, 2048, 1024]⟩
abbrev S4x2048x512 : Shape := ⟨3, ![4, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S4x2048x1024 : S_.BroadcastsInDim S4x2048x1024 (![] : Fin 0 → Fin S4x2048x1024.rank)
  bcast_S_S4x2048x512 : S_.BroadcastsInDim S4x2048x512 (![] : Fin 0 → Fin S4x2048x512.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn_part1 {F : FTy → Type} [FloatOps F] (main_arg6 : FVec F S1x4096x1024 .f32) (main_arg7 : FVec F S4x2048x1024 .f32) (main_v2 : IVec S4x2048x1024 1) (main_v5 : IVec S4x2048x512 1) (main_v8 : IVec S4x2048x512 1) (main_v11 : IVec S1x1024x1024 1) (main_v14 : IVec S1x1024 1) (main_v17 : IVec S1x1024x4096 1) : IVec S4x2048x1024 1 × IVec S4x2048x512 1 × IVec S4x2048x512 1 × IVec S1x1024x1024 1 × IVec S1x1024 1 × IVec S1x1024x4096 1 × IVec S1x4096x1024 1 × IVec S4x2048x1024 1 :=
  let main_v18 : FVec F S1x4096x1024 .f32 := Host.absf main_arg6
  let main_cst_5 : FVec F S_ .f32 := constant S_ .f32 0x7F800000#32
  let main_v19 : FVec F S1x4096x1024 .f32 := broadcastInDim S1x4096x1024 ![] bcast_S_S1x4096x1024 main_cst_5
  let main_v20 : IVec S1x4096x1024 1 := cmpf .olt main_v18 main_v19
  let main_v21 : FVec F S4x2048x1024 .f32 := Host.absf main_arg7
  let main_cst_6 : FVec F S_ .f32 := constant S_ .f32 0x7F800000#32
  let main_v22 : FVec F S4x2048x1024 .f32 := broadcastInDim S4x2048x1024 ![] bcast_S_S4x2048x1024 main_cst_6
  let main_v23 : IVec S4x2048x1024 1 := cmpf .olt main_v21 main_v22
  (main_v2, main_v5, main_v8, main_v11, main_v14, main_v17, main_v20, main_v23)

def fn {F : FTy → Type} [FloatOps F] (main_arg0 : FVec F S4x2048x1024 .f32) (main_arg1 : FVec F S4x2048x512 .f32) (main_arg2 : FVec F S4x2048x512 .f32) (main_arg3 : FVec F S1x1024x1024 .f32) (main_arg4 : FVec F S1x1024 .f32) (main_arg5 : FVec F S1x1024x4096 .f32) (main_arg6 : FVec F S1x4096x1024 .f32) (main_arg7 : FVec F S4x2048x1024 .f32) : IVec S4x2048x1024 1 × IVec S4x2048x512 1 × IVec S4x2048x512 1 × IVec S1x1024x1024 1 × IVec S1x1024 1 × IVec S1x1024x4096 1 × IVec S1x4096x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x512 .f32 := Host.absf main_arg2
  let main_cst_1 : FVec F S_ .f32 := constant S_ .f32 0x7F800000#32
  let main_v7 : FVec F S4x2048x512 .f32 := broadcastInDim S4x2048x512 ![] bcast_S_S4x2048x512 main_cst_1
  let main_v8 : IVec S4x2048x512 1 := cmpf .olt main_v6 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x4096 .f32 := Host.absf main_arg5
  let main_cst_4 : FVec F S_ .f32 := constant S_ .f32 0x7F800000#32
  let main_v16 : FVec F S1x1024x4096 .f32 := broadcastInDim S1x1024x4096 ![] bcast_S_S1x1024x4096 main_cst_4
  let main_v17 : IVec S1x1024x4096 1 := cmpf .olt main_v15 main_v16
  fn_part1 (F := F) main_arg6 main_arg7 main_v2 main_v5 main_v8 main_v11 main_v14 main_v17
-- ==== Pre_finite_poolf.lean ====
abbrev S4x2048x512 : Shape := ⟨3, ![4, 2048, 512]⟩
abbrev S1x4x128x128 : Shape := ⟨4, ![1, 4, 128, 128]⟩
abbrev S1x512 : Shape := ⟨2, ![1, 512]⟩
abbrev S_ : Shape := ⟨0, ![]⟩

class Facts : Prop where
  bcast_S_S4x2048x512 : S_.BroadcastsInDim S4x2048x512 (![] : Fin 0 → Fin S4x2048x512.rank)

variable [Facts]

def fn {F : FTy → Type} [FloatOps F] (main_arg0 : FVec F S4x2048x512 .f32) (main_arg1 : FVec F S1x4x128x128 .f32) (main_arg2 : FVec F S1x512 .f32) : IVec S4x2048x512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  main_v2
-- ==== Kernel.lean ====
abbrev S4x2048x512 : Shape := ⟨3, ![4, 2048, 512]⟩
abbrev S1x4x128x128 : Shape := ⟨4, ![1, 4, 128, 128]⟩
abbrev S1x512 : Shape := ⟨2, ![1, 512]⟩
abbrev S4x128x128 : Shape := ⟨3, ![4, 128, 128]⟩
abbrev S8192x512 : Shape := ⟨2, ![8192, 512]⟩
abbrev S2048x512 : Shape := ⟨2, ![2048, 512]⟩
abbrev S2048x1 : Shape := ⟨2, ![2048, 1]⟩
abbrev S2048x128 : Shape := ⟨2, ![2048, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S1x4x128x128, .f32⟩
  | .hbm, ⟨2, _⟩ => ⟨S1x512, .f32⟩
  | .hbm, ⟨3, _⟩ => ⟨S4x2048x512, .f32⟩
  | .hbm, ⟨4, _⟩ => ⟨S4x128x128, .f32⟩
  | .hbm, ⟨5, _⟩ => ⟨S4x128x128, .bf16⟩
  | .hbm, ⟨6, _⟩ => ⟨S8192x512, .f32⟩
  | .hbm, ⟨7, _⟩ => ⟨S8192x512, .f32⟩
  | .hbm, ⟨8, _⟩ => ⟨S8192x512, .bf16⟩
  | .hbm, ⟨9, _⟩ => ⟨S4x128x128, .f32⟩
  | .hbm, ⟨10, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .bf16⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S1x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x2048x512 : Shape := ⟨3, ![4, 2048, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S4x2048x4x128 : Shape := ⟨4, ![4, 2048, 4, 128]⟩
abbrev S_ : Shape := ⟨0, ![]⟩
abbrev S4x1x4x128 : Shape := ⟨4, ![4, 1, 4, 128]⟩
abbrev S4x2049x4x128 : Shape := ⟨4, ![4, 2049, 4, 128]⟩
abbrev S2048 : Shape := ⟨1, ![2048]⟩
abbrev S4x2049x1x128 : Shape := ⟨4, ![4, 2049, 1, 128]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x128x4x2048 : Shape := ⟨4, ![4, 128, 4, 2048]⟩
abbrev S1x1x512 : Shape := ⟨3, ![1, 1, 512]⟩
abbrev S4x4x2048x128 : Shape := ⟨4, ![4, 4, 2048, 128]⟩
abbrev S8192x512 : Shape := ⟨2, ![8192, 512]⟩

abbrev nBuf : Space → Nat
  | .hbm => 198
  | .vmem => 0
  | .smem => 0
  | _ => 0

abbrev hbmTy0_0 (i : Nat) : BufTy := match i % 128 with
  | 0 => ⟨S4x2048x512, .f32⟩
  | 1 => ⟨S1x4x128x128, .f32⟩
  | 2 => ⟨S1x512, .f32⟩
  | 3 => ⟨S4x2048x512, .f32⟩
  | 4 => ⟨S4x128x128, .f32⟩
  | 5 => ⟨S512, .f32⟩
  | 6 => ⟨S4x2048x4x128, .f32⟩
  | 7 => ⟨S_, .f32⟩
  | 8 => ⟨S4x1x4x128, .f32⟩
  | 9 => ⟨S_, .f32⟩
  | 10 => ⟨S_, .f32⟩
  | 11 => ⟨S4x2048x4x128, .f32⟩
  | 12 => ⟨S4x2049x4x128, .f32⟩
  | 13 => ⟨S_, .f32⟩
  | 14 => ⟨S4x1x4x128, .f32⟩
  | 15 => ⟨S2048, .i32⟩
  | 16 => ⟨S4x2049x1x128, .f32⟩
  | 17 => ⟨S4x2049x128, .f32⟩
  | 18 => ⟨S_, .f32⟩
  | 19 => ⟨S4x1x128, .f32⟩
  | 20 => ⟨S4x2047x128, .f32⟩
  | 21 => ⟨S4x2048x128, .f32⟩
  | 22 => ⟨S_, .f32⟩
  | 23 => ⟨S4x1x128, .f32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048, .f32⟩
  | 31 => ⟨S1x2048x1, .f32⟩
  | 32 => ⟨S4x2048x128, .f32⟩
  | 33 => ⟨S4x2048x128, .f32⟩
  | 34 => ⟨S4x2048x128, .f32⟩
  | 35 => ⟨S4x2048x128, .f32⟩
  | 36 => ⟨S4x2049x1x128, .f32⟩
  | 37 => ⟨S4x2049x128, .f32⟩
  | 38 => ⟨S_, .f32⟩
  | 39 => ⟨S4x3x128, .f32⟩
  | 40 => ⟨S4x2045x128, .f32⟩
  | 41 => ⟨S4x2048x128, .f32⟩
  | 42 => ⟨S_, .f32⟩
  | 43 => ⟨S4x3x128, .f32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S2048, .f32⟩
  | 51 => ⟨S1x2048x1, .f32⟩
  | 52 => ⟨S4x2048x128, .f32⟩
  | 53 => ⟨S4x2048x128, .f32⟩
  | 54 => ⟨S4x2048x128, .f32⟩
  | 55 => ⟨S4x2048x128, .f32⟩
  | 56 => ⟨S4x2049x1x128, .f32⟩
  | 57 => ⟨S4x2049x128, .f32⟩
  | 58 => ⟨S_, .f32⟩
  | 59 => ⟨S4x7x128, .f32⟩
  | 60 => ⟨S4x2041x128, .f32⟩
  | 61 => ⟨S4x2048x128, .f32⟩
  | 62 => ⟨S_, .f32⟩
  | 63 => ⟨S4x7x128, .f32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S2048, .f32⟩
  | 71 => ⟨S1x2048x1, .f32⟩
  | 72 => ⟨S4x2048x128, .f32⟩
  | 73 => ⟨S4x2048x128, .f32⟩
  | 74 => ⟨S4x2048x128, .f32⟩
  | 75 => ⟨S4x2048x128, .f32⟩
  | 76 => ⟨S4x2049x1x128, .f32⟩
  | 77 => ⟨S4x2049x128, .f32⟩
  | 78 => ⟨S_, .f32⟩
  | 79 => ⟨S4x15x128, .f32⟩
  | 80 => ⟨S4x2033x128, .f32⟩
  | 81 => ⟨S4x2048x128, .f32⟩
  | 82 => ⟨S_, .f32⟩
  | 83 => ⟨S4x15x128, .f32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S2048, .f32⟩
  | 91 => ⟨S1x2048x1, .f32⟩
  | 92 => ⟨S4x2048x128, .f32⟩
  | 93 => ⟨S4x2048x128, .f32⟩
  | 94 => ⟨S4x2048x128, .f32⟩
  | 95 => ⟨S4x2048x128, .f32⟩
  | 96 => ⟨S4x2048x1x128, .f32⟩
  | 97 => ⟨S4x2048x1x128, .f32⟩
  | 98 => ⟨S4x2048x1x128, .f32⟩
  | 99 => ⟨S4x2048x1x128, .f32⟩
  | 100 => ⟨S4x2048x4x128, .f32⟩
  | 101 => ⟨S4x2048x4x128, .f32⟩
  | 102 => ⟨S4x128x4x2048, .f32⟩
  | 103 => ⟨S4x2048x4x128, .f32⟩
  | 104 => ⟨S4x2048x512, .f32⟩
  | 105 => ⟨S1x1x512, .f32⟩
  | 106 => ⟨S4x2048x512, .f32⟩
  | 107 => ⟨S4x2048x512, .f32⟩
  | 108 => ⟨S4x2048x512, .f32⟩
  | 109 => ⟨S_, .f32⟩
  | 110 => ⟨S512, .f32⟩
  | 111 => ⟨S1x1x512, .f32⟩
  | 112 => ⟨S4x2048x512, .f32⟩
  | 113 => ⟨S4x2048x512, .f32⟩
  | 114 => ⟨S_, .f32⟩
  | 115 => ⟨S512, .f32⟩
  | 116 => ⟨S4x2048x4x128, .f32⟩
  | 117 => ⟨S4x128x4x2048, .f32⟩
  | 118 => ⟨S4x4x2048x128, .f32⟩
  | 119 => ⟨S4x2048x4x128, .f32⟩
  | 120 => ⟨S4x128x128, .f32⟩
  | 121 => ⟨S4x128x128, .f32⟩
  | 122 => ⟨S4x2048x4x128, .f32⟩
  | 123 => ⟨S4x2048x1x128, .f32⟩
  | 124 => ⟨S4x2048x128, .f32⟩
  | 125 => ⟨S4x2048x1x128, .f32⟩
  | 126 => ⟨S4x2048x128, .f32⟩
  | 127 => ⟨S4x2048x1x128, .f32⟩
  | _ => ⟨S4x2048x512, .f32⟩

abbrev hbmTy0_1 (i : Nat) : BufTy := match i % 128 with
  | 0 => ⟨S4x2048x128, .f32⟩
  | 1 => ⟨S4x2048x1x128, .f32⟩
  | 2 => ⟨S4x2048x128, .f32⟩
  | 3 => ⟨S4x2048x128, .f32⟩
  | 4 => ⟨S4x2048x128, .f32⟩
  | 5 => ⟨S4x2048x128, .f32⟩
  | 6 => ⟨S_, .f32⟩
  | 7 => ⟨S4x2049x128, .f32⟩
  | 8 => ⟨S4x15x128, .f32⟩
  | 9 => ⟨S4x2033x128, .f32⟩
  | 10 => ⟨S_, .f32⟩
  | 11 => ⟨S4x2049x128, .f32⟩
  | 12 => ⟨S4x2049x128, .f32⟩
  | 13 => ⟨S4x2049x1x128, .f32⟩
  | 14 => ⟨S_, .f32⟩
  | 15 => ⟨S4x2049x4x128, .f32⟩
  | 16 => ⟨S4x2048x128, .f32⟩
  | 17 => ⟨S4x2048x128, .f32⟩
  | 18 => ⟨S4x2048x128, .f32⟩
  | 19 => ⟨S_, .f32⟩
  | 20 => ⟨S4x2049x128, .f32⟩
  | 21 => ⟨S4x7x128, .f32⟩
  | 22 => ⟨S4x2041x128, .f32⟩
  | 23 => ⟨S_, .f32⟩
  | 24 => ⟨S4x2049x128, .f32⟩
  | 25 => ⟨S4x2049x128, .f32⟩
  | 26 => ⟨S4x2049x1x128, .f32⟩
  | 27 => ⟨S_, .f32⟩
  | 28 => ⟨S4x2049x4x128, .f32⟩
  | 29 => ⟨S4x2049x4x128, .f32⟩
  | 30 => ⟨S4x2048x128, .f32⟩
  | 31 => ⟨S4x2048x128, .f32⟩
  | 32 => ⟨S4x2048x128, .f32⟩
  | 33 => ⟨S_, .f32⟩
  | 34 => ⟨S4x2049x128, .f32⟩
  | 35 => ⟨S4x3x128, .f32⟩
  | 36 => ⟨S4x2045x128, .f32⟩
  | 37 => ⟨S_, .f32⟩
  | 38 => ⟨S4x2049x128, .f32⟩
  | 39 => ⟨S4x2049x128, .f32⟩
  | 40 => ⟨S4x2049x1x128, .f32⟩
  | 41 => ⟨S_, .f32⟩
  | 42 => ⟨S4x2049x4x128, .f32⟩
  | 43 => ⟨S4x2049x4x128, .f32⟩
  | 44 => ⟨S4x2048x128, .f32⟩
  | 45 => ⟨S4x2048x128, .f32⟩
  | 46 => ⟨S4x2048x128, .f32⟩
  | 47 => ⟨S_, .f32⟩
  | 48 => ⟨S4x2049x128, .f32⟩
  | 49 => ⟨S4x1x128, .f32⟩
  | 50 => ⟨S4x2047x128, .f32⟩
  | 51 => ⟨S_, .f32⟩
  | 52 => ⟨S4x2049x128, .f32⟩
  | 53 => ⟨S4x2049x128, .f32⟩
  | 54 => ⟨S4x2049x1x128, .f32⟩
  | 55 => ⟨S_, .f32⟩
  | 56 => ⟨S4x2049x4x128, .f32⟩
  | 57 => ⟨S4x2049x4x128, .f32⟩
  | 58 => ⟨S4x1x4x128, .f32⟩
  | 59 => ⟨S4x2048x4x128, .f32⟩
  | 60 => ⟨S_, .f32⟩
  | 61 => ⟨S_, .f32⟩
  | 62 => ⟨S4x2048x4x128, .f32⟩
  | 63 => ⟨S4x2048x4x128, .f32⟩
  | 64 => ⟨S4x2048x512, .f32⟩
  | 65 => ⟨S1x512, .f32⟩
  | 66 => ⟨S1x4x128x128, .f32⟩
  | 67 => ⟨S8192x512, .f32⟩
  | 68 => ⟨S8192x512, .bf16⟩
  | 69 => ⟨S4x128x128, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_c_14 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_17 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_18 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_19 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_20 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_22 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_23 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_24 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_25 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_26 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_27 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_28 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_cst_29 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_call1_call0_cst : Ref sig .tc := ⟨.hbm, 188, rfl⟩
abbrev main_call1_call0_v0 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩

abbrev nD : Nat := 1
abbrev τ : Topo := Topo.v7x

variable {F : FTy → Type} [FloatOps F]
-- ==== InKernel.lean ====
abbrev S4x2048x1024 : Shape := ⟨3, ![4, 2048, 1024]⟩
abbrev S1x1024 : Shape := ⟨2, ![1, 1024]⟩
abbrev S1x1024x1280 : Shape := ⟨3, ![1, 1024, 1280]⟩
abbrev S4x2048x1280 : Shape := ⟨3, ![4, 2048, 1280]⟩
abbrev S8192x1280 : Shape := ⟨2, ![8192, 1280]⟩
abbrev S8192x512 : Shape := ⟨2, ![8192, 512]⟩
abbrev S8192x128 : Shape := ⟨2, ![8192, 128]⟩
abbrev S1024x1280 : Shape := ⟨2, ![1024, 1280]⟩
abbrev S1280x1024 : Shape := ⟨2, ![1280, 1024]⟩
abbrev S8192x1024 : Shape := ⟨2, ![8192, 1024]⟩
abbrev S_ : Shape := ⟨0, ![]⟩
abbrev S8x128 : Shape := ⟨2, ![8, 128]⟩
abbrev S1024x512 : Shape := ⟨2, ![1024, 512]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 20
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x1280, .f32⟩
  | .hbm, ⟨3, _⟩ => ⟨S4x2048x1280, .f32⟩
  | .hbm, ⟨4, _⟩ => ⟨S4x2048x1024, .f32⟩
  | .hbm, ⟨5, _⟩ => ⟨S8192x1280, .f32⟩
  | .hbm, ⟨6, _⟩ => ⟨S8192x1280, .bf16⟩
  | .hbm, ⟨7, _⟩ => ⟨S8192x512, .bf16⟩
  | .hbm, ⟨8, _⟩ => ⟨S8192x128, .bf16⟩
  | .hbm, ⟨9, _⟩ => ⟨S8192x128, .bf16⟩
  | .hbm, ⟨10, _⟩ => ⟨S8192x512, .bf16⟩
  | .hbm, ⟨11, _⟩ => ⟨S1024x1280, .f32⟩
  | .hbm, ⟨12, _⟩ => ⟨S1280x1024, .f32⟩
  | .hbm, ⟨13, _⟩ => ⟨S1280x1024, .bf16⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8x128, .f32⟩
  | .hbm, ⟨18, _⟩ => ⟨S8192x1024, .f32⟩
  | .hbm, ⟨19, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1280x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S8x128, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InReferenceIdeal.lean ====
abbrev S4x2048x1024 : Shape := ⟨3, ![4, 2048, 1024]⟩
abbrev S1x1024 : Shape := ⟨2, ![1, 1024]⟩
abbrev S1x1024x1280 : Shape := ⟨3, ![1, 1024, 1280]⟩
abbrev S4x2048x1280 : Shape := ⟨3, ![4, 2048, 1280]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x1280 : Shape := ⟨2, ![1024, 1280]⟩
abbrev S8192x1024 : Shape := ⟨2, ![8192, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x1280, .f32⟩
  | .hbm, ⟨3, _⟩ => ⟨S4x2048x1280, .f32⟩
  | .hbm, ⟨4, _⟩ => ⟨S4x2048x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S1024x1280, .f32⟩
  | .hbm, ⟨27, _⟩ => ⟨S4x2048x1280, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S_, .f32⟩
  | .hbm, ⟨49, _⟩ => ⟨S4x2048, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S1x1024, .f32⟩
  | .hbm, ⟨56, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== LossKernel.lean ====
abbrev S4x2048x1024 : Shape := ⟨3, ![4, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S256x1024 : Shape := ⟨2, ![256, 1024]⟩
abbrev S256x4096 : Shape := ⟨2, ![256, 4096]⟩
abbrev S1024x1024 : Shape := ⟨2, ![1024, 1024]⟩
abbrev S256 : Shape := ⟨1, ![256]⟩
abbrev S256x1 : Shape := ⟨2, ![256, 1]⟩

abbrev nBuf : Space → Nat
  | .hbm => 37
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S4x2048x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S1x1024, .f32⟩
  | .hbm, ⟨30, _⟩ => ⟨S8192x1024, .f32⟩
  | .hbm, ⟨31, _⟩ => ⟨S8192x4096, .bf16⟩
  | .hbm, ⟨32, _⟩ => ⟨S8192x4096, .bf16⟩
  | .hbm, ⟨33, _⟩ => ⟨S8192x1024, .f32⟩
  | .hbm, ⟨34, _⟩ => ⟨S8192x1024, .bf16⟩
  | .hbm, ⟨35, _⟩ => ⟨S1x1024, .f32⟩
  | .hbm, ⟨36, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev main_v22_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LossReferenceIdeal.lean ====
abbrev S4x2048x1024 : Shape := ⟨3, ![4, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x4096 : Shape := ⟨2, ![1024, 4096]⟩
abbrev S4x2048x4096 : Shape := ⟨3, ![4, 2048, 4096]⟩
abbrev S4096x1024 : Shape := ⟨2, ![4096, 1024]⟩
abbrev S8192x4096 : Shape := ⟨2, ![8192, 4096]⟩
abbrev S8192x1024 : Shape := ⟨2, ![8192, 1024]⟩

abbrev nBuf : Space → Nat
  | .hbm => 149
  | .vmem => 0
  | .smem => 0
  | _ => 0

abbrev hbmTy0_0 (i : Nat) : BufTy := match i % 128 with
  | 0 => ⟨S4x2048x1024, .f32⟩
  | 1 => ⟨S1x1024, .f32⟩
  | 2 => ⟨S1x1024x4096, .f32⟩
  | 3 => ⟨S1x4096x1024, .f32⟩
  | 4 => ⟨S1024, .f32⟩
  | 5 => ⟨S4x2048x1024, .f32⟩
  | 6 => ⟨S1024, .f32⟩
  | 7 => ⟨S4x2048x1024, .f32⟩
  | 8 => ⟨S_, .f32⟩
  | 9 => ⟨S4x2048, .f32⟩
  | 10 => ⟨S4x2048x1, .f32⟩
  | 11 => ⟨S_, .f32⟩
  | 12 => ⟨S4x2048x1, .f32⟩
  | 13 => ⟨S4x2048x1, .f32⟩
  | 14 => ⟨S_, .f32⟩
  | 15 => ⟨S4x2048x1, .f32⟩
  | 16 => ⟨S4x2048x1, .f32⟩
  | 17 => ⟨S4x2048x1, .f32⟩
  | 18 => ⟨S4x2048x1024, .f32⟩
  | 19 => ⟨S4x2048x1024, .f32⟩
  | 20 => ⟨S1x1x1024, .f32⟩
  | 21 => ⟨S4x2048x1024, .f32⟩
  | 22 => ⟨S4x2048x1024, .f32⟩
  | 23 => ⟨S1024x4096, .f32⟩
  | 24 => ⟨S4x2048x4096, .f32⟩
  | 25 => ⟨S_, .f32⟩
  | 26 => ⟨S4x2048x4096, .f32⟩
  | 27 => ⟨S4x2048x4096, .f32⟩
  | 28 => ⟨S4x2048x4096, .f32⟩
  | 29 => ⟨S1024x4096, .f32⟩
  | 30 => ⟨S4x2048x4096, .f32⟩
  | 31 => ⟨S_, .f32⟩
  | 32 => ⟨S4x2048x4096, .f32⟩
  | 33 => ⟨S4x2048x4096, .f32⟩
  | 34 => ⟨S_, .f32⟩
  | 35 => ⟨S4x2048x4096, .f32⟩
  | 36 => ⟨S4x2048x4096, .i1⟩
  | 37 => ⟨S_, .f32⟩
  | 38 => ⟨S4x2048x4096, .f32⟩
  | 39 => ⟨S4x2048x4096, .f32⟩
  | 40 => ⟨S_, .f32⟩
  | 41 => ⟨S4x2048x4096, .f32⟩
  | 42 => ⟨S4x2048x4096, .f32⟩
  | 43 => ⟨S_, .f32⟩
  | 44 => ⟨S4x2048x4096, .f32⟩
  | 45 => ⟨S4x2048x4096, .f32⟩
  | 46 => ⟨S_, .f32⟩
  | 47 => ⟨S4x2048x4096, .f32⟩
  | 48 => ⟨S4x2048x4096, .f32⟩
  | 49 => ⟨S4096x1024, .f32⟩
  | 50 => ⟨S4x2048x1024, .f32⟩
  | 51 => ⟨S4x2048x1024, .f32⟩
  | 52 => ⟨S4x2048x1024, .f32⟩
  | 53 => ⟨S_, .f32⟩
  | 54 => ⟨S4x2048, .f32⟩
  | 55 => ⟨S4x2048x1, .f32⟩
  | 56 => ⟨S_, .f32⟩
  | 57 => ⟨S4x2048x1, .f32⟩
  | 58 => ⟨S4x2048x1, .f32⟩
  | 59 => ⟨S_, .f32⟩
  | 60 => ⟨S4x2048x1, .f32⟩
  | 61 => ⟨S4x2048x1, .f32⟩
  | 62 => ⟨S4x2048x1, .f32⟩
  | 63 => ⟨S4x2048x1, .f32⟩
  | 64 => ⟨S_, .f32⟩
  | 65 => ⟨S4x2048x1, .f32⟩
  | 66 => ⟨S4x2048x1, .f32⟩
  | 67 => ⟨S4x2048x1024, .f32⟩
  | 68 => ⟨S4x2048x1024, .f32⟩
  | 69 => ⟨S1x1x1024, .f32⟩
  | 70 => ⟨S4x2048x1024, .f32⟩
  | 71 => ⟨S4x2048x1024, .f32⟩
  | 72 => ⟨S4x2048x1024, .f32⟩
  | 73 => ⟨S4x2048x1024, .f32⟩
  | 74 => ⟨S_, .f32⟩
  | 75 => ⟨S4x2048x1024, .f32⟩
  | 76 => ⟨S4x2048x1024, .f32⟩
  | 77 => ⟨S_, .f32⟩
  | 78 => ⟨S4x2048, .f32⟩
  | 79 => ⟨S_, .f32⟩
  | 80 => ⟨S4x2048, .f32⟩
  | 81 => ⟨S4x2048, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S4x2048, .f32⟩
  | 90 => ⟨S_, .f32⟩
  | 91 => ⟨S4x2048, .f32⟩
  | 92 => ⟨S4x2048, .f32⟩
  | 93 => ⟨S4x2048x1024, .f32⟩
  | 94 => ⟨S4x2048x1024, .f32⟩
  | 95 => ⟨S4x2048x1024, .f32⟩
  | 96 => ⟨S_, .f32⟩
  | 97 => ⟨S1024, .f32⟩
  | 98 => ⟨S1x1x1024, .f32⟩
  | 99 => ⟨S4x2048x1024, .f32⟩
  | 100 => ⟨S4x2048x1024, .f32⟩
  | 101 => ⟨S_, .f32⟩
  | 102 => ⟨S1024, .f32⟩
  | 103 => ⟨S4x2048x1024, .f32⟩
  | 104 => ⟨S_, .f32⟩
  | 105 => ⟨S4x2048, .f32⟩
  | 106 => ⟨S4x2048x1, .f32⟩
  | 107 => ⟨S4x2048x1024, .f32⟩
  | 108 => ⟨S4x2048x1024, .f32⟩
  | 109 => ⟨S4x2048x1, .f32⟩
  | 110 => ⟨S_, .f32⟩
  | 111 => ⟨S4x2048x1, .f32⟩
  | 112 => ⟨S4x2048x1, .f32⟩
  | 113 => ⟨S_, .f32⟩
  | 114 => ⟨S4x2048, .f32⟩
  | 115 => ⟨S4x2048x1024, .f32⟩
  | 116 => ⟨S4x2048x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S_, .f32⟩
  | _ => ⟨S4x2048x1024, .f32⟩

abbrev hbmTy0_1 (i : Nat) : BufTy := match i % 128 with
  | 0 => ⟨S4x2048x1, .f32⟩
  | 1 => ⟨S4x2048x1, .f32⟩
  | 2 => ⟨S4x2048x1, .f32⟩
  | 3 => ⟨S4x2048x1024, .f32⟩
  | 4 => ⟨S4x2048x1024, .f32⟩
  | 5 => ⟨S1x1x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S8192x4096, .f32⟩
  | 11 => ⟨S8192x4096, .bf16⟩
  | 12 => ⟨S8192x4096, .f32⟩
  | 13 => ⟨S8192x4096, .bf16⟩
  | 14 => ⟨S8192x1024, .f32⟩
  | 15 => ⟨S8192x1024, .f32⟩
  | 16 => ⟨S8192x1024, .bf16⟩
  | 17 => ⟨S_, .f32⟩
  | 18 => ⟨S1024, .f32⟩
  | 19 => ⟨S1x1024, .f32⟩
  | 20 => ⟨S1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_cst : Ref sig .tc := ⟨.hbm, 31, rfl⟩
abbrev main_call1_v0 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_cst_16 : Ref sig .tc := ⟨.hbm, 86, rfl⟩
abbrev main_cst_17 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_19 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_20 : Ref sig .tc := ⟨.hbm, 101, rfl⟩
abbrev main_v70 : Ref sig .tc := ⟨.hbm, 102, rfl⟩
abbrev main_v71 : Ref sig .tc := ⟨.hbm, 103, rfl⟩
abbrev main_cst_21 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_22 : Ref sig .tc := ⟨.hbm, 110, rfl⟩
abbrev main_v77 : Ref sig .tc := ⟨.hbm, 111, rfl⟩
abbrev main_v78 : Ref sig .tc := ⟨.hbm, 112, rfl⟩
abbrev main_cst_23 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_24 : Ref sig .tc := ⟨.hbm, 121, rfl⟩
abbrev main_v86 : Ref sig .tc := ⟨.hbm, 122, rfl⟩
abbrev main_v87 : Ref sig .tc := ⟨.hbm, 123, rfl⟩
abbrev main_cst_25 : Ref sig .tc := ⟨.hbm, 124, rfl⟩
abbrev main_v88 : Ref sig .tc := ⟨.hbm, 125, rfl⟩
abbrev main_v89 : Ref sig .tc := ⟨.hbm, 126, rfl⟩
abbrev main_cst_26 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== MlpKernel.lean ====
abbrev S4x2048x1024 : Shape := ⟨3, ![4, 2048, 1024]⟩
abbrev S4x2048x512 : Shape := ⟨3, ![4, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S4096x1024 : Shape := ⟨2, ![4096, 1024]⟩
abbrev S8192x512 : Shape := ⟨2, ![8192, 512]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x128 : Shape := ⟨2, ![8, 128]⟩
abbrev S256x1024 : Shape := ⟨2, ![256, 1024]⟩
abbrev S256x4096 : Shape := ⟨2, ![256, 4096]⟩
abbrev S256x512 : Shape := ⟨2, ![256, 512]⟩
abbrev S2 : Shape := ⟨1, ![2]⟩
abbrev S256 : Shape := ⟨1, ![256]⟩
abbrev S256x1 : Shape := ⟨2, ![256, 1]⟩
abbrev S512x1024 : Shape := ⟨2, ![512, 1024]⟩
abbrev S1 : Shape := ⟨1, ![1]⟩

abbrev nBuf : Space → Nat
  | .hbm => 60
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S4x2048x1024, .f32⟩
  | .hbm, ⟨8, _⟩ => ⟨S1024x1024, .f32⟩
  | .hbm, ⟨9, _⟩ => ⟨S1024x1024, .bf16⟩
  | .hbm, ⟨10, _⟩ => ⟨S1024x4096, .f32⟩
  | .hbm, ⟨11, _⟩ => ⟨S1024x4096, .bf16⟩
  | .hbm, ⟨12, _⟩ => ⟨S4096x1024, .f32⟩
  | .hbm, ⟨13, _⟩ => ⟨S4096x1024, .bf16⟩
  | .hbm, ⟨14, _⟩ => ⟨S8192x512, .f32⟩
  | .hbm, ⟨15, _⟩ => ⟨S8192x512, .bf16⟩
  | .hbm, ⟨16, _⟩ => ⟨S8192x512, .f32⟩
  | .hbm, ⟨17, _⟩ => ⟨S8192x512, .bf16⟩
  | .hbm, ⟨18, _⟩ => ⟨S8192x1024, .f32⟩
  | .hbm, ⟨19, _⟩ => ⟨S8192x512, .f32⟩
  | .hbm, ⟨20, _⟩ => ⟨S8192x512, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1024x4096, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .bf16⟩
  | .hbm, ⟨49, _⟩ => ⟨S8192x1024, .f32⟩
  | .hbm, ⟨50, _⟩ => ⟨S8192x1024, .bf16⟩
  | .hbm, ⟨51, _⟩ => ⟨S_, .f32⟩
  | .hbm, ⟨52, _⟩ => ⟨S8x128, .f32⟩
  | .hbm, ⟨53, _⟩ => ⟨S8192x4096, .bf16⟩
  | .hbm, ⟨54, _⟩ => ⟨S8192x1024, .f32⟩
  | .hbm, ⟨55, _⟩ => ⟨S8192x512, .bf16⟩
  | .hbm, ⟨56, _⟩ => ⟨S8192x512, .f32⟩
  | .hbm, ⟨57, _⟩ => ⟨S1x1024, .f32⟩
  | .hbm, ⟨58, _⟩ => ⟨S1024x1024, .f32⟩
  | .hbm, ⟨59, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S4096x1024, .bf16⟩
  | .local _ .vmem, ⟨5, _⟩ => ⟨S1024x4096, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x1024, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S8x128, .f32⟩
  | .local _ .vmem, ⟨17, _⟩ => ⟨S256x4096, .bf16⟩
  | .local _ .vmem, ⟨18, _⟩ => ⟨S256x4096, .bf16⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x512, .bf16⟩
  | .local _ .vmem, ⟨23, _⟩ => ⟨S256x512, .f32⟩
  | .local _ .vmem, ⟨24, _⟩ => ⟨S256x512, .f32⟩
  | .local _ .vmem, ⟨25, _⟩ => ⟨S1x1024, .f32⟩
  | .local _ .vmem, ⟨26, _⟩ => ⟨S1024x1024, .f32⟩
  | .local _ .vmem, ⟨27, _⟩ => ⟨S1024x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev main_v40_4 : Ref sig .tc := ⟨.hbm, 57, rfl⟩
abbrev main_v40_5 : Ref sig .tc := ⟨.hbm, 58, rfl⟩
abbrev main_v40_6 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlpReferenceIdeal.lean ====
abbrev S4x2048x1024 : Shape := ⟨3, ![4, 2048, 1024]⟩
abbrev S4x2048x512 : Shape := ⟨3, ![4, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S4x2048x4096 : Shape := ⟨3, ![4, 2048, 4096]⟩
abbrev S1024x1024 : Shape := ⟨2, ![1024, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S1024x4096 : Shape := ⟨2, ![1024, 4096]⟩
abbrev S4096x1024 : Shape := ⟨2, ![4096, 1024]⟩
abbrev S8192x4096 : Shape := ⟨2, ![8192, 4096]⟩
abbrev S8192x1024 : Shape := ⟨2, ![8192, 1024]⟩
abbrev S8192x512 : Shape := ⟨2, ![8192, 512]⟩

abbrev nBuf : Space → Nat
  | .hbm => 103
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S4x2048x1024, .f32⟩
  | .hbm, ⟨8, _⟩ => ⟨S_, .f32⟩
  | .hbm, ⟨9, _⟩ => ⟨S4x2048x4096, .f32⟩
  | .hbm, ⟨10, _⟩ => ⟨S4x2048x1024, .f32⟩
  | .hbm, ⟨11, _⟩ => ⟨S1024x1024, .f32⟩
  | .hbm, ⟨12, _⟩ => ⟨S4x2048x1024, .f32⟩
  | .hbm, ⟨13, _⟩ => ⟨S4x2048x1024, .f32⟩
  | .hbm, ⟨14, _⟩ => ⟨S1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S1024x4096, .f32⟩
  | .hbm, ⟨36, _⟩ => ⟨S4x2048x4096, .f32⟩
  | .hbm, ⟨37, _⟩ => ⟨S4x2048x4096, .f32⟩
  | .hbm, ⟨38, _⟩ => ⟨S_, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S4x2048x4096, .f32⟩
  | .hbm, ⟨43, _⟩ => ⟨S4x2048x4096, .i1⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S_, .f32⟩
  | .hbm, ⟨48, _⟩ => ⟨S4x2048x4096, .f32⟩
  | .hbm, ⟨49, _⟩ => ⟨S4x2048x4096, .f32⟩
  | .hbm, ⟨50, _⟩ => ⟨S4096x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x4096, .f32⟩
  | .hbm, ⟨56, _⟩ => ⟨S4x2048x4096, .f32⟩
  | .hbm, ⟨57, _⟩ => ⟨S_, .f32⟩
  | .hbm, ⟨58, _⟩ => ⟨S4x2048x4096, .f32⟩
  | .hbm, ⟨59, _⟩ => ⟨S4x2048x4096, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | .hbm, ⟨67, _⟩ => ⟨S_, .f32⟩
  | .hbm, ⟨68, _⟩ => ⟨S1024, .f32⟩
  | .hbm, ⟨69, _⟩ => ⟨S4x2048x1024, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1, .f32⟩
  | .hbm, ⟨77, _⟩ => ⟨S_, .f32⟩
  | .hbm, ⟨78, _⟩ => ⟨S4x2048x1, .f32⟩
  | .hbm, ⟨79, _⟩ => ⟨S4x2048x1, .f32⟩
  | .hbm, ⟨80, _⟩ => ⟨S_, .f32⟩
  | .hbm, ⟨81, _⟩ => ⟨S4x2048, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S1x1024, .f32⟩
  | .hbm, ⟨88, _⟩ => ⟨S1024x1024, .f32⟩
  | .hbm, ⟨89, _⟩ => ⟨S1024x1024, .f32⟩
  | .hbm, ⟨90, _⟩ => ⟨S4x2048x1024, .f32⟩
  | .hbm, ⟨91, _⟩ => ⟨S1x1024x1024, .f32⟩
  | .hbm, ⟨92, _⟩ => ⟨S4x2048x512, .f32⟩
  | .hbm, ⟨93, _⟩ => ⟨S4x2048x512, .f32⟩
  | .hbm, ⟨94, _⟩ => ⟨S8192x4096, .f32⟩
  | .hbm, ⟨95, _⟩ => ⟨S8192x4096, .bf16⟩
  | .hbm, ⟨96, _⟩ => ⟨S8192x1024, .f32⟩
  | .hbm, ⟨97, _⟩ => ⟨S8192x512, .f32⟩
  | .hbm, ⟨98, _⟩ => ⟨S8192x512, .bf16⟩
  | .hbm, ⟨99, _⟩ => ⟨S8192x512, .f32⟩
  | .hbm, ⟨100, _⟩ => ⟨S1024x1024, .f32⟩
  | .hbm, ⟨101, _⟩ => ⟨S1024x1024, .f32⟩
  | .hbm, ⟨102, _⟩ => ⟨S1024x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== AttnKernel.lean ====
abbrev S4x2048x512 : Shape := ⟨3, ![4, 2048, 512]⟩
abbrev S4x2048x128 : Shape := ⟨3, ![4, 2048, 128]⟩
abbrev S1x8 : Shape := ⟨2, ![1, 8]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8x1x1 : Shape := ⟨3, ![8, 1, 1]⟩
abbrev S8x1x128 : Shape := ⟨3, ![8, 1, 128]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S8192x8x2x32 : Shape := ⟨4, ![8192, 8, 2, 32]⟩
abbrev S8192x8x1x32 : Shape := ⟨4, ![8192, 8, 1, 32]⟩
abbrev S8192x512 : Shape := ⟨2, ![8192, 512]⟩
abbrev S1x8192x1x128 : Shape := ⟨4, ![1, 8192, 1, 128]⟩
abbrev S1x8192x4x128 : Shape := ⟨4, ![1, 8192, 4, 128]⟩
abbrev S8192x2x2x32 : Shape := ⟨4, ![8192, 2, 2, 32]⟩
abbrev S8192x2x1x32 : Shape := ⟨4, ![8192, 2, 1, 32]⟩
abbrev S8192x64 : Shape := ⟨2, ![8192, 64]⟩
abbrev S8192x256 : Shape := ⟨2, ![8192, 256]⟩
abbrev S8x128 : Shape := ⟨2, ![8, 128]⟩
abbrev S2048x512 : Shape := ⟨2, ![2048, 512]⟩
abbrev S2048x256 : Shape := ⟨2, ![2048, 256]⟩
abbrev S16x128x128 : Shape := ⟨3, ![16, 128, 128]⟩
abbrev S2x4x256x128 : Shape := ⟨4, ![2, 4, 256, 128]⟩
abbrev S128x128 : Shape := ⟨2, ![128, 128]⟩
abbrev S512x128 : Shape := ⟨2, ![512, 128]⟩
abbrev S256x128 : Shape := ⟨2, ![256, 128]⟩
abbrev S256x512 : Shape := ⟨2, ![256, 512]⟩
abbrev S128x512 : Shape := ⟨2, ![128, 512]⟩
abbrev S1x128x128 : Shape := ⟨3, ![1, 128, 128]⟩
abbrev S16x1x1 : Shape := ⟨3, ![16, 1, 1]⟩
abbrev S16x128 : Shape := ⟨2, ![16, 128]⟩
abbrev S16x128x1 : Shape := ⟨3, ![16, 128, 1]⟩
abbrev S16x1 : Shape := ⟨2, ![16, 1]⟩
abbrev S1x1x128x128 : Shape := ⟨4, ![1, 1, 128, 128]⟩
abbrev S1x4x256x128 : Shape := ⟨4, ![1, 4, 256, 128]⟩
abbrev S4x256x128 : Shape := ⟨3, ![4, 256, 128]⟩
abbrev S1x256x128 : Shape := ⟨3, ![1, 256, 128]⟩
abbrev S256x256 : Shape := ⟨2, ![256, 256]⟩

abbrev nBuf : Space → Nat
  | .hbm => 93
  | .vmem => 27
  | .smem => 0
  | _ => 0

abbrev bufTy : (tb : Table) → Fin (tcTables nBuf tb) → BufTy
  | .hbm, ⟨0, _⟩ => ⟨S4x2048x512, .f32⟩
  | .hbm, ⟨1, _⟩ => ⟨S4x2048x128, .f32⟩
  | .hbm, ⟨2, _⟩ => ⟨S4x2048x128, .f32⟩
  | .hbm, ⟨3, _⟩ => ⟨S1x8, .f32⟩
  | .hbm, ⟨4, _⟩ => ⟨S4x2048x512, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S1x2048x1x32, .f32⟩
  | .hbm, ⟨23, _⟩ => ⟨S1x2048x4x32, .f32⟩
  | .hbm, ⟨24, _⟩ => ⟨S2048x128, .f32⟩
  | .hbm, ⟨25, _⟩ => ⟨S2048x32, .f32⟩
  | .hbm, ⟨26, _⟩ => ⟨S2048x64, .f32⟩
  | .hbm, ⟨27, _⟩ => ⟨S1x2048x1x64, .f32⟩
  | .hbm, ⟨28, _⟩ => ⟨S1x2048x2x64, .f32⟩
  | .hbm, ⟨29, _⟩ => ⟨S2048x128, .f32⟩
  | .hbm, ⟨30, _⟩ => ⟨S8x1x1, .f32⟩
  | .hbm, ⟨31, _⟩ => ⟨S8x1x128, .f32⟩
  | .hbm, ⟨32, _⟩ => ⟨S1x2048x1x128, .f32⟩
  | .hbm, ⟨33, _⟩ => ⟨S4x2048x1x128, .f32⟩
  | .hbm, ⟨34, _⟩ => ⟨S8192x128, .f32⟩
  | .hbm, ⟨35, _⟩ => ⟨S1x2048x1x128, .f32⟩
  | .hbm, ⟨36, _⟩ => ⟨S4x2048x1x128, .f32⟩
  | .hbm, ⟨37, _⟩ => ⟨S8192x128, .f32⟩
  | .hbm, ⟨38, _⟩ => ⟨S8192x8x2x32, .f32⟩
  | .hbm, ⟨39, _⟩ => ⟨S8192x8x1x32, .f32⟩
  | .hbm, ⟨40, _⟩ => ⟨S8192x8x1x32, .f32⟩
  | .hbm, ⟨41, _⟩ => ⟨S8192x8x2x32, .f32⟩
  | .hbm, ⟨42, _⟩ => ⟨S8192x512, .f32⟩
  | .hbm, ⟨43, _⟩ => ⟨S8192x512, .f32⟩
  | .hbm, ⟨44, _⟩ => ⟨S1x8192x1x128, .f32⟩
  | .hbm, ⟨45, _⟩ => ⟨S1x8192x4x128, .f32⟩
  | .hbm, ⟨46, _⟩ => ⟨S8192x512, .f32⟩
  | .hbm, ⟨47, _⟩ => ⟨S8192x512, .f32⟩
  | .hbm, ⟨48, _⟩ => ⟨S1x8192x1x128, .f32⟩
  | .hbm, ⟨49, _⟩ => ⟨S1x8192x4x128, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x512, .bf16⟩
  | .hbm, ⟨57, _⟩ => ⟨S8192x2x2x32, .f32⟩
  | .hbm, ⟨58, _⟩ => ⟨S8192x2x1x32, .f32⟩
  | .hbm, ⟨59, _⟩ => ⟨S8192x2x1x32, .f32⟩
  | .hbm, ⟨60, _⟩ => ⟨S8192x2x2x32, .f32⟩
  | .hbm, ⟨61, _⟩ => ⟨S8192x128, .f32⟩
  | .hbm, ⟨62, _⟩ => ⟨S8192x128, .f32⟩
  | .hbm, ⟨63, _⟩ => ⟨S1x8192x1x128, .f32⟩
  | .hbm, ⟨64, _⟩ => ⟨S1x8192x1x128, .f32⟩
  | .hbm, ⟨65, _⟩ => ⟨S8192x128, .f32⟩
  | .hbm, ⟨66, _⟩ => ⟨S8192x128, .f32⟩
  | .hbm, ⟨67, _⟩ => ⟨S1x8192x1x128, .f32⟩
  | .hbm, ⟨68, _⟩ => ⟨S1x8192x1x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x256, .f32⟩
  | .hbm, ⟨77, _⟩ => ⟨S8192x256, .bf16⟩
  | .hbm, ⟨78, _⟩ => ⟨S8192x128, .f32⟩
  | .hbm, ⟨79, _⟩ => ⟨S8192x64, .f32⟩
  | .hbm, ⟨80, _⟩ => ⟨S8192x64, .f32⟩
  | .hbm, ⟨81, _⟩ => ⟨S8192x64, .f32⟩
  | .hbm, ⟨82, _⟩ => ⟨S8192x64, .f32⟩
  | .hbm, ⟨83, _⟩ => ⟨S8192x256, .f32⟩
  | .hbm, ⟨84, _⟩ => ⟨S8192x256, .bf16⟩
  | .hbm, ⟨85, _⟩ => ⟨S_, .f32⟩
  | .hbm, ⟨86, _⟩ => ⟨S8x128, .f32⟩
  | .hbm, ⟨87, _⟩ => ⟨S8192x512, .f32⟩
  | .hbm, ⟨88, _⟩ => ⟨S8192x512, .bf16⟩
  | .hbm, ⟨89, _⟩ => ⟨S8192x512, .bf16⟩
  | .hbm, ⟨90, _⟩ => ⟨S8192x128, .bf16⟩
  | .hbm, ⟨91, _⟩ => ⟨S8192x128, .bf16⟩
  | .hbm, ⟨92, _⟩ => ⟨S8x1x128, .f32⟩
  | .local _ .vmem, ⟨0, _⟩ => ⟨S8x1x128, .f32⟩
  | .local _ .vmem, ⟨1, _⟩ => ⟨S2048x512, .bf16⟩
  | .local _ .vmem, ⟨2, _⟩ => ⟨S2048x512, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x512, .bf16⟩
  | .local _ .vmem, ⟨8, _⟩ => ⟨S2048x512, .bf16⟩
  | .local _ .vmem, ⟨9, _⟩ => ⟨S2048x128, .f32⟩
  | .local _ .vmem, ⟨10, _⟩ => ⟨S2048x128, .f32⟩
  | .local _ .vmem, ⟨11, _⟩ => ⟨S8x128, .f32⟩
  | .local _ .vmem, ⟨12, _⟩ => ⟨S2048x512, .bf16⟩
  | .local _ .vmem, ⟨13, _⟩ => ⟨S2048x512, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S8x1x128, .f32⟩
  | .local _ .vmem, ⟨19, _⟩ => ⟨S16x128x128, .f32⟩
  | .local _ .vmem, ⟨20, _⟩ => ⟨S16x128x128, .f32⟩
  | .local _ .vmem, ⟨21, _⟩ => ⟨S2x4x256x128, .bf16⟩
  | .local _ .vmem, ⟨22, _⟩ => ⟨S2x4x256x128, .bf16⟩
  | .local _ .vmem, ⟨23, _⟩ => ⟨S2x4x256x128, .bf16⟩
  | .local _ .vmem, ⟨24, _⟩ => ⟨S2x4x256x128, .bf16⟩
  | .local _ .vmem, ⟨25, _⟩ => ⟨S2048x128, .f32⟩
  | .local _ .vmem, ⟨26, _⟩ => ⟨S2048x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_2 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80_0 : Ref sig .tc := ⟨.hbm, 89, rfl⟩
abbrev main_v80_1 : Ref sig .tc := ⟨.hbm, 90, rfl⟩
abbrev main_v80_2 : Ref sig .tc := ⟨.hbm, 91, rfl⟩
abbrev main_v80_3 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let c0_i32_28 : BitVec 32 := 0#32
  let v57 : BitVec 32 := Scalar.addi v56 c0_i32_28
  let c128_i32 : BitVec 32 := 128#32
  let v58 : BitVec 32 := Scalar.muli v57 c128_i32
  v58
def k0_mult2 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let c0_i32_28 : BitVec 32 := 0#32
  let v57 : BitVec 32 := Scalar.addi v56 c0_i32_28
  let c1_i32_29 : BitVec 32 := 1#32
  let v60 : BitVec 32 := Scalar.subi v57 c1_i32_29
  let c0_i32_30 : BitVec 32 := 0#32
  let v61 : BitVec 32 := Scalar.maxsi v60 c0_i32_30
  let c128_i32_31 : BitVec 32 := 128#32
  let v62 : BitVec 32 := Scalar.muli v61 c128_i32_31
  v62
def k0_off1 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v74 : Index := Scalar.indexCast v59
  let c0_34 : Index := 0#32
  ![v74.toNat, 0]
def k0_off2 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c1_i32_29 : BitVec 32 := 1#32
  let v60 : BitVec 32 := Scalar.subi v57 c1_i32_29
  let c0_i32_30 : BitVec 32 := 0#32
  let v61 : BitVec 32 := Scalar.maxsi v60 c0_i32_30
  let c128_i32_31 : BitVec 32 := 128#32
  let v62 : BitVec 32 := Scalar.muli v61 c128_i32_31
  let v63 : BitVec 32 := v62
  let v77 : Index := Scalar.indexCast v63
  let c0_35 : Index := 0#32
  ![v77.toNat, 0]
def k0_off3 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v89 : Index := Scalar.indexCast v59
  let c128 : Index := 128#32
  ![v89.toNat, 128]
def k0_off4 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c1_i32_29 : BitVec 32 := 1#32
  let v60 : BitVec 32 := Scalar.subi v57 c1_i32_29
  let c0_i32_30 : BitVec 32 := 0#32
  let v61 : BitVec 32 := Scalar.maxsi v60 c0_i32_30
  let c128_i32_31 : BitVec 32 := 128#32
  let v62 : BitVec 32 := Scalar.muli v61 c128_i32_31
  let v63 : BitVec 32 := v62
  let v92 : Index := Scalar.indexCast v63
  let c128_38 : Index := 128#32
  ![v92.toNat, 128]
def k0_off5 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v131 : Index := Scalar.indexCast v59
  let c0_48 : Index := 0#32
  ![v131.toNat, 0]
def k0_off6 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v134 : Index := Scalar.indexCast v59
  let c128_49 : Index := 128#32
  ![v134.toNat, 128]
def k0_off7 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v138 : Index := Scalar.indexCast v59
  let c256 : Index := 256#32
  ![v138.toNat, 256]
def k0_off8 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v141 : Index := Scalar.indexCast v59
  let c384 : Index := 384#32
  ![v141.toNat, 384]
def k0_mult3 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c2_i32_115 : BitVec 32 := 2#32
  let v299 : BitVec 32 := Scalar.muli arg21 c2_i32_115
  let c1_i32_116 : BitVec 32 := 1#32
  let v300 : BitVec 32 := Scalar.addi v299 c1_i32_116
  let c128_i32_117 : BitVec 32 := 128#32
  let v301 : BitVec 32 := Scalar.muli v300 c128_i32_117
  v301
def k0_mult4 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c2_i32_115 : BitVec 32 := 2#32
  let v299 : BitVec 32 := Scalar.muli arg21 c2_i32_115
  let c1_i32_116 : BitVec 32 := 1#32
  let v300 : BitVec 32 := Scalar.addi v299 c1_i32_116
  let c1_i32_118 : BitVec 32 := 1#32
  let v303 : BitVec 32 := Scalar.subi v300 c1_i32_118
  let c0_i32_119 : BitVec 32 := 0#32
  let v304 : BitVec 32 := Scalar.maxsi v303 c0_i32_119
  let c128_i32_120 : BitVec 32 := 128#32
  let v305 : BitVec 32 := Scalar.muli v304 c128_i32_120
  v305
def k0_off9 (k0_t1 : Fin k0_t1_loop.trips) (c0_i32_28 : BitVec 32) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let v57 : BitVec 32 := Scalar.addi v56 c0_i32_28
  let c128_i32 : BitVec 32 := 128#32
  let v58 : BitVec 32 := Scalar.muli v57 c128_i32
  let v59 : BitVec 32 := v58
  let v936 : Index := Scalar.indexCast v59
  let c0_509 : Index := 0#32
  ![v936.toNat, 0]
def k0_cond2 (k0_t1 : Fin k0_t1_loop.trips) : BitVec 1 :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let c0_i32_28 : BitVec 32 := 0#32
  let v57 : BitVec 32 := Scalar.addi v56 c0_i32_28
  let c0_i32_717 : BitVec 32 := 0#32
  let v1225 : BitVec 1 := Scalar.cmpi .sgt v57 c0_i32_717
  let v1226 : BitVec 32 := Scalar.extui v1225
  let c0_i32_718 : BitVec 32 := 0#32
  let v1227 : BitVec 1 := Scalar.cmpi .ne v1226 c0_i32_718
  v1227

def k0_off10 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c2_i32 : BitVec 32 := 2#32
  let v56 : BitVec 32 := Scalar.muli arg21 c2_i32
  let c0_i32_28 : BitVec 32 := 0#32
  let v57 : BitVec 32 := Scalar.addi v56 c0_i32_28
  let c1_i32_29 : BitVec 32 := 1#32
  let v60 : BitVec 32 := Scalar.subi v57 c1_i32_29
  let c0_i32_30 : BitVec 32 := 0#32
  let v61 : BitVec 32 := Scalar.maxsi v60 c0_i32_30
  let c128_i32_31 : BitVec 32 := 128#32
  let v62 : BitVec 32 := Scalar.muli v61 c128_i32_31
  let v63 : BitVec 32 := v62
  let v1541 : Index := Scalar.indexCast v63
  let c0_959 : Index := 0#32
  ![v1541.toNat, 0]
def k0_cond3 (k0_t1 : Fin k0_t1_loop.trips) : BitVec 1 :=
  let c0_i32_1 : BitVec 32 := 0#32
  let c1_i32 : BitVec 32 := 1#32
  let arg21 : BitVec 32 := Scf.iv c0_i32_1 c1_i32 k0_t1
  let c2_i32_115 : BitVec 32 := 2#32
  let v299 : BitVec 32 := Scalar.muli arg21 c2_i32_115
  let c1_i32_116 : BitVec 32 := 1#32
  let v300 : BitVec 32 := Scalar.addi v299 c1_i32_116
  let c0_i32_957 : BitVec 32 := 0#32
  let v1538 : BitVec 1 := Scalar.cmpi .sgt v300 c0_i32_957
  let v1539 : BitVec 32 := Scalar.extui v1538
  let c0_i32_958 : BitVec 32 := 0#32
  let v1540 : BitVec 1 := Scalar.cmpi .ne v1539 c0_i32_958
  v1540

def k0_off11 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c2_i32_115 : BitVec 32 := 2#32
  let v299 : BitVec 32 := Scalar.muli arg21 c2_i32_115
  let c1_i32_116 : BitVec 32 := 1#32
  let v300 : BitVec 32 := Scalar.addi v299 c1_i32_116
  let c1_i32_118 : BitVec 32 := 1#32
  let v303 : BitVec 32 := Scalar.subi v300 c1_i32_118
  let c0_i32_119 : BitVec 32 := 0#32
  let v304 : BitVec 32 := Scalar.maxsi v303 c0_i32_119
  let c128_i32_120 : BitVec 32 := 128#32
  let v305 : BitVec 32 := Scalar.muli v304 c128_i32_120
  let v306 : BitVec 32 := v305
  let v1541 : Index := Scalar.indexCast v306
  let c0_959 : Index := 0#32
  ![v1541.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttnKernelIdeal.lean ====
variable {F : FTy → Type} [FloatOps F] [Named F]
def κ : String → Option EReal := fun
  | "mask" => some ⊥
  | _ => none
-- ==== InfKernel.lean ====
abbrev S4x2048x1024 : Shape := ⟨3, ![4, 2048, 1024]⟩
abbrev S1x1024x1280 : Shape := ⟨3, ![1, 1024, 1280]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8192x1024 : Shape := ⟨2, ![8192, 1024]⟩
abbrev S1024x1280 : Shape := ⟨2, ![1024, 1280]⟩
abbrev S1280x1024 : Shape := ⟨2, ![1280, 1024]⟩
abbrev S8192x512 : Shape := ⟨2, ![8192, 512]⟩
abbrev S8192x256 : Shape := ⟨2, ![8192, 256]⟩
abbrev S1024x1024 : Shape := ⟨2, ![1024, 1024]⟩
abbrev S1024x128 : Shape := ⟨2, ![1024, 128]⟩
abbrev S1024x512 : Shape := ⟨2, ![1024, 512]⟩
abbrev S1024x256 : Shape := ⟨2, ![1024, 256]⟩

abbrev nBuf : Space → Nat
  | .hbm => 36
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S1x1024x1280, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S2048, .i32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S1x2048x1x32, .f32⟩
  | .hbm, ⟨20, _⟩ => ⟨S1x2048x4x32, .f32⟩
  | .hbm, ⟨21, _⟩ => ⟨S2048x128, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S8192x1024, .f32⟩
  | .hbm, ⟨28, _⟩ => ⟨S8192x1024, .bf16⟩
  | .hbm, ⟨29, _⟩ => ⟨S1024x1280, .f32⟩
  | .hbm, ⟨30, _⟩ => ⟨S1280x1024, .f32⟩
  | .hbm, ⟨31, _⟩ => ⟨S1280x1024, .bf16⟩
  | .hbm, ⟨32, _⟩ => ⟨S8192x512, .bf16⟩
  | .hbm, ⟨33, _⟩ => ⟨S8192x256, .bf16⟩
  | .hbm, ⟨34, _⟩ => ⟨S8192x256, .bf16⟩
  | .hbm, ⟨35, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .bf16⟩
  | .local _ .vmem, ⟨8, _⟩ => ⟨S1024x512, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x512, .f32⟩
  | .local _ .vmem, ⟨14, _⟩ => ⟨S1024x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28_0 : Ref sig .tc := ⟨.hbm, 32, rfl⟩
abbrev main_v28_1 : Ref sig .tc := ⟨.hbm, 33, rfl⟩
abbrev main_v28_2 : Ref sig .tc := ⟨.hbm, 34, rfl⟩
abbrev main_v28_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InfReferenceIdeal.lean ====
abbrev S4x2048x1024 : Shape := ⟨3, ![4, 2048, 1024]⟩
abbrev S1x1024x1280 : Shape := ⟨3, ![1, 1024, 1280]⟩
abbrev S2048 : Shape := ⟨1, ![2048]⟩
abbrev S1024x1280 : Shape := ⟨2, ![1024, 1280]⟩
abbrev S4x2048x1280 : Shape := ⟨3, ![4, 2048, 1280]⟩
abbrev S4x2048x512 : Shape := ⟨3, ![4, 2048, 512]⟩
abbrev S4x2048x8x64 : Shape := ⟨4, ![4, 2048, 8, 64]⟩
abbrev S4x2048x128 : Shape := ⟨3, ![4, 2048, 128]⟩
abbrev S4x2048x2x64 : Shape := ⟨4, ![4, 2048, 2, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S4x2048x2x32 : Shape := ⟨4, ![4, 2048, 2, 32]⟩
abbrev S8192x512 : Shape := ⟨2, ![8192, 512]⟩
abbrev S4x2048x2x128 : Shape := ⟨4, ![4, 2048, 2, 128]⟩
abbrev S8192x256 : Shape := ⟨2, ![8192, 256]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024x1280, .f32⟩
  | .hbm, ⟨2, _⟩ => ⟨S2048, .i32⟩
  | .hbm, ⟨3, _⟩ => ⟨S1024x1280, .f32⟩
  | .hbm, ⟨4, _⟩ => ⟨S4x2048x1280, .f32⟩
  | .hbm, ⟨5, _⟩ => ⟨S4x2048x512, .f32⟩
  | .hbm, ⟨6, _⟩ => ⟨S4x2048x8x64, .f32⟩
  | .hbm, ⟨7, _⟩ => ⟨S4x2048x128, .f32⟩
  | .hbm, ⟨8, _⟩ => ⟨S4x2048x2x64, .f32⟩
  | .hbm, ⟨9, _⟩ => ⟨S4x2048x128, .f32⟩
  | .hbm, ⟨10, _⟩ => ⟨S4x2048x2x64, .f32⟩
  | .hbm, ⟨11, _⟩ => ⟨S4x2048x512, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S1x2048x1x32, .f32⟩
  | .hbm, ⟨28, _⟩ => ⟨S2048x32, .f32⟩
  | .hbm, ⟨29, _⟩ => ⟨S1x2048x1x32, .f32⟩
  | .hbm, ⟨30, _⟩ => ⟨S4x2048x8x32, .f32⟩
  | .hbm, ⟨31, _⟩ => ⟨S4x2048x8x32, .f32⟩
  | .hbm, ⟨32, _⟩ => ⟨S4x2048x8x32, .f32⟩
  | .hbm, ⟨33, _⟩ => ⟨S4x2048x8x32, .f32⟩
  | .hbm, ⟨34, _⟩ => ⟨S4x2048x8x32, .f32⟩
  | .hbm, ⟨35, _⟩ => ⟨S4x2048x8x32, .f32⟩
  | .hbm, ⟨36, _⟩ => ⟨S4x2048x8x32, .f32⟩
  | .hbm, ⟨37, _⟩ => ⟨S4x2048x8x32, .f32⟩
  | .hbm, ⟨38, _⟩ => ⟨S4x2048x8x32, .f32⟩
  | .hbm, ⟨39, _⟩ => ⟨S4x2048x8x32, .f32⟩
  | .hbm, ⟨40, _⟩ => ⟨S4x2048x8x32, .f32⟩
  | .hbm, ⟨41, _⟩ => ⟨S4x2048x8x32, .f32⟩
  | .hbm, ⟨42, _⟩ => ⟨S4x2048x8x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S2048, .f32⟩
  | .hbm, ⟨52, _⟩ => ⟨S2048x1, .f32⟩
  | .hbm, ⟨53, _⟩ => ⟨S1x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S1x2048x1x32, .f32⟩
  | .hbm, ⟨59, _⟩ => ⟨S2048x32, .f32⟩
  | .hbm, ⟨60, _⟩ => ⟨S1x2048x1x32, .f32⟩
  | .hbm, ⟨61, _⟩ => ⟨S4x2048x2x32, .f32⟩
  | .hbm, ⟨62, _⟩ => ⟨S4x2048x2x32, .f32⟩
  | .hbm, ⟨63, _⟩ => ⟨S4x2048x2x32, .f32⟩
  | .hbm, ⟨64, _⟩ => ⟨S4x2048x2x32, .f32⟩
  | .hbm, ⟨65, _⟩ => ⟨S4x2048x2x32, .f32⟩
  | .hbm, ⟨66, _⟩ => ⟨S4x2048x2x32, .f32⟩
  | .hbm, ⟨67, _⟩ => ⟨S4x2048x2x32, .f32⟩
  | .hbm, ⟨68, _⟩ => ⟨S4x2048x2x32, .f32⟩
  | .hbm, ⟨69, _⟩ => ⟨S4x2048x2x32, .f32⟩
  | .hbm, ⟨70, _⟩ => ⟨S4x2048x2x32, .f32⟩
  | .hbm, ⟨71, _⟩ => ⟨S4x2048x2x32, .f32⟩
  | .hbm, ⟨72, _⟩ => ⟨S4x2048x2x32, .f32⟩
  | .hbm, ⟨73, _⟩ => ⟨S4x2048x2x64, .f32⟩
  | .hbm, ⟨74, _⟩ => ⟨S_, .f32⟩
  | .hbm, ⟨75, _⟩ => ⟨S4x2048x8x64, .f32⟩
  | .hbm, ⟨76, _⟩ => ⟨S4x2048x8x64, .f32⟩
  | .hbm, ⟨77, _⟩ => ⟨S8192x512, .f32⟩
  | .hbm, ⟨78, _⟩ => ⟨S8192x512, .bf16⟩
  | .hbm, ⟨79, _⟩ => ⟨S4x2048x2x128, .f32⟩
  | .hbm, ⟨80, _⟩ => ⟨S8192x256, .f32⟩
  | .hbm, ⟨81, _⟩ => ⟨S8192x256, .bf16⟩
  | .hbm, ⟨82, _⟩ => ⟨S4x2048x2x128, .f32⟩
  | .hbm, ⟨83, _⟩ => ⟨S8192x256, .f32⟩
  | .hbm, ⟨84, _⟩ => ⟨S8192x256, .bf16⟩
  | .hbm, ⟨85, _⟩ => ⟨S8192x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_cst_3 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩

abbrev nD : Nat := 1
abbrev τ : Topo := Topo.v7x

variable {F : FTy → Type} [FloatOps F]
-- ==== OutKernel.lean ====
abbrev S4x2048x1024 : Shape := ⟨3, ![4, 2048, 1024]⟩
abbrev S4x2048x512 : Shape := ⟨3, ![4, 2048, 512]⟩
abbrev S1x1024x1024 : Shape := ⟨3, ![1, 1024, 1024]⟩
abbrev S1x1024 : Shape := ⟨2, ![1, 1024]⟩
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S1x1024x1024, .f32⟩
  | .hbm, ⟨4, _⟩ => ⟨S1x1024, .f32⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S8192x1024, .f32⟩
  | .hbm, ⟨13, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S4x2048x1024 : Shape := ⟨3, ![4, 2048, 1024]⟩
abbrev S4x2048x512 : Shape := ⟨3, ![4, 2048, 512]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S1x1024x1024, .f32⟩
  | .hbm, ⟨4, _⟩ => ⟨S1x1024, .f32⟩
  | .hbm, ⟨5, _⟩ => ⟨S4x2048x1024, .f32⟩
  | .hbm, ⟨6, _⟩ => ⟨S1024x1024, .f32⟩
  | .hbm, ⟨7, _⟩ => ⟨S4x2048x1024, .f32⟩
  | .hbm, ⟨8, _⟩ => ⟨S4x2048x1024, .f32⟩
  | .hbm, ⟨9, _⟩ => ⟨S1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== PoolfKernel.lean ====
abbrev S4x2048x512 : Shape := ⟨3, ![4, 2048, 512]⟩
abbrev S1x4x128x128 : Shape := ⟨4, ![1, 4, 128, 128]⟩
abbrev S1x512 : Shape := ⟨2, ![1, 512]⟩
abbrev S8192x512 : Shape := ⟨2, ![8192, 512]⟩
abbrev S4x128x128 : Shape := ⟨3, ![4, 128, 128]⟩
abbrev S_ : Shape := ⟨0, ![]⟩
abbrev S8x128 : Shape := ⟨2, ![8, 128]⟩
abbrev S2048x512 : Shape := ⟨2, ![2048, 512]⟩
abbrev S2048x1 : Shape := ⟨2, ![2048, 1]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x512, .f32⟩
  | .hbm, ⟨1, _⟩ => ⟨S1x4x128x128, .f32⟩
  | .hbm, ⟨2, _⟩ => ⟨S1x512, .f32⟩
  | .hbm, ⟨3, _⟩ => ⟨S8192x512, .f32⟩
  | .hbm, ⟨4, _⟩ => ⟨S4x128x128, .f32⟩
  | .hbm, ⟨5, _⟩ => ⟨S4x128x128, .bf16⟩
  | .hbm, ⟨6, _⟩ => ⟨S_, .f32⟩
  | .hbm, ⟨7, _⟩ => ⟨S8x128, .f32⟩
  | .hbm, ⟨8, _⟩ => ⟨S8192x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S8x128, .f32⟩
  | .local _ .vmem, ⟨5, _⟩ => ⟨S2048x512, .bf16⟩
  | .local _ .vmem, ⟨6, _⟩ => ⟨S2048x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolfReferenceIdeal.lean ====
abbrev S4x2048x512 : Shape := ⟨3, ![4, 2048, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S4x2048x4x128 : Shape := ⟨4, ![4, 2048, 4, 128]⟩
abbrev S_ : Shape := ⟨0, ![]⟩
abbrev S4x1x4x128 : Shape := ⟨4, ![4, 1, 4, 128]⟩
abbrev S4x2049x4x128 : Shape := ⟨4, ![4, 2049, 4, 128]⟩
abbrev S2048 : Shape := ⟨1, ![2048]⟩
abbrev S4x2049x1x128 : Shape := ⟨4, ![4, 2049, 1, 128]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x128x4x2048 : Shape := ⟨4, ![4, 128, 4, 2048]⟩
abbrev S1x1x512 : Shape := ⟨3, ![1, 1, 512]⟩
abbrev S8192x512 : Shape := ⟨2, ![8192, 512]⟩

abbrev nBuf : Space → Nat
  | .hbm => 99
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S512, .f32⟩
  | .hbm, ⟨5, _⟩ => ⟨S4x2048x4x128, .f32⟩
  | .hbm, ⟨6, _⟩ => ⟨S_, .f32⟩
  | .hbm, ⟨7, _⟩ => ⟨S4x1x4x128, .f32⟩
  | .hbm, ⟨8, _⟩ => ⟨S_, .f32⟩
  | .hbm, ⟨9, _⟩ => ⟨S_, .f32⟩
  | .hbm, ⟨10, _⟩ => ⟨S4x2048x4x128, .f32⟩
  | .hbm, ⟨11, _⟩ => ⟨S4x2049x4x128, .f32⟩
  | .hbm, ⟨12, _⟩ => ⟨S2048, .i32⟩
  | .hbm, ⟨13, _⟩ => ⟨S4x2049x1x128, .f32⟩
  | .hbm, ⟨14, _⟩ => ⟨S4x2049x128, .f32⟩
  | .hbm, ⟨15, _⟩ => ⟨S_, .f32⟩
  | .hbm, ⟨16, _⟩ => ⟨S4x1x128, .f32⟩
  | .hbm, ⟨17, _⟩ => ⟨S4x2047x128, .f32⟩
  | .hbm, ⟨18, _⟩ => ⟨S4x2048x128, .f32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S1x2048x1, .f32⟩
  | .hbm, ⟨27, _⟩ => ⟨S4x2048x128, .f32⟩
  | .hbm, ⟨28, _⟩ => ⟨S4x2048x128, .f32⟩
  | .hbm, ⟨29, _⟩ => ⟨S4x2048x128, .f32⟩
  | .hbm, ⟨30, _⟩ => ⟨S4x2048x128, .f32⟩
  | .hbm, ⟨31, _⟩ => ⟨S4x2049x1x128, .f32⟩
  | .hbm, ⟨32, _⟩ => ⟨S4x2049x128, .f32⟩
  | .hbm, ⟨33, _⟩ => ⟨S_, .f32⟩
  | .hbm, ⟨34, _⟩ => ⟨S4x3x128, .f32⟩
  | .hbm, ⟨35, _⟩ => ⟨S4x2045x128, .f32⟩
  | .hbm, ⟨36, _⟩ => ⟨S4x2048x128, .f32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S1x2048x1, .f32⟩
  | .hbm, ⟨45, _⟩ => ⟨S4x2048x128, .f32⟩
  | .hbm, ⟨46, _⟩ => ⟨S4x2048x128, .f32⟩
  | .hbm, ⟨47, _⟩ => ⟨S4x2048x128, .f32⟩
  | .hbm, ⟨48, _⟩ => ⟨S4x2048x128, .f32⟩
  | .hbm, ⟨49, _⟩ => ⟨S4x2049x1x128, .f32⟩
  | .hbm, ⟨50, _⟩ => ⟨S4x2049x128, .f32⟩
  | .hbm, ⟨51, _⟩ => ⟨S_, .f32⟩
  | .hbm, ⟨52, _⟩ => ⟨S4x7x128, .f32⟩
  | .hbm, ⟨53, _⟩ => ⟨S4x2041x128, .f32⟩
  | .hbm, ⟨54, _⟩ => ⟨S4x2048x128, .f32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .f32⟩
  | .hbm, ⟨62, _⟩ => ⟨S1x2048x1, .f32⟩
  | .hbm, ⟨63, _⟩ => ⟨S4x2048x128, .f32⟩
  | .hbm, ⟨64, _⟩ => ⟨S4x2048x128, .f32⟩
  | .hbm, ⟨65, _⟩ => ⟨S4x2048x128, .f32⟩
  | .hbm, ⟨66, _⟩ => ⟨S4x2048x128, .f32⟩
  | .hbm, ⟨67, _⟩ => ⟨S4x2049x1x128, .f32⟩
  | .hbm, ⟨68, _⟩ => ⟨S4x2049x128, .f32⟩
  | .hbm, ⟨69, _⟩ => ⟨S_, .f32⟩
  | .hbm, ⟨70, _⟩ => ⟨S4x15x128, .f32⟩
  | .hbm, ⟨71, _⟩ => ⟨S4x2033x128, .f32⟩
  | .hbm, ⟨72, _⟩ => ⟨S4x2048x128, .f32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .f32⟩
  | .hbm, ⟨80, _⟩ => ⟨S1x2048x1, .f32⟩
  | .hbm, ⟨81, _⟩ => ⟨S4x2048x128, .f32⟩
  | .hbm, ⟨82, _⟩ => ⟨S4x2048x128, .f32⟩
  | .hbm, ⟨83, _⟩ => ⟨S4x2048x128, .f32⟩
  | .hbm, ⟨84, _⟩ => ⟨S4x2048x128, .f32⟩
  | .hbm, ⟨85, _⟩ => ⟨S4x2048x1x128, .f32⟩
  | .hbm, ⟨86, _⟩ => ⟨S4x2048x1x128, .f32⟩
  | .hbm, ⟨87, _⟩ => ⟨S4x2048x1x128, .f32⟩
  | .hbm, ⟨88, _⟩ => ⟨S4x2048x1x128, .f32⟩
  | .hbm, ⟨89, _⟩ => ⟨S4x2048x4x128, .f32⟩
  | .hbm, ⟨90, _⟩ => ⟨S4x2048x4x128, .f32⟩
  | .hbm, ⟨91, _⟩ => ⟨S4x128x4x2048, .f32⟩
  | .hbm, ⟨92, _⟩ => ⟨S4x2048x4x128, .f32⟩
  | .hbm, ⟨93, _⟩ => ⟨S4x2048x512, .f32⟩
  | .hbm, ⟨94, _⟩ => ⟨S1x1x512, .f32⟩
  | .hbm, ⟨95, _⟩ => ⟨S4x2048x512, .f32⟩
  | .hbm, ⟨96, _⟩ => ⟨S4x2048x512, .f32⟩
  | .hbm, ⟨97, _⟩ => ⟨S8192x512, .f32⟩
  | .hbm, ⟨98, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_9 : Ref sig .tc := ⟨.hbm, 73, rfl⟩
abbrev main_v57 : Ref sig .tc := ⟨.hbm, 74, rfl⟩
abbrev main_v58 : Ref sig .tc := ⟨.hbm, 75, rfl⟩
abbrev main_c_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== GradKernel.lean ====
abbrev S4x2048x1024 : Shape := ⟨3, ![4, 2048, 1024]⟩
abbrev S4x2048x1280 : Shape := ⟨3, ![4, 2048, 1280]⟩
abbrev S8192x1280 : Shape := ⟨2, ![8192, 1280]⟩
abbrev S8192x512 : Shape := ⟨2, ![8192, 512]⟩
abbrev S8192x128 : Shape := ⟨2, ![8192, 128]⟩
abbrev S8192x1024 : Shape := ⟨2, ![8192, 1024]⟩
abbrev S1280x1024 : Shape := ⟨2, ![1280, 1024]⟩
abbrev S1024x512 : Shape := ⟨2, ![1024, 512]⟩
abbrev S1024x128 : Shape := ⟨2, ![1024, 128]⟩
abbrev S1024x1024 : Shape := ⟨2, ![1024, 1024]⟩
abbrev S1024x1280 : Shape := ⟨2, ![1024, 1280]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1280, .f32⟩
  | .hbm, ⟨2, _⟩ => ⟨S8192x1280, .f32⟩
  | .hbm, ⟨3, _⟩ => ⟨S8192x1280, .bf16⟩
  | .hbm, ⟨4, _⟩ => ⟨S8192x512, .bf16⟩
  | .hbm, ⟨5, _⟩ => ⟨S8192x128, .bf16⟩
  | .hbm, ⟨6, _⟩ => ⟨S8192x128, .bf16⟩
  | .hbm, ⟨7, _⟩ => ⟨S8192x512, .bf16⟩
  | .hbm, ⟨8, _⟩ => ⟨S8192x1024, .f32⟩
  | .hbm, ⟨9, _⟩ => ⟨S8192x1024, .bf16⟩
  | .hbm, ⟨10, _⟩ => ⟨S1280x1024, .f32⟩
  | .hbm, ⟨11, _⟩ => ⟨S1280x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1280x1024, .f32⟩
  | .local _ .vmem, ⟨11, _⟩ => ⟨S1280x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradReferenceIdeal.lean ====
abbrev S4x2048x1024 : Shape := ⟨3, ![4, 2048, 1024]⟩
abbrev S4x2048x1280 : Shape := ⟨3, ![4, 2048, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1280, .f32⟩
  | .hbm, ⟨2, _⟩ => ⟨S_, .f32⟩
  | .hbm, ⟨3, _⟩ => ⟨S1024x1280, .f32⟩
  | .hbm, ⟨4, _⟩ => ⟨S4x2048x1280, .f32⟩
  | .hbm, ⟨5, _⟩ => ⟨S1280x1024, .f32⟩
  | .hbm, ⟨6, _⟩ => ⟨S1024x1280, .f32⟩
  | .hbm, ⟨7, _⟩ => ⟨S1280x1024, .f32⟩
  | .hbm, ⟨8, _⟩ => ⟨S1280x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.PoolMath.lean ====
/- Windowed sums of real sequences: the doubling form the kernel computes them in, and the difference of
   prefix sums the reference computes them in. No program appears here. -/
module

public import Mathlib.Algebra.BigOperators.Intervals
public import Mathlib.Data.Real.Basic
public import Mathlib.Tactic.Ring
public import Mathlib.Tactic.Linarith

@[expose] public section

noncomputable section

namespace Cert.Pool

open Finset

/-- The sum of the last `w` terms of `f` up to and including `s`, terms before the start counting zero. -/
def trail (w : ℕ) (f : ℕ → ℝ) (s : ℕ) : ℝ := ∑ k ∈ range w, if k ≤ s then f (s - k) else 0

/-- The sum of the `w` terms of `f` from `s` on, terms at `n` and beyond counting zero. -/
def lead (n w : ℕ) (f : ℕ → ℝ) (s : ℕ) : ℝ := ∑ k ∈ range w, if s + k < n then f (s + k) else 0

theorem trail_one (f : ℕ → ℝ) (s : ℕ) : trail 1 f s = f s := by simp [trail]

theorem lead_one {n : ℕ} (f : ℕ → ℝ) {s : ℕ} (h : s < n) : lead n 1 f s = f s := by simp [lead, h]

/-- A trailing window of twice the width is the window and the window `k` rows before it. -/
theorem trail_double (k : ℕ) (f : ℕ → ℝ) (s : ℕ) :
    trail (k + k) f s = trail k f s + if k ≤ s then trail k f (s - k) else 0 := by
  unfold trail
  rw [sum_range_add]
  congr 1
  by_cases h : k ≤ s
  · rw [if_pos h]
    refine sum_congr rfl fun i _ => ?_
    by_cases hi : i ≤ s - k
    · rw [if_pos hi, if_pos (by omega), Nat.sub_sub]
    · rw [if_neg hi, if_neg (by omega)]
  · rw [if_neg h]
    exact sum_eq_zero fun i _ => if_neg (by omega)

/-- A leading window of twice the width is the window and the window `k` rows after it. -/
theorem lead_double (n k : ℕ) (f : ℕ → ℝ) (s : ℕ) :
    lead n (k + k) f s = lead n k f s + if s + k < n then lead n k f (s + k) else 0 := by
  unfold lead
  rw [sum_range_add]
  congr 1
  by_cases h : s + k < n
  · rw [if_pos h]
    exact sum_congr rfl fun i _ => by rw [← Nat.add_assoc]
  · rw [if_neg h]
    exact sum_eq_zero fun i _ => if_neg (by omega)

/-- A trailing window is the difference of two prefix sums; the earlier one is absent while the window
    still reaches over the start. -/
theorem trail_eq_prefix (w : ℕ) (f : ℕ → ℝ) (s : ℕ) :
    trail w f s = (∑ i ∈ range (s + 1), f i) - if w ≤ s + 1 then ∑ i ∈ range (s + 1 - w), f i else 0 := by
  induction w with
  | zero => simp [trail]
  | succ w ih =>
    have hs : trail (w + 1) f s = trail w f s + if w ≤ s then f (s - w) else 0 := by
      unfold trail
      rw [sum_range_succ]
    rw [hs, ih]
    by_cases h : w ≤ s
    · rw [if_pos h, if_pos (by omega), if_pos (by omega)]
      have e := sum_range_succ f (s - w)
      rw [show s - w + 1 = s + 1 - w by omega] at e
      rw [e, show s + 1 - (w + 1) = s - w by omega]
      ring
    · rw [if_neg h]
      by_cases h1 : w ≤ s + 1
      · rw [if_pos h1, if_neg (by omega), show s + 1 - w = 0 by omega]
        simp
      · rw [if_neg h1, if_neg (by omega)]
        simp

/-- A suffix sum of the differences `e q - e (q + w)`, the second term absent from row `n` on, is the
    leading window of `e`. -/
theorem lead_eq_suffix (n w : ℕ) (e : ℕ → ℝ) (s : ℕ) (hs : s ≤ n) :
    (∑ k ∈ range (n - s), (e (s + k) + if s + k + w < n then -e (s + k + w) else 0)) = lead n w e s := by
  obtain ⟨d, rfl⟩ : ∃ d, n = s + d := ⟨n - s, by omega⟩
  rw [show s + d - s = d by omega, sum_add_distrib]
  have h1 : lead (s + d) w e s = ∑ k ∈ range w, if k < d then e (s + k) else 0 := by
    unfold lead
    exact sum_congr rfl fun k _ => by simp
  have h2 : (∑ k ∈ range d, if s + k + w < s + d then -e (s + k + w) else 0)
      = -∑ k ∈ range d, if k + w < d then e (s + (k + w)) else 0 := by
    rw [← sum_neg_distrib]
    refine sum_congr rfl fun k _ => ?_
    by_cases hk : k + w < d
    · rw [if_pos hk, if_pos (by omega), Nat.add_assoc]
    · rw [if_neg hk, if_neg (by omega), neg_zero]
  rw [h1, h2]
  -- both sides are sums of the same sequence cut off at `d`
  have key : ∀ g : ℕ → ℝ, (∑ k ∈ range (w + d), g k) = (∑ k ∈ range w, g k) + ∑ k ∈ range d, g (w + k) :=
    fun g => sum_range_add g w d
  have key' : ∀ g : ℕ → ℝ, (∑ k ∈ range (d + w), g k) = (∑ k ∈ range d, g k) + ∑ k ∈ range w, g (d + k) :=
    fun g => sum_range_add g d w
  have a := key fun k => if k < d then e (s + k) else 0
  have b := key' fun k => if k < d then e (s + k) else 0
  have z : (∑ k ∈ range w, if d + k < d then e (s + (d + k)) else 0) = 0 :=
    sum_eq_zero fun k _ => if_neg (by omega)
  have f1 : (∑ k ∈ range d, if k < d then e (s + k) else 0) = ∑ k ∈ range d, e (s + k) :=
    sum_congr rfl fun k hk => if_pos (mem_range.1 hk)
  have f2 : (∑ k ∈ range d, if w + k < d then e (s + (w + k)) else 0) = ∑ k ∈ range d, if k + w < d then e (s + (k + w)) else 0 :=
    sum_congr rfl fun k _ => by rw [Nat.add_comm w k]
  rw [Nat.add_comm d w, f1, z] at b
  rw [f2] at a
  linarith

end Cert.Pool

end
-- ==== Proof.Reals.lean ====
/- Arrays of extended reals that hold real numbers: the exact operations at the ideal values carry real numbers to
   real numbers, so a computation on finite arguments is a computation over the reals. -/
module

public import Idealize.ShloMosaic.Lib.Pointwise

@[expose] public section

set_option maxRecDepth 16384

noncomputable section

namespace Cert.Reals

open Idealize.ShloMosaic

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a real that is not zero. -/
theorem div_coe (x y : ℝ) (h : y ≠ 0) : Ideal.div (x : EReal) (y : EReal) = ((x / y : ℝ) : EReal) := by
  rw [Ideal.div_coe h, ← EReal.coe_mul, mul_one_div]

/-- A choice between reals. -/
theorem coe_ite (p : Prop) [Decidable p] (a b : ℝ) :
    ((if p then a else b : ℝ) : EReal) = if p then (a : EReal) else (b : EReal) := by
  split <;> rfl

/-- The ideal value of an array holding the reals `f` of its two coordinates. -/
def emb2 {n m : ℕ} (f : ℕ → ℕ → ℝ) : (⟨2, ![n, m]⟩ : Shape).Idx → EReal := fun j => ((f (j 0).val (j 1).val : ℝ) : EReal)

theorem emb2_apply {n m : ℕ} (f : ℕ → ℕ → ℝ) (a : Fin n) (b : Fin m) :
    emb2 f (ix2 a b) = ((f a.val b.val : ℝ) : EReal) := rfl

/-- The real number a finite extended real is. -/
theorem coe_toReal_of_finite {x : EReal} (h : max x (-x) < ⊤) : ((x.toReal : ℝ) : EReal) = x := by
  refine EReal.coe_toReal (fun e => ?_) (fun e => ?_)
  · subst e; simp at h
  · subst e; simp at h

/-! ## Words that count rows -/

theorem toInt_ofNat {a : ℕ} (h : a < 2 ^ 31) : (BitVec.ofNat 32 a).toInt = (a : ℤ) := by
  rw [BitVec.toInt_eq_toNat_of_lt (by rw [BitVec.toNat_ofNat]; omega), BitVec.toNat_ofNat]
  omega

theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  have h : IntOp.cmpi .sge (BitVec.ofNat 32 a) (BitVec.ofNat 32 b) = BitVec.ofBool (decide (b ≤ a)) := by
    show BitVec.ofBool (decide ((BitVec.ofNat 32 b).toInt ≤ (BitVec.ofNat 32 a).toInt)) = _
    rw [toInt_ofNat ha, toInt_ofNat hb]
    simp
  rw [h]
  by_cases hab : b ≤ a <;> simp [hab, Scalar.select]

theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  have h : IntOp.cmpi .slt (BitVec.ofNat 32 a) (BitVec.ofNat 32 b) = BitVec.ofBool (decide (a < b)) := by
    show BitVec.ofBool (decide ((BitVec.ofNat 32 a).toInt < (BitVec.ofNat 32 b).toInt)) = _
    rw [toInt_ofNat ha, toInt_ofNat hb]
    simp
  rw [h]
  by_cases hab : a < b <;> simp [hab, Scalar.select]

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  have h : (BitVec.ofNat 32 a).slt (BitVec.ofNat 32 b) = decide (a < b) := by
    show decide ((BitVec.ofNat 32 a).toInt < (BitVec.ofNat 32 b).toInt) = _
    rw [toInt_ofNat ha, toInt_ofNat hb]
    simp
  rw [h]
  by_cases hab : a < b
  · simp [hab, Nat.min_eq_left (Nat.le_of_lt hab)]
  · simp [hab, Nat.min_eq_right (Nat.le_of_not_lt hab)]

/-- A row number counted from one and cut off at `w`, as a real. -/
theorem count_word {s w : ℕ} (hs : s < 2 ^ 30) (hw : w < 2 ^ 31) :
    (FloatOps.sitofp .f32 (IntOp.minsi (IntOp.addi (BitVec.ofNat 32 s) 1#32) (BitVec.ofNat 32 w)) : Ideal .f32)
      = (((min (s + 1) w : ℕ) : ℝ) : EReal) := by
  have h : IntOp.addi (BitVec.ofNat 32 s) 1#32 = BitVec.ofNat 32 (s + 1) := (BitVec.ofNat_add s 1).symm
  rw [h, minsi_ofNat (by omega) hw]
  show (((BitVec.ofNat 32 (min (s + 1) w)).toInt : ℝ) : EReal) = _
  rw [toInt_ofNat (by omega)]
  simp

end Cert.Reals

end
-- ==== Proof.PoolPay.lean ====
/- The pooling branch's backward body at the ideal values, on blocks that hold real numbers: what each of its stores
   writes, as a real number per index. -/
module

public import proofs.«01_k».proof.Proof.Gen.KernelIdeal.Skeleton
public import proofs.«01_k».proof.Proof.PoolMath
public import proofs.«01_k».proof.Proof.Reals

@[expose] public section

set_option maxRecDepth 16384

noncomputable section

namespace Cert.Pool

open Idealize.ShloMosaic Idealize.ShloMosaic.TcCoe Cert.KernelIdeal Cert.KernelIdeal.Gen Cert.Reals

/-- The row numbers of a block. -/
def rows : IVec S2048x1 32 := iota .tc S2048x1 32 [0] iota_S2048x1_d0_w32

/-- One doubling step of a trailing window: a row adds the row `k` before it where there is one. -/
def stepT (k : BitVec 32) (x : FVec Ideal S2048x128 .f32) : FVec Ideal S2048x128 .f32 :=
  addf x (select (broadcastTo S2048x128 (shapeCast S2048x1 (cmpi .sge rows (broadcast S2048x1 k)) shapeCasts_S2048x1_S2048x1) broadcasts_S2048x1_S2048x128)
    (dynamicRotate 0 k none x rotates_S2048x128_d0) (broadcast S2048x128 (Scalar.ofBits .f32 0x00000000#32)))

/-- One doubling step of a leading window, the rotation `2048 - k`. -/
def stepL (k : BitVec 32) (x : FVec Ideal S2048x128 .f32) : FVec Ideal S2048x128 .f32 :=
  addf x (select (broadcastTo S2048x128 (shapeCast S2048x1 (cmpi .slt rows (broadcast S2048x1 k)) shapeCasts_S2048x1_S2048x1) broadcasts_S2048x1_S2048x128)
    (dynamicRotate 0 k none x rotates_S2048x128_d0) (broadcast S2048x128 (Scalar.ofBits .f32 0x00000000#32)))

/-- The rows a window of `w` really holds. -/
def countv (w : BitVec 32) : FVec Ideal S2048x1 .f32 :=
  sitofp .f32 (minsi (addi rows (broadcast S2048x1 1#32)) (broadcast S2048x1 w))

theorem stepT_emb (k : ℕ) (hk : 0 < k) (hk' : k < 2048) (f : ℕ → ℕ → ℝ) :
    stepT (BitVec.ofNat 32 k) (emb2 f) = emb2 fun s c => f s c + if k ≤ s then f (s - k) c else 0 := by
  funext j
  idx_vars j
  pointwise [stepT, rows]
  rw [select_sge (by have := j0.isLt; omega) (by omega)]
  simp only [emb2_apply, BitVec.toNat_ofNat]
  rw [EReal.coe_add, coe_ite]
  refine congrArg _ ?_
  have hs := j0.isLt
  by_cases h : k ≤ j0.val
  · rw [if_pos h, if_pos h, show (j0.val + 2048 - k % 2 ^ 32 % 2048) % 2048 = j0.val - k by omega]
  · rw [if_neg h, if_neg h]; rfl

theorem stepL_emb (k : ℕ) (hk : 0 < k) (hk' : k < 2048) (f : ℕ → ℕ → ℝ) :
    stepL (BitVec.ofNat 32 (2048 - k)) (emb2 f) = emb2 fun s c => f s c + if s + k < 2048 then f (s + k) c else 0 := by
  funext j
  idx_vars j
  pointwise [stepL, rows]
  rw [select_slt (by have := j0.isLt; omega) (by omega)]
  simp only [emb2_apply, BitVec.toNat_ofNat]
  rw [EReal.coe_add, coe_ite]
  refine congrArg _ ?_
  have hs := j0.isLt
  by_cases h : j0.val + k < 2048
  · rw [if_pos h, if_pos (by omega), show (j0.val + 2048 - (2048 - k) % 2 ^ 32 % 2048) % 2048 = j0.val + k by omega]
  · rw [if_neg h, if_neg (by omega)]; rfl

theorem countv_at (w : ℕ) (hw : w < 2048) (s : Fin 2048) (z : Fin 1) :
    countv (BitVec.ofNat 32 w) (ix2 s z) = (((min (s.val + 1) w : ℕ) : ℝ) : EReal) := by
  pointwise [countv, rows]
  exact count_word (by have := s.isLt; omega) (by omega)

/-- The rows a window of `w` holds at row `s`, as a real. -/
def cnt (w s : ℕ) : ℝ := ((min (s + 1) w : ℕ) : ℝ)

theorem cnt_ne (w s : ℕ) (hw : 0 < w) : cnt w s ≠ 0 := by
  unfold cnt
  exact_mod_cast (by omega : min (s + 1) w ≠ 0)

/-- The pooled feature: the window's mean minus the row itself. -/
def featv (w : BitVec 32) (x t : FVec Ideal S2048x128 .f32) : FVec Ideal S2048x128 .bf16 :=
  truncf .bf16 (subf (divf t (broadcastTo S2048x128 (countv w) broadcasts_S2048x1_S2048x128)) x) bitsLt_bf16_f32

theorem featv_emb (w : ℕ) (hw : 0 < w) (hw' : w < 2048) (f g : ℕ → ℕ → ℝ) :
    featv (BitVec.ofNat 32 w) (emb2 f) (emb2 g) = emb2 fun s c => g s c / cnt w s - f s c := by
  funext j
  idx_vars j
  pointwise [featv]
  rw [countv_at w hw']
  simp only [emb2_apply]
  rw [show Ideal.div ((g j0.val j1.val : ℝ) : EReal) (((min (j0.val + 1) w : ℕ) : ℝ) : EReal) = _ from div_coe (g j0.val j1.val) _ (cnt_ne w j0.val hw), EReal.coe_sub]
  rfl

/-- The cotangent of the product's result: `dpool * scale`. -/
def dyv (dp : FVec Ideal S2048x128 .f32) (sc : FVec Ideal S1x128 .f32) : FVec Ideal S2048x128 .bf16 :=
  truncf .bf16 (mulf dp (broadcastTo S2048x128 sc broadcasts_S1x128_S2048x128)) bitsLt_bf16_f32

theorem dyv_emb (f g : ℕ → ℕ → ℝ) : dyv (emb2 f) (emb2 g) = emb2 fun s c => f s c * g 0 c := by
  funext j
  idx_vars j
  pointwise [dyv]
  simp only [emb2_apply]
  rw [EReal.coe_mul]
  rfl

/-- The cotangent of the features, by the transposed weights. -/
def ddv (dy : FVec Ideal S2048x128 .bf16) (W : FVec Ideal S128x128 .bf16) : FVec Ideal S2048x128 .f32 :=
  matmul dot_S2048x128_S128x128_S2048x128_1_1_0_0_n_n none dy W (constant S2048x128 .f32 0x00000000#32)

theorem ddv_emb (f g : ℕ → ℕ → ℝ) : ddv (emb2 f) (emb2 g) = emb2 fun s i => ∑ k : Fin 128, f s k.val * g i k.val := by
  funext j
  idx_vars j
  pointwise [ddv]
  simp only [emb2_apply, coe_sum, EReal.coe_mul]

/-- What a sequence adds to the scale's gradient: the cotangent against the unscaled product, summed over the rows. -/
def dsv (acc : FVec Ideal S1x128 .f32) (dp : FVec Ideal S2048x128 .f32) (d : FVec Ideal S2048x128 .bf16) (W : FVec Ideal S128x128 .bf16) :
    FVec Ideal S1x128 .f32 :=
  addf acc (shapeCast S1x128 (multiReduction .add [0] S128 (mulf dp
    (matmul dot_S2048x128_S128x128_S2048x128_1_0_0_1_n_n none d W (constant S2048x128 .f32 0x00000000#32)))
    0x00000000#32 reduces_S2048x128_S128 (.inl rfl) rfl) shapeCasts_S128_S1x128)

theorem dsv_emb (acc : FVec Ideal S1x128 .f32) (f g h : ℕ → ℕ → ℝ) (z : Fin 1) (c : Fin 128) :
    dsv acc (emb2 f) (emb2 g) (emb2 h) (ix2 z c)
      = acc (ix2 z c) + ((∑ s : Fin 2048, f s.val c.val * ∑ k : Fin 128, g s.val k.val * h k.val c.val : ℝ) : EReal) := by
  pointwise [dsv]
  simp only [emb2_apply, coe_sum, EReal.coe_mul]

/-- What a sequence adds to the weights' gradient: the features against the cotangent, summed over the rows. -/
def dwv (acc : FVec Ideal S128x128 .f32) (d dy : FVec Ideal S2048x128 .bf16) : FVec Ideal S128x128 .f32 :=
  addf acc (matmul dot_S2048x128_S2048x128_S128x128_0_0_1_1_n_n none d dy (constant S128x128 .f32 0x00000000#32))

theorem dwv_emb (acc : FVec Ideal S128x128 .f32) (f g : ℕ → ℕ → ℝ) (i j : Fin 128) :
    dwv acc (emb2 f) (emb2 g) (ix2 i j) = acc (ix2 i j) + ((∑ s : Fin 2048, f s.val i.val * g s.val j.val : ℝ) : EReal) := by
  pointwise [dwv]
  simp only [emb2_apply, coe_sum, EReal.coe_mul]

/-- What a sequence leaves in the features' input gradient. -/
def duv (dd t : FVec Ideal S2048x128 .f32) : FVec Ideal S2048x128 .bf16 := truncf .bf16 (subf t dd) bitsLt_bf16_f32

/-- The mean's share of a cotangent. -/
def shv (w : BitVec 32) (dd : FVec Ideal S2048x128 .f32) : FVec Ideal S2048x128 .f32 :=
  divf dd (broadcastTo S2048x128 (countv w) broadcasts_S2048x1_S2048x128)

theorem shv_emb (w : ℕ) (hw : 0 < w) (hw' : w < 2048) (f : ℕ → ℕ → ℝ) :
    shv (BitVec.ofNat 32 w) (emb2 f) = emb2 fun s c => f s c / cnt w s := by
  funext j
  idx_vars j
  pointwise [shv]
  rw [countv_at w hw']
  simp only [emb2_apply]
  exact div_coe _ _ (cnt_ne w j0.val hw)

theorem duv_emb (f g : ℕ → ℕ → ℝ) : duv (emb2 f) (emb2 g) = emb2 fun s c => g s c - f s c := by
  funext j
  idx_vars j
  pointwise [duv]
  simp only [emb2_apply]
  rw [EReal.coe_sub]

/-! ## The windows of the four groups -/

/-- The trailing windows by doubling, and the leading ones, per group. -/
def trailV : ℕ → FVec Ideal S2048x128 .f32 → FVec Ideal S2048x128 .f32
  | 0, x => stepT 1#32 x
  | g + 1, x => stepT (BitVec.ofNat 32 (2 ^ (g + 1))) (trailV g x)

def leadV : ℕ → FVec Ideal S2048x128 .f32 → FVec Ideal S2048x128 .f32
  | 0, x => stepL 2047#32 x
  | g + 1, x => stepL (BitVec.ofNat 32 (2048 - 2 ^ (g + 1))) (leadV g x)

/-- One step doubles a trailing window … -/
theorem stepT_trail (k : ℕ) (hk : 0 < k) (hk' : k < 2048) (f : ℕ → ℕ → ℝ) :
    stepT (BitVec.ofNat 32 k) (emb2 fun s c => trail k (fun s => f s c) s) = emb2 fun s c => trail (k + k) (fun s => f s c) s := by
  rw [stepT_emb k hk hk']
  exact congrArg _ (funext fun s => funext fun c => (trail_double k _ s).symm)

/-- … and a leading one. -/
theorem stepL_lead (k : ℕ) (hk : 0 < k) (hk' : k < 2048) (f : ℕ → ℕ → ℝ) :
    stepL (BitVec.ofNat 32 (2048 - k)) (emb2 fun s c => lead 2048 k (fun s => f s c) s)
      = emb2 fun s c => lead 2048 (k + k) (fun s => f s c) s := by
  rw [stepL_emb k hk hk']
  exact congrArg _ (funext fun s => funext fun c => (lead_double 2048 k _ s).symm)

/-- Two arrays of reals agree when their reals agree inside the shape. -/
theorem emb2_congr {n m : ℕ} {f g : ℕ → ℕ → ℝ} (h : ∀ a < n, ∀ b < m, f a b = g a b) :
    (emb2 f : (⟨2, ![n, m]⟩ : Shape).Idx → EReal) = emb2 g :=
  funext fun j => congrArg _ (h _ (j 0).isLt _ (j 1).isLt)

theorem trailV_emb (g : ℕ) (hg : g < 4) (f : ℕ → ℕ → ℝ) :
    trailV g (emb2 f) = emb2 fun s c => trail (2 ^ (g + 1)) (fun s => f s c) s := by
  induction g with
  | zero =>
    rw [show (2 : ℕ) ^ (0 + 1) = 1 + 1 from rfl, ← stepT_trail 1 (by decide) (by decide)]
    exact congrArg (stepT 1#32) (emb2_congr fun a _ b _ => (trail_one (fun s => f s b) a).symm)
  | succ g ih =>
    have hp : (2 : ℕ) ^ (g + 1) ≤ 2 ^ 4 := Nat.pow_le_pow_right (by decide) (by omega)
    rw [trailV, ih (by omega), stepT_trail _ (Nat.two_pow_pos _) (by omega), pow_succ 2 (g + 1), mul_two]

theorem leadV_emb (g : ℕ) (hg : g < 4) (f : ℕ → ℕ → ℝ) :
    leadV g (emb2 f) = emb2 fun s c => lead 2048 (2 ^ (g + 1)) (fun s => f s c) s := by
  induction g with
  | zero =>
    rw [show (2 : ℕ) ^ (0 + 1) = 1 + 1 from rfl, ← stepL_lead 1 (by decide) (by decide)]
    exact congrArg (stepL 2047#32) (emb2_congr fun a ha b _ => (lead_one (fun s => f s b) ha).symm)
  | succ g ih =>
    have hp : (2 : ℕ) ^ (g + 1) ≤ 2 ^ 4 := Nat.pow_le_pow_right (by decide) (by omega)
    rw [leadV, ih (by omega), stepL_lead _ (Nat.two_pow_pos _) (by omega), pow_succ 2 (g + 1), mul_two]

/-- The features of group `g`, as a function of the branch's input block. -/
def featR (g : ℕ) (f : ℕ → ℕ → ℝ) (s c : ℕ) : ℝ := trail (2 ^ (g + 1)) (fun s => f s c) s / cnt (2 ^ (g + 1)) s - f s c

theorem feat_group (g : ℕ) (hg : g < 4) (f : ℕ → ℕ → ℝ) :
    featv (BitVec.ofNat 32 (2 ^ (g + 1))) (emb2 f) (trailV g (emb2 f)) = emb2 (featR g f) := by
  rw [trailV_emb g hg, featv_emb _ (Nat.two_pow_pos _)]
  · rfl
  · have : (2 : ℕ) ^ (g + 1) ≤ 2 ^ 4 := Nat.pow_le_pow_right (by decide) (by omega)
    omega

/-- The gradient of the branch's input of group `g`, as a function of the features' cotangent. -/
def duR (g : ℕ) (dd : ℕ → ℕ → ℝ) (s c : ℕ) : ℝ :=
  lead 2048 (2 ^ (g + 1)) (fun s => dd s c / cnt (2 ^ (g + 1)) s) s - dd s c

theorem du_group (g : ℕ) (hg : g < 4) (dd : ℕ → ℕ → ℝ) :
    duv (emb2 dd) (leadV g (shv (BitVec.ofNat 32 (2 ^ (g + 1))) (emb2 dd))) = emb2 (duR g dd) := by
  rw [shv_emb _ (Nat.two_pow_pos _), leadV_emb g hg, duv_emb]
  · rfl
  · have : (2 : ℕ) ^ (g + 1) ≤ 2 ^ 4 := Nat.pow_le_pow_right (by decide) (by omega)
    omega

end Cert.Pool

end
-- ==== Proof.PoolGroup.lean ====
/- The payloads of the pooling branch's backward body, group by group: on blocks of reals each is the real array the
   mathematics names. -/
module

public import proofs.«01_k».proof.Proof.PoolPay

@[expose] public section

set_option maxRecDepth 16384

noncomputable section

namespace Cert.Pool

open Idealize.ShloMosaic Idealize.ShloMosaic.TcCoe Cert.KernelIdeal Cert.KernelIdeal.Gen Cert.Reals

/-- A reshape to the same shape changes nothing. -/
theorem cast_rows {φ : FTy} (x : FVec Ideal S2048x128 φ) : shapeCast S2048x128 x shapeCasts_S2048x128_S2048x128 = x := by
  funext j
  pointwise []

theorem cast_lane {φ : FTy} (x : FVec Ideal S1x128 φ) : shapeCast S1x128 x shapeCasts_S1x128_S1x128 = x := by
  funext j
  pointwise []

/-- The features' cotangent of a group, from the cotangent of the branch's output, the scale and the weights. -/
def ddR (dp : ℕ → ℕ → ℝ) (sc : ℕ → ℕ → ℝ) (W : ℕ → ℕ → ℝ) (s i : ℕ) : ℝ :=
  ∑ j : Fin 128, (dp s j.val * sc 0 j.val) * W i j.val

/-- A sequence's part of the scale's gradient. -/
def dsR (g : ℕ) (u dp W : ℕ → ℕ → ℝ) (j : ℕ) : ℝ :=
  ∑ s : Fin 2048, dp s.val j * ∑ k : Fin 128, featR g u s.val k.val * W k.val j

/-- A sequence's part of the weights' gradient. -/
def dwR (g : ℕ) (u dp sc : ℕ → ℕ → ℝ) (i j : ℕ) : ℝ :=
  ∑ s : Fin 2048, featR g u s.val i * (dp s.val j * sc 0 j)

section groups

variable (f d s W : ℕ → ℕ → ℝ)

theorem feat0 (xf : FVec Ideal S2048x128 .f32) (hf : xf = emb2 f) : k0_pay5 (F := Ideal) xf = emb2 (featR 0 f) := by
  subst hf
  rw [← feat_group 0 (by decide)]
  simp only [k0_pay5, k0_pay4, cast_rows]
  rfl

theorem feat1 (xf : FVec Ideal S2048x128 .f32) (hf : xf = emb2 f) : k0_pay14 (F := Ideal) rows (k0_pay11 xf) (k0_pay12 rows) k0_pay13 = emb2 (featR 1 f) := by
  subst hf
  rw [← feat_group 1 (by decide)]
  simp only [k0_pay14, k0_pay11, k0_pay12, k0_pay13, cast_rows]
  rfl

theorem feat2 (xf : FVec Ideal S2048x128 .f32) (hf : xf = emb2 f) : k0_pay23 (F := Ideal) rows (k0_pay21 xf) (k0_pay22 rows) 1#32 = emb2 (featR 2 f) := by
  subst hf
  rw [← feat_group 2 (by decide)]
  simp only [k0_pay23, k0_pay21, k0_pay22, cast_rows]
  rfl

theorem feat3 (xf : FVec Ideal S2048x128 .f32) (hf : xf = emb2 f) : k0_pay38 (F := Ideal) (k0_pay33 xf) (k0_pay34 rows) (k0_pay35 rows xf) (k0_pay36 rows) (k0_pay37 rows xf) = emb2 (featR 3 f) := by
  subst hf
  rw [← feat_group 3 (by decide)]
  simp only [k0_pay38, k0_pay33, k0_pay34, k0_pay35, k0_pay36, k0_pay37, cast_rows]
  rfl

theorem ds0 (xf : FVec Ideal S2048x128 .f32) (hf : xf = emb2 f) (xd : FVec Ideal S2048x128 .f32) (hd : xd = emb2 d) (acc : FVec Ideal S1x128 .f32) (w : FVec Ideal S1x128x128 .bf16) (hw : shapeCast S128x128 w shapeCasts_S1x128x128_S128x128 = emb2 W)
    (x : S1x128.Idx) : k0_pay7 (F := Ideal) xf xd acc w x
      = acc x + ((dsR 0 f d W (x 1).val : ℝ) : EReal) := by
  subst hf hd
  idx_vars x
  refine Eq.trans ?_ (dsv_emb acc d (featR 0 f) W x0 x1)
  simp only [k0_pay7, k0_pay6, feat0 f _ rfl, cast_rows, cast_lane, hw]
  rfl

theorem ds1 (xf : FVec Ideal S2048x128 .f32) (hf : xf = emb2 f) (xd : FVec Ideal S2048x128 .f32) (hd : xd = emb2 d) (acc : FVec Ideal S1x128 .f32) (w : FVec Ideal S1x128x128 .bf16) (hw : shapeCast S128x128 w shapeCasts_S1x128x128_S128x128 = emb2 W)
    (x : S1x128.Idx) : k0_pay16 (F := Ideal) rows (k0_pay11 xf) (k0_pay12 rows) k0_pay13 xd acc w x
      = acc x + ((dsR 1 f d W (x 1).val : ℝ) : EReal) := by
  subst hf hd
  idx_vars x
  refine Eq.trans ?_ (dsv_emb acc d (featR 1 f) W x0 x1)
  simp only [k0_pay16, k0_pay15, feat1 f _ rfl, cast_rows, cast_lane, hw]
  rfl

theorem ds2 (xf : FVec Ideal S2048x128 .f32) (hf : xf = emb2 f) (xd : FVec Ideal S2048x128 .f32) (hd : xd = emb2 d) (acc : FVec Ideal S1x128 .f32) (w : FVec Ideal S1x128x128 .bf16) (hw : shapeCast S128x128 w shapeCasts_S1x128x128_S128x128 = emb2 W)
    (x : S1x128.Idx) : k0_pay25 (F := Ideal) rows (k0_pay21 xf) (k0_pay22 rows) 1#32 xd acc w x
      = acc x + ((dsR 2 f d W (x 1).val : ℝ) : EReal) := by
  subst hf hd
  idx_vars x
  refine Eq.trans ?_ (dsv_emb acc d (featR 2 f) W x0 x1)
  simp only [k0_pay25, k0_pay24, feat2 f _ rfl, cast_rows, cast_lane, hw]
  rfl

theorem ds3 (xf : FVec Ideal S2048x128 .f32) (hf : xf = emb2 f) (xd : FVec Ideal S2048x128 .f32) (hd : xd = emb2 d) (acc : FVec Ideal S1x128 .f32) (w : FVec Ideal S1x128x128 .bf16) (hw : shapeCast S128x128 w shapeCasts_S1x128x128_S128x128 = emb2 W)
    (x : S1x128.Idx) : k0_pay40 (F := Ideal) (k0_pay33 xf) (k0_pay34 rows) (k0_pay35 rows xf) (k0_pay36 rows) (k0_pay37 rows xf) xd acc w x
      = acc x + ((dsR 3 f d W (x 1).val : ℝ) : EReal) := by
  subst hf hd
  idx_vars x
  refine Eq.trans ?_ (dsv_emb acc d (featR 3 f) W x0 x1)
  simp only [k0_pay40, k0_pay39, feat3 f _ rfl, cast_rows, cast_lane, hw]
  rfl

/-- The cotangent of the product's result, in the spelling of the payloads. -/
theorem dy_emb : truncf (F := Ideal) .bf16 (mulf (emb2 d : FVec Ideal S2048x128 .f32) (broadcastTo S2048x128 (emb2 s) broadcasts_S1x128_S2048x128)) bitsLt_bf16_f32
    = emb2 fun a b => d a b * s 0 b := dyv_emb d s

theorem dw_at (g : ℕ) (acc : FVec Ideal S1x128x128 .f32) (z : Fin 1) (i j : Fin 128) :
    shapeCast S1x128x128 (dwv (shapeCast S128x128 acc shapeCasts_S1x128x128_S128x128) (emb2 (featR g f)) (emb2 fun a b => d a b * s 0 b))
        shapeCasts_S128x128_S1x128x128 (ix3 z i j)
      = acc (ix3 z i j) + ((dwR g f d s i.val j.val : ℝ) : EReal) := by
  pointwise []
  rw [dwv_emb]
  pointwise []
  rw [Subsingleton.elim z 0]
  rfl

theorem dw0 (xf : FVec Ideal S2048x128 .f32) (hf : xf = emb2 f) (xd : FVec Ideal S2048x128 .f32) (hd : xd = emb2 d) (xs : FVec Ideal S1x128 .f32) (hs : xs = emb2 s) (acc : FVec Ideal S1x128x128 .f32) (x : S1x128x128.Idx) :
    k0_pay9 (F := Ideal) (k0_pay5 xf) (k0_pay6 xd) xs acc x
      = acc x + ((dwR 0 f d s (x 1).val (x 2).val : ℝ) : EReal) := by
  subst hf hd hs
  idx_vars x
  refine Eq.trans ?_ (dw_at f d s 0 acc x0 x1 x2)
  simp only [k0_pay9, k0_pay8, k0_pay6, feat0 f _ rfl, cast_rows, cast_lane, dy_emb]
  rfl

theorem dw1 (xf : FVec Ideal S2048x128 .f32) (hf : xf = emb2 f) (xd : FVec Ideal S2048x128 .f32) (hd : xd = emb2 d) (xs : FVec Ideal S1x128 .f32) (hs : xs = emb2 s) (acc : FVec Ideal S1x128x128 .f32) (x : S1x128x128.Idx) :
    k0_pay19 (F := Ideal) (k0_pay14 rows (k0_pay11 xf) (k0_pay12 rows) k0_pay13) (k0_pay17 xd xs) (k0_pay18 acc) (constant S128x128 .f32 0x00000000#32) x
      = acc x + ((dwR 1 f d s (x 1).val (x 2).val : ℝ) : EReal) := by
  subst hf hd hs
  idx_vars x
  refine Eq.trans ?_ (dw_at f d s 1 acc x0 x1 x2)
  simp only [k0_pay19, k0_pay17, k0_pay15, k0_pay18, feat1 f _ rfl, cast_rows, cast_lane, dy_emb]
  rfl

theorem dw2 (xf : FVec Ideal S2048x128 .f32) (hf : xf = emb2 f) (xd : FVec Ideal S2048x128 .f32) (hd : xd = emb2 d) (xs : FVec Ideal S1x128 .f32) (hs : xs = emb2 s) (acc : FVec Ideal S1x128x128 .f32) (x : S1x128x128.Idx) :
    k0_pay27 (F := Ideal) (k0_pay23 rows (k0_pay21 xf) (k0_pay22 rows) 1#32) (k0_pay24 xd) xs acc x
      = acc x + ((dwR 2 f d s (x 1).val (x 2).val : ℝ) : EReal) := by
  subst hf hd hs
  idx_vars x
  refine Eq.trans ?_ (dw_at f d s 2 acc x0 x1 x2)
  simp only [k0_pay27, k0_pay26, k0_pay24, feat2 f _ rfl, cast_rows, cast_lane, dy_emb]
  rfl

theorem dw3 (xf : FVec Ideal S2048x128 .f32) (hf : xf = emb2 f) (xd : FVec Ideal S2048x128 .f32) (hd : xd = emb2 d) (xs : FVec Ideal S1x128 .f32) (hs : xs = emb2 s) (acc : FVec Ideal S1x128x128 .f32) (x : S1x128x128.Idx) :
    k0_pay42 (F := Ideal) (k0_pay33 xf) (k0_pay34 rows) (k0_pay35 rows xf) (k0_pay36 rows) (k0_pay37 rows xf) xd xs acc x
      = acc x + ((dwR 3 f d s (x 1).val (x 2).val : ℝ) : EReal) := by
  subst hf hd hs
  idx_vars x
  refine Eq.trans ?_ (dw_at f d s 3 acc x0 x1 x2)
  simp only [k0_pay42, k0_pay41, k0_pay39, feat3 f _ rfl, cast_rows, cast_lane, dy_emb]
  rfl

theorem du0 (xd : FVec Ideal S2048x128 .f32) (hd : xd = emb2 d) (xs : FVec Ideal S1x128 .f32) (hs : xs = emb2 s) (w : FVec Ideal S1x128x128 .bf16) (hw : shapeCast S128x128 w shapeCasts_S1x128x128_S128x128 = emb2 W) :
    k0_pay10 (F := Ideal) rows k0_pay4 (k0_pay6 xd) xs w = emb2 (duR 0 (ddR d s W)) := by
  subst hd hs
  rw [← du_group 0 (by decide), ← show ddv (emb2 fun a b => d a b * s 0 b) (emb2 W) = emb2 (ddR d s W) from ddv_emb _ _]
  simp only [k0_pay10, k0_pay4, k0_pay6, k0_pay8, cast_rows, hw, dy_emb]
  rfl

theorem du1 (xd : FVec Ideal S2048x128 .f32) (hd : xd = emb2 d) (xs : FVec Ideal S1x128 .f32) (hs : xs = emb2 s) (w : FVec Ideal S1x128x128 .bf16) (hw : shapeCast S128x128 w shapeCasts_S1x128x128_S128x128 = emb2 W) :
    k0_pay20 (F := Ideal) rows (k0_pay12 rows) (k0_pay17 xd xs) w = emb2 (duR 1 (ddR d s W)) := by
  subst hd hs
  rw [← du_group 1 (by decide), ← show ddv (emb2 fun a b => d a b * s 0 b) (emb2 W) = emb2 (ddR d s W) from ddv_emb _ _]
  simp only [k0_pay20, k0_pay12, k0_pay17, k0_pay15, cast_rows, hw, dy_emb]
  rfl

theorem du2 (xd : FVec Ideal S2048x128 .f32) (hd : xd = emb2 d) (xs : FVec Ideal S1x128 .f32) (hs : xs = emb2 s) (w : FVec Ideal S1x128x128 .bf16) (hw : shapeCast S128x128 w shapeCasts_S1x128x128_S128x128 = emb2 W) :
    k0_pay32 (F := Ideal) (k0_pay28 (k0_pay24 xd) xs w) (k0_pay29 rows (k0_pay22 rows) (k0_pay24 xd) xs w) (k0_pay30 rows (k0_pay22 rows) (k0_pay24 xd) xs w) (FloatOps.ofBits .f32 0#32) (k0_pay31 rows) = emb2 (duR 2 (ddR d s W)) := by
  subst hd hs
  rw [← du_group 2 (by decide), ← show ddv (emb2 fun a b => d a b * s 0 b) (emb2 W) = emb2 (ddR d s W) from ddv_emb _ _]
  simp only [k0_pay32, k0_pay28, k0_pay22, k0_pay24, k0_pay29, k0_pay30, k0_pay31, k0_pay26, cast_rows, hw, dy_emb]
  rfl

theorem du3 (xd : FVec Ideal S2048x128 .f32) (hd : xd = emb2 d) (xs : FVec Ideal S1x128 .f32) (hs : xs = emb2 s) (w : FVec Ideal S1x128x128 .bf16) (hw : shapeCast S128x128 w shapeCasts_S1x128x128_S128x128 = emb2 W) :
    k0_pay1 (F := Ideal) (k0_pay44 rows (k0_pay34 rows) (k0_pay41 xd xs) (k0_pay43 w)) = emb2 (duR 3 (ddR d s W)) := by
  subst hd hs
  rw [← du_group 3 (by decide), ← show ddv (emb2 fun a b => d a b * s 0 b) (emb2 W) = emb2 (ddR d s W) from ddv_emb _ _]
  simp only [k0_pay1, k0_pay44, k0_pay34, k0_pay41, k0_pay39, k0_pay43, cast_rows, hw, dy_emb]
  rfl

end groups

end Cert.Pool

end
-- ==== Proof.PoolKernel.lean ====
/- What the pooling branch's backward kernel leaves in its three results, on arguments that hold reals. -/
module

public import proofs.«01_k».proof.Proof.PoolGroup
public import proofs.«01_k».proof.Proof.Gen.KernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Pool

open Idealize.ShloMosaic Idealize.ShloMosaic.TcCoe Idealize.SL.Sem Cert.KernelIdeal Cert.KernelIdeal.Gen Cert.Reals
open Idealize.ShloMosaic.Pipeline (Dat)

variable (m : (ℓ : Loc nD τ sig) → Buf (Elt Ideal) ℓ)
-- the reals the arguments hold: the branch's input, its output's cotangent, the weights, the scale
variable (U D : ℕ → ℕ → ℕ → ℝ) (W : ℕ → ℕ → ℕ → ℝ) (S : ℕ → ℝ)

/-- Group `g` of sequence `b`: its rows and its 128 columns. -/
def part (X : ℕ → ℕ → ℕ → ℝ) (b g : ℕ) (s k : ℕ) : ℝ := X b s (g * 128 + k)

/-- The scale of group `g`. -/
def scaleOf (g : ℕ) (_ k : ℕ) : ℝ := S (g * 128 + k)

/-- The kernel's arguments hold these reals on core `c`. -/
structure Holds (c : Dev nD) : Prop where
  u : ∀ (b : Fin 4) (s : Fin 2048) (k : Fin 512), m ((c : Thread nD τ).loc main_arg0) (ix3 b s k) = ((U b.val s.val k.val : ℝ) : EReal)
  w : ∀ (a : Fin 1) (g : Fin 4) (i j : Fin 128), m ((c : Thread nD τ).loc main_arg1) (ix4 a g i j) = ((W g.val i.val j.val : ℝ) : EReal)
  s : ∀ (a : Fin 1) (k : Fin 512), m ((c : Thread nD τ).loc main_arg2) (ix2 a k) = ((S k.val : ℝ) : EReal)
  d : ∀ (b : Fin 4) (s : Fin 2048) (k : Fin 512), m ((c : Thread nD τ).loc main_arg3) (ix3 b s k) = ((D b.val s.val k.val : ℝ) : EReal)

theorem idx : ∀ t : Fin cfg0.N, win0_0.index t = ![t.val, 0] ∧ win0_1.index t = ![t.val, 0] ∧ win0_2.index t = ![0, 0, 0] ∧ win0_3.index t = ![0, 0]
    ∧ win0_4.index t = ![t.val, 0] ∧ win0_5.index t = ![0, 0, 0] ∧ win0_6.index t = ![0, 0] := (by decide +kernel : ∀ t : Fin grid0.N, _)

variable {m U D W S} {c : Dev nD} (H : Holds m U D W S c)
include H

theorem V_u : V m c main_v2 = emb2 (n := 8192) (m := 512) fun r k => U (r / 2048) (r % 2048) k := by
  entry_read
  funext (j : S8192x512.Idx)
  idx_vars j
  pointwise []
  exact H.u _ _ _

theorem V_d : V m c main_v3 = emb2 (n := 8192) (m := 512) fun r k => D (r / 2048) (r % 2048) k := by
  entry_read
  funext (j : S8192x512.Idx)
  idx_vars j
  pointwise []
  exact H.d _ _ _

theorem V_w (g : Fin 4) (i j : Fin 128) : (V m c main_v1 : FVec Ideal S4x128x128 .bf16) (ix3 g i j) = ((W g.val i.val j.val : ℝ) : EReal) := by
  entry_read
  pointwise []
  exact H.w _ _ _ _

theorem V_s (z : Fin 1) (k : Fin 512) : (V m c main_arg2 : FVec Ideal S1x512 .f32) (ix2 z k) = ((S k.val : ℝ) : EReal) := by
  entry_read
  exact H.s _ _

theorem ld_u (t : Fin cfg0.N) (g : ℕ) (inb : ∀ a, (![0, g * 128] : Fin 2 → ℕ) a + (![2048, 128] : Fin 2 → ℕ) a ≤ S2048x512.size a) :
    View.ld (S := S2048x512) (iblk m c 0 t) (Rect.unit (s := S2048x512) ![0, g * 128] ![2048, 128] inb) = emb2 (part U t.val g) := by
  have ho : g * 128 + 128 ≤ 512 := inb 1
  unfold iblk
  rw [show V m c (Pipeline.arrRef spec0 0) = _ from V_u H]
  funext (j : S2048x128.Idx)
  idx_vars j
  pointwise []
  blk_simp [emb2, idx t]
  rw [show (t.val * 2048 + j0.val) / 2048 = t.val by omega, show (t.val * 2048 + j0.val) % 2048 = j0.val by omega]
  rfl

theorem ld_d (t : Fin cfg0.N) (g : ℕ) (inb : ∀ a, (![0, g * 128] : Fin 2 → ℕ) a + (![2048, 128] : Fin 2 → ℕ) a ≤ S2048x512.size a) :
    View.ld (S := S2048x512) (iblk m c 1 t) (Rect.unit (s := S2048x512) ![0, g * 128] ![2048, 128] inb) = emb2 (part D t.val g) := by
  have ho : g * 128 + 128 ≤ 512 := inb 1
  unfold iblk
  rw [show V m c (Pipeline.arrRef spec0 1) = _ from V_d H]
  funext (j : S2048x128.Idx)
  idx_vars j
  pointwise []
  blk_simp [emb2, idx t]
  rw [show (t.val * 2048 + j0.val) / 2048 = t.val by omega, show (t.val * 2048 + j0.val) % 2048 = j0.val by omega]
  rfl

theorem ld_s (t : Fin cfg0.N) (g : ℕ) (inb : ∀ a, (![0, g * 128] : Fin 2 → ℕ) a + (![1, 128] : Fin 2 → ℕ) a ≤ S1x512.size a) :
    View.ld (S := S1x512) (iblk m c 3 t) (Rect.unit (s := S1x512) ![0, g * 128] ![1, 128] inb) = emb2 (scaleOf S g) := by
  have ho : g * 128 + 128 ≤ 512 := inb 1
  funext (j : S1x128.Idx)
  idx_vars j
  refine Eq.trans ?_ (V_s H (0 : Fin 1) ⟨g * 128 + j1.val, by omega⟩)
  pointwise []
  blk_point [iblk, idx t]

theorem ld_w (t : Fin cfg0.N) (g : ℕ) (inb : ∀ a, (![g, 0, 0] : Fin 3 → ℕ) a + (![1, 128, 128] : Fin 3 → ℕ) a ≤ S4x128x128.size a) (z : Fin 1) (i j : Fin 128) :
    View.ld (S := S4x128x128) (iblk m c 2 t) (Rect.unit (s := S4x128x128) ![g, 0, 0] ![1, 128, 128] inb) (ix3 z i j) = ((W g i.val j.val : ℝ) : EReal) := by
  have ho : g + 1 ≤ 4 := inb 0
  refine Eq.trans ?_ (V_w H (⟨g, ho⟩ : Fin 4) i j)
  pointwise []
  blk_point [iblk, idx t]

omit H in
theorem cast_w (w : FVec Ideal S1x128x128 .bf16) (f : ℕ → ℕ → ℝ) (h : ∀ (z : Fin 1) (i j : Fin 128), w (ix3 z i j) = ((f i.val j.val : ℝ) : EReal)) :
    shapeCast S128x128 w shapeCasts_S1x128x128_S128x128 = emb2 f := by
  funext (j : S128x128.Idx)
  idx_vars j
  pointwise []
  exact h _ _ _

/-- The gradient of the branch's input. -/
def duF (D : ℕ → ℕ → ℕ → ℝ) (W : ℕ → ℕ → ℕ → ℝ) (S : ℕ → ℝ) (b s k : ℕ) : ℝ :=
  duR (k / 128) (ddR (part D b (k / 128)) (scaleOf S (k / 128)) (W (k / 128))) s (k % 128)

omit H in
theorem du_tile (b g : ℕ) (x : S2048x128.Idx) (y : S2048x512.Idx) (h0 : (y 0).val = (x 0).val) (h1 : (y 1).val = g * 128 + (x 1).val) :
    emb2 (duR g (ddR (part D b g) (scaleOf S g) (W g))) x = emb2 (fun s k => duF D W S b s k) y := by
  have hx : (x 1).val < 128 := (x 1).isLt
  unfold emb2 duF
  rw [h0, h1]
  beta_reduce
  rw [show (g * 128 + (x 1).val) / 128 = g by omega, show (g * 128 + (x 1).val) % 128 = (x 1).val by omega]

theorem final4 : (dats m 0 c).arrAt 4 cfg0.N = emb2 (n := 8192) (m := 512) fun r k => duF D W S (r / 2048) (r % 2048) k := by
  refine (dats m 0 c).arrAt_eq_of_covers 4 _ (by decide +kernel) fun t hf y => ?_
  blk_simp
  rw [after0_4]
  have e : ∀ (y : S2048x512.Idx), (emb2 (n := 8192) (m := 512) fun r k => duF D W S (r / 2048) (r % 2048) k) ((win0_4.blk t).view.emb y)
      = emb2 (fun s k => duF D W S t.val s k) y := by
    intro y
    idx_vars y
    blk_simp [emb2, idx t]
    rw [show (t.val * 2048 + y0.val) / 2048 = t.val by omega, show (t.val * 2048 + y0.val) % 2048 = y0.val by omega]
  refine Eq.trans ?_ (e y).symm
  clear e
  rcases Nat.eq_zero_or_pos (t.val % 4) with h | h
  on_goal 1 => rw [outsAt0_A m c t h]
  on_goal 2 => rw [outsAt0_B m c t (Nat.ne_of_gt h)]
  all_goals
    frame_out
    canon_tiles x hx
    · exact (congrFun (du3 _ _ _ _ (ld_d H t 3 _) _ (ld_s H t 3 _) _ (cast_w _ _ (ld_w H t 3 _))) x).trans (du_tile t.val 3 x y hx0 hx1)
    · exact (congrFun (du2 _ _ _ _ (ld_d H t 2 _) _ (ld_s H t 2 _) _ (cast_w _ _ (ld_w H t 2 _))) x).trans (du_tile t.val 2 x y hx0 hx1)
    · exact (congrFun (du1 _ _ _ _ (ld_d H t 1 _) _ (ld_s H t 1 _) _ (cast_w _ _ (ld_w H t 1 _))) x).trans (du_tile t.val 1 x y hx0 hx1)
    · exact (congrFun (du0 _ _ _ _ (ld_d H t 0 _) _ (ld_s H t 0 _) _ (cast_w _ _ (ld_w H t 0 _))) x).trans (du_tile t.val 0 x y hx0 (by omega))

/-- A sequence's part of the weights' gradient, at an index of the array. -/
def dwT (U D : ℕ → ℕ → ℕ → ℝ) (S : ℕ → ℝ) (b : ℕ) (j : S4x128x128.Idx) : ℝ :=
  dwR (j 0).val (part U b (j 0).val) (part D b (j 0).val) (scaleOf S (j 0).val) (j 1).val (j 2).val

/-- A sequence's part of the scale's gradient, at an index of the array. -/
def dsT (U D : ℕ → ℕ → ℕ → ℝ) (W : ℕ → ℕ → ℕ → ℝ) (b : ℕ) (j : S1x512.Idx) : ℝ :=
  dsR ((j 1).val / 128) (part U b ((j 1).val / 128)) (part D b ((j 1).val / 128)) (W ((j 1).val / 128)) ((j 1).val % 128)

omit H in
theorem dw_tile (b g : ℕ) (x : S1x128x128.Idx) (y : S4x128x128.Idx) (h0 : (y 0).val = g + (x 0).val) (h1 : (y 1).val = (x 1).val) (h2 : (y 2).val = (x 2).val) :
    dwR g (part U b g) (part D b g) (scaleOf S g) (x 1).val (x 2).val = dwT U D S b y := by
  have hx : (x 0).val < 1 := (x 0).isLt
  unfold dwT
  rw [h1, h2, show (y 0).val = g by omega]

omit H in
theorem ds_tile (b g : ℕ) (x : S1x128.Idx) (y : S1x512.Idx) (h1 : (y 1).val = g * 128 + (x 1).val) :
    dsR g (part U b g) (part D b g) (W g) (x 1).val = dsT U D W b y := by
  have hx : (x 1).val < 128 := (x 1).isLt
  unfold dsT
  rw [h1, show (g * 128 + (x 1).val) / 128 = g by omega, show (g * 128 + (x 1).val) % 128 = (x 1).val by omega]

omit H in
/-- Where the newer stores cover an index the older ones do not matter. -/
theorem canon_prefix {s : Shape} {e : EltTy} (L' : List (View.Piece (Elt Ideal) s e)) : ∀ (L : List (View.Piece (Elt Ideal) s e)) (y : s.Idx),
    (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_prefix L' L y ⟨q, hq', hyq⟩

omit H in
theorem ld_acc5 (X : Vec Ideal S4x128x128 .f32) (g : ℕ) (inb : ∀ a, (![g, 0, 0] : Fin 3 → ℕ) a + (![1, 128, 128] : Fin 3 → ℕ) a ≤ S4x128x128.size a)
    (x : S1x128x128.Idx) (y : S4x128x128.Idx) (h0 : (y 0).val = g + (x 0).val) (h1 : (y 1).val = (x 1).val) (h2 : (y 2).val = (x 2).val) :
    View.ld (Val := Elt Ideal) (S := S4x128x128) (e' := .f32) X (Rect.unit (s := S4x128x128) ![g, 0, 0] ![1, 128, 128] inb) x = X y := by
  idx_vars x
  idx_vars y
  pointwise []
  blk_ext

omit H in
theorem ld_acc6 (X : Vec Ideal S1x512 .f32) (o : ℕ) (inb : ∀ a, (![0, o] : Fin 2 → ℕ) a + (![1, 128] : Fin 2 → ℕ) a ≤ S1x512.size a)
    (x : S1x128.Idx) (y : S1x512.Idx) (h1 : (y 1).val = o + (x 1).val) :
    View.ld (Val := Elt Ideal) (S := S1x512) (e' := .f32) X (Rect.unit (s := S1x512) ![0, o] ![1, 128] inb) x = X y := by
  idx_vars x
  idx_vars y
  pointwise []
  blk_ext

omit H in
theorem zero5 (y : S4x128x128.Idx) : (k0_pay2 (F := Ideal) : FVec Ideal S4x128x128 .f32) y = 0 := by pointwise [k0_pay2]

omit H in
theorem zero6 (y : S1x512.Idx) : (k0_pay3 (F := Ideal) : FVec Ideal S1x512 .f32) y = 0 := by pointwise [k0_pay3]

theorem step5 (t : Fin cfg0.N) (h : ¬ t.val % 4 = 0) (y : S4x128x128.Idx) :
    (outsAt0 m c t.val t.isLt).2.1 y = (outsAt0 m c (t.val - 1) (Nat.lt_of_le_of_lt (Nat.sub_le _ _) t.isLt)).2.1 y + ((dwT U D S t.val y : ℝ) : EReal) := by
  rw [outsAt0_B m c t h]
  frame_out
  canon_tiles x hx
  · exact (dw3 _ _ _ _ (ld_u H t 3 _) _ (ld_d H t 3 _) _ (ld_s H t 3 _) _ x).trans (congrArg₂ (· + ·) (ld_acc5 _ 3 _ x y hx0 hx1 hx2) (congrArg _ (dw_tile t.val 3 x y hx0 hx1 hx2)))
  · exact (dw2 _ _ _ _ (ld_u H t 2 _) _ (ld_d H t 2 _) _ (ld_s H t 2 _) _ x).trans (congrArg₂ (· + ·) (ld_acc5 _ 2 _ x y hx0 hx1 hx2) (congrArg _ (dw_tile t.val 2 x y hx0 hx1 hx2)))
  · exact (dw1 _ _ _ _ (ld_u H t 1 _) _ (ld_d H t 1 _) _ (ld_s H t 1 _) _ x).trans (congrArg₂ (· + ·) (ld_acc5 _ 1 _ x y hx0 hx1 hx2) (congrArg _ (dw_tile t.val 1 x y hx0 hx1 hx2)))
  · exact (dw0 _ _ _ _ (ld_u H t 0 _) _ (ld_d H t 0 _) _ (ld_s H t 0 _) _ x).trans (congrArg₂ (· + ·) (ld_acc5 _ 0 _ x y (by omega) hx1 hx2) (congrArg _ (dw_tile t.val 0 x y (by omega) hx1 hx2)))

theorem base5 (t : Fin cfg0.N) (h : t.val % 4 = 0) (y : S4x128x128.Idx) :
    (outsAt0 m c t.val t.isLt).2.1 y = 0 + ((dwT U D S t.val y : ℝ) : EReal) := by
  rw [outsAt0_A m c t h]
  frame_open
  simp (disch := decide) only [↓ View.readCov_skip, ↓ View.readCov_cons_toLoadRect, ↓ View.readCov_fill]
  frame_out
  refine (canon_prefix [_] [_, _, _, _] y (View.cover_of_tiled_head _ _ _ rfl y)).trans ?_
  canon_tiles x hx
  · exact (dw3 _ _ _ _ (ld_u H t 3 _) _ (ld_d H t 3 _) _ (ld_s H t 3 _) _ x).trans (congrArg₂ (· + ·) ((ld_acc5 _ 3 _ x y hx0 hx1 hx2).trans (zero5 y)) (congrArg _ (dw_tile t.val 3 x y hx0 hx1 hx2)))
  · exact (dw2 _ _ _ _ (ld_u H t 2 _) _ (ld_d H t 2 _) _ (ld_s H t 2 _) _ x).trans (congrArg₂ (· + ·) ((ld_acc5 _ 2 _ x y hx0 hx1 hx2).trans (zero5 y)) (congrArg _ (dw_tile t.val 2 x y hx0 hx1 hx2)))
  · exact (dw1 _ _ _ _ (ld_u H t 1 _) _ (ld_d H t 1 _) _ (ld_s H t 1 _) _ x).trans (congrArg₂ (· + ·) ((ld_acc5 _ 1 _ x y hx0 hx1 hx2).trans (zero5 y)) (congrArg _ (dw_tile t.val 1 x y hx0 hx1 hx2)))
  · exact (dw0 _ _ _ _ (ld_u H t 0 _) _ (ld_d H t 0 _) _ (ld_s H t 0 _) _ x).trans (congrArg₂ (· + ·) ((ld_acc5 _ 0 _ x y (by omega) hx1 hx2).trans (zero5 y)) (congrArg _ (dw_tile t.val 0 x y (by omega) hx1 hx2)))

theorem final5 : (dats m 0 c).arrAt 5 cfg0.N = fun y : S4x128x128.Idx => ((∑ b : Fin 4, dwT U D S b.val y : ℝ) : EReal) := by
  refine (dats m 0 c).arrAt_eq_of_after_last 5 t0_3 (by decide +kernel) _ fun y => ?_
  blk_simp
  rw [after0_5, Pipeline.eq_sum_fin_of_reset_step_apply_last (fun n h => (outsAt0 m c n h).2.1) 4 (fun _ => 0) (fun p y => ((dwT U D S p.val y : ℝ) : EReal))
    (fun t h y => base5 H t h y) (fun t h y => step5 H t h y) (le_of_eq N_0) t0_3 rfl y, zero_add]
  rw [coe_sum]
  rfl

theorem step6 (t : Fin cfg0.N) (h : ¬ t.val % 4 = 0) (y : S1x512.Idx) :
    (outsAt0 m c t.val t.isLt).2.2 y = (outsAt0 m c (t.val - 1) (Nat.lt_of_le_of_lt (Nat.sub_le _ _) t.isLt)).2.2 y + ((dsT U D W t.val y : ℝ) : EReal) := by
  rw [outsAt0_B m c t h]
  frame_out
  canon_tiles x hx
  · exact (ds3 _ _ _ _ (ld_u H t 3 _) _ (ld_d H t 3 _) _ _ (cast_w _ _ (ld_w H t 3 _)) x).trans (congrArg₂ (· + ·) (ld_acc6 _ 384 _ x y hx1) (congrArg _ (ds_tile t.val 3 x y hx1)))
  · exact (ds2 _ _ _ _ (ld_u H t 2 _) _ (ld_d H t 2 _) _ _ (cast_w _ _ (ld_w H t 2 _)) x).trans (congrArg₂ (· + ·) (ld_acc6 _ 256 _ x y hx1) (congrArg _ (ds_tile t.val 2 x y hx1)))
  · exact (ds1 _ _ _ _ (ld_u H t 1 _) _ (ld_d H t 1 _) _ _ (cast_w _ _ (ld_w H t 1 _)) x).trans (congrArg₂ (· + ·) (ld_acc6 _ 128 _ x y hx1) (congrArg _ (ds_tile t.val 1 x y hx1)))
  · exact (ds0 _ _ _ _ (ld_u H t 0 _) _ (ld_d H t 0 _) _ _ (cast_w _ _ (ld_w H t 0 _)) x).trans (congrArg₂ (· + ·) (ld_acc6 _ 0 _ x y (by omega)) (congrArg _ (ds_tile t.val 0 x y (by omega))))

theorem base6 (t : Fin cfg0.N) (h : t.val % 4 = 0) (y : S1x512.Idx) :
    (outsAt0 m c t.val t.isLt).2.2 y = 0 + ((dsT U D W t.val y : ℝ) : EReal) := by
  rw [outsAt0_A m c t h]
  frame_open
  simp (disch := decide) only [↓ View.readCov_skip, ↓ View.readCov_cons_toLoadRect, ↓ View.readCov_fill]
  frame_out
  refine (canon_prefix [_] [_, _, _, _] y (View.cover_of_tiled_head _ _ _ rfl y)).trans ?_
  canon_tiles x hx
  · exact (ds3 _ _ _ _ (ld_u H t 3 _) _ (ld_d H t 3 _) _ _ (cast_w _ _ (ld_w H t 3 _)) x).trans (congrArg₂ (· + ·) ((ld_acc6 _ 384 _ x y hx1).trans (zero6 y)) (congrArg _ (ds_tile t.val 3 x y hx1)))
  · exact (ds2 _ _ _ _ (ld_u H t 2 _) _ (ld_d H t 2 _) _ _ (cast_w _ _ (ld_w H t 2 _)) x).trans (congrArg₂ (· + ·) ((ld_acc6 _ 256 _ x y hx1).trans (zero6 y)) (congrArg _ (ds_tile t.val 2 x y hx1)))
  · exact (ds1 _ _ _ _ (ld_u H t 1 _) _ (ld_d H t 1 _) _ _ (cast_w _ _ (ld_w H t 1 _)) x).trans (congrArg₂ (· + ·) ((ld_acc6 _ 128 _ x y hx1).trans (zero6 y)) (congrArg _ (ds_tile t.val 1 x y hx1)))
  · exact (ds0 _ _ _ _ (ld_u H t 0 _) _ (ld_d H t 0 _) _ _ (cast_w _ _ (ld_w H t 0 _)) x).trans (congrArg₂ (· + ·) ((ld_acc6 _ 0 _ x y (by omega)).trans (zero6 y)) (congrArg _ (ds_tile t.val 0 x y (by omega))))

theorem final6 : (dats m 0 c).arrAt 6 cfg0.N = fun y : S1x512.Idx => ((∑ b : Fin 4, dsT U D W b.val y : ℝ) : EReal) := by
  refine (dats m 0 c).arrAt_eq_of_after_last 6 t0_3 (by decide +kernel) _ fun y => ?_
  blk_simp
  rw [after0_6, Pipeline.eq_sum_fin_of_reset_step_apply_last (fun n h => (outsAt0 m c n h).2.2) 4 (fun _ => 0) (fun p y => ((dsT U D W p.val y : ℝ) : EReal))
    (fun t h y => base6 H t h y) (fun t h y => step6 H t h y) (le_of_eq N_0) t0_3 rfl y, zero_add]
  rw [coe_sum]
  rfl

end Cert.Pool

end
-- ==== Proof.HostSums.lean ====
/- Sums the host takes, over arrays that hold real numbers: a running sum along the second of four axes, from the
   front or from the back, and a sum over the first two of three axes. -/
module

public import proofs.«01_k».proof.Proof.Reals
public import Idealize.ShloMosaic.Lib.Routing.Ops

@[expose] public section

set_option maxRecDepth 16384

noncomputable section

namespace Cert.Reals

open Idealize.ShloMosaic

/-- The ideal value of an array holding the reals `f` of its four coordinates. -/
def emb4 {a b c d : ℕ} (f : ℕ → ℕ → ℕ → ℕ → ℝ) : (⟨4, ![a, b, c, d]⟩ : Shape).Idx → EReal :=
  fun j => ((f (j 0).val (j 1).val (j 2).val (j 3).val : ℝ) : EReal)

/-- The ideal value of an array holding the reals `f` of its three coordinates. -/
def emb3 {a b c : ℕ} (f : ℕ → ℕ → ℕ → ℝ) : (⟨3, ![a, b, c]⟩ : Shape).Idx → EReal :=
  fun j => ((f (j 0).val (j 1).val (j 2).val : ℝ) : EReal)

theorem emb4_apply {a b c d : ℕ} (f : ℕ → ℕ → ℕ → ℕ → ℝ) (p : Fin a) (q : Fin b) (r : Fin c) (s : Fin d) :
    emb4 f (ix4 p q r s) = ((f p.val q.val r.val s.val : ℝ) : EReal) := rfl

theorem emb3_apply {a b c : ℕ} (f : ℕ → ℕ → ℕ → ℝ) (p : Fin a) (q : Fin b) (r : Fin c) :
    emb3 f (ix3 p q r) = ((f p.val q.val r.val : ℝ) : EReal) := rfl

/-- A fold of additions from zero is the sum of what is added. -/
theorem foldl_add_coe {ι : Type} (l : List ι) (g : ι → EReal) (f : ι → ℝ) (h : ∀ a ∈ l, g a = ((f a : ℝ) : EReal)) (z : ℝ) :
    l.foldl (fun r a => r + g a) (z : EReal) = ((z + (l.map f).sum : ℝ) : EReal) := by
  induction l generalizing z with
  | nil => simp
  | cons a l ih =>
    rw [List.foldl_cons, h a List.mem_cons_self, ← EReal.coe_add, ih (fun b hb => h b (List.mem_cons_of_mem _ hb)), List.map_cons,
      List.sum_cons, add_assoc]

/-- The window that runs along the second of four axes. -/
abbrev column (n : ℕ) : Shape := ⟨4, ![1, n, 1, 1]⟩

theorem numel_column (n : ℕ) : (column n).numel = n := by
  show ∏ a : Fin 4, (![1, n, 1, 1] : Fin 4 → ℕ) a = n
  rw [Fin.prod_univ_four]
  show 1 * n * 1 * 1 = n
  omega

/-- Position `n` of the column is row `n` of it. -/
theorem symm_column {N : ℕ} (n : Fin (column N).numel) :
    (column N).rowMajor.symm n = ix4 (0 : Fin 1) (n.cast (numel_column N)) (0 : Fin 1) (0 : Fin 1) :=
  ((column N).rowMajor.symm_apply_eq).2 (Fin.ext (by
    rw [Shape.rowMajor_val_four]
    show n.val = ((0 * N + n.val) * 1 + 0) * 1 + 0
    omega))

theorem sum_finRange (M : ℕ) (f : ℕ → ℝ) : ((List.finRange M).map fun n => f n.val).sum = ∑ i ∈ Finset.range M, f i := by
  rw [Routing.map_finRange_val, Finset.sum, Finset.range_val, ← Multiset.coe_range, Multiset.map_coe, Multiset.sum_coe]

/-- A running sum along the second of four axes, from the front: a window of the whole length, padded low by one less. -/
theorem running_front {b n g k lo : ℕ} (hn : lo + 1 = n) (f : ℕ → ℕ → ℕ → ℕ → ℝ) (x : FVec Ideal ⟨4, ![b, n, g, k]⟩ .f32)
    (hx : x = emb4 f) (init : FVec Ideal ⟨0, ![]⟩ .f32) (hinit : init ix0 = 0)
    (h : (⟨4, ![b, n, g, k]⟩ : Shape).ReduceWindows (![1, n, 1, 1] : Fin 4 → ℕ) ![1, 1, 1, 1] ![0, lo, 0, 0] ![0, 0, 0, 0] ⟨4, ![b, n, g, k]⟩)
    (hu : 0 < (⟨0, ![]⟩ : Shape).numel) :
    Host.reduceWindowAdd (φ := .f32) (![1, n, 1, 1] : Fin 4 → ℕ) ![1, 1, 1, 1] ![0, lo, 0, 0] ![0, 0, 0, 0] x init h hu
      = emb4 fun p s q r => ∑ i ∈ Finset.range (s + 1), f p i q r := by
  subst hx
  funext j
  obtain ⟨p, s, q, r, rfl⟩ : ∃ (p : Fin b) (s : Fin n) (q : Fin g) (r : Fin k), j = ix4 p s q r :=
    ⟨j 0, j 1, j 2, j 3, by funext a; match a with | ⟨0, _⟩ => rfl | ⟨1, _⟩ => rfl | ⟨2, _⟩ => rfl | ⟨3, _⟩ => rfl⟩
  have hv : init (Shape.Idx.first hu) = ((0 : ℝ) : EReal) := (congrArg init (funext fun a => a.elim0)).trans hinit
  have hs := s.isLt
  unfold Host.reduceWindowAdd
  rw [hv]
  simp only [Ideal.hostReduceWindowAdd_def]
  unfold Ideal.hostReduceWindowAdd Host.reduceWindow
  refine (foldl_add_coe _ _ (fun w => if lo ≤ s.val + w.val then f p (s.val + w.val - lo) q r else 0) (fun w _ => ?_) 0).trans ?_
  · have h1 : ((column n).rowMajor.symm w 1).val = w.val := by rw [symm_column]; rfl
    have h0 : ((column n).rowMajor.symm w 0).val = 0 := by rw [symm_column]; rfl
    have h2 : ((column n).rowMajor.symm w 2).val = 0 := by rw [symm_column]; rfl
    have h3 : ((column n).rowMajor.symm w 3).val = 0 := by rw [symm_column]; rfl
    have hw : w.val < n := (w.cast (numel_column n)).isLt
    have e0 : p.val * 1 + ((column n).rowMajor.symm w 0).val = p.val := by rw [h0]; omega
    have e1 : s.val * 1 + ((column n).rowMajor.symm w 1).val = s.val + w.val := by rw [h1]; omega
    have e2 : q.val * 1 + ((column n).rowMajor.symm w 2).val = q.val := by rw [h2]; omega
    have e3 : r.val * 1 + ((column n).rowMajor.symm w 3).val = r.val := by rw [h3]; omega
    dsimp only
    split
    · next hin =>
      have i1 := hin 1
      change lo ≤ s.val * 1 + ((column n).rowMajor.symm w 1).val ∧ s.val * 1 + ((column n).rowMajor.symm w 1).val - lo < n at i1
      rw [e1] at i1
      rw [if_pos i1.1]
      show ((f (p.val * 1 + ((column n).rowMajor.symm w 0).val - 0) (s.val * 1 + ((column n).rowMajor.symm w 1).val - lo)
        (q.val * 1 + ((column n).rowMajor.symm w 2).val - 0) (r.val * 1 + ((column n).rowMajor.symm w 3).val - 0) : ℝ) : EReal) = _
      rw [e0, e1, e2, e3]
      rfl
    · next hin =>
      rw [if_neg fun hle => hin fun a => by
        match a with
        | ⟨0, _⟩ =>
          show 0 ≤ p.val * 1 + ((column n).rowMajor.symm w 0).val ∧ p.val * 1 + ((column n).rowMajor.symm w 0).val - 0 < b
          rw [e0]; have := p.isLt; omega
        | ⟨1, _⟩ =>
          show lo ≤ s.val * 1 + ((column n).rowMajor.symm w 1).val ∧ s.val * 1 + ((column n).rowMajor.symm w 1).val - lo < n
          rw [e1]; omega
        | ⟨2, _⟩ =>
          show 0 ≤ q.val * 1 + ((column n).rowMajor.symm w 2).val ∧ q.val * 1 + ((column n).rowMajor.symm w 2).val - 0 < g
          rw [e2]; have := q.isLt; omega
        | ⟨3, _⟩ =>
          show 0 ≤ r.val * 1 + ((column n).rowMajor.symm w 3).val ∧ r.val * 1 + ((column n).rowMajor.symm w 3).val - 0 < k
          rw [e3]; have := r.isLt; omega]
  · rw [zero_add, emb4_apply, sum_finRange _ fun w => if lo ≤ s.val + w then f p (s.val + w - lo) q r else 0]
    refine congrArg (fun z : ℝ => (z : EReal)) ?_
    have hN : (column n).numel = (lo - s.val) + (s.val + 1) := by rw [numel_column]; omega
    show ∑ w ∈ Finset.range (column n).numel, _ = _
    rw [hN, Finset.sum_range_add]
    rw [Finset.sum_eq_zero (s := Finset.range (lo - s.val)) (fun w hw => if_neg (by have := Finset.mem_range.1 hw; omega)), zero_add]
    exact Finset.sum_congr rfl fun w hw => by
      rw [if_pos (by omega), show s.val + (lo - s.val + w) - lo = w by omega]

/-- A running sum along the second of four axes, from the back: a window of the whole length, padded high by one less. -/
theorem running_back {b n g k hi : ℕ} (hn : hi + 1 = n) (f : ℕ → ℕ → ℕ → ℕ → ℝ) (x : FVec Ideal ⟨4, ![b, n, g, k]⟩ .f32)
    (hx : x = emb4 f) (init : FVec Ideal ⟨0, ![]⟩ .f32) (hinit : init ix0 = 0)
    (h : (⟨4, ![b, n, g, k]⟩ : Shape).ReduceWindows (![1, n, 1, 1] : Fin 4 → ℕ) ![1, 1, 1, 1] ![0, 0, 0, 0] ![0, hi, 0, 0] ⟨4, ![b, n, g, k]⟩)
    (hu : 0 < (⟨0, ![]⟩ : Shape).numel) :
    Host.reduceWindowAdd (φ := .f32) (![1, n, 1, 1] : Fin 4 → ℕ) ![1, 1, 1, 1] ![0, 0, 0, 0] ![0, hi, 0, 0] x init h hu
      = emb4 fun p s q r => ∑ i ∈ Finset.range (n - s), f p (s + i) q r := by
  subst hx
  funext j
  obtain ⟨p, s, q, r, rfl⟩ : ∃ (p : Fin b) (s : Fin n) (q : Fin g) (r : Fin k), j = ix4 p s q r :=
    ⟨j 0, j 1, j 2, j 3, by funext a; match a with | ⟨0, _⟩ => rfl | ⟨1, _⟩ => rfl | ⟨2, _⟩ => rfl | ⟨3, _⟩ => rfl⟩
  have hv : init (Shape.Idx.first hu) = ((0 : ℝ) : EReal) := (congrArg init (funext fun a => a.elim0)).trans hinit
  have hs := s.isLt
  unfold Host.reduceWindowAdd
  rw [hv]
  simp only [Ideal.hostReduceWindowAdd_def]
  unfold Ideal.hostReduceWindowAdd Host.reduceWindow
  refine (foldl_add_coe _ _ (fun w => if s.val + w.val < n then f p (s.val + w.val) q r else 0) (fun w _ => ?_) 0).trans ?_
  · have h1 : ((column n).rowMajor.symm w 1).val = w.val := by rw [symm_column]; rfl
    have h0 : ((column n).rowMajor.symm w 0).val = 0 := by rw [symm_column]; rfl
    have h2 : ((column n).rowMajor.symm w 2).val = 0 := by rw [symm_column]; rfl
    have h3 : ((column n).rowMajor.symm w 3).val = 0 := by rw [symm_column]; rfl
    have e0 : p.val * 1 + ((column n).rowMajor.symm w 0).val = p.val := by rw [h0]; omega
    have e1 : s.val * 1 + ((column n).rowMajor.symm w 1).val = s.val + w.val := by rw [h1]; omega
    have e2 : q.val * 1 + ((column n).rowMajor.symm w 2).val = q.val := by rw [h2]; omega
    have e3 : r.val * 1 + ((column n).rowMajor.symm w 3).val = r.val := by rw [h3]; omega
    dsimp only
    split
    · next hin =>
      have i1 := hin 1
      change 0 ≤ s.val * 1 + ((column n).rowMajor.symm w 1).val ∧ s.val * 1 + ((column n).rowMajor.symm w 1).val - 0 < n at i1
      rw [e1] at i1
      rw [if_pos (by omega)]
      show ((f (p.val * 1 + ((column n).rowMajor.symm w 0).val - 0) (s.val * 1 + ((column n).rowMajor.symm w 1).val - 0)
        (q.val * 1 + ((column n).rowMajor.symm w 2).val - 0) (r.val * 1 + ((column n).rowMajor.symm w 3).val - 0) : ℝ) : EReal) = _
      rw [e0, e1, e2, e3]
      rfl
    · next hin =>
      rw [if_neg fun hle => hin fun a => by
        match a with
        | ⟨0, _⟩ =>
          show 0 ≤ p.val * 1 + ((column n).rowMajor.symm w 0).val ∧ p.val * 1 + ((column n).rowMajor.symm w 0).val - 0 < b
          rw [e0]; have := p.isLt; omega
        | ⟨1, _⟩ =>
          show 0 ≤ s.val * 1 + ((column n).rowMajor.symm w 1).val ∧ s.val * 1 + ((column n).rowMajor.symm w 1).val - 0 < n
          rw [e1]; omega
        | ⟨2, _⟩ =>
          show 0 ≤ q.val * 1 + ((column n).rowMajor.symm w 2).val ∧ q.val * 1 + ((column n).rowMajor.symm w 2).val - 0 < g
          rw [e2]; have := q.isLt; omega
        | ⟨3, _⟩ =>
          show 0 ≤ r.val * 1 + ((column n).rowMajor.symm w 3).val ∧ r.val * 1 + ((column n).rowMajor.symm w 3).val - 0 < k
          rw [e3]; have := r.isLt; omega]
  · rw [zero_add, emb4_apply, sum_finRange _ fun w => if s.val + w < n then f p (s.val + w) q r else 0]
    refine congrArg (fun z : ℝ => (z : EReal)) ?_
    have hN : (column n).numel = (n - s.val) + s.val := by rw [numel_column]; omega
    show ∑ w ∈ Finset.range (column n).numel, _ = _
    rw [hN, Finset.sum_range_add]
    rw [Finset.sum_eq_zero (s := Finset.range s.val) (fun w hw => if_neg (by omega)), add_zero]
    exact Finset.sum_congr rfl fun w hw => if_pos (by have := Finset.mem_range.1 hw; omega)

/-- The host's sum over the first two of three axes. -/
theorem sum_front {a b c : ℕ} (x : FVec Ideal ⟨3, ![a, b, c]⟩ .f32) (init : FVec Ideal ⟨0, ![]⟩ .f32) (hinit : init ix0 = 0)
    (h : (⟨3, ![a, b, c]⟩ : Shape).ReducesTo [0, 1] ⟨1, ![c]⟩) (hu : 0 < (⟨0, ![]⟩ : Shape).numel) (r : Fin c) :
    Host.reduceAdd x init h hu (ix1 r) = ∑ p : Fin a, ∑ q : Fin b, x (ix3 p q r) := by
  classical
  have hv : init (Shape.Idx.first hu) = 0 := (congrArg init (funext fun a => a.elim0)).trans hinit
  show init (Shape.Idx.first hu) + ∑ i ∈ Finset.univ.filter (fun i => h.drop i = ix1 r), x i = _
  rw [hv, zero_add, ← Fintype.sum_prod_type' fun p q => x (ix3 p q r)]
  have hd : ∀ i, h.drop i = ix1 (i 2) := fun i => by
    funext z
    match z with
    | ⟨0, _⟩ => rfl
  refine Finset.sum_bij' (fun i _ => (i 0, i 1)) (fun pq _ => ix3 pq.1 pq.2 r) (fun _ _ => Finset.mem_univ _) (fun pq _ => ?_)
    (fun i hi => ?_) (fun _ _ => rfl) (fun i hi => ?_)
  · rw [Finset.mem_filter]
    exact ⟨Finset.mem_univ _, hd _⟩
  all_goals
    have hr : i 2 = r := by
      have e := (Finset.mem_filter.1 hi).2
      rw [hd] at e
      exact congrFun e 0
    subst hr
    have : ix3 (i 0) (i 1) (i 2) = i := by
      funext z
      match z with | ⟨0, _⟩ => rfl | ⟨1, _⟩ => rfl | ⟨2, _⟩ => rfl
  · exact this
  · exact congrArg x this.symm

end Cert.Reals
-- ==== Proof.RealOps.lean ====
/- The layout operations on arrays that hold real numbers, read as real functions of the coordinates: slices, joins and
   pads along the second axis, a slice or a pad of one entry along the third of four axes. -/
module

public import proofs.«01_k».proof.Proof.HostSums
public import Idealize.ShloMosaic.Lib.KernelVsHost

@[expose] public section

set_option maxRecDepth 16384

noncomputable section

namespace Cert.Reals

open Idealize.ShloMosaic

/-- The indices of a rank-three shape are the triples of coordinates. -/
theorem ix3_eta {a b c : ℕ} (j : (⟨3, ![a, b, c]⟩ : Shape).Idx) : ∃ (p : Fin a) (q : Fin b) (r : Fin c), j = ix3 p q r :=
  ⟨j 0, j 1, j 2, by funext z; match z with | ⟨0, _⟩ => rfl | ⟨1, _⟩ => rfl | ⟨2, _⟩ => rfl⟩

/-- The ideal value of an array holding the reals `f` of its one coordinate. -/
def emb1 {a : ℕ} (f : ℕ → ℝ) : (⟨1, ![a]⟩ : Shape).Idx → EReal := fun j => ((f (j 0).val : ℝ) : EReal)

theorem emb1_apply {a : ℕ} (f : ℕ → ℝ) (p : Fin a) : emb1 f (ix1 p) = ((f p.val : ℝ) : EReal) := rfl

/-- The indices of a rank-four shape are the quadruples of coordinates. -/
theorem ix4_eta {a b c d : ℕ} (j : (⟨4, ![a, b, c, d]⟩ : Shape).Idx) :
    ∃ (p : Fin a) (q : Fin b) (r : Fin c) (s : Fin d), j = ix4 p q r s :=
  ⟨j 0, j 1, j 2, j 3, by funext z; match z with | ⟨0, _⟩ => rfl | ⟨1, _⟩ => rfl | ⟨2, _⟩ => rfl | ⟨3, _⟩ => rfl⟩

/-- Rows from `o` on. -/
theorem slice_rows {a n m c o : ℕ} {f : ℕ → ℕ → ℕ → ℝ} {x : (⟨3, ![a, n, c]⟩ : Shape).Idx → EReal} (hx : x = emb3 f)
    (h : (⟨3, ![a, n, c]⟩ : Shape).Slices ![0, o, 0] ⟨3, ![a, m, c]⟩) :
    extractStridedSlice ⟨3, ![a, m, c]⟩ ![0, o, 0] x h = emb3 fun p s r => f p (o + s) r := by
  subst hx
  funext j
  obtain ⟨p, s, r, rfl⟩ := ix3_eta j
  show ((f (0 + p.val) (o + s.val) (0 + r.val) : ℝ) : EReal) = _
  rw [Nat.zero_add, Nat.zero_add]
  rfl

/-- One group of columns out of several, its unit axis dropped. -/
theorem slice_group {a n g c q : ℕ} {f : ℕ → ℕ → ℕ → ℕ → ℝ} {x : (⟨4, ![a, n, g, c]⟩ : Shape).Idx → EReal} (hx : x = emb4 f)
    (h : (⟨4, ![a, n, g, c]⟩ : Shape).Slices ![0, 0, q, 0] ⟨4, ![a, n, 1, c]⟩)
    (hc : (⟨4, ![a, n, 1, c]⟩ : Shape).ShapeCasts ⟨3, ![a, n, c]⟩) :
    shapeCast ⟨3, ![a, n, c]⟩ (extractStridedSlice ⟨4, ![a, n, 1, c]⟩ ![0, 0, q, 0] x h) hc = emb3 fun p s r => f p s q r := by
  subst hx
  funext j
  obtain ⟨p, s, r, rfl⟩ := ix3_eta j
  refine (shapeCast_apply _ hc _ (ix4 p s (0 : Fin 1) r) ?_).trans ?_
  · rw [Shape.rowMajor_val_four, Shape.rowMajor_val_three]
    show ((p.val * n + s.val) * 1 + 0) * c + r.val = (p.val * n + s.val) * c + r.val
    rw [Nat.mul_one, Nat.add_zero]
  · show ((f (0 + p.val) (0 + s.val) (q + 0) (0 + r.val) : ℝ) : EReal) = _
    simp only [Nat.zero_add, Nat.add_zero]
    rfl

/-- Rows of zeros before the rows of an array. -/
theorem join_zeros {a l n m c : ℕ} (hm : l + n = m) {f : ℕ → ℕ → ℕ → ℝ} {y : (⟨3, ![a, l, c]⟩ : Shape).Idx → EReal} (hy : ∀ j, y j = 0)
    {x : (⟨3, ![a, n, c]⟩ : Shape).Idx → EReal} (hx : x = emb3 f) (h : Shape.Concatenates [⟨3, ![a, l, c]⟩, ⟨3, ![a, n, c]⟩] ⟨3, ![a, m, c]⟩ 1) :
    concatenate ⟨3, ![a, m, c]⟩ 1 [⟨⟨3, ![a, l, c]⟩, y⟩, ⟨⟨3, ![a, n, c]⟩, x⟩] h
      = emb3 fun p s r => if s < l then 0 else f p (s - l) r := by
  subst hx
  funext j
  obtain ⟨p, s, r, rfl⟩ := ix3_eta j
  have hs := s.isLt
  rw [emb3_apply]
  by_cases hl : s.val < l
  · rw [if_pos hl, EReal.coe_zero]
    refine (concatenate_pair_apply_left (t := ⟨3, ![a, m, c]⟩) 1 y _ h (ix3 p s r) rfl (ix3 p ⟨s.val, hl⟩ r) fun z => ?_).trans (hy _)
    match z with | ⟨0, _⟩ => rfl | ⟨1, _⟩ => rfl | ⟨2, _⟩ => rfl
  · rw [if_neg hl]
    refine concatenate_pair_apply_right (t := ⟨3, ![a, m, c]⟩) 1 y _ h (ix3 p s r) rfl rfl (ix3 p ⟨s.val - l, by omega⟩ r) (fun z hz => ?_) ?_
    · match z with
      | ⟨0, _⟩ => rfl
      | ⟨1, _⟩ => exact absurd rfl hz
      | ⟨2, _⟩ => rfl
    · show s.val - l + l = s.val
      omega

/-- The same along the second of four axes. -/
theorem join_zeros4 {a l n m g c : ℕ} (hm : l + n = m) {f : ℕ → ℕ → ℕ → ℕ → ℝ} {y : (⟨4, ![a, l, g, c]⟩ : Shape).Idx → EReal} (hy : ∀ j, y j = 0)
    {x : (⟨4, ![a, n, g, c]⟩ : Shape).Idx → EReal} (hx : x = emb4 f)
    (h : Shape.Concatenates [⟨4, ![a, l, g, c]⟩, ⟨4, ![a, n, g, c]⟩] ⟨4, ![a, m, g, c]⟩ 1) :
    concatenate ⟨4, ![a, m, g, c]⟩ 1 [⟨⟨4, ![a, l, g, c]⟩, y⟩, ⟨⟨4, ![a, n, g, c]⟩, x⟩] h
      = emb4 fun p s q r => if s < l then 0 else f p (s - l) q r := by
  subst hx
  funext j
  obtain ⟨p, s, q, r, rfl⟩ := ix4_eta j
  have hs := s.isLt
  rw [emb4_apply]
  by_cases hl : s.val < l
  · rw [if_pos hl, EReal.coe_zero]
    refine (concatenate_pair_apply_left (t := ⟨4, ![a, m, g, c]⟩) 1 y _ h (ix4 p s q r) rfl (ix4 p ⟨s.val, hl⟩ q r) fun z => ?_).trans (hy _)
    match z with | ⟨0, _⟩ => rfl | ⟨1, _⟩ => rfl | ⟨2, _⟩ => rfl | ⟨3, _⟩ => rfl
  · rw [if_neg hl]
    refine concatenate_pair_apply_right (t := ⟨4, ![a, m, g, c]⟩) 1 y _ h (ix4 p s q r) rfl rfl (ix4 p ⟨s.val - l, by omega⟩ q r) (fun z hz => ?_) ?_
    · match z with
      | ⟨0, _⟩ => rfl
      | ⟨1, _⟩ => exact absurd rfl hz
      | ⟨2, _⟩ => rfl
      | ⟨3, _⟩ => rfl
    · show s.val - l + l = s.val
      omega

/-- Rows of zeros around the rows of an array. -/
theorem pad_rows {a n m c lo hi : ℕ} {f : ℕ → ℕ → ℕ → ℝ} {x : (⟨3, ![a, n, c]⟩ : Shape).Idx → EReal} (hx : x = emb3 f)
    {v : (⟨0, ![]⟩ : Shape).Idx → EReal} (hv : ∀ j, v j = 0) (h : (⟨3, ![a, n, c]⟩ : Shape).Pads ![0, lo, 0] ![0, hi, 0] ![0, 0, 0] ⟨3, ![a, m, c]⟩)
    (hu : 0 < (⟨0, ![]⟩ : Shape).numel) :
    pad ⟨3, ![a, m, c]⟩ ![0, lo, 0] ![0, hi, 0] ![0, 0, 0] x v h hu
      = emb3 fun p s r => if lo ≤ s ∧ s - lo < n then f p (s - lo) r else 0 := by
  subst hx
  funext j
  obtain ⟨p, s, r, rfl⟩ := ix3_eta j
  rw [emb3_apply]
  by_cases hl : lo ≤ s.val ∧ s.val - lo < n
  · rw [if_pos hl]
    refine pad_apply_of_inside _ _ _ _ v h hu _ (ix3 p ⟨s.val - lo, hl.2⟩ r) fun z => ?_
    match z with
    | ⟨0, _⟩ => show p.val = 0 + p.val * (0 + 1); omega
    | ⟨1, _⟩ => show s.val = lo + (s.val - lo) * (0 + 1); omega
    | ⟨2, _⟩ => show r.val = 0 + r.val * (0 + 1); omega
  · rw [if_neg hl, EReal.coe_zero]
    refine (pad_apply_of_not_inside _ _ _ _ v h hu _ 1 fun hin => hl ?_).trans (hv _)
    change lo ≤ s.val ∧ (s.val - lo) % (0 + 1) = 0 ∧ (s.val - lo) / (0 + 1) < n at hin
    omega

/-- An array put into one group of several, the others zero. -/
theorem pad_group {a n g c q hi : ℕ} {f : ℕ → ℕ → ℕ → ℝ} {x : (⟨4, ![a, n, 1, c]⟩ : Shape).Idx → EReal}
    (hx : ∀ (p : Fin a) (s : Fin n) (z : Fin 1) (r : Fin c), x (ix4 p s z r) = ((f p.val s.val r.val : ℝ) : EReal))
    {v : (⟨0, ![]⟩ : Shape).Idx → EReal} (hv : ∀ j, v j = 0)
    (h : (⟨4, ![a, n, 1, c]⟩ : Shape).Pads ![0, 0, q, 0] ![0, 0, hi, 0] ![0, 0, 0, 0] ⟨4, ![a, n, g, c]⟩)
    (hu : 0 < (⟨0, ![]⟩ : Shape).numel) :
    pad ⟨4, ![a, n, g, c]⟩ ![0, 0, q, 0] ![0, 0, hi, 0] ![0, 0, 0, 0] x v h hu
      = emb4 fun p s t r => if t = q then f p s r else 0 := by
  funext j
  obtain ⟨p, s, t, r, rfl⟩ := ix4_eta j
  rw [emb4_apply]
  by_cases hl : t.val = q
  · rw [if_pos hl, ← hx p s 0 r]
    refine pad_apply_of_inside _ _ _ _ v h hu _ (ix4 p s (0 : Fin 1) r) fun z => ?_
    match z with
    | ⟨0, _⟩ => show p.val = 0 + p.val * (0 + 1); omega
    | ⟨1, _⟩ => show s.val = 0 + s.val * (0 + 1); omega
    | ⟨2, _⟩ => show t.val = q + 0 * (0 + 1); omega
    | ⟨3, _⟩ => show r.val = 0 + r.val * (0 + 1); omega
  · rw [if_neg hl, EReal.coe_zero]
    refine (pad_apply_of_not_inside _ _ _ _ v h hu _ 2 fun hin => hl ?_).trans (hv _)
    change q ≤ t.val ∧ (t.val - q) % (0 + 1) = 0 ∧ (t.val - q) / (0 + 1) < 1 at hin
    omega

end Cert.Reals
-- ==== Proof.PoolRef.lean ====
/- What the reference of the pooling branch's gradient computes on arguments that hold reals. -/
module

public import proofs.«01_k».proof.Proof.PoolKernel
public import proofs.«01_k».proof.Proof.RealOps
public import proofs.«01_k».proof.Proof.Gen.ReferenceIdeal.Read

@[expose] public section

set_option maxRecDepth 16384

noncomputable section

namespace Cert.PoolRef

open Idealize.ShloMosaic Idealize.ShloMosaic.TcCoe Cert.ReferenceIdeal Cert.ReferenceIdeal.Read Cert.Reals Cert.Pool

variable (U D : ℕ → ℕ → ℕ → ℝ) (W : ℕ → ℕ → ℕ → ℝ) (S : ℕ → ℝ)

/-- The branch's input, as an array. -/
abbrev argU : FVec Ideal S4x2048x512 .f32 := emb3 U
/-- The weights, as an array. -/
abbrev argW : FVec Ideal S1x4x128x128 .f32 := emb4 fun _ => W
/-- The scale, as an array. -/
abbrev argS : FVec Ideal S1x512 .f32 := emb2 fun _ => S
/-- The cotangent, as an array. -/
abbrev argD : FVec Ideal S4x2048x512 .f32 := emb3 D

theorem zero_cst (x : FVec Ideal S_ .f32) (hx : x = constant S_ .f32 0x00000000#32) (j : S_.Idx) : x j = 0 := by
  subst hx
  pointwise []

theorem groups : val_main_v2 (F := Ideal) (argU U) = emb4 fun b s g k => U b s (g * 128 + k) := by
  funext j
  idx_vars j
  pointwise [val_main_v2]
  rfl

theorem running : val_main_v4 (F := Ideal) (argU U) = emb4 fun b s g k => ∑ i ∈ Finset.range (s + 1), U b i (g * 128 + k) := by
  unfold val_main_v4
  exact running_front (by decide) (fun b s g k => U b s (g * 128 + k)) _ (groups U) _ (by pointwise [val_main_call0_call0_v0, val_main_call0_call0_cst]) _ _

theorem sums : val_main_v5 (F := Ideal) (argU U) = emb4 fun b s g k => ∑ i ∈ Finset.range s, U b i (g * 128 + k) := by
  refine (join_zeros4 (by decide) (fun j => ?_) (running U) _).trans (congrArg emb4 ?_)
  · pointwise [val_main_v3, val_main_cst]
  · funext b s g k
    by_cases h : s < 1
    · rw [if_pos h, show s = 0 by omega]; rfl
    · rw [if_neg h, show s - 1 + 1 = s by omega]

/-- The mean over a trailing window, from the running sums now, the running sums before the window, and the count. -/
theorem mean_of (w : ℕ) (hw : 0 < w) (f : ℕ → ℕ → ℕ → ℝ) {now lag k : FVec Ideal S4x2048x128 .f32}
    (hnow : now = emb3 fun b s c => ∑ i ∈ Finset.range (1 + s), f b i c)
    (hlag : lag = emb3 fun b s c => if s < w - 1 then 0 else ∑ i ∈ Finset.range (0 + (s - (w - 1))), f b i c)
    (hk : k = emb3 fun _ s _ => cnt w s) :
    Host.divf (subf now lag) k = emb3 fun b s c => trail w (fun i => f b i c) s / cnt w s := by
  subst hnow hlag hk
  funext j
  show Ideal.div (((_ : ℝ) : EReal) - ((_ : ℝ) : EReal)) ((cnt w (j 1).val : ℝ) : EReal) = ((trail w _ (j 1).val / cnt w (j 1).val : ℝ) : EReal)
  rw [← EReal.coe_sub, div_coe _ _ (cnt_ne w _ hw), trail_eq_prefix]
  beta_reduce
  rw [Nat.add_comm 1, Nat.zero_add]
  congr 3
  by_cases h : (j 1).val < w - 1
  · rw [if_pos h, if_neg (by omega)]
  · rw [if_neg h, if_pos (by omega), show (j 1).val + 1 - w = (j 1).val - (w - 1) by omega]

/-- A count per row, over all sequences and columns. -/
theorem counts_of {f : ℕ → ℝ} {x : FVec Ideal S1x2048x1 .f32} (hx : x = emb3 fun _ s _ => f s) (h : S1x2048x1.BroadcastsInDim S4x2048x128 ![0, 1, 2]) :
    broadcastInDim S4x2048x128 ![0, 1, 2] h x = emb3 fun _ s _ => f s := by
  subst hx
  funext j
  idx_vars j
  pointwise []
  rfl

theorem count0 : val_main_v19 (F := Ideal) = emb3 fun _ s _ => cnt 2 s := by
  funext j; idx_vars j
  pointwise [val_main_v19, val_main_v18, val_main_v17, val_main_v16, val_main_v15, val_main_v14, val_main_v7, val_main_c, val_main_c_3]
  exact count_word (by omega) (by decide)

theorem count1 : val_main_v35 (F := Ideal) = emb3 fun _ s _ => cnt 4 s := by
  funext j; idx_vars j
  pointwise [val_main_v35, val_main_v34, val_main_v33, val_main_v32, val_main_v31, val_main_v30, val_main_v7, val_main_c_6, val_main_c_7]
  exact count_word (by omega) (by decide)

theorem count2 : val_main_v51 (F := Ideal) = emb3 fun _ s _ => cnt 8 s := by
  funext j; idx_vars j
  pointwise [val_main_v51, val_main_v50, val_main_v49, val_main_v48, val_main_v47, val_main_v46, val_main_v7, val_main_c_10, val_main_c_11]
  exact count_word (by omega) (by decide)

theorem count3 : val_main_v67 (F := Ideal) = emb3 fun _ s _ => cnt 16 s := by
  funext j; idx_vars j
  pointwise [val_main_v67, val_main_v66, val_main_v65, val_main_v64, val_main_v63, val_main_v62, val_main_v7, val_main_c_14, val_main_c_15]
  exact count_word (by omega) (by decide)

/-- The means of group `g`. -/
abbrev meanR (g b s k : ℕ) : ℝ := trail (2 ^ (g + 1)) (fun i => part U b g i k) s / cnt (2 ^ (g + 1)) s

theorem mean0 : val_main_v23 (F := Ideal) (argU U) = emb3 fun b s k => meanR U 0 b s k := by
  have hr := slice_group (sums U) Gen.slices_S4x2049x4x128_S4x2049x1x128_0_0_0_0 Gen.shapeCasts_S4x2049x1x128_S4x2049x128
  exact mean_of 2 (by decide) (fun b i k => U b i (0 * 128 + k)) (slice_rows hr _)
    (join_zeros (by decide) (fun j => by pointwise [val_main_v10, val_main_cst_1]) (slice_rows hr _) _) (counts_of count0 _)

theorem mean1 : val_main_v39 (F := Ideal) (argU U) = emb3 fun b s k => meanR U 1 b s k := by
  have hr := slice_group (sums U) Gen.slices_S4x2049x4x128_S4x2049x1x128_0_0_1_0 Gen.shapeCasts_S4x2049x1x128_S4x2049x128
  exact mean_of 4 (by decide) (fun b i k => U b i (1 * 128 + k)) (slice_rows hr _)
    (join_zeros (by decide) (fun j => by pointwise [val_main_v26, val_main_cst_4]) (slice_rows hr _) _) (counts_of count1 _)

theorem mean2 : val_main_v55 (F := Ideal) (argU U) = emb3 fun b s k => meanR U 2 b s k := by
  have hr := slice_group (sums U) Gen.slices_S4x2049x4x128_S4x2049x1x128_0_0_2_0 Gen.shapeCasts_S4x2049x1x128_S4x2049x128
  exact mean_of 8 (by decide) (fun b i k => U b i (2 * 128 + k)) (slice_rows hr _)
    (join_zeros (by decide) (fun j => by pointwise [val_main_v42, val_main_cst_8]) (slice_rows hr _) _) (counts_of count2 _)

theorem mean3 : val_main_v71 (F := Ideal) (argU U) = emb3 fun b s k => meanR U 3 b s k := by
  have hr := slice_group (sums U) Gen.slices_S4x2049x4x128_S4x2049x1x128_0_0_3_0 Gen.shapeCasts_S4x2049x1x128_S4x2049x128
  exact mean_of 16 (by decide) (fun b i k => U b i (3 * 128 + k)) (slice_rows hr _)
    (join_zeros (by decide) (fun j => by pointwise [val_main_v58, val_main_cst_12]) (slice_rows hr _) _) (counts_of count3 _)

/-- The features: every group's means less its rows. -/
theorem feat : val_main_v77 (F := Ideal) (argU U) = emb4 fun b s g k => featR g (part U b g) s k := by
  funext j
  idx_vars j
  have h : val_main_v76 (F := Ideal) (argU U) (ix4 j0 j1 j2 j3) = ((meanR U j2.val j0.val j1.val j3.val : ℝ) : EReal) := by
    pointwise [val_main_v76, val_main_v72, val_main_v73, val_main_v74, val_main_v75]
    rw [mean0, mean1, mean2, mean3]
    obtain ⟨g, hg⟩ := j2
    rcases (by omega : g = 0 ∨ g = 1 ∨ g = 2 ∨ g = 3) with rfl | rfl | rfl | rfl <;> rfl
  rw [val_main_v77_apply, h, groups]
  exact (EReal.coe_sub _ _).symm

theorem weights : val_main_v0 (F := Ideal) (argW W) = emb3 W := by
  funext j
  idx_vars j
  pointwise [val_main_v0]
  rfl

/-- Column `c` is column `c % 128` of group `c / 128`. -/
theorem split_column (a : Fin 4) (b : Fin 2048) (c : Fin 512) :
    idx_main_v80 (ix3 a b c) = ix4 a b (⟨c.val / 128, by omega⟩ : Fin 4) (⟨c.val % 128, by omega⟩ : Fin 128) := by
  funext z
  refine Fin.ext ?_
  match z with
  | ⟨0, _⟩ => show ((a.val * 2048 + b.val) * 512 + c.val) / 1048576 = a.val; omega
  | ⟨1, _⟩ => show ((a.val * 2048 + b.val) * 512 + c.val) / 512 % 2048 = b.val; omega
  | ⟨2, _⟩ => show ((a.val * 2048 + b.val) * 512 + c.val) / 128 % 4 = c.val / 128; omega
  | ⟨3, _⟩ => show ((a.val * 2048 + b.val) * 512 + c.val) % 128 = c.val % 128; omega

/-- Column `d` of group `c` is column `c * 128 + d`. -/
theorem join_column (a : Fin 4) (b : Fin 2048) (c : Fin 4) (d : Fin 128) :
    idx_main_v90 (ix4 a b c d) = ix3 a b (⟨c.val * 128 + d.val, by omega⟩ : Fin 512) := by
  funext z
  refine Fin.ext ?_
  match z with
  | ⟨0, _⟩ => show (((a.val * 2048 + b.val) * 4 + c.val) * 128 + d.val) / 1048576 = a.val; omega
  | ⟨1, _⟩ => show (((a.val * 2048 + b.val) * 4 + c.val) * 128 + d.val) / 512 % 2048 = b.val; omega
  | ⟨2, _⟩ => show (((a.val * 2048 + b.val) * 4 + c.val) * 128 + d.val) % 512 = c.val * 128 + d.val; omega

theorem outs : val_main_v80 (F := Ideal) (argU U) (argW W)
    = emb3 fun b s j => ∑ k : Fin 128, featR (j / 128) (part U b (j / 128)) s k.val * W (j / 128) k.val (j % 128) := by
  funext j
  idx_vars j
  rw [val_main_v80_apply, split_column, val_main_v79_apply, val_main_v78_apply, weights, feat, emb3_apply, coe_sum]
  exact Finset.sum_congr rfl fun k _ => (mul_comm _ _).trans (EReal.coe_mul _ _).symm

theorem scales : val_main_v87 (F := Ideal) (argS S) = emb3 fun _ _ k => S k := by
  funext j
  idx_vars j
  pointwise [val_main_v87, val_main_v81, val_main_v1]
  rfl

/-- A sequence's part of the scale's gradient, column by column. -/
theorem dsT_apply (b : ℕ) (y0 : Fin 1) (y1 : Fin 512) : dsT U D W b (ix2 y0 y1)
    = ∑ s : Fin 2048, (∑ k : Fin 128, featR (y1.val / 128) (part U b (y1.val / 128)) s.val k.val * W (y1.val / 128) k.val (y1.val % 128)) * D b s.val y1.val := by
  have h : y1.val / 128 * 128 + y1.val % 128 = y1.val := by omega
  unfold dsT dsR
  refine Finset.sum_congr rfl fun s _ => (mul_comm _ _).trans (congrArg _ ?_)
  show D b s.val (y1.val / 128 * 128 + y1.val % 128) = _
  rw [h]

theorem ds_sum (y0 : Fin 1) (y1 : Fin 512) : val_main_v85 (F := Ideal) (argU U) (argW W) (argD D) (ix1 y1)
    = ((∑ b : Fin 4, dsT U D W b.val (ix2 y0 y1) : ℝ) : EReal) := by
  unfold val_main_v85
  rw [sum_front _ (val_main_cst_16 (F := Ideal)) (zero_cst _ rfl _), coe_sum]
  refine Finset.sum_congr rfl fun b _ => ?_
  rw [dsT_apply, coe_sum]
  refine Finset.sum_congr rfl fun s _ => ?_
  rw [val_main_v84_apply, outs]
  exact (EReal.coe_mul _ _).symm

theorem ds_eq : val_main_v153 (F := Ideal) (argU U) (argW W) (argD D) = fun y : S1x512.Idx => ((∑ b : Fin 4, dsT U D W b.val y : ℝ) : EReal) := by
  funext y
  idx_vars y
  have e : idx_main_v153 (ix2 y0 y1) = ix1 y1 := by
    funext z
    match z with | ⟨0, _⟩ => rfl
  rw [val_main_v153_apply, e]
  unfold val_main_v89
  rw [sum_front _ (val_main_cst_17 (F := Ideal)) (zero_cst _ rfl _), Fin.sum_univ_one, Fin.sum_univ_one, val_main_v86_apply, ← ds_sum U D W y0 y1]
  refine congrArg _ (funext fun z => Fin.ext ?_)
  match z with
  | ⟨0, _⟩ => show (0 * 1 + 0) * 512 + y1.val = y1.val; omega

theorem dys : val_main_v91 (F := Ideal) (argS S) (argD D) = emb4 fun g j b s => D b s (g * 128 + j) * S (g * 128 + j) := by
  funext j
  idx_vars j
  rw [val_main_v91_apply, val_main_v90_apply, val_main_v88_apply, scales]
  have h : idx_main_v91 (ix4 j0 j1 j2 j3) = ix4 j2 j3 j0 j1 := by
    funext z
    match z with | ⟨0, _⟩ => rfl | ⟨1, _⟩ => rfl | ⟨2, _⟩ => rfl | ⟨3, _⟩ => rfl
  rw [h, join_column]
  exact (EReal.coe_mul _ _).symm

theorem dds : val_main_v93 (F := Ideal) (argW W) (argS S) (argD D)
    = emb4 fun b s g i => ddR (part D b g) (scaleOf S g) (W g) s i := by
  funext j
  idx_vars j
  rw [val_main_v93_apply, val_main_v92_apply, weights, dys, emb4_apply]
  unfold ddR
  rw [coe_sum]
  exact Finset.sum_congr rfl fun k _ => (EReal.coe_mul _ _).symm

theorem dw_eq : val_main_v157 (F := Ideal) (argU U) (argS S) (argD D) = fun y : S4x128x128.Idx => ((∑ b : Fin 4, dwT U D S b.val y : ℝ) : EReal) := by
  funext y
  idx_vars y
  have h : idx_main_v95 (idx_main_v154 (idx_main_v157 (ix3 y0 y1 y2))) = ix3 y0 y2 y1 := by
    funext z
    refine Fin.ext ?_
    match z with
    | ⟨0, _⟩ => show ((y0.val * 128 + y1.val) * 128 + y2.val) / 16384 % 4 = y0.val; omega
    | ⟨1, _⟩ => show ((y0.val * 128 + y1.val) * 128 + y2.val) % 128 = y2.val; omega
    | ⟨2, _⟩ => show ((y0.val * 128 + y1.val) * 128 + y2.val) / 128 % 128 = y1.val; omega
  rw [val_main_v157_apply, val_main_v154_apply, val_main_v95_apply, h]
  pointwise [val_main_v94]
  rw [dys, feat, coe_sum]
  refine Finset.sum_congr rfl fun b _ => ?_
  unfold dwT dwR
  rw [coe_sum]
  refine Finset.sum_congr rfl fun s _ => ?_
  exact (mul_comm _ _).trans (EReal.coe_mul _ _).symm

/-- What a group's features' cotangent spreads over the running sums: the quotient `e` by the counts, added where the
    window ends and taken away where it begins. -/
def spreadR (w : ℕ) (e : ℕ → ℕ → ℕ → ℝ) (b s k : ℕ) : ℝ :=
  (if 1 ≤ s ∧ s - 1 < 2048 then e b (s - 1) k else 0) + if 0 ≤ s ∧ s - 0 < 2049 - w then -e b (w - 1 + (s - 0)) k else 0

/-- The cotangent of group `g` divided by the counts. -/
def eR (g : ℕ) (b s k : ℕ) : ℝ := ddR (part D b g) (scaleOf S g) (W g) s k / cnt (2 ^ (g + 1)) s

theorem quotient_of (w : ℕ) (hw : 0 < w) {f : ℕ → ℕ → ℕ → ℝ} {x k : FVec Ideal S4x2048x128 .f32} (hx : x = emb3 f) (hk : k = emb3 fun _ s _ => cnt w s) :
    Host.divf x k = emb3 fun b s c => f b s c / cnt w s := by
  subst hx hk
  funext j
  exact div_coe _ _ (cnt_ne w _ hw)

theorem neg_of {f : ℕ → ℕ → ℕ → ℝ} {x : FVec Ideal S4x2048x128 .f32} (hx : x = emb3 f) : Host.negf x = emb3 fun b s c => -f b s c := by
  subst hx
  rfl

theorem add_of {f g : ℕ → ℕ → ℕ → ℝ} {x y : FVec Ideal S4x2049x128 .f32} (hx : x = emb3 f) (hy : y = emb3 g) :
    addf x y = emb3 fun b s c => f b s c + g b s c := by
  subst hx hy
  funext j
  exact (EReal.coe_add _ _).symm

/-- One group's spread, put into its place among the groups. -/
theorem group_of {f : ℕ → ℕ → ℕ → ℝ} {x : FVec Ideal S4x2049x128 .f32} (hx : x = emb3 f) (h : S4x2049x128.BroadcastsInDim S4x2049x1x128 ![0, 1, 3])
    (p : Fin 4) (s : Fin 2049) (z : Fin 1) (r : Fin 128) :
    broadcastInDim S4x2049x1x128 ![0, 1, 3] h x (ix4 p s z r) = ((f p.val s.val r.val : ℝ) : EReal) := by
  subst hx
  pointwise []
  rfl

theorem spread0 : val_main_v146 (F := Ideal) (argW W) (argS S) (argD D) = emb4 fun b s g k => if g = 0 then spreadR 2 (eR D W S 0) b s k else 0 := by
  have he : val_main_v138 (F := Ideal) (argW W) (argS S) (argD D) = emb3 (eR D W S 0) :=
    quotient_of 2 (by decide) (slice_group (dds D W S) _ _) (counts_of count0 _)
  have hs : val_main_v144 (F := Ideal) (argW W) (argS S) (argD D) = emb3 (spreadR 2 (eR D W S 0)) :=
    add_of (pad_rows he (zero_cst _ rfl) _ _) (pad_rows (slice_rows (neg_of he) _) (zero_cst _ rfl) _ _)
  exact pad_group (group_of hs _) (zero_cst _ rfl) _ _

theorem spread1 : val_main_v135 (F := Ideal) (argW W) (argS S) (argD D) = emb4 fun b s g k => if g = 1 then spreadR 4 (eR D W S 1) b s k else 0 := by
  have he : val_main_v127 (F := Ideal) (argW W) (argS S) (argD D) = emb3 (eR D W S 1) :=
    quotient_of 4 (by decide) (slice_group (dds D W S) _ _) (counts_of count1 _)
  have hs : val_main_v133 (F := Ideal) (argW W) (argS S) (argD D) = emb3 (spreadR 4 (eR D W S 1)) :=
    add_of (pad_rows he (zero_cst _ rfl) _ _) (pad_rows (slice_rows (neg_of he) _) (zero_cst _ rfl) _ _)
  exact pad_group (group_of hs _) (zero_cst _ rfl) _ _

theorem spread2 : val_main_v124 (F := Ideal) (argW W) (argS S) (argD D) = emb4 fun b s g k => if g = 2 then spreadR 8 (eR D W S 2) b s k else 0 := by
  have he : val_main_v116 (F := Ideal) (argW W) (argS S) (argD D) = emb3 (eR D W S 2) :=
    quotient_of 8 (by decide) (slice_group (dds D W S) _ _) (counts_of count2 _)
  have hs : val_main_v122 (F := Ideal) (argW W) (argS S) (argD D) = emb3 (spreadR 8 (eR D W S 2)) :=
    add_of (pad_rows he (zero_cst _ rfl) _ _) (pad_rows (slice_rows (neg_of he) _) (zero_cst _ rfl) _ _)
  exact pad_group (group_of hs _) (zero_cst _ rfl) _ _

theorem spread3 : val_main_v114 (F := Ideal) (argW W) (argS S) (argD D) = emb4 fun b s g k => if g = 3 then spreadR 16 (eR D W S 3) b s k else 0 := by
  have he : val_main_v106 (F := Ideal) (argW W) (argS S) (argD D) = emb3 (eR D W S 3) :=
    quotient_of 16 (by decide) (slice_group (dds D W S) _ _) (counts_of count3 _)
  have hs : val_main_v112 (F := Ideal) (argW W) (argS S) (argD D) = emb3 (spreadR 16 (eR D W S 3)) :=
    add_of (pad_rows he (zero_cst _ rfl) _ _) (pad_rows (slice_rows (neg_of he) _) (zero_cst _ rfl) _ _)
  exact pad_group (group_of hs _) (zero_cst _ rfl) _ _

/-- The spreads of all groups, from the second row on: the first row of the running sums is the constant zero. -/
theorem spreads : val_main_v149 (F := Ideal) (argW W) (argS S) (argD D)
    = emb4 fun b s g k => spreadR (2 ^ (g + 1)) (eR D W S g) b (1 + s) k := by
  funext j
  idx_vars j
  have e : idx_main_v149 (ix4 j0 j1 j2 j3) = ix4 j0 (⟨1 + j1.val, by omega⟩ : Fin 2049) j2 j3 := by
    funext z
    match z with | ⟨0, _⟩ => rfl | ⟨1, _⟩ => rfl | ⟨2, _⟩ => rfl | ⟨3, _⟩ => rfl
  rw [val_main_v149_apply, e, val_main_v147_apply, val_main_v136_apply, val_main_v125_apply, spread0, spread1, spread2, spread3]
  obtain ⟨g, hg⟩ := j2
  show ((_ : ℝ) : EReal) + ((_ : ℝ) : EReal) + ((_ : ℝ) : EReal) + ((_ : ℝ) : EReal) = ((_ : ℝ) : EReal)
  rw [← EReal.coe_add, ← EReal.coe_add, ← EReal.coe_add]
  refine congrArg (fun z : ℝ => (z : EReal)) ?_
  rcases (by omega : g = 0 ∨ g = 1 ∨ g = 2 ∨ g = 3) with rfl | rfl | rfl | rfl <;> simp [ix4]

/-- Running back over a spread sums the window ahead. -/
theorem lead_of (w : ℕ) (hw : 0 < w) (e : ℕ → ℕ → ℕ → ℝ) (b s k : ℕ) (hs : s ≤ 2048) :
    ∑ i ∈ Finset.range (2048 - s), spreadR w e b (1 + (s + i)) k = lead 2048 w (fun s => e b s k) s := by
  rw [← lead_eq_suffix 2048 w (fun s => e b s k) s hs]
  refine Finset.sum_congr rfl fun i hi => ?_
  have hi' := Finset.mem_range.1 hi
  unfold spreadR
  rw [if_pos (by omega), show 1 + (s + i) - 1 = s + i by omega, show w - 1 + (1 + (s + i) - 0) = s + i + w by omega]
  refine congrArg _ ?_
  by_cases h : s + i + w < 2048
  · rw [if_pos h, if_pos (by omega)]
  · rw [if_neg h, if_neg (by omega)]

theorem du_eq : val_main_v156 (F := Ideal) (argW W) (argS S) (argD D) = emb2 (n := 8192) (m := 512) fun r k => duF D W S (r / 2048) (r % 2048) k := by
  funext j
  idx_vars j
  have hb : val_main_v150 (F := Ideal) (argW W) (argS S) (argD D)
      = emb4 fun b s g k => ∑ i ∈ Finset.range (2048 - s), spreadR (2 ^ (g + 1)) (eR D W S g) b (1 + (s + i)) k :=
    running_back (by decide) _ _ (spreads D W S) _ (zero_cst _ rfl _) _ _
  have e : idx_main_v155 (ix2 j0 j1) = ix3 (⟨j0.val / 2048, by omega⟩ : Fin 4) (⟨j0.val % 2048, by omega⟩ : Fin 2048) j1 := by
    funext z
    refine Fin.ext ?_
    match z with
    | ⟨0, _⟩ => show (j0.val * 512 + j1.val) / 1048576 = j0.val / 2048; omega
    | ⟨1, _⟩ => show (j0.val * 512 + j1.val) / 512 % 2048 = j0.val % 2048; omega
    | ⟨2, _⟩ => show (j0.val * 512 + j1.val) % 512 = j1.val; omega
  have e2 : ∀ a b c, idx_main_v152 (ix3 a b c) = idx_main_v80 (ix3 a b c) := fun _ _ _ => rfl
  rw [val_main_v156_apply, val_main_v155_apply, e, val_main_v152_apply, e2, split_column, val_main_v151_apply, val_main_v96_apply, hb, dds]
  rw [emb4_apply, emb4_apply, emb2_apply, lead_of _ (Nat.pos_of_ne_zero (by simp)) _ _ _ _ (by show j0.val % 2048 ≤ 2048; omega)]
  show -((_ : ℝ) : EReal) + ((_ : ℝ) : EReal) = ((duF D W S (j0.val / 2048) (j0.val % 2048) j1.val : ℝ) : EReal)
  rw [← EReal.coe_neg, ← EReal.coe_add]
  unfold duF duR
  rw [neg_add_eq_sub]
  rfl

end Cert.PoolRef
-- ==== Proof.Finite.lean ====
/- A finite array holds reals: what the preconditions say, and the arrays of reals that it gives. -/
module

public import proofs.«01_k».proof.Proof.RealOps

@[expose] public section

set_option maxRecDepth 16384

noncomputable section

namespace Cert.Reals

open Idealize.ShloMosaic

/-- Where the comparison of an array's magnitudes with infinity holds everywhere, the array's entries are reals. -/
theorem finite_of {s : Shape} {φ : FTy} (x : FVec Ideal s φ) (y : FVec Ideal s φ) (hy : ∀ j, y j = ⊤)
    (hx : cmpf .olt (Host.absf x) y = fun _ => 1#1) (j : s.Idx) : (((x j : EReal).toReal : ℝ) : EReal) = x j := by
  have h := congrFun hx j
  refine coe_toReal_of_finite (by_contra fun hn => ?_)
  have h' : BitVec.ofBool (decide (max (x j : EReal) (-(x j : EReal)) < y j)) = 1#1 := h
  rw [hy, decide_eq_false hn] at h'
  exact absurd h' (by decide)

/-- The indices of a rank-two shape are the pairs of coordinates. -/
theorem ix2_eta {a b : ℕ} (j : (⟨2, ![a, b]⟩ : Shape).Idx) : ∃ (p : Fin a) (q : Fin b), j = ix2 p q :=
  ⟨j 0, j 1, by funext z; match z with | ⟨0, _⟩ => rfl | ⟨1, _⟩ => rfl⟩

/-- The reals of a rank-one array. -/
def real1 {a : ℕ} (x : (⟨1, ![a]⟩ : Shape).Idx → EReal) (p : ℕ) : ℝ := if h : p < a then (x (ix1 ⟨p, h⟩)).toReal else 0

theorem real1_eq {a : ℕ} {x : (⟨1, ![a]⟩ : Shape).Idx → EReal} (h : ∀ j, (((x j).toReal : ℝ) : EReal) = x j) : x = emb1 (real1 x) := by
  funext j
  obtain ⟨p, rfl⟩ : ∃ p : Fin a, j = ix1 p := ⟨j 0, by funext z; match z with | ⟨0, _⟩ => rfl⟩
  rw [emb1_apply, real1, dif_pos p.isLt]
  exact (h _).symm

/-- The reals of a rank-two array. -/
def real2 {a b : ℕ} (x : (⟨2, ![a, b]⟩ : Shape).Idx → EReal) (p q : ℕ) : ℝ :=
  if h : p < a ∧ q < b then (x (ix2 ⟨p, h.1⟩ ⟨q, h.2⟩)).toReal else 0

/-- The reals of a rank-three array. -/
def real3 {a b c : ℕ} (x : (⟨3, ![a, b, c]⟩ : Shape).Idx → EReal) (p q r : ℕ) : ℝ :=
  if h : p < a ∧ q < b ∧ r < c then (x (ix3 ⟨p, h.1⟩ ⟨q, h.2.1⟩ ⟨r, h.2.2⟩)).toReal else 0

/-- The reals of a rank-four array. -/
def real4 {a b c d : ℕ} (x : (⟨4, ![a, b, c, d]⟩ : Shape).Idx → EReal) (p q r s : ℕ) : ℝ :=
  if h : p < a ∧ q < b ∧ r < c ∧ s < d then (x (ix4 ⟨p, h.1⟩ ⟨q, h.2.1⟩ ⟨r, h.2.2.1⟩ ⟨s, h.2.2.2⟩)).toReal else 0

theorem real2_eq {a b : ℕ} {x : (⟨2, ![a, b]⟩ : Shape).Idx → EReal} (h : ∀ j, (((x j).toReal : ℝ) : EReal) = x j) : x = emb2 (real2 x) := by
  funext j
  obtain ⟨p, q, rfl⟩ := ix2_eta j
  rw [emb2_apply, real2, dif_pos ⟨p.isLt, q.isLt⟩]
  exact (h _).symm

theorem real3_eq {a b c : ℕ} {x : (⟨3, ![a, b, c]⟩ : Shape).Idx → EReal} (h : ∀ j, (((x j).toReal : ℝ) : EReal) = x j) : x = emb3 (real3 x) := by
  funext j
  obtain ⟨p, q, r, rfl⟩ := ix3_eta j
  rw [emb3_apply, real3, dif_pos ⟨p.isLt, q.isLt, r.isLt⟩]
  exact (h _).symm

theorem real4_eq {a b c d : ℕ} {x : (⟨4, ![a, b, c, d]⟩ : Shape).Idx → EReal} (h : ∀ j, (((x j).toReal : ℝ) : EReal) = x j) : x = emb4 (real4 x) := by
  funext j
  obtain ⟨p, q, r, s, rfl⟩ := ix4_eta j
  rw [emb4_apply, real4, dif_pos ⟨p.isLt, q.isLt, r.isLt, s.isLt⟩]
  exact (h _).symm

/-- A first axis of one entry carries nothing. -/
theorem emb2_unit {b : ℕ} (f : ℕ → ℕ → ℝ) : emb2 (n := 1) (m := b) f = emb2 fun _ => f 0 := by
  funext j
  obtain ⟨p, q, rfl⟩ := ix2_eta j
  obtain rfl := Subsingleton.elim p 0
  rfl

theorem emb3_unit {b c : ℕ} (f : ℕ → ℕ → ℕ → ℝ) : emb3 (a := 1) (b := b) (c := c) f = emb3 fun _ => f 0 := by
  funext j
  obtain ⟨p, q, r, rfl⟩ := ix3_eta j
  obtain rfl := Subsingleton.elim p 0
  rfl

theorem emb4_unit {b c d : ℕ} (f : ℕ → ℕ → ℕ → ℕ → ℝ) : emb4 (a := 1) (b := b) (c := c) (d := d) f = emb4 fun _ => f 0 := by
  funext j
  obtain ⟨p, q, r, s, rfl⟩ := ix4_eta j
  obtain rfl := Subsingleton.elim p 0
  rfl

end Cert.Reals
-- ==== Proof.PoolClaim.lean ====
/- The pooling branch's gradient: kernel and reference leave equal arrays, on finite arguments. -/
module

public import proofs.«01_k».proof.Defs
public import proofs.«01_k».proof.Proof.Gen.Pre_finite
public import proofs.«01_k».proof.Proof.Gen.ReferenceIdeal.Run
public import proofs.«01_k».proof.Proof.PoolRef
public import proofs.«01_k».proof.Proof.Finite

@[expose] public section

set_option maxRecDepth 16384

noncomputable section

namespace Cert.Proof

open Idealize.ShloMosaic Idealize.SL.Sem Cert.Reals Cert.Pool

/-- The word of the f32 infinity. -/
theorem inf_word : Ideal.ofBits FTy.f32 2139095040#32 = (⊤ : EReal) := by
  simp [Ideal.ofBits, Ideal.ieee]

section pool

variable {m : (ℓ : Loc Cert.KernelIdeal.nD Cert.KernelIdeal.τ Cert.KernelIdeal.sig) → Buf (Elt Ideal) ℓ}

/-- The reals that the kernel's finite arguments hold. -/
theorem pool_holds (h : Cert.Pre_KernelIdeal_finite m) (c : Dev Cert.KernelIdeal.nD) :
    ∃ U D W S, Holds m U D W S c
      ∧ m ((c.tc : Thread _ _).loc Cert.KernelIdeal.main_arg0) = PoolRef.argU U
      ∧ m ((c.tc : Thread _ _).loc Cert.KernelIdeal.main_arg1) = PoolRef.argW W
      ∧ m ((c.tc : Thread _ _).loc Cert.KernelIdeal.main_arg2) = PoolRef.argS S
      ∧ m ((c.tc : Thread _ _).loc Cert.KernelIdeal.main_arg3) = PoolRef.argD D := by
  obtain ⟨h0, h1, h2, h3⟩ := h c
  have e0 := real3_eq (finite_of _ _ (fun _ => inf_word) h0)
  have e1 := (real4_eq (finite_of _ _ (fun _ => inf_word) h1)).trans (emb4_unit _)
  have e2 := (real2_eq (finite_of _ _ (fun _ => inf_word) h2)).trans (emb2_unit _)
  have e3 := real3_eq (finite_of _ _ (fun _ => inf_word) h3)
  exact ⟨_, _, _, _, ⟨fun b s k => congrFun e0 (ix3 b s k), fun a g i j => congrFun e1 (ix4 a g i j), fun a k => congrFun e2 (ix2 a k),
    fun b s k => congrFun e3 (ix3 b s k)⟩, e0, e1, e2, e3⟩

/-- The reference's results are the kernel's. -/
theorem pool_values (h : Cert.Pre_KernelIdeal_finite m) (c : Dev Cert.KernelIdeal.nD) :
    Cert.ReferenceIdeal.Read.val_main_v156 (F := Ideal) (m ((c.tc : Thread _ _).loc Cert.KernelIdeal.main_arg1))
        (m ((c.tc : Thread _ _).loc Cert.KernelIdeal.main_arg2)) (m ((c.tc : Thread _ _).loc Cert.KernelIdeal.main_arg3))
      = (Cert.KernelIdeal.Gen.dats m 0 c).arrAt 4 Cert.KernelIdeal.cfg0.N
    ∧ Cert.ReferenceIdeal.Read.val_main_v157 (F := Ideal) (m ((c.tc : Thread _ _).loc Cert.KernelIdeal.main_arg0))
        (m ((c.tc : Thread _ _).loc Cert.KernelIdeal.main_arg2)) (m ((c.tc : Thread _ _).loc Cert.KernelIdeal.main_arg3))
      = (Cert.KernelIdeal.Gen.dats m 0 c).arrAt 5 Cert.KernelIdeal.cfg0.N
    ∧ Cert.ReferenceIdeal.Read.val_main_v153 (F := Ideal) (m ((c.tc : Thread _ _).loc Cert.KernelIdeal.main_arg0))
        (m ((c.tc : Thread _ _).loc Cert.KernelIdeal.main_arg1)) (m ((c.tc : Thread _ _).loc Cert.KernelIdeal.main_arg3))
      = (Cert.KernelIdeal.Gen.dats m 0 c).arrAt 6 Cert.KernelIdeal.cfg0.N := by
  obtain ⟨U, D, W, S, H, e0, e1, e2, e3⟩ := pool_holds h c
  refine ⟨?_, ?_, ?_⟩
  · rw [e1, e2, e3]
    exact (PoolRef.du_eq D W S).trans (final4 H).symm
  · rw [e0, e2, e3]
    exact (PoolRef.dw_eq U D S).trans (final5 H).symm
  · rw [e0, e1, e3]
    exact (PoolRef.ds_eq U D W).trans (final6 H).symm

end pool

/-- The reference ends with its arguments unchanged and, as it declares no semaphore, at rest. -/
theorem pool_reference_frame : Cert.quiescent_ReferenceIdeal := fun m g _ =>
  (θ_run _ _ _).mono (fun r h => ⟨fun c => (h c).2.2.2, sem_eq_zero_of_no_sems (by decide) r.2⟩)
    (Cert.ReferenceIdeal.Value.run (F := Ideal) m g)

/-- On finite arguments the kernel's three results are the reference's. -/
theorem pool_algebraic : Cert.algebraic_KernelIdeal_ReferenceIdeal_pre_finite := by
  intro m ρ m' ρ' hpre hagree
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m ρ,
    (θ_run _ _ _).mono (fun r h c => ?_) (Cert.ReferenceIdeal.Value.run m' ρ')⟩
  obtain ⟨a0, a1, a2, a3⟩ := hagree c
  obtain ⟨r0, r1, r2, rest⟩ := h c
  obtain ⟨p0, p1, p2⟩ := pool_values hpre c
  have l0 : StableHlo.launchContents m' c (Proc.tc.devRef Cert.ReferenceIdeal.main_arg0) = _ := a0
  have l1 : StableHlo.launchContents m' c (Proc.tc.devRef Cert.ReferenceIdeal.main_arg1) = _ := a1
  have l2 : StableHlo.launchContents m' c (Proc.tc.devRef Cert.ReferenceIdeal.main_arg2) = _ := a2
  have l3 : StableHlo.launchContents m' c (Proc.tc.devRef Cert.ReferenceIdeal.main_arg3) = _ := a3
  refine ⟨r0.trans ?_, r1.trans ?_, r2.trans ?_, rest⟩
  · refine (Cert.ReferenceIdeal.Read.val_main_v156_eq _).trans ?_
    rw [l1, l2, l3]
    exact p0
  · refine (Cert.ReferenceIdeal.Read.val_main_v157_eq _).trans ?_
    rw [l0, l2, l3]
    exact p1
  · refine (Cert.ReferenceIdeal.Read.val_main_v153_eq _).trans ?_
    rw [l0, l1, l3]
    exact p2

end Cert.Proof
-- ==== Proof.NormMath.lean ====
/- The gradient of a row's RMS norm over the reals: what the kernels compute and what differentiating the norm gives. -/
module

public import proofs.«01_k».proof.Proof.Reals

@[expose] public section

set_option maxRecDepth 16384

noncomputable section

namespace Cert.Norm

open Idealize.ShloMosaic Cert.Reals

/-- The number added to a row's mean square: the real its float word is. -/
def epsR : ℝ := (Ideal.ofBits FTy.f32 0x358637BD#32).toReal

theorem eps_word_aux : ∃ e : ℝ, 0 < e ∧ Ideal.ofBits FTy.f32 0x358637BD#32 = (e : EReal) := by
  refine ⟨_, ?_, by simp [Ideal.ofBits, Ideal.ieee]; rfl⟩
  norm_num

theorem eps_word : Ideal.ofBits FTy.f32 0x358637BD#32 = (epsR : EReal) := by
  obtain ⟨e, _, h⟩ := eps_word_aux
  rw [epsR, h, EReal.toReal_coe]

theorem eps_pos : 0 < epsR := by
  obtain ⟨e, he, h⟩ := eps_word_aux
  rw [epsR, h, EReal.toReal_coe]
  exact he

theorem width_word : Ideal.ofBits FTy.f32 0x44800000#32 = ((1024 : ℝ) : EReal) := by
  simp [Ideal.ofBits, Ideal.ieee]
  rw [← EReal.coe_mul]
  norm_num

theorem half_word : Ideal.ofBits FTy.f32 0xBF000000#32 = ((-(1 / 2) : ℝ) : EReal) := by
  simp [Ideal.ofBits, Ideal.ieee]
  rw [← EReal.coe_mul]
  norm_num

/-- A row's mean square, with the small number added. -/
def msR (x : ℕ → ℝ) : ℝ := (∑ k : Fin 1024, x k.val * x k.val) / 1024 + epsR

theorem ms_pos (x : ℕ → ℝ) : 0 < msR x := by
  have h : 0 ≤ ∑ k : Fin 1024, x k.val * x k.val := Finset.sum_nonneg fun k _ => mul_self_nonneg _
  have := eps_pos
  unfold msR
  positivity

/-- The reciprocal root of a row's mean square. -/
def rsR (x : ℕ → ℝ) : ℝ := (Real.sqrt (msR x))⁻¹

theorem rsqrt_ms (x : ℕ → ℝ) : Ideal.rsqrt ((msR x : ℝ) : EReal) = ((rsR x : ℝ) : EReal) := by
  have h := ms_pos x
  rw [Ideal.rsqrt_coe, if_neg (not_lt.mpr h.le), if_neg h.ne']
  rfl

theorem rs_div_ms (x : ℕ → ℝ) : rsR x / msR x = rsR x * rsR x * rsR x := by
  have h := ms_pos x
  have hs := Real.sqrt_pos.mpr h
  have e : Real.sqrt (msR x) * Real.sqrt (msR x) = msR x := Real.mul_self_sqrt h.le
  unfold rsR
  rw [div_eq_iff h.ne']
  nth_rw 5 [← e]
  field_simp

/-- A row's gradient through its norm, as the kernels compute it: `a` is the cotangent times the gain. -/
def dxR (x a : ℕ → ℝ) (k : ℕ) : ℝ :=
  rsR x * (a k - x k * rsR x * ((∑ j : Fin 1024, a j.val * (x j.val * rsR x)) / 1024))

/-- The factor of the row's own entries, twice added, that differentiating the mean square leaves. -/
def cR (x a : ℕ → ℝ) : ℝ := ((∑ j : Fin 1024, x j.val * a j.val) * (-(1 / 2) * (rsR x / msR x))) / 1024

theorem dx_eq (x a : ℕ → ℝ) (k : ℕ) : a k * rsR x + x k * cR x a + cR x a * x k = dxR x a k := by
  unfold dxR cR
  rw [rs_div_ms, show (∑ j : Fin 1024, a j.val * (x j.val * rsR x)) = (∑ j : Fin 1024, x j.val * a j.val) * rsR x by
    rw [Finset.sum_mul]; exact Finset.sum_congr rfl fun j _ => by ring]
  ring

/-- The same beside any extended real that the gradient is added to. -/
theorem dx_add (d : EReal) (x a : ℕ → ℝ) (k : ℕ) :
    d + ((a k * rsR x : ℝ) : EReal) + ((x k * cR x a : ℝ) : EReal) + ((cR x a * x k : ℝ) : EReal) = d + ((dxR x a k : ℝ) : EReal) := by
  rw [add_assoc, add_assoc, ← EReal.coe_add, ← EReal.coe_add, ← dx_eq, ← add_assoc]

/-- The mean square as the programs form it. -/
theorem ms_coe (x : ℕ → ℝ) :
    Ideal.div (∑ k : Fin 1024, ((x k.val : ℝ) : EReal) * ((x k.val : ℝ) : EReal)) ((1024 : ℝ) : EReal) + ((epsR : ℝ) : EReal) = ((msR x : ℝ) : EReal) := by
  simp only [← EReal.coe_mul, ← coe_sum]
  rw [div_coe _ _ (by norm_num), ← EReal.coe_add]
  rfl

/-- A sum over `n` tiles of `m` rows is the sum over all rows. -/
theorem sum_tiles {M : Type} [AddCommMonoid M] (n m : ℕ) (f : ℕ → M) : ∑ t : Fin n, ∑ r : Fin m, f (t.val * m + r.val) = ∑ i ∈ Finset.range (n * m), f i := by
  induction n with
  | zero => simp
  | succ n ih =>
    rw [Fin.sum_univ_castSucc, Nat.succ_mul, Finset.sum_range_add]
    refine congrArg₂ (· + ·) ih ?_
    exact (Finset.sum_range fun r => f (n * m + r)).symm

/-- The rows of four sequences of 2048, tile by tile or sequence by sequence. -/
theorem sum_batch {M : Type} [AddCommMonoid M] (n m : ℕ) (h : n * m = 8192) (f : ℕ → ℕ → M) :
    ∑ t : Fin n, ∑ r : Fin m, f ((t.val * m + r.val) / 2048) ((t.val * m + r.val) % 2048) = ∑ b : Fin 4, ∑ s : Fin 2048, f b.val s.val := by
  rw [sum_tiles n m fun i => f (i / 2048) (i % 2048), h, ← sum_tiles 4 2048]
  refine Finset.sum_congr rfl fun b _ => Finset.sum_congr rfl fun s _ => ?_
  beta_reduce
  rw [show (b.val * 2048 + s.val) / 2048 = b.val by omega, show (b.val * 2048 + s.val) % 2048 = s.val by omega]

end Cert.Norm

end
-- ==== Proof.InPay.lean ====
/- The input projection's backward body at the ideal values, on blocks that hold real numbers. -/
module

public import proofs.«01_k».proof.Proof.Gen.InKernelIdeal.Skeleton
public import proofs.«01_k».proof.Proof.NormMath
public import proofs.«01_k».proof.Proof.HostSums

@[expose] public section

set_option maxRecDepth 16384

noncomputable section

namespace Cert.In

open Idealize.ShloMosaic Idealize.ShloMosaic.TcCoe Cert.InKernelIdeal Cert.InKernelIdeal.Gen Cert.Reals Cert.Norm

variable (X P : ℕ → ℕ → ℝ) (W : ℕ → ℕ → ℝ) (G : ℕ → ℝ)

/-- The cotangent of the normalised input: the projection's cotangent by the transposed weights. -/
def dhR (W : ℕ → ℕ → ℝ) (p : ℕ → ℝ) (k : ℕ) : ℝ := ∑ l : Fin 1280, p l.val * W k l.val

/-- The same times the gain. -/
def aR (W : ℕ → ℕ → ℝ) (G : ℕ → ℝ) (p : ℕ → ℝ) (k : ℕ) : ℝ := dhR W p k * G k

theorem pay4 {q : FVec Ideal S1024x512 .bf16} {k v : FVec Ideal S1024x128 .bf16} {u : FVec Ideal S1024x512 .bf16} {w : FVec Ideal S1280x1024 .bf16}
    (hq : q = emb2 P) (hk : k = emb2 fun r c => P r (512 + c)) (hv : v = emb2 fun r c => P r (640 + c)) (hu : u = emb2 fun r c => P r (768 + c))
    (hw : w = emb2 fun l k => W k l) : k0_pay4 (F := Ideal) q k v u w = emb2 fun r c => dhR W (P r) c := by
  subst hq hk hv hu hw
  funext j
  idx_vars j
  pointwise [k0_pay4]
  rw [emb2_apply, dhR, coe_sum]
  refine Finset.sum_congr rfl fun l _ => ?_
  rw [EReal.coe_mul]
  congr 1
  have hl := l.isLt
  split
  · rfl
  · split
    · rw [emb2_apply, show 512 + (l.val - 512) = l.val by omega]
    · split
      · rw [emb2_apply, show 640 + (l.val - 512 - 128) = l.val by omega]
      · rw [emb2_apply, show 768 + (l.val - 512 - 128 - 128) = l.val by omega]

theorem pay6 {x : FVec Ideal S1024x1024 .f32} (hx : x = emb2 X) : k0_pay6 (F := Ideal) x = emb2 fun r _ => rsR (X r) := by
  subst hx
  funext j
  idx_vars j
  pointwise [k0_pay6, k0_pay5]
  simp only [emb2_apply]
  rw [width_word, eps_word, ms_coe, rsqrt_ms]

theorem pay7 {x : FVec Ideal S1024x1024 .f32} (hx : x = emb2 X) : k0_pay7 (F := Ideal) x = emb2 fun r c => X r c * rsR (X r) := by
  have h := pay6 X hx
  funext j
  idx_vars j
  pointwise [k0_pay7, k0_pay5]
  rw [h, hx]
  simp only [emb2_apply, EReal.coe_mul]

theorem pay8 {q : FVec Ideal S1024x512 .bf16} {k v : FVec Ideal S1024x128 .bf16} {u : FVec Ideal S1024x512 .bf16} {w : FVec Ideal S1280x1024 .bf16}
    (h4 : k0_pay4 (F := Ideal) q k v u w = emb2 fun r c => dhR W (P r) c) {g : FVec Ideal S1x1024 .f32} (hg : g = emb2 fun _ c => G c) :
    k0_pay8 (F := Ideal) q k v u w g = emb2 fun r c => aR W G (P r) c := by
  funext j
  idx_vars j
  pointwise [k0_pay8]
  rw [h4, hg]
  simp only [emb2_apply, aR, EReal.coe_mul]

theorem pay9 {q : FVec Ideal S1024x512 .bf16} {k v : FVec Ideal S1024x128 .bf16} {u : FVec Ideal S1024x512 .bf16} {w : FVec Ideal S1280x1024 .bf16}
    {g : FVec Ideal S1x1024 .f32} {x : FVec Ideal S1024x1024 .f32}
    (h8 : k0_pay8 (F := Ideal) q k v u w g = emb2 fun r c => aR W G (P r) c) (hx : x = emb2 X) :
    k0_pay9 (F := Ideal) q k v u w x g = emb2 fun r _ => (∑ j : Fin 1024, aR W G (P r) j.val * (X r j.val * rsR (X r))) / 1024 := by
  have h7 := pay7 X hx
  funext j
  idx_vars j
  pointwise [k0_pay9]
  rw [h8, h7]
  simp only [emb2_apply]
  simp only [← EReal.coe_mul, ← coe_sum]
  rw [width_word, div_coe _ _ (by norm_num)]

/-- What the body stores of the input's gradient. -/
theorem dx_at {q : FVec Ideal S1024x512 .bf16} {k v : FVec Ideal S1024x128 .bf16} {u : FVec Ideal S1024x512 .bf16} {w : FVec Ideal S1280x1024 .bf16}
    {g : FVec Ideal S1x1024 .f32} {x : FVec Ideal S1024x1024 .f32} (d : FVec Ideal S1024x1024 .f32)
    (hq : q = emb2 P) (hk : k = emb2 fun r c => P r (512 + c)) (hv : v = emb2 fun r c => P r (640 + c)) (hu : u = emb2 fun r c => P r (768 + c))
    (hw : w = emb2 fun l k => W k l) (hx : x = emb2 X) (hg : g = emb2 fun _ c => G c) (a b : Fin 1024) :
    k0_pay2 (F := Ideal) (k0_pay6 (F := Ideal) x) (k0_pay7 (F := Ideal) x) (k0_pay8 (F := Ideal) q k v u w g) (k0_pay9 (F := Ideal) q k v u w x g) d (ix2 a b)
      = d (ix2 a b) + ((dxR (X a.val) (aR W G (P a.val)) b.val : ℝ) : EReal) := by
  have h8 := pay8 P W G (pay4 P W hq hk hv hu hw) hg
  rw [pay9 X P W G h8 hx, h8, pay7 X hx, pay6 X hx]
  pointwise [k0_pay2]
  simp only [emb2_apply, ← EReal.coe_mul, ← EReal.coe_sub]
  rfl

/-- What the body adds to the gain's gradient. -/
theorem dg_at {q : FVec Ideal S1024x512 .bf16} {k v : FVec Ideal S1024x128 .bf16} {u : FVec Ideal S1024x512 .bf16} {w : FVec Ideal S1280x1024 .bf16}
    {x : FVec Ideal S1024x1024 .f32} (acc : FVec Ideal S1x1024 .f32)
    (hq : q = emb2 P) (hk : k = emb2 fun r c => P r (512 + c)) (hv : v = emb2 fun r c => P r (640 + c)) (hu : u = emb2 fun r c => P r (768 + c))
    (hw : w = emb2 fun l k => W k l) (hx : x = emb2 X) (a : Fin 1) (b : Fin 1024) :
    k0_pay1 (F := Ideal) (k0_pay4 (F := Ideal) q k v u w) (k0_pay7 (F := Ideal) x) acc (ix2 a b)
      = acc (ix2 a b) + ((∑ r : Fin 1024, dhR W (P r.val) b.val * (X r.val b.val * rsR (X r.val)) : ℝ) : EReal) := by
  rw [pay4 P W hq hk hv hu hw, pay7 X hx]
  pointwise [k0_pay1]
  simp only [emb2_apply, ← EReal.coe_mul, ← coe_sum]

end Cert.In

end
-- ==== Proof.InKernel.lean ====
/- What the input projection's backward kernel leaves in its two results, on arguments that hold reals. -/
module

public import proofs.«01_k».proof.Proof.InPay
public import proofs.«01_k».proof.Proof.Gen.InKernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.In

open Idealize.ShloMosaic Idealize.ShloMosaic.TcCoe Idealize.SL.Sem Cert.InKernelIdeal Cert.InKernelIdeal.Gen Cert.Reals Cert.Norm
open Idealize.ShloMosaic.Pipeline (Dat)

variable (m : (ℓ : Loc nD τ sig) → Buf (Elt Ideal) ℓ)
-- the reals the arguments hold: the block's input, the projection's cotangent, the weights, the gain
variable (X P : ℕ → ℕ → ℕ → ℝ) (W : ℕ → ℕ → ℝ) (G : ℕ → ℝ)

/-- The kernel's arguments hold these reals on core `c`. -/
structure Holds (c : Dev nD) : Prop where
  x : ∀ (b : Fin 4) (s : Fin 2048) (k : Fin 1024), m ((c : Thread nD τ).loc main_arg0) (ix3 b s k) = ((X b.val s.val k.val : ℝ) : EReal)
  g : ∀ (a : Fin 1) (k : Fin 1024), m ((c : Thread nD τ).loc main_arg1) (ix2 a k) = ((G k.val : ℝ) : EReal)
  w : ∀ (a : Fin 1) (k : Fin 1024) (l : Fin 1280), m ((c : Thread nD τ).loc main_arg2) (ix3 a k l) = ((W k.val l.val : ℝ) : EReal)
  p : ∀ (b : Fin 4) (s : Fin 2048) (l : Fin 1280), m ((c : Thread nD τ).loc main_arg3) (ix3 b s l) = ((P b.val s.val l.val : ℝ) : EReal)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0]
    ∧ win0_9.index t = ![t.val, 0] ∧ win0_10.index t = ![0, 0] := (by decide +kernel : ∀ t : Fin grid0.N, _)

/-- Row `r` of the flattened batch. -/
def flat (Y : ℕ → ℕ → ℕ → ℝ) (r k : ℕ) : ℝ := Y (r / 2048) (r % 2048) k

/-- Row `r` of the rows of grid point `t`. -/
def tile (Y : ℕ → ℕ → ℕ → ℝ) (t r k : ℕ) : ℝ := flat Y (t * 1024 + r) k

variable {m X P W G} {c : Dev nD} (H : Holds m X P W G c)
include H

theorem V_x : V m c main_v9 = emb2 (n := 8192) (m := 1024) (flat X) := by
  entry_read
  funext (j : S8192x1024.Idx)
  idx_vars j
  pointwise []
  exact H.x _ _ _

theorem V_q : V m c main_v2 = emb2 (n := 8192) (m := 512) fun r k => flat P r k := by
  entry_read
  funext (j : S8192x512.Idx)
  idx_vars j
  pointwise []
  exact H.p _ _ _

theorem V_k : V m c main_v3 = emb2 (n := 8192) (m := 128) fun r k => flat P r (512 + k) := by
  entry_read
  funext (j : S8192x128.Idx)
  idx_vars j
  pointwise []
  exact H.p _ _ _

theorem V_v : V m c main_v4 = emb2 (n := 8192) (m := 128) fun r k => flat P r (640 + k) := by
  entry_read
  funext (j : S8192x128.Idx)
  idx_vars j
  pointwise []
  exact H.p _ _ _

theorem V_u : V m c main_v5 = emb2 (n := 8192) (m := 512) fun r k => flat P r (768 + k) := by
  entry_read
  funext (j : S8192x512.Idx)
  idx_vars j
  pointwise []
  exact H.p _ _ _

theorem V_w : V m c main_v8 = emb2 (n := 1280) (m := 1024) fun l k => W k l := by
  entry_read
  funext (j : S1280x1024.Idx)
  idx_vars j
  pointwise []
  exact H.w _ _ _

theorem V_g : V m c main_arg1 = emb2 (n := 1) (m := 1024) fun _ k => G k := by
  entry_read
  funext (j : S1x1024.Idx)
  idx_vars j
  exact H.g _ _

omit H in
/-- The gradient that passes beside the norm, row by row. -/
theorem V_d (r : Fin 8192) (k : Fin 1024) : (V m c main_v10 : FVec Ideal S8192x1024 .f32) (ix2 r k)
    = (m ((c : Thread nD τ).loc main_arg4) : FVec Ideal S4x2048x1024 .f32) (ix3 (⟨r.val / 2048, by omega⟩ : Fin 4) (⟨r.val % 2048, by omega⟩ : Fin 2048) k) := by
  entry_read
  pointwise []

theorem ld_x (t : Fin cfg0.N) : iblk m c 5 t = emb2 (n := 1024) (m := 1024) (tile X t.val) := by
  unfold iblk
  rw [show V m c (Pipeline.arrRef spec0 5) = _ from V_x H]
  funext (j : S1024x1024.Idx)
  idx_vars j
  blk_simp [emb2, idx t]
  rfl

theorem ld_q (t : Fin cfg0.N) : iblk m c 0 t = emb2 (n := 1024) (m := 512) (tile P t.val) := by
  unfold iblk
  rw [show V m c (Pipeline.arrRef spec0 0) = _ from V_q H]
  funext (j : S1024x512.Idx)
  idx_vars j
  blk_simp [emb2, idx t]
  rfl

theorem ld_k (t : Fin cfg0.N) : iblk m c 1 t = emb2 (n := 1024) (m := 128) fun r k => tile P t.val r (512 + k) := by
  unfold iblk
  rw [show V m c (Pipeline.arrRef spec0 1) = _ from V_k H]
  funext (j : S1024x128.Idx)
  idx_vars j
  blk_simp [emb2, idx t]
  rfl

theorem ld_v (t : Fin cfg0.N) : iblk m c 2 t = emb2 (n := 1024) (m := 128) fun r k => tile P t.val r (640 + k) := by
  unfold iblk
  rw [show V m c (Pipeline.arrRef spec0 2) = _ from V_v H]
  funext (j : S1024x128.Idx)
  idx_vars j
  blk_simp [emb2, idx t]
  rfl

theorem ld_u (t : Fin cfg0.N) : iblk m c 3 t = emb2 (n := 1024) (m := 512) fun r k => tile P t.val r (768 + k) := by
  unfold iblk
  rw [show V m c (Pipeline.arrRef spec0 3) = _ from V_u H]
  funext (j : S1024x512.Idx)
  idx_vars j
  blk_simp [emb2, idx t]
  rfl

theorem ld_w (t : Fin cfg0.N) : iblk m c 4 t = emb2 (n := 1280) (m := 1024) fun l k => W k l := by
  unfold iblk
  rw [show V m c (Pipeline.arrRef spec0 4) = _ from V_w H]
  funext (j : S1280x1024.Idx)
  idx_vars j
  blk_simp [emb2, idx t]

theorem ld_g (t : Fin cfg0.N) : iblk m c 7 t = emb2 (n := 1) (m := 1024) fun _ k => G k := by
  unfold iblk
  rw [show V m c (Pipeline.arrRef spec0 7) = _ from V_g H]
  funext (j : S1x1024.Idx)
  idx_vars j
  blk_simp [emb2, idx t]

omit H in
/-- The result: the gradient beside the norm plus the gradient through it. -/
def dxA (X P : ℕ → ℕ → ℕ → ℝ) (W : ℕ → ℕ → ℝ) (G : ℕ → ℝ) (d : FVec Ideal S4x2048x1024 .f32) : FVec Ideal S8192x1024 .f32 := fun y =>
  d (ix3 (⟨(y 0).val / 2048, by have : (y 0).val < 8192 := (y 0).isLt; omega⟩ : Fin 4) (⟨(y 0).val % 2048, by omega⟩ : Fin 2048) (⟨(y 1).val, (y 1).isLt⟩ : Fin 1024))
    + ((dxR (flat X (y 0).val) (aR W G (flat P (y 0).val)) (y 1).val : ℝ) : EReal)

theorem final9 : (dats m 0 c).arrAt 9 cfg0.N = dxA X P W G (m ((c : Thread nD τ).loc main_arg4)) := by
  refine (dats m 0 c).arrAt_eq_of_covers 9 _ (by decide +kernel) fun t hf y => ?_
  blk_simp
  rw [after0_9]
  rcases Nat.eq_zero_or_pos (t.val % 8) with h | h
  on_goal 1 => rw [outsAt0_A m c t h]
  on_goal 2 => rw [outsAt0_B m c t (Nat.ne_of_gt h)]
  all_goals
    frame_out
    idx_vars y
    refine (dx_at (tile X t.val) (tile P t.val) W G _ (ld_q H t) (ld_k H t) (ld_v H t) (ld_u H t) (ld_w H t) (ld_x H t) (ld_g H t) y0 y1).trans ?_
    have hd : iblk m c 6 t (ix2 y0 y1) = (m ((c : Thread nD τ).loc main_arg4) : FVec Ideal S4x2048x1024 .f32)
        (ix3 (⟨(t.val * 1024 + y0.val) / 2048, by have := lt_of_lt_of_eq t.isLt N_0; omega⟩ : Fin 4) (⟨(t.val * 1024 + y0.val) % 2048, by omega⟩ : Fin 2048) y1) := by
      refine Eq.trans ?_ (V_d (⟨t.val * 1024 + y0.val, by have := lt_of_lt_of_eq t.isLt N_0; omega⟩ : Fin 8192) y1)
      blk_point [iblk, idx t]
    rw [hd]
    simp only [dxA]
    blk_simp [idx t]
    rfl

/-- What a grid point adds to the gain's gradient. -/
def dgT (X P : ℕ → ℕ → ℕ → ℝ) (W : ℕ → ℕ → ℝ) (t k : ℕ) : ℝ :=
  ∑ r : Fin 1024, dhR W (tile P t r.val) k * (tile X t r.val k * rsR (tile X t r.val))

theorem step10 (t : Fin cfg0.N) (h : ¬ t.val % 8 = 0) (y : S1x1024.Idx) :
    (outsAt0 m c t.val t.isLt).2 y = (outsAt0 m c (t.val - 1) (Nat.lt_of_le_of_lt (Nat.sub_le _ _) t.isLt)).2 y + ((dgT X P W t.val (y 1).val : ℝ) : EReal) := by
  rw [outsAt0_B m c t h]
  frame_out
  idx_vars y
  exact dg_at (tile X t.val) (tile P t.val) W _ (ld_q H t) (ld_k H t) (ld_v H t) (ld_u H t) (ld_w H t) (ld_x H t) y0 y1

theorem base10 (t : Fin cfg0.N) (h : t.val % 8 = 0) (y : S1x1024.Idx) :
    (outsAt0 m c t.val t.isLt).2 y = 0 + ((dgT X P W t.val (y 1).val : ℝ) : EReal) := by
  rw [outsAt0_A m c t h]
  frame_out
  idx_vars y
  refine (dg_at (tile X t.val) (tile P t.val) W _ (ld_q H t) (ld_k H t) (ld_v H t) (ld_u H t) (ld_w H t) (ld_x H t) y0 y1).trans ?_
  exact congrArg (· + _) (show (k0_pay3 (F := Ideal) : FVec Ideal S1x1024 .f32) (ix2 y0 y1) = 0 by pointwise [k0_pay3])

theorem final10 : (dats m 0 c).arrAt 10 cfg0.N = fun y : S1x1024.Idx => ((∑ t : Fin 8, dgT X P W t.val (y 1).val : ℝ) : EReal) := by
  refine (dats m 0 c).arrAt_eq_of_after_last 10 t0_7 (by decide +kernel) _ fun y => ?_
  blk_simp
  rw [after0_10, Pipeline.eq_sum_fin_of_reset_step_apply_last (fun n h => (outsAt0 m c n h).2) 8 (fun _ => 0) (fun p y => ((dgT X P W p.val (y 1).val : ℝ) : EReal))
    (fun t h y => base10 H t h y) (fun t h y => step10 H t h y) (le_of_eq N_0) t0_7 rfl y, zero_add]
  rw [coe_sum]
  rfl

end Cert.In

end
-- ==== Proof.InRef.lean ====
/- What differentiating the input projection behind its norm computes on arguments that hold reals. -/
module

public import proofs.«01_k».proof.Proof.InKernel
public import proofs.«01_k».proof.Proof.RealOps
public import proofs.«01_k».proof.Proof.Gen.InReferenceIdeal.Read

@[expose] public section

set_option maxRecDepth 16384

noncomputable section

namespace Cert.InRef

open Idealize.ShloMosaic Idealize.ShloMosaic.TcCoe Cert.InReferenceIdeal Cert.InReferenceIdeal.Read Cert.Reals Cert.Norm Cert.In

variable (X P : ℕ → ℕ → ℕ → ℝ) (W : ℕ → ℕ → ℝ) (G : ℕ → ℝ)

/-- The block's input, as an array. -/
abbrev argX : FVec Ideal S4x2048x1024 .f32 := emb3 X
/-- The gain, as an array. -/
abbrev argG : FVec Ideal S1x1024 .f32 := emb2 fun _ => G
/-- The weights, as an array. -/
abbrev argW : FVec Ideal S1x1024x1280 .f32 := emb3 fun _ => W
/-- The projection's cotangent, as an array. -/
abbrev argP : FVec Ideal S4x2048x1280 .f32 := emb3 P

theorem ms : val_main_v7 (F := Ideal) (argX X) = emb3 fun b s _ => msR (X b s) := by
  funext j
  idx_vars j
  pointwise [val_main_v7, val_main_v6, val_main_v5, val_main_v4, val_main_v3, val_main_v2, val_main_v1, val_main_cst, val_main_cst_0, val_main_cst_1]
  simp only [emb3_apply]
  rw [width_word, eps_word, ms_coe]

theorem rs : val_main_v8 (F := Ideal) (argX X) = emb3 fun b s _ => rsR (X b s) := by
  have h := ms X
  funext j
  idx_vars j
  pointwise [val_main_v8]
  rw [h]
  exact rsqrt_ms _

theorem slope : val_main_v11 (F := Ideal) (argX X) = emb3 fun b s _ => -(1 / 2) * (rsR (X b s) / msR (X b s)) := by
  have h := ms X
  have h' := rs X
  funext j
  idx_vars j
  pointwise [val_main_v11, val_main_v10, val_main_v9, val_main_cst_2]
  rw [h, h', half_word]
  simp only [emb3_apply]
  rw [div_coe _ _ (ms_pos _).ne', ← EReal.coe_mul]

theorem normed : val_main_v13 (F := Ideal) (argX X) = emb3 fun b s k => X b s k * rsR (X b s) := by
  have h := rs X
  funext j
  idx_vars j
  pointwise [val_main_v13, val_main_v12]
  rw [h]
  simp only [emb3_apply, EReal.coe_mul]

theorem dh : val_main_v19 (F := Ideal) (argW W) (argP P) = emb3 fun b s k => dhR W (P b s) k := by
  funext j
  idx_vars j
  pointwise [val_main_v19, val_main_v17]
  simp only [emb3_apply, ← EReal.coe_mul, ← coe_sum]
  rfl

theorem da : val_main_v24 (F := Ideal) (argG G) (argW W) (argP P) = emb3 fun b s k => aR W G (P b s) k := by
  have h := dh P W
  funext j
  idx_vars j
  pointwise [val_main_v24, val_main_v23, val_main_v14, val_main_v0]
  rw [h]
  simp only [emb2_apply, emb3_apply, aR, EReal.coe_mul]

theorem coef : val_main_v36 (F := Ideal) (argX X) (argG G) (argW W) (argP P) = emb3 fun b s _ => cR (X b s) (aR W G (P b s)) := by
  have h := da P W G
  have h' := slope X
  funext j
  idx_vars j
  pointwise [val_main_v36, val_main_v35, val_main_v34, val_main_v33, val_main_v32, val_main_v28, val_main_v27, val_main_v26, val_main_cst_5, val_main_cst_6, val_main_cst_7]
  rw [h, h', width_word]
  simp only [emb3_apply, ← EReal.coe_mul, ← coe_sum]
  rw [Fin.sum_univ_one, div_coe _ _ (by norm_num)]
  rfl

/-- The input's gradient. -/
theorem dx_eq (d : FVec Ideal S4x2048x1024 .f32) : val_main_v42 (F := Ideal) (argX X) (argG G) (argW W) (argP P) d = dxA X P W G d := by
  have h := da P W G
  have h' := coef X P W G
  have h'' := rs X
  funext j
  idx_vars j
  pointwise [val_main_v42, val_main_v40, val_main_v39, val_main_v38, val_main_v37, val_main_v31, val_main_v30, val_main_v29]
  rw [h, h', h'']
  simp only [emb3_apply, ← EReal.coe_mul]
  rw [dx_add]
  rfl

/-- The gain's gradient. -/
theorem dg_eq : val_main_v41 (F := Ideal) (argX X) (argW W) (argP P) = fun y : S1x1024.Idx => ((∑ t : Fin 8, dgT X P W t.val (y 1).val : ℝ) : EReal) := by
  have h := dh P W
  have h' := normed X
  funext j
  idx_vars j
  pointwise [val_main_v41]
  unfold val_main_v25
  rw [sum_front _ (val_main_cst_4 (F := Ideal)) (by pointwise [val_main_cst_4]), Fin.sum_univ_one, Fin.sum_univ_one]
  pointwise [val_main_v22]
  unfold val_main_v21
  rw [sum_front _ (val_main_cst_3 (F := Ideal)) (by pointwise [val_main_cst_3])]
  pointwise [val_main_v20]
  rw [h, h']
  simp only [emb3_apply, ← EReal.coe_mul, ← coe_sum]
  refine congrArg _ ?_
  unfold dgT tile flat
  rw [sum_batch 8 1024 (by norm_num) fun b s => dhR W (P b s) j1.val * (X b s j1.val * rsR (X b s))]
  exact Finset.sum_congr rfl fun b _ => Finset.sum_congr rfl fun s _ => mul_comm _ _

end Cert.InRef

end
-- ==== Proof.InClaim.lean ====
/- The input projection's gradient: kernel and reference leave equal arrays, on finite arguments. -/
module

public import proofs.«01_k».proof.Defs
public import proofs.«01_k».proof.Proof.Gen.Pre_finite_in
public import proofs.«01_k».proof.Proof.Gen.InReferenceIdeal.Run
public import proofs.«01_k».proof.Proof.InRef
public import proofs.«01_k».proof.Proof.Finite
public import proofs.«01_k».proof.Proof.PoolClaim

@[expose] public section

set_option maxRecDepth 16384

noncomputable section

namespace Cert.Proof

open Idealize.ShloMosaic Idealize.SL.Sem Cert.Reals Cert.In

section inproj

variable {m : (ℓ : Loc Cert.InKernelIdeal.nD Cert.InKernelIdeal.τ Cert.InKernelIdeal.sig) → Buf (Elt Ideal) ℓ}

/-- The reals that the kernel's finite arguments hold. -/
theorem in_holds (h : Cert.Pre_InKernelIdeal_finite_in m) (c : Dev Cert.InKernelIdeal.nD) :
    ∃ X P W G, In.Holds m X P W G c
      ∧ m ((c.tc : Thread _ _).loc Cert.InKernelIdeal.main_arg0) = InRef.argX X
      ∧ m ((c.tc : Thread _ _).loc Cert.InKernelIdeal.main_arg1) = InRef.argG G
      ∧ m ((c.tc : Thread _ _).loc Cert.InKernelIdeal.main_arg2) = InRef.argW W
      ∧ m ((c.tc : Thread _ _).loc Cert.InKernelIdeal.main_arg3) = InRef.argP P := by
  obtain ⟨h0, h1, h2, h3⟩ := h c
  have e0 := real3_eq (finite_of _ _ (fun _ => inf_word) h0)
  have e1 := (real2_eq (finite_of _ _ (fun _ => inf_word) h1)).trans (emb2_unit _)
  have e2 := (real3_eq (finite_of _ _ (fun _ => inf_word) h2)).trans (emb3_unit _)
  have e3 := real3_eq (finite_of _ _ (fun _ => inf_word) h3)
  exact ⟨_, _, _, _, ⟨fun b s k => congrFun e0 (ix3 b s k), fun a k => congrFun e1 (ix2 a k), fun a k l => congrFun e2 (ix3 a k l),
    fun b s k => congrFun e3 (ix3 b s k)⟩, e0, e1, e2, e3⟩

/-- The reference's results are the kernel's. -/
theorem in_values (h : Cert.Pre_InKernelIdeal_finite_in m) (c : Dev Cert.InKernelIdeal.nD) :
    Cert.InReferenceIdeal.Read.val_main_v42 (F := Ideal) (m ((c.tc : Thread _ _).loc Cert.InKernelIdeal.main_arg0))
        (m ((c.tc : Thread _ _).loc Cert.InKernelIdeal.main_arg1)) (m ((c.tc : Thread _ _).loc Cert.InKernelIdeal.main_arg2))
        (m ((c.tc : Thread _ _).loc Cert.InKernelIdeal.main_arg3)) (m ((c.tc : Thread _ _).loc Cert.InKernelIdeal.main_arg4))
      = (Cert.InKernelIdeal.Gen.dats m 0 c).arrAt 9 Cert.InKernelIdeal.cfg0.N
    ∧ Cert.InReferenceIdeal.Read.val_main_v41 (F := Ideal) (m ((c.tc : Thread _ _).loc Cert.InKernelIdeal.main_arg0))
        (m ((c.tc : Thread _ _).loc Cert.InKernelIdeal.main_arg2)) (m ((c.tc : Thread _ _).loc Cert.InKernelIdeal.main_arg3))
      = (Cert.InKernelIdeal.Gen.dats m 0 c).arrAt 10 Cert.InKernelIdeal.cfg0.N := by
  obtain ⟨X, P, W, G, H, e0, e1, e2, e3⟩ := in_holds h c
  refine ⟨?_, ?_⟩
  · rw [e0, e1, e2, e3]
    exact (InRef.dx_eq X P W G _).trans (final9 H).symm
  · rw [e0, e2, e3]
    exact (InRef.dg_eq X P W).trans (final10 H).symm

end inproj

/-- The reference ends with its arguments unchanged and, as it declares no semaphore, at rest. -/
theorem in_reference_frame : Cert.quiescent_InReferenceIdeal := fun m g _ =>
  (θ_run _ _ _).mono (fun r h => ⟨fun c => (h c).2.2, sem_eq_zero_of_no_sems (by decide) r.2⟩)
    (Cert.InReferenceIdeal.Value.run (F := Ideal) m g)

/-- On finite arguments the kernel's two results are the reference's. -/
theorem in_algebraic : Cert.algebraic_InKernelIdeal_InReferenceIdeal_pre_finite_in := by
  intro m ρ m' ρ' hpre hagree
  refine ⟨fun c => (Cert.InKernelIdeal.Gen.dats m 0 c).arrAt 9 Cert.InKernelIdeal.cfg0.N, fun c => (Cert.InKernelIdeal.Gen.dats m 0 c).arrAt 10 Cert.InKernelIdeal.cfg0.N,
    Cert.InKernelIdeal.Value.run_blocks m ρ, (θ_run _ _ _).mono (fun r h c => ?_) (Cert.InReferenceIdeal.Value.run m' ρ')⟩
  obtain ⟨a0, a1, a2, a3, a4⟩ := hagree c
  obtain ⟨r0, r1, rest⟩ := h c
  obtain ⟨p0, p1⟩ := in_values hpre c
  refine ⟨r0.trans ?_, r1.trans ?_, rest⟩
  · refine (Cert.InReferenceIdeal.Read.val_main_v42_eq _ _).trans ?_
    rw [a0, a1, a2, a3, a4]
    exact p0
  · refine (Cert.InReferenceIdeal.Read.val_main_v41_eq _ _ _).trans ?_
    rw [a0, a2, a3]
    exact p1

end Cert.Proof
-- ==== Proof.LossPay.lean ====
/- The loss body at the ideal values, on blocks that hold real numbers. -/
module

public import proofs.«01_k».proof.Proof.Gen.LossKernelIdeal.Skeleton
public import proofs.«01_k».proof.Proof.NormMath
public import proofs.«01_k».proof.Proof.HostSums

@[expose] public section

set_option maxRecDepth 16384

noncomputable section

namespace Cert.Loss

open Idealize.ShloMosaic Idealize.ShloMosaic.TcCoe Cert.LossKernelIdeal Cert.LossKernelIdeal.Gen Cert.Reals Cert.Norm

/-- The reciprocal of the width, as its float word. -/
theorem inv_width_word : Ideal.ofBits FTy.f32 0x3A800000#32 = ((1 / 1024 : ℝ) : EReal) := by
  simp [Ideal.ofBits, Ideal.ieee]
  rw [← EReal.coe_mul]
  norm_num

/-- The hidden unit behind the rectifier. -/
def rR (U : ℕ → ℕ → ℝ) (h : ℕ → ℝ) (l : ℕ) : ℝ := max (∑ k : Fin 1024, h k.val * U k.val l) 0

/-- The hidden unit's square. -/
def fR (U : ℕ → ℕ → ℝ) (h : ℕ → ℝ) (l : ℕ) : ℝ := rR U h l * rR U h l

/-- The square's slope. -/
def sR (U : ℕ → ℕ → ℝ) (h : ℕ → ℝ) (l : ℕ) : ℝ := rR U h l + rR U h l

/-- The residual stream behind the feed-forward layer. -/
def x3R (U D : ℕ → ℕ → ℝ) (h x : ℕ → ℝ) (k : ℕ) : ℝ := x k + ∑ l : Fin 4096, fR U h l.val * D l.val k

/-- The normalised stream's distance to the target. -/
def errR (G y T : ℕ → ℝ) (k : ℕ) : ℝ := y k * rsR y * G k - T k

/-- The distance times the gain, as the mean over the width weighs it. -/
def ctR (G y T : ℕ → ℝ) (k : ℕ) : ℝ := errR G y T k * (G k * (1 / 1024))

theorem coe_max (a b : ℝ) : max (a : EReal) (b : EReal) = ((max a b : ℝ) : EReal) := (EReal.coe_strictMono.monotone.map_max).symm

variable (U D : ℕ → ℕ → ℝ) (G : ℕ → ℝ) (H X Y T : ℕ → ℕ → ℝ)

theorem pay8 {h : FVec Ideal S256x1024 .bf16} {u : FVec Ideal S1024x1024 .bf16} (o : ℕ) (hh : h = emb2 H) (hu : u = emb2 fun k l => U k (o + l)) :
    k0_pay8 (F := Ideal) h u = emb2 fun r l => rR U (H r) (o + l) := by
  subst hh hu
  funext j
  idx_vars j
  pointwise [k0_pay8, k0_pay7]
  simp only [emb2_apply, ← EReal.coe_mul, ← coe_sum]
  exact coe_max _ _

theorem slope8 {h : FVec Ideal S256x1024 .bf16} {u : FVec Ideal S1024x1024 .bf16} (o : ℕ) (hh : h = emb2 H) (hu : u = emb2 fun k l => U k (o + l)) :
    k0_pay9 (F := Ideal) h u = emb2 fun r l => sR U (H r) (o + l) := by
  have e := pay8 U H o hh hu
  funext j
  idx_vars j
  pointwise [k0_pay9]
  rw [e]
  simp only [emb2_apply, ← EReal.coe_add]
  rfl

theorem square8 {h : FVec Ideal S256x1024 .bf16} {u : FVec Ideal S1024x1024 .bf16} (o : ℕ) (hh : h = emb2 H) (hu : u = emb2 fun k l => U k (o + l)) :
    k0_pay10 (F := Ideal) h u = emb2 fun r l => fR U (H r) (o + l) := by
  have e := pay8 U H o hh hu
  funext j
  idx_vars j
  pointwise [k0_pay10]
  rw [e]
  simp only [emb2_apply, ← EReal.coe_mul]
  rfl

-- the other three quarters of the hidden width run the same text
theorem slope11 (h : FVec Ideal S256x1024 .bf16) (u : FVec Ideal S1024x1024 .bf16) : k0_pay12 (F := Ideal) h u = k0_pay9 h u := rfl
theorem slope14 (h : FVec Ideal S256x1024 .bf16) (u : FVec Ideal S1024x1024 .bf16) : k0_pay15 (F := Ideal) (k0_pay7 h) u = k0_pay9 h u := rfl
theorem slope17 (h : FVec Ideal S256x1024 .bf16) (u : FVec Ideal S1024x1024 .bf16) : k0_pay18 (F := Ideal) (k0_pay7 h) u = k0_pay9 h u := rfl
theorem square11 (h : FVec Ideal S256x1024 .bf16) (u : FVec Ideal S1024x1024 .bf16) : k0_pay13 (F := Ideal) h u = k0_pay10 h u := rfl
theorem square14 (h : FVec Ideal S256x1024 .bf16) (u : FVec Ideal S1024x1024 .bf16) : k0_pay16 (F := Ideal) (k0_pay7 h) u = k0_pay10 h u := rfl
theorem square17 (h : FVec Ideal S256x1024 .bf16) (u : FVec Ideal S1024x1024 .bf16) : k0_pay19 (F := Ideal) (k0_pay7 h) u = k0_pay10 h u := rfl

theorem pay21 {x : FVec Ideal S256x1024 .f32} {f : FVec Ideal S256x4096 .bf16} {d : FVec Ideal S4096x1024 .bf16}
    (hx : x = emb2 X) (hf : f = emb2 fun r l => fR U (H r) l) (hd : d = emb2 D) :
    k0_pay21 (F := Ideal) (k0_pay20 x) f d = emb2 fun r k => x3R U D (H r) (X r) k := by
  subst hx hf hd
  funext j
  idx_vars j
  pointwise [k0_pay21, k0_pay20]
  simp only [emb2_apply, ← EReal.coe_mul, ← coe_sum, ← EReal.coe_add]
  rfl

section behind

-- the body behind the feed-forward layer, on a stream that holds `Y`
variable {x : FVec Ideal S256x1024 .f32} {f : FVec Ideal S256x4096 .bf16} {d : FVec Ideal S4096x1024 .bf16} {g : FVec Ideal S1x1024 .f32} {t : FVec Ideal S256x1024 .f32}
  (h21 : k0_pay21 (F := Ideal) x f d = emb2 Y) (hg : g = emb2 fun _ k => G k) (ht : t = emb2 T)
include h21

theorem pay22 : k0_pay22 (F := Ideal) x f d = emb2 fun r _ => rsR (Y r) := by
  funext j
  idx_vars j
  pointwise [k0_pay22]
  rw [h21]
  simp only [emb2_apply]
  rw [width_word, eps_word, ms_coe, rsqrt_ms]

theorem pay23 : k0_pay23 (F := Ideal) x f d = emb2 fun r k => Y r k * rsR (Y r) := by
  have h := pay22 Y h21
  funext j
  idx_vars j
  pointwise [k0_pay23]
  rw [h, h21]
  simp only [emb2_apply, EReal.coe_mul]

include hg ht

theorem pay24 : k0_pay24 (F := Ideal) x f d g t = emb2 fun r k => errR G (Y r) (T r) k := by
  have h := pay23 Y h21
  funext j
  idx_vars j
  pointwise [k0_pay24]
  rw [h, hg, ht]
  simp only [emb2_apply, errR, EReal.coe_mul, EReal.coe_sub]

theorem pay26 : k0_pay26 (F := Ideal) x f d g t g = emb2 fun r k => ctR G (Y r) (T r) k := by
  have h := pay24 G Y T h21 hg ht
  funext j
  idx_vars j
  pointwise [k0_pay26]
  rw [h, hg, inv_width_word]
  simp only [emb2_apply, ctR, EReal.coe_mul]

theorem pay27 : k0_pay27 (F := Ideal) x f d g t g
    = emb2 fun r k => Y r k * rsR (Y r) * ((∑ j : Fin 1024, ctR G (Y r) (T r) j.val * (Y r j.val * rsR (Y r))) / 1024) := by
  have h := pay26 G Y T h21 hg ht
  have h' := pay23 Y h21
  funext j
  idx_vars j
  pointwise [k0_pay27]
  rw [h, h']
  simp only [emb2_apply]
  simp only [← EReal.coe_mul, ← coe_sum]
  rw [width_word, div_coe _ _ (by norm_num), ← EReal.coe_mul]

/-- What the body stores of the stream's gradient, before rounding. -/
theorem dx_pay : k0_pay1 (F := Ideal) (k0_pay22 x f d) (k0_pay26 x f d g t g) (k0_pay27 x f d g t g)
    = emb2 fun r k => dxR (Y r) (ctR G (Y r) (T r)) k := by
  rw [pay27 G Y T h21 hg ht, pay26 G Y T h21 hg ht, pay22 Y h21]
  funext j
  idx_vars j
  pointwise [k0_pay1]
  simp only [emb2_apply, ← EReal.coe_mul, ← EReal.coe_sub]
  rfl

theorem dx_at (a : Fin 256) (b : Fin 1024) : k0_pay3 (F := Ideal) (k0_pay22 x f d) (k0_pay26 x f d g t g) (k0_pay27 x f d g t g) (ix2 a b)
    = ((dxR (Y a.val) (ctR G (Y a.val) (T a.val)) b.val : ℝ) : EReal) := by
  have h := dx_pay G Y T h21 hg ht
  pointwise [k0_pay3]
  rw [h, emb2_apply]

theorem dxb_at (a : Fin 256) (b : Fin 1024) : k0_pay4 (F := Ideal) (k0_pay22 x f d) (k0_pay26 x f d g t g) (k0_pay27 x f d g t g) (ix2 a b)
    = ((dxR (Y a.val) (ctR G (Y a.val) (T a.val)) b.val : ℝ) : EReal) := by
  have h := dx_pay G Y T h21 hg ht
  pointwise [k0_pay4]
  rw [h, emb2_apply]

/-- What the body adds to the loss's columns. -/
theorem loss_at (acc : FVec Ideal S1x1024 .f32) (a : Fin 1) (b : Fin 1024) : k0_pay25 (F := Ideal) x f d g t acc (ix2 a b)
    = acc (ix2 a b) + ((∑ r : Fin 256, errR G (Y r.val) (T r.val) b.val * errR G (Y r.val) (T r.val) b.val : ℝ) : EReal) := by
  have h := pay24 G Y T h21 hg ht
  pointwise [k0_pay25]
  rw [h]
  simp only [emb2_apply, ← EReal.coe_mul, ← coe_sum]

/-- What the body adds to the gain's gradient. -/
theorem dg_at (acc : FVec Ideal S1x1024 .f32) (a : Fin 1) (b : Fin 1024) : k0_pay2 (F := Ideal) (k0_pay23 x f d) (k0_pay24 x f d g t) acc (ix2 a b)
    = acc (ix2 a b) + (((∑ r : Fin 256, errR G (Y r.val) (T r.val) b.val * (Y r.val b.val * rsR (Y r.val))) * (1 / 1024) : ℝ) : EReal) := by
  rw [pay23 Y h21, pay24 G Y T h21 hg ht]
  pointwise [k0_pay2]
  rw [inv_width_word]
  simp only [emb2_apply, ← EReal.coe_mul, ← coe_sum]

end behind

end Cert.Loss

end
-- ==== Proof.LossKernel.lean ====
/- What the loss kernel leaves in its six results, on arguments that hold reals. -/
module

public import proofs.«01_k».proof.Proof.LossPay
public import proofs.«01_k».proof.Proof.Gen.LossKernelIdeal.Value
public import proofs.«01_k».proof.Proof.PoolKernel
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.Loss

open Idealize.ShloMosaic Idealize.ShloMosaic.TcCoe Idealize.SL.Sem Cert.LossKernelIdeal Cert.LossKernelIdeal.Gen Cert.Reals Cert.Norm
open Idealize.ShloMosaic.Pipeline (Dat)

variable (m : (ℓ : Loc nD τ sig) → Buf (Elt Ideal) ℓ)
-- the reals the arguments hold: the stream, the target, the two weights, the two gains
variable (X T : ℕ → ℕ → ℕ → ℝ) (U D : ℕ → ℕ → ℝ) (G2 G : ℕ → ℝ)

/-- The kernel's arguments hold these reals on core `c`. -/
structure Holds (c : Dev nD) : Prop where
  x : ∀ (b : Fin 4) (s : Fin 2048) (k : Fin 1024), m ((c : Thread nD τ).loc main_arg0) (ix3 b s k) = ((X b.val s.val k.val : ℝ) : EReal)
  g2 : ∀ (a : Fin 1) (k : Fin 1024), m ((c : Thread nD τ).loc main_arg1) (ix2 a k) = ((G2 k.val : ℝ) : EReal)
  u : ∀ (a : Fin 1) (k : Fin 1024) (l : Fin 4096), m ((c : Thread nD τ).loc main_arg2) (ix3 a k l) = ((U k.val l.val : ℝ) : EReal)
  d : ∀ (a : Fin 1) (l : Fin 4096) (k : Fin 1024), m ((c : Thread nD τ).loc main_arg3) (ix3 a l k) = ((D l.val k.val : ℝ) : EReal)
  g : ∀ (k : Fin 1024), m ((c : Thread nD τ).loc main_arg4) (ix1 k) = ((G k.val : ℝ) : EReal)
  t : ∀ (b : Fin 4) (s : Fin 2048) (k : Fin 1024), m ((c : Thread nD τ).loc main_arg5) (ix3 b s k) = ((T b.val s.val k.val : ℝ) : EReal)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0] :=
  (by decide +kernel : ∀ t : Fin grid0.N, _)

/-- Row `r` of the flattened batch. -/
def flat (Y : ℕ → ℕ → ℕ → ℝ) (r k : ℕ) : ℝ := Y (r / 2048) (r % 2048) k

/-- A row of the normalised stream times its gain: the layer's input. -/
def hR (G2 : ℕ → ℝ) (x : ℕ → ℝ) (k : ℕ) : ℝ := x k * rsR x * G2 k

variable {m X T U D G2 G} {c : Dev nD} (H : Holds m X T U D G2 G c)
include H

theorem V_x : V m c main_v4 = emb2 (n := 8192) (m := 1024) (flat X) := by
  entry_read
  funext (j : S8192x1024.Idx)
  idx_vars j
  pointwise []
  exact H.x _ _ _

theorem V_t : V m c main_v21 = emb2 (n := 8192) (m := 1024) (flat T) := by
  entry_read
  funext (j : S8192x1024.Idx)
  idx_vars j
  pointwise []
  exact H.t _ _ _

theorem V_u : V m c main_v1 = emb2 (n := 1024) (m := 4096) U := by
  entry_read
  funext (j : S1024x4096.Idx)
  idx_vars j
  pointwise []
  exact H.u _ _ _

theorem V_d : V m c main_v3 = emb2 (n := 4096) (m := 1024) D := by
  entry_read
  funext (j : S4096x1024.Idx)
  idx_vars j
  pointwise []
  exact H.d _ _ _

theorem V_g : V m c main_v20 = emb2 (n := 1) (m := 1024) fun _ => G := by
  entry_read
  funext (j : S1x1024.Idx)
  idx_vars j
  pointwise []
  exact H.g _

theorem V_h : V m c main_v19 = emb2 (n := 8192) (m := 1024) fun r => hR G2 (flat X r) := by
  entry_read
  funext (j : S8192x1024.Idx)
  idx_vars j
  pointwise []
  have hx : ∀ (b : Fin 4) (s : Fin 2048) (k : Fin 1024), (m (c, Proc.tc.devRef main_arg0) : FVec Ideal S4x2048x1024 .f32) (ix3 b s k) = ((X b.val s.val k.val : ℝ) : EReal) := H.x
  have hg : ∀ (a : Fin 1) (k : Fin 1024), (m (c, Proc.tc.devRef main_arg1) : FVec Ideal S1x1024 .f32) (ix2 a k) = ((G2 k.val : ℝ) : EReal) := H.g2
  have e := ms_coe (flat X j0.val)
  unfold flat at e
  simp only [hx, hg]
  rw [width_word, eps_word, e, rsqrt_ms]
  simp only [emb2_apply, hR, EReal.coe_mul]
  rfl

omit H in
/-- Row `r` of the rows of grid point `t`. -/
def tile (Y : ℕ → ℕ → ℕ → ℝ) (t r k : ℕ) : ℝ := flat Y (t * 256 + r) k

theorem ld_h (t : Fin cfg0.N) : iblk m c 0 t = emb2 (n := 256) (m := 1024) fun r => hR G2 (tile X t.val r) := by
  unfold iblk
  rw [show V m c (Pipeline.arrRef spec0 0) = _ from V_h H]
  funext (j : S256x1024.Idx)
  idx_vars j
  blk_simp [emb2, idx t]
  rfl

theorem ld_x (t : Fin cfg0.N) : iblk m c 1 t = emb2 (n := 256) (m := 1024) (tile X t.val) := by
  unfold iblk
  rw [show V m c (Pipeline.arrRef spec0 1) = _ from V_x H]
  funext (j : S256x1024.Idx)
  idx_vars j
  blk_simp [emb2, idx t]
  rfl

theorem ld_t (t : Fin cfg0.N) : iblk m c 5 t = emb2 (n := 256) (m := 1024) (tile T t.val) := by
  unfold iblk
  rw [show V m c (Pipeline.arrRef spec0 5) = _ from V_t H]
  funext (j : S256x1024.Idx)
  idx_vars j
  blk_simp [emb2, idx t]
  rfl

theorem ld_d (t : Fin cfg0.N) : iblk m c 3 t = emb2 (n := 4096) (m := 1024) D := by
  unfold iblk
  rw [show V m c (Pipeline.arrRef spec0 3) = _ from V_d H]
  funext (j : S4096x1024.Idx)
  idx_vars j
  blk_simp [emb2, idx t]

theorem ld_g (t : Fin cfg0.N) : iblk m c 4 t = emb2 (n := 1) (m := 1024) fun _ k => G k := by
  unfold iblk
  rw [show V m c (Pipeline.arrRef spec0 4) = _ from V_g H]
  funext (j : S1x1024.Idx)
  idx_vars j
  blk_simp [emb2, idx t]

theorem ld_uw (t : Fin cfg0.N) : iblk m c 2 t = emb2 (n := 1024) (m := 4096) U := by
  unfold iblk
  rw [show V m c (Pipeline.arrRef spec0 2) = _ from V_u H]
  funext (j : S1024x4096.Idx)
  idx_vars j
  blk_simp [emb2, idx t]

/-- A quarter of the hidden width's weights. -/
theorem ld_u (t : Fin cfg0.N) (o : ℕ) (inb : ∀ a, (![0, o] : Fin 2 → ℕ) a + (![1024, 1024] : Fin 2 → ℕ) a ≤ S1024x4096.size a) :
    View.ld (Val := Elt Ideal) (S := S1024x4096) (e' := .bf16) (iblk m c 2 t) (Rect.unit (s := S1024x4096) ![0, o] ![1024, 1024] inb)
      = emb2 (n := 1024) (m := 1024) fun k l => U k (o + l) := by
  rw [ld_uw H t]
  funext (j : S1024x1024.Idx)
  idx_vars j
  pointwise []
  first | rfl | (simp only [emb2]; rfl)

omit H in
/-- The four stores of the squares. -/
def squares (m : (ℓ : Loc nD τ sig) → Buf (Elt Ideal) ℓ) (c : Dev nD) (t : Fin cfg0.N) : List (View.Piece (Elt Ideal) S256x4096 .bf16) :=
  [⟨Rect.unit ![0, 3072] ![256, 1024] inb_S256x4096_S256x1024_0_3072,
      k0_pay19 (k0_pay7 (iblk m c 0 t)) (View.ld (iblk m c 2 t) (Rect.unit ![0, 3072] ![1024, 1024] inb_S1024x4096_S1024x1024_0_3072))⟩,
    ⟨Rect.unit ![0, 2048] ![256, 1024] inb_S256x4096_S256x1024_0_2048,
      k0_pay16 (k0_pay7 (iblk m c 0 t)) (View.ld (iblk m c 2 t) (Rect.unit ![0, 2048] ![1024, 1024] inb_S1024x4096_S1024x1024_0_2048))⟩,
    ⟨Rect.unit ![0, 1024] ![256, 1024] inb_S256x4096_S256x1024_0_1024,
      k0_pay13 (iblk m c 0 t) (View.ld (iblk m c 2 t) (Rect.unit ![0, 1024] ![1024, 1024] inb_S1024x4096_S1024x1024_0_1024))⟩,
    ⟨Rect.unit ![0, 0] ![256, 1024] inb_S256x4096_S256x1024_0_0,
      k0_pay10 (iblk m c 0 t) (View.ld (iblk m c 2 t) (Rect.unit ![0, 0] ![1024, 1024] inb_S1024x4096_S1024x1024_0_0))⟩]

omit H in
/-- An array of reals at a place of one of its tiles. -/
theorem emb2_tile {n w n' w' : ℕ} (f : ℕ → ℕ → ℝ) (o : ℕ) (x : (⟨2, ![n, w]⟩ : Shape).Idx) (y : (⟨2, ![n', w']⟩ : Shape).Idx) (h0 : (y 0).val = (x 0).val) (h1 : (y 1).val = o + (x 1).val) :
    (emb2 fun r l => f r (o + l)) x = emb2 f y := by
  unfold emb2
  rw [h0, h1]

theorem squares_eq (t : Fin cfg0.N) : View.canon (squares m c t) = emb2 (n := 256) (m := 4096) fun r l => fR U (hR G2 (tile X t.val r)) l := by
  funext (y : S256x4096.Idx)
  unfold squares
  canon_tiles x hx
  · exact (congrFun ((square17 _ _).trans (square8 U _ 3072 (ld_h H t) (ld_u H t 3072 _))) x).trans (emb2_tile _ 3072 x y hx0 hx1)
  · exact (congrFun ((square14 _ _).trans (square8 U _ 2048 (ld_h H t) (ld_u H t 2048 _))) x).trans (emb2_tile _ 2048 x y hx0 hx1)
  · exact (congrFun ((square11 _ _).trans (square8 U _ 1024 (ld_h H t) (ld_u H t 1024 _))) x).trans (emb2_tile _ 1024 x y hx0 hx1)
  · exact (congrFun (square8 U _ 0 (ld_h H t) (ld_u H t 0 _)) x).trans (emb2_tile _ 0 x y hx0 (by omega))

/-- The squares read back whole. -/
theorem squares_back (t : Fin cfg0.N) {sp : Space} (v : View sig .tc sp S256x4096 .bf16) :
    v.readCov (squares m c t) (Rect.unit (s := S256x4096) ![0, 0] ![256, 4096] inb_S256x4096_S256x4096_0_0).toLoadRect
      = emb2 (n := 256) (m := 4096) fun r l => fR U (hR G2 (tile X t.val r)) l := by
  rw [View.readCov_eq_canon', squares_eq H t]
  funext y
  exact congrArg _ (Rect.emb_unit_full (s := S256x4096) inb_S256x4096_S256x4096_0_0 y)

/-- What a grid point leaves of the slopes. -/
theorem slopes (t : Fin cfg0.N) : (outsAt0 m c t.val t.isLt).1 = emb2 (n := 256) (m := 4096) fun r l => sR U (hR G2 (tile X t.val r)) l := by
  funext y
  rcases Nat.eq_zero_or_pos (t.val % 32) with h | h
  on_goal 1 => rw [outsAt0_A m c t h]
  on_goal 2 => rw [outsAt0_B m c t (Nat.ne_of_gt h)]
  all_goals
    frame_out
    canon_tiles x hx
    · exact (congrFun ((slope17 _ _).trans (slope8 U _ 3072 (ld_h H t) (ld_u H t 3072 _))) x).trans (emb2_tile _ 3072 x y hx0 hx1)
    · exact (congrFun ((slope14 _ _).trans (slope8 U _ 2048 (ld_h H t) (ld_u H t 2048 _))) x).trans (emb2_tile _ 2048 x y hx0 hx1)
    · exact (congrFun ((slope11 _ _).trans (slope8 U _ 1024 (ld_h H t) (ld_u H t 1024 _))) x).trans (emb2_tile _ 1024 x y hx0 hx1)
    · exact (congrFun (slope8 U _ 0 (ld_h H t) (ld_u H t 0 _)) x).trans (emb2_tile _ 0 x y hx0 (by omega))

/-- What a grid point leaves of the squares. -/
theorem squares_out (t : Fin cfg0.N) : (outsAt0 m c t.val t.isLt).2.1 = emb2 (n := 256) (m := 4096) fun r l => fR U (hR G2 (tile X t.val r)) l := by
  rcases Nat.eq_zero_or_pos (t.val % 32) with h | h
  on_goal 1 => rw [outsAt0_A m c t h]
  on_goal 2 => rw [outsAt0_B m c t (Nat.ne_of_gt h)]
  all_goals
    frame_out
    exact squares_eq H t

theorem final6 : (dats m 0 c).arrAt 6 cfg0.N = emb2 (n := 8192) (m := 4096) fun r l => sR U (hR G2 (flat X r)) l := by
  refine (dats m 0 c).arrAt_eq_of_covers 6 _ (by decide +kernel) fun t hf y => ?_
  blk_simp
  rw [after0_6]
  refine (congrFun (slopes H t) y).trans ?_
  idx_vars y
  blk_simp [emb2, idx t]
  rfl

theorem final7 : (dats m 0 c).arrAt 7 cfg0.N = emb2 (n := 8192) (m := 4096) fun r l => fR U (hR G2 (flat X r)) l := by
  refine (dats m 0 c).arrAt_eq_of_covers 7 _ (by decide +kernel) fun t hf y => ?_
  blk_simp
  rw [after0_7]
  refine (congrFun (squares_out H t) y).trans ?_
  idx_vars y
  blk_simp [emb2, idx t]
  rfl

omit H in
/-- The stream behind the layer, a row. -/
def rowR (U D : ℕ → ℕ → ℝ) (G2 x : ℕ → ℝ) : ℕ → ℝ := x3R U D (hR G2 x) x

/-- The stream behind the layer, on a grid point's rows. -/
theorem stream (t : Fin cfg0.N) {sp : Space} (v : View sig .tc sp S256x4096 .bf16) :
    k0_pay21 (F := Ideal) (k0_pay20 (iblk m c 1 t)) (v.readCov (squares m c t) (Rect.unit (s := S256x4096) ![0, 0] ![256, 4096] inb_S256x4096_S256x4096_0_0).toLoadRect) (iblk m c 3 t)
      = emb2 fun r k => rowR U D G2 (tile X t.val r) k :=
  pay21 U D _ _ (ld_x H t) (squares_back H t v) (ld_d H t)

omit H in
/-- The stream's gradient, row by row. -/
def dxA (X T : ℕ → ℕ → ℕ → ℝ) (U D : ℕ → ℕ → ℝ) (G2 G : ℕ → ℝ) (r k : ℕ) : ℝ :=
  dxR (rowR U D G2 (flat X r)) (ctR G (rowR U D G2 (flat X r)) (flat T r)) k

theorem final8 : (dats m 0 c).arrAt 8 cfg0.N = emb2 (n := 8192) (m := 1024) (dxA X T U D G2 G) := by
  refine (dats m 0 c).arrAt_eq_of_covers 8 _ (by decide +kernel) fun t hf y => ?_
  blk_simp
  rw [after0_8]
  rcases Nat.eq_zero_or_pos (t.val % 32) with h | h
  on_goal 1 => rw [outsAt0_A m c t h]
  on_goal 2 => rw [outsAt0_B m c t (Nat.ne_of_gt h)]
  all_goals
    frame_out
    idx_vars y
    refine (dx_at G _ (tile T t.val) (stream H t _) (ld_g H t) (ld_t H t) y0 y1).trans ?_
    blk_simp [emb2, idx t]
    rfl

theorem final9 : (dats m 0 c).arrAt 9 cfg0.N = emb2 (n := 8192) (m := 1024) (dxA X T U D G2 G) := by
  refine (dats m 0 c).arrAt_eq_of_covers 9 _ (by decide +kernel) fun t hf y => ?_
  blk_simp
  rw [after0_9]
  rcases Nat.eq_zero_or_pos (t.val % 32) with h | h
  on_goal 1 => rw [outsAt0_A m c t h]
  on_goal 2 => rw [outsAt0_B m c t (Nat.ne_of_gt h)]
  all_goals
    frame_out
    idx_vars y
    refine (dxb_at G _ (tile T t.val) (stream H t _) (ld_g H t) (ld_t H t) y0 y1).trans ?_
    blk_simp [emb2, idx t]
    rfl

omit H in
/-- A row's squared distance to the target, in one column. -/
def sqR (U D : ℕ → ℕ → ℝ) (G2 G x t : ℕ → ℝ) (k : ℕ) : ℝ := errR G (rowR U D G2 x) t k * errR G (rowR U D G2 x) t k

omit H in
/-- A row's part of the gain's gradient, in one column, not yet weighed. -/
def gnR (U D : ℕ → ℕ → ℝ) (G2 G x t : ℕ → ℝ) (k : ℕ) : ℝ := errR G (rowR U D G2 x) t k * (rowR U D G2 x k * rsR (rowR U D G2 x))

omit H in
/-- What a grid point adds to the loss's columns. -/
def lossT (X T : ℕ → ℕ → ℕ → ℝ) (U D : ℕ → ℕ → ℝ) (G2 G : ℕ → ℝ) (t k : ℕ) : ℝ := ∑ r : Fin 256, sqR U D G2 G (tile X t r.val) (tile T t r.val) k

omit H in
/-- What a grid point adds to the gain's gradient. -/
def dgT (X T : ℕ → ℕ → ℕ → ℝ) (U D : ℕ → ℕ → ℝ) (G2 G : ℕ → ℝ) (t k : ℕ) : ℝ := (∑ r : Fin 256, gnR U D G2 G (tile X t r.val) (tile T t r.val) k) * (1 / 1024)

omit H in
/-- The last grid point. -/
def lastPt : Fin cfg0.N := ⟨31, by show 31 < grid0.N; rw [N_0]; decide⟩

theorem step10 (t : Fin cfg0.N) (h : ¬ t.val % 32 = 0) (y : S1x1024.Idx) :
    (outsAt0 m c t.val t.isLt).2.2.2.2.1 y = (outsAt0 m c (t.val - 1) (Nat.lt_of_le_of_lt (Nat.sub_le _ _) t.isLt)).2.2.2.2.1 y + ((lossT X T U D G2 G t.val (y 1).val : ℝ) : EReal) := by
  rw [outsAt0_B m c t h]
  frame_out
  idx_vars y
  exact loss_at G _ (tile T t.val) (stream H t _) (ld_g H t) (ld_t H t) _ y0 y1

theorem base10 (t : Fin cfg0.N) (h : t.val % 32 = 0) (y : S1x1024.Idx) :
    (outsAt0 m c t.val t.isLt).2.2.2.2.1 y = 0 + ((lossT X T U D G2 G t.val (y 1).val : ℝ) : EReal) := by
  rw [outsAt0_A m c t h]
  frame_out
  idx_vars y
  refine (loss_at G _ (tile T t.val) (stream H t _) (ld_g H t) (ld_t H t) _ y0 y1).trans ?_
  exact congrArg (· + _) (show (k0_pay5 (F := Ideal) : FVec Ideal S1x1024 .f32) (ix2 y0 y1) = 0 by pointwise [k0_pay5])

theorem final10 : (dats m 0 c).arrAt 10 cfg0.N = fun y : S1x1024.Idx => ((∑ t : Fin 32, lossT X T U D G2 G t.val (y 1).val : ℝ) : EReal) := by
  refine (dats m 0 c).arrAt_eq_of_after_last 10 lastPt (by decide +kernel) _ fun y => ?_
  blk_simp
  rw [after0_10, Pipeline.eq_sum_fin_of_reset_step_apply_last (fun n h => (outsAt0 m c n h).2.2.2.2.1) 32 (fun _ => 0) (fun p y => ((lossT X T U D G2 G p.val (y 1).val : ℝ) : EReal))
    (fun t h y => base10 H t h y) (fun t h y => step10 H t h y) (le_of_eq N_0) lastPt rfl y, zero_add]
  rw [coe_sum]
  rfl

theorem step11 (t : Fin cfg0.N) (h : ¬ t.val % 32 = 0) (y : S1x1024.Idx) :
    (outsAt0 m c t.val t.isLt).2.2.2.2.2 y = (outsAt0 m c (t.val - 1) (Nat.lt_of_le_of_lt (Nat.sub_le _ _) t.isLt)).2.2.2.2.2 y + ((dgT X T U D G2 G t.val (y 1).val : ℝ) : EReal) := by
  rw [outsAt0_B m c t h]
  frame_out
  idx_vars y
  exact dg_at G _ (tile T t.val) (stream H t _) (ld_g H t) (ld_t H t) _ y0 y1

theorem base11 (t : Fin cfg0.N) (h : t.val % 32 = 0) (y : S1x1024.Idx) :
    (outsAt0 m c t.val t.isLt).2.2.2.2.2 y = 0 + ((dgT X T U D G2 G t.val (y 1).val : ℝ) : EReal) := by
  rw [outsAt0_A m c t h]
  frame_out
  idx_vars y
  refine (dg_at G _ (tile T t.val) (stream H t _) (ld_g H t) (ld_t H t) _ y0 y1).trans ?_
  exact congrArg (· + _) (show (k0_pay6 (F := Ideal) : FVec Ideal S1x1024 .f32) (ix2 y0 y1) = 0 by pointwise [k0_pay6])

theorem final11 : (dats m 0 c).arrAt 11 cfg0.N = fun y : S1x1024.Idx => ((∑ t : Fin 32, dgT X T U D G2 G t.val (y 1).val : ℝ) : EReal) := by
  refine (dats m 0 c).arrAt_eq_of_after_last 11 lastPt (by decide +kernel) _ fun y => ?_
  blk_simp
  rw [after0_11, Pipeline.eq_sum_fin_of_reset_step_apply_last (fun n h => (outsAt0 m c n h).2.2.2.2.2) 32 (fun _ => 0) (fun p y => ((dgT X T U D G2 G p.val (y 1).val : ℝ) : EReal))
    (fun t h y => base11 H t h y) (fun t h y => step11 H t h y) (le_of_eq N_0) lastPt rfl y, zero_add]
  rw [coe_sum]
  rfl

end Cert.Loss

end
-- ==== Proof.LossRef.lean ====
/- What the forward layer, the loss and differentiating it compute on arguments that hold reals. -/
module

public import proofs.«01_k».proof.Proof.LossKernel
public import proofs.«01_k».proof.Proof.RealOps
public import proofs.«01_k».proof.Proof.Gen.LossReferenceIdeal.Read

@[expose] public section

set_option maxRecDepth 16384

noncomputable section

namespace Cert.LossRef

open Idealize.ShloMosaic Idealize.ShloMosaic.TcCoe Cert.LossReferenceIdeal Cert.LossReferenceIdeal.Read Cert.Reals Cert.Norm Cert.Loss

theorem two_word : Ideal.ofBits FTy.f32 0x40000000#32 = ((2 : ℝ) : EReal) := by
  simp [Ideal.ofBits, Ideal.ieee]
  rw [← EReal.coe_mul]
  norm_num

theorem one_word : Ideal.ofBits FTy.f32 0x3F800000#32 = ((1 : ℝ) : EReal) := by
  simp [Ideal.ofBits, Ideal.ieee]
  rw [← EReal.coe_mul]
  norm_num

theorem half_pos_word : Ideal.ofBits FTy.f32 0x3F000000#32 = ((1 / 2 : ℝ) : EReal) := by
  simp [Ideal.ofBits, Ideal.ieee]
  rw [← EReal.coe_mul]
  norm_num

/-- Twice the rectified value where the value is positive, zero elsewhere, is twice the rectified value. -/
theorem twice_where {a : ℝ} {x y : EReal} [Decidable (0 < x)] (hx : x = (a : EReal)) (hy : y = ((max a 0 : ℝ) : EReal)) :
    (if 0 < x then ((2 : ℝ) : EReal) * y else 0) = ((max a 0 + max a 0 : ℝ) : EReal) := by
  subst hx hy
  rcases lt_or_ge 0 a with h0 | h0
  · rw [if_pos (EReal.coe_pos.mpr h0), ← EReal.coe_mul, two_mul]
  · rw [if_neg (fun h1 => not_lt.mpr h0 (EReal.coe_pos.mp h1)), max_eq_right h0, add_zero, EReal.coe_zero]

variable (X T : ℕ → ℕ → ℕ → ℝ) (U D : ℕ → ℕ → ℝ) (G2 G : ℕ → ℝ)

/-- The stream, as an array. -/
abbrev argX : FVec Ideal S4x2048x1024 .f32 := emb3 X
/-- The layer's gain, as an array. -/
abbrev argG2 : FVec Ideal S1x1024 .f32 := emb2 fun _ => G2
/-- The weights into the hidden width, as an array. -/
abbrev argU : FVec Ideal S1x1024x4096 .f32 := emb3 fun _ => U
/-- The weights out of it, as an array. -/
abbrev argD : FVec Ideal S1x4096x1024 .f32 := emb3 fun _ => D
/-- The last norm's gain, as an array. -/
abbrev argG : FVec Ideal S1024 .f32 := emb1 G
/-- The target, as an array. -/
abbrev argT : FVec Ideal S4x2048x1024 .f32 := emb3 T

theorem hidden : val_main_v13 (F := Ideal) (argX X) (argG2 G2) = emb3 fun b s => hR G2 (X b s) := by
  funext j
  idx_vars j
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [emb3_apply, emb2_apply]
  rw [width_word, eps_word, ms_coe (X j0.val j1.val), rsqrt_ms]
  simp only [hR, EReal.coe_mul]

theorem unit : val_main_v15 (F := Ideal) (argX X) (argG2 G2) (argU U) = emb3 fun b s l => ∑ k : Fin 1024, hR G2 (X b s) k.val * U k.val l := by
  have h := hidden X G2
  funext j
  idx_vars j
  pointwise [val_main_v15, val_main_v14]
  rw [h]
  simp only [emb3_apply, ← EReal.coe_mul, ← coe_sum]

theorem rectified : val_main_v16 (F := Ideal) (argX X) (argG2 G2) (argU U) = emb3 fun b s => rR U (hR G2 (X b s)) := by
  have h := unit X U G2
  funext j
  idx_vars j
  pointwise [val_main_v16, val_main_call0_v0, val_main_call0_cst]
  rw [h]
  exact coe_max _ _

theorem square : val_main_v17 (F := Ideal) (argX X) (argG2 G2) (argU U) = emb3 fun b s => fR U (hR G2 (X b s)) := by
  have h := rectified X U G2
  funext j
  idx_vars j
  pointwise [val_main_v17]
  rw [h]
  simp only [emb3_apply, ← EReal.coe_mul]
  rfl

theorem slope : val_main_v30 (F := Ideal) (argX X) (argG2 G2) (argU U) = emb3 fun b s => sR U (hR G2 (X b s)) := by
  have h : val_main_v19 (F := Ideal) (argX X) (argG2 G2) (argU U) = _ := unit X U G2
  have h' : val_main_v20 (F := Ideal) (argX X) (argG2 G2) (argU U) = _ := rectified X U G2
  funext j
  idx_vars j
  pointwise [val_main_v30, val_main_v29, val_main_v28, val_main_v27, val_main_v26, val_main_v25, val_main_v22, val_main_v21, val_main_cst_2, val_main_cst_4, val_main_cst_5, val_main_cst_6]
  rw [h, h', two_word]
  exact twice_where rfl rfl

theorem stream : val_main_v33 (F := Ideal) (argX X) (argG2 G2) (argU U) (argD D) = emb3 fun b s => rowR U D G2 (X b s) := by
  have h := square X U G2
  funext j
  idx_vars j
  pointwise [val_main_v33, val_main_v32, val_main_v31]
  rw [h]
  simp only [emb3_apply, ← EReal.coe_mul, ← coe_sum, ← EReal.coe_add]
  rfl

theorem ms : val_main_v40 (F := Ideal) (argX X) (argG2 G2) (argU U) (argD D) = emb3 fun b s _ => msR (rowR U D G2 (X b s)) := by
  have h := stream X U D G2
  funext j
  idx_vars j
  pointwise [val_main_v40, val_main_v39, val_main_v38, val_main_v37, val_main_v36, val_main_v35, val_main_v34, val_main_cst_7, val_main_cst_8, val_main_cst_9]
  rw [h]
  simp only [emb3_apply]
  rw [width_word, eps_word, ms_coe (rowR U D G2 (X j0.val j1.val))]

theorem rs : val_main_v41 (F := Ideal) (argX X) (argG2 G2) (argU U) (argD D) = emb3 fun b s _ => rsR (rowR U D G2 (X b s)) := by
  have h := ms X U D G2
  funext j
  idx_vars j
  pointwise [val_main_v41]
  rw [h]
  exact rsqrt_ms _

theorem fall : val_main_v44 (F := Ideal) (argX X) (argG2 G2) (argU U) (argD D)
    = emb3 fun b s _ => -(1 / 2) * (rsR (rowR U D G2 (X b s)) / msR (rowR U D G2 (X b s))) := by
  have h := ms X U D G2
  have h' := rs X U D G2
  funext j
  idx_vars j
  pointwise [val_main_v44, val_main_v43, val_main_v42, val_main_cst_10]
  rw [h, h', half_word]
  simp only [emb3_apply]
  rw [div_coe _ _ (ms_pos _).ne', ← EReal.coe_mul]

theorem normed : val_main_v46 (F := Ideal) (argX X) (argG2 G2) (argU U) (argD D)
    = emb3 fun b s k => rowR U D G2 (X b s) k * rsR (rowR U D G2 (X b s)) := by
  have h := stream X U D G2
  have h' := rs X U D G2
  funext j
  idx_vars j
  pointwise [val_main_v46, val_main_v45]
  rw [h, h']
  simp only [emb3_apply, EReal.coe_mul]

theorem err : val_main_v50 (F := Ideal) (argX X) (argG2 G2) (argU U) (argD D) (argG G) (argT T)
    = emb3 fun b s => errR G (rowR U D G2 (X b s)) (T b s) := by
  have h := normed X U D G2
  funext j
  idx_vars j
  pointwise [val_main_v50, val_main_v49, val_main_v48, val_main_v47]
  rw [h]
  simp only [emb3_apply, emb1_apply, errR, EReal.coe_mul, EReal.coe_sub]

theorem weighed : val_main_v64 (F := Ideal) (argX X) (argG2 G2) (argU U) (argD D) (argG G) (argT T)
    = emb3 fun b s k => errR G (rowR U D G2 (X b s)) (T b s) k * (1 / 1024) := by
  have h := err X T U D G2 G
  funext j
  idx_vars j
  pointwise [val_main_v64, val_main_v63, val_main_v62, val_main_v61, val_main_v60, val_main_v59, val_main_v53, val_main_v52, val_main_cst_11, val_main_cst_16, val_main_cst_17, val_main_cst_18]
  rw [h, two_word, half_pos_word, width_word]
  simp only [emb3_apply]
  rw [div_coe _ _ (by norm_num), ← EReal.coe_mul, ← EReal.coe_mul]
  refine congrArg _ ?_
  ring

theorem ct : val_main_v69 (F := Ideal) (argX X) (argG2 G2) (argU U) (argD D) (argG G) (argT T)
    = emb3 fun b s => ctR G (rowR U D G2 (X b s)) (T b s) := by
  have h := weighed X T U D G2 G
  funext j
  idx_vars j
  pointwise [val_main_v69, val_main_v68, val_main_v47]
  rw [h]
  simp only [emb3_apply, emb1_apply, ← EReal.coe_mul]
  refine congrArg _ ?_
  unfold ctR
  ring

theorem coef : val_main_v80 (F := Ideal) (argX X) (argG2 G2) (argU U) (argD D) (argG G) (argT T)
    = emb3 fun b s _ => cR (rowR U D G2 (X b s)) (ctR G (rowR U D G2 (X b s)) (T b s)) := by
  have h := ct X T U D G2 G
  have h' := fall X U D G2
  have h'' := stream X U D G2
  funext j
  idx_vars j
  pointwise [val_main_v80, val_main_v79, val_main_v78, val_main_v77, val_main_v76, val_main_v73, val_main_v72, val_main_v71, val_main_cst_21, val_main_cst_22, val_main_cst_23]
  rw [h, h', h'', width_word]
  simp only [emb3_apply, ← EReal.coe_mul, ← coe_sum]
  rw [Fin.sum_univ_one, div_coe _ _ (by norm_num)]
  rfl

/-- The stream's gradient. -/
theorem dx : val_main_v84 (F := Ideal) (argX X) (argG2 G2) (argU U) (argD D) (argG G) (argT T)
    = emb3 fun b s => dxR (rowR U D G2 (X b s)) (ctR G (rowR U D G2 (X b s)) (T b s)) := by
  have h := ct X T U D G2 G
  have h' := coef X T U D G2 G
  have h'' := stream X U D G2
  have h₃ := rs X U D G2
  funext j
  idx_vars j
  pointwise [val_main_v84, val_main_v83, val_main_v82, val_main_v81, val_main_v75, val_main_v74]
  rw [h, h', h'', h₃]
  simp only [emb3_apply, ← EReal.coe_mul, ← EReal.coe_add]
  rw [dx_eq]

/-- The squared distances. -/
theorem sq : val_main_v99 (F := Ideal) (argX X) (argG2 G2) (argU U) (argD D) (argG G) (argT T)
    = emb3 fun b s => sqR U D G2 G (X b s) (T b s) := by
  have h : val_main_v98 (F := Ideal) (argX X) (argG2 G2) (argU U) (argD D) (argG G) (argT T) = _ := err X T U D G2 G
  funext j
  idx_vars j
  pointwise [val_main_v99]
  rw [h]
  simp only [emb3_apply, ← EReal.coe_mul]
  rfl

theorem slope_eq : val_main_v101 (F := Ideal) (argX X) (argG2 G2) (argU U) = emb2 (n := 8192) (m := 4096) fun r l => sR U (hR G2 (flat X r)) l := by
  have h := slope X U G2
  funext (j : S8192x4096.Idx)
  idx_vars j
  pointwise [val_main_v101, val_main_v100]
  rw [h]
  rfl

theorem square_eq : val_main_v103 (F := Ideal) (argX X) (argG2 G2) (argU U) = emb2 (n := 8192) (m := 4096) fun r l => fR U (hR G2 (flat X r)) l := by
  have h := square X U G2
  funext (j : S8192x4096.Idx)
  idx_vars j
  pointwise [val_main_v103, val_main_v102]
  rw [h]
  rfl

theorem dx_eq : val_main_v104 (F := Ideal) (argX X) (argG2 G2) (argU U) (argD D) (argG G) (argT T) = emb2 (n := 8192) (m := 1024) (dxA X T U D G2 G) := by
  have h := dx X T U D G2 G
  funext (j : S8192x1024.Idx)
  idx_vars j
  pointwise [val_main_v104]
  rw [h]
  rfl

theorem dxb_eq : val_main_v106 (F := Ideal) (argX X) (argG2 G2) (argU U) (argD D) (argG G) (argT T) = emb2 (n := 8192) (m := 1024) (dxA X T U D G2 G) := by
  have h := dx X T U D G2 G
  funext (j : S8192x1024.Idx)
  idx_vars j
  pointwise [val_main_v106, val_main_v105]
  rw [h]
  rfl

/-- The loss's columns. -/
theorem loss_eq : val_main_v108 (F := Ideal) (argX X) (argG2 G2) (argU U) (argD D) (argG G) (argT T)
    = fun y : S1x1024.Idx => ((∑ t : Fin 32, lossT X T U D G2 G t.val (y 1).val : ℝ) : EReal) := by
  have h := sq X T U D G2 G
  funext (j : S1x1024.Idx)
  idx_vars j
  pointwise [val_main_v108]
  unfold val_main_v107
  rw [sum_front _ (val_main_cst_27 (F := Ideal)) (by pointwise [val_main_cst_27]), h]
  simp only [emb3_apply, ← coe_sum]
  refine congrArg _ ?_
  unfold lossT tile flat
  rw [sum_batch 32 256 (by norm_num) fun b s => sqR U D G2 G (X b s) (T b s) j1.val]

/-- The gain's gradient. -/
theorem dg_eq : val_main_v109 (F := Ideal) (argX X) (argG2 G2) (argU U) (argD D) (argG G) (argT T)
    = fun y : S1x1024.Idx => ((∑ t : Fin 32, dgT X T U D G2 G t.val (y 1).val : ℝ) : EReal) := by
  have h := weighed X T U D G2 G
  have h' := normed X U D G2
  funext (j : S1x1024.Idx)
  idx_vars j
  pointwise [val_main_v109]
  unfold val_main_v70
  rw [sum_front _ (val_main_cst_20 (F := Ideal)) (by pointwise [val_main_cst_20]), Fin.sum_univ_one, Fin.sum_univ_one]
  pointwise [val_main_v67]
  unfold val_main_v66
  rw [sum_front _ (val_main_cst_19 (F := Ideal)) (by pointwise [val_main_cst_19])]
  pointwise [val_main_v65]
  rw [h, h']
  simp only [emb3_apply, ← EReal.coe_mul, ← coe_sum]
  refine congrArg _ ?_
  unfold dgT tile flat
  rw [← Finset.sum_mul, sum_batch 32 256 (by norm_num) fun b s => gnR U D G2 G (X b s) (T b s) j1.val, Finset.sum_mul]
  refine Finset.sum_congr rfl fun b _ => ?_
  rw [Finset.sum_mul]
  refine Finset.sum_congr rfl fun s _ => ?_
  unfold gnR
  ring

end Cert.LossRef

end
-- ==== Proof.LossClaim.lean ====
/- The layer, the loss and its gradient: kernel and reference leave equal arrays, on finite arguments. -/
module

public import proofs.«01_k».proof.Defs
public import proofs.«01_k».proof.Proof.Gen.Pre_finite_loss
public import proofs.«01_k».proof.Proof.Gen.LossReferenceIdeal.Run
public import proofs.«01_k».proof.Proof.LossRef
public import proofs.«01_k».proof.Proof.Finite
public import proofs.«01_k».proof.Proof.PoolClaim

@[expose] public section

set_option maxRecDepth 16384

noncomputable section

namespace Cert.Proof

open Idealize.ShloMosaic Idealize.SL.Sem Cert.Reals Cert.Loss

section loss

variable {m : (ℓ : Loc Cert.LossKernelIdeal.nD Cert.LossKernelIdeal.τ Cert.LossKernelIdeal.sig) → Buf (Elt Ideal) ℓ}

/-- The reals that the kernel's finite arguments hold. -/
theorem loss_holds (h : Cert.Pre_LossKernelIdeal_finite_loss m) (c : Dev Cert.LossKernelIdeal.nD) :
    ∃ X T U D G2 G, Loss.Holds m X T U D G2 G c
      ∧ m ((c.tc : Thread _ _).loc Cert.LossKernelIdeal.main_arg0) = LossRef.argX X
      ∧ m ((c.tc : Thread _ _).loc Cert.LossKernelIdeal.main_arg1) = LossRef.argG2 G2
      ∧ m ((c.tc : Thread _ _).loc Cert.LossKernelIdeal.main_arg2) = LossRef.argU U
      ∧ m ((c.tc : Thread _ _).loc Cert.LossKernelIdeal.main_arg3) = LossRef.argD D
      ∧ m ((c.tc : Thread _ _).loc Cert.LossKernelIdeal.main_arg4) = LossRef.argG G
      ∧ m ((c.tc : Thread _ _).loc Cert.LossKernelIdeal.main_arg5) = LossRef.argT T := by
  obtain ⟨h0, h1, h2, h3, h4, h5⟩ := h c
  have e0 := real3_eq (finite_of _ _ (fun _ => inf_word) h0)
  have e1 := (real2_eq (finite_of _ _ (fun _ => inf_word) h1)).trans (emb2_unit _)
  have e2 := (real3_eq (finite_of _ _ (fun _ => inf_word) h2)).trans (emb3_unit _)
  have e3 := (real3_eq (finite_of _ _ (fun _ => inf_word) h3)).trans (emb3_unit _)
  have e4 := real1_eq (finite_of _ _ (fun _ => inf_word) h4)
  have e5 := real3_eq (finite_of _ _ (fun _ => inf_word) h5)
  exact ⟨_, _, _, _, _, _, ⟨fun b s k => congrFun e0 (ix3 b s k), fun a k => congrFun e1 (ix2 a k), fun a k l => congrFun e2 (ix3 a k l),
    fun a l k => congrFun e3 (ix3 a l k), fun k => congrFun e4 (ix1 k), fun b s k => congrFun e5 (ix3 b s k)⟩, e0, e1, e2, e3, e4, e5⟩

/-- The reference's results are the kernel's. -/
theorem loss_values (h : Cert.Pre_LossKernelIdeal_finite_loss m) (c : Dev Cert.LossKernelIdeal.nD) :
    Cert.LossReferenceIdeal.Read.val_main_v101 (F := Ideal) (m ((c.tc : Thread _ _).loc Cert.LossKernelIdeal.main_arg0)) (m ((c.tc : Thread _ _).loc Cert.LossKernelIdeal.main_arg1)) (m ((c.tc : Thread _ _).loc Cert.LossKernelIdeal.main_arg2))
      = (Cert.LossKernelIdeal.Gen.dats m 0 c).arrAt 6 Cert.LossKernelIdeal.cfg0.N
    ∧ Cert.LossReferenceIdeal.Read.val_main_v103 (F := Ideal) (m ((c.tc : Thread _ _).loc Cert.LossKernelIdeal.main_arg0)) (m ((c.tc : Thread _ _).loc Cert.LossKernelIdeal.main_arg1)) (m ((c.tc : Thread _ _).loc Cert.LossKernelIdeal.main_arg2))
      = (Cert.LossKernelIdeal.Gen.dats m 0 c).arrAt 7 Cert.LossKernelIdeal.cfg0.N
    ∧ Cert.LossReferenceIdeal.Read.val_main_v104 (F := Ideal) (m ((c.tc : Thread _ _).loc Cert.LossKernelIdeal.main_arg0)) (m ((c.tc : Thread _ _).loc Cert.LossKernelIdeal.main_arg1)) (m ((c.tc : Thread _ _).loc Cert.LossKernelIdeal.main_arg2)) (m ((c.tc : Thread _ _).loc Cert.LossKernelIdeal.main_arg3)) (m ((c.tc : Thread _ _).loc Cert.LossKernelIdeal.main_arg4)) (m ((c.tc : Thread _ _).loc Cert.LossKernelIdeal.main_arg5))
      = (Cert.LossKernelIdeal.Gen.dats m 0 c).arrAt 8 Cert.LossKernelIdeal.cfg0.N
    ∧ Cert.LossReferenceIdeal.Read.val_main_v106 (F := Ideal) (m ((c.tc : Thread _ _).loc Cert.LossKernelIdeal.main_arg0)) (m ((c.tc : Thread _ _).loc Cert.LossKernelIdeal.main_arg1)) (m ((c.tc : Thread _ _).loc Cert.LossKernelIdeal.main_arg2)) (m ((c.tc : Thread _ _).loc Cert.LossKernelIdeal.main_arg3)) (m ((c.tc : Thread _ _).loc Cert.LossKernelIdeal.main_arg4)) (m ((c.tc : Thread _ _).loc Cert.LossKernelIdeal.main_arg5))
      = (Cert.LossKernelIdeal.Gen.dats m 0 c).arrAt 9 Cert.LossKernelIdeal.cfg0.N
    ∧ Cert.LossReferenceIdeal.Read.val_main_v108 (F := Ideal) (m ((c.tc : Thread _ _).loc Cert.LossKernelIdeal.main_arg0)) (m ((c.tc : Thread _ _).loc Cert.LossKernelIdeal.main_arg1)) (m ((c.tc : Thread _ _).loc Cert.LossKernelIdeal.main_arg2)) (m ((c.tc : Thread _ _).loc Cert.LossKernelIdeal.main_arg3)) (m ((c.tc : Thread _ _).loc Cert.LossKernelIdeal.main_arg4)) (m ((c.tc : Thread _ _).loc Cert.LossKernelIdeal.main_arg5))
      = (Cert.LossKernelIdeal.Gen.dats m 0 c).arrAt 10 Cert.LossKernelIdeal.cfg0.N
    ∧ Cert.LossReferenceIdeal.Read.val_main_v109 (F := Ideal) (m ((c.tc : Thread _ _).loc Cert.LossKernelIdeal.main_arg0)) (m ((c.tc : Thread _ _).loc Cert.LossKernelIdeal.main_arg1)) (m ((c.tc : Thread _ _).loc Cert.LossKernelIdeal.main_arg2)) (m ((c.tc : Thread _ _).loc Cert.LossKernelIdeal.main_arg3)) (m ((c.tc : Thread _ _).loc Cert.LossKernelIdeal.main_arg4)) (m ((c.tc : Thread _ _).loc Cert.LossKernelIdeal.main_arg5))
      = (Cert.LossKernelIdeal.Gen.dats m 0 c).arrAt 11 Cert.LossKernelIdeal.cfg0.N := by
  obtain ⟨X, T, U, D, G2, G, H, e0, e1, e2, e3, e4, e5⟩ := loss_holds h c
  refine ⟨?_, ?_, ?_, ?_, ?_, ?_⟩
  · rw [e0, e1, e2]
    exact (LossRef.slope_eq X U G2).trans (final6 H).symm
  · rw [e0, e1, e2]
    exact (LossRef.square_eq X U G2).trans (final7 H).symm
  · rw [e0, e1, e2, e3, e4, e5]
    exact (LossRef.dx_eq X T U D G2 G).trans (final8 H).symm
  · rw [e0, e1, e2, e3, e4, e5]
    exact (LossRef.dxb_eq X T U D G2 G).trans (final9 H).symm
  · rw [e0, e1, e2, e3, e4, e5]
    exact (LossRef.loss_eq X T U D G2 G).trans (final10 H).symm
  · rw [e0, e1, e2, e3, e4, e5]
    exact (LossRef.dg_eq X T U D G2 G).trans (final11 H).symm

end loss

/-- The reference ends with its arguments unchanged and, as it declares no semaphore, at rest. -/
theorem loss_reference_frame : Cert.quiescent_LossReferenceIdeal := fun m g _ =>
  (θ_run _ _ _).mono (fun r h => ⟨fun c => (h c).2.2.2.2.2.2, sem_eq_zero_of_no_sems (by decide) r.2⟩)
    (Cert.LossReferenceIdeal.Value.run (F := Ideal) m g)

/-- On finite arguments the kernel's six results are the reference's. -/
theorem loss_algebraic : Cert.algebraic_LossKernelIdeal_LossReferenceIdeal_pre_finite_loss := by
  intro m ρ m' ρ' hpre hagree
  refine ⟨fun c => (Cert.LossKernelIdeal.Gen.dats m 0 c).arrAt 6 Cert.LossKernelIdeal.cfg0.N, fun c => (Cert.LossKernelIdeal.Gen.dats m 0 c).arrAt 7 Cert.LossKernelIdeal.cfg0.N, fun c => (Cert.LossKernelIdeal.Gen.dats m 0 c).arrAt 8 Cert.LossKernelIdeal.cfg0.N, fun c => (Cert.LossKernelIdeal.Gen.dats m 0 c).arrAt 9 Cert.LossKernelIdeal.cfg0.N, fun c => (Cert.LossKernelIdeal.Gen.dats m 0 c).arrAt 10 Cert.LossKernelIdeal.cfg0.N, fun c => (Cert.LossKernelIdeal.Gen.dats m 0 c).arrAt 11 Cert.LossKernelIdeal.cfg0.N,
    Cert.LossKernelIdeal.Value.run_blocks m ρ, (θ_run _ _ _).mono (fun r h c => ?_) (Cert.LossReferenceIdeal.Value.run m' ρ')⟩
  obtain ⟨a0, a1, a2, a3, a4, a5⟩ := hagree c
  obtain ⟨r0, r1, r2, r3, r4, r5, rest⟩ := h c
  obtain ⟨p0, p1, p2, p3, p4, p5⟩ := loss_values hpre c
  refine ⟨r0.trans ?_, r1.trans ?_, r2.trans ?_, r3.trans ?_, r4.trans ?_, r5.trans ?_, rest⟩
  · refine (Cert.LossReferenceIdeal.Read.val_main_v101_eq _ _ _).trans ?_
    rw [a0, a1, a2]
    exact p0
  · refine (Cert.LossReferenceIdeal.Read.val_main_v103_eq _ _ _).trans ?_
    rw [a0, a1, a2]
    exact p1
  · refine (Cert.LossReferenceIdeal.Read.val_main_v104_eq _ _).trans ?_
    rw [a0, a1, a2, a3, a4, a5]
    exact p2
  · refine (Cert.LossReferenceIdeal.Read.val_main_v106_eq _ _).trans ?_
    rw [a0, a1, a2, a3, a4, a5]
    exact p3
  · refine (Cert.LossReferenceIdeal.Read.val_main_v108_eq _ _).trans ?_
    rw [a0, a1, a2, a3, a4, a5]
    exact p4
  · refine (Cert.LossReferenceIdeal.Read.val_main_v109_eq _ _).trans ?_
    rw [a0, a1, a2, a3, a4, a5]
    exact p5

end Cert.Proof
-- ==== Proof.MlpBase.lean ====
module

public import proofs.«01_k».proof.Proof.Gen.MlpKernelIdeal.Skeleton
public import proofs.«01_k».proof.Proof.Gen.MlpKernelIdeal.Frame
public import Idealize.ShloMosaic.Lib.Pipeline.FrameBody
public import Idealize.ShloMosaic.Lib.Pipeline.FrameValue
public import Idealize.ShloMosaic.Lib.Exec
public import Idealize.ShloMosaic.Lib.Ring
public import Idealize.ShloMosaic.Lib.Tactic
public import Idealize.ShloMosaic.Lib.WordCmp

@[expose] public section

-- the rectangles of production extents are walked one coordinate at a time
set_option maxRecDepth 16384

noncomputable section

namespace Cert.MlpKernelIdeal.Mlp

open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the assertions about the machine range over: the pipeline's own tokens and the counters of the body's copies. -/
abbrev Mdl (F : FTy → Type) [FloatOps F] := MT nD τ sig Unit (Elt F) ℕ (Pipeline.UD sig nD τ) ℕ

/-- The first branch is taken: the grid coordinate is zero. -/
abbrev isFirst (i : grid0.Coords) : Prop :=
  (Scalar.cmpi .ne (Scalar.extui (Scalar.cmpi .eq (BitVec.ofNat 32 (i 0).val) 0#32)) 0#32) = 1#1
/-- The last branch is taken: the grid coordinate is 31. -/
abbrev isLast (i : grid0.Coords) : Prop :=
  (Scalar.cmpi .ne (Scalar.extui (Scalar.cmpi .eq (BitVec.ofNat 32 (i 0).val) 31#32)) 0#32) = 1#1

theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [isFirst, e0]
    word_cmp
   : ∀ t : Fin grid0.N, isFirst (grid0.coords t) ↔ t.val = 0)

theorem isLast_iff : ∀ t : Fin cfg0.N, isLast (grid0.coords t) ↔ t.val = 31 :=
  (fun t => by
    have ht : t.val < 32 := Nat.lt_of_lt_of_eq t.isLt N_0
    have e0 : (grid0.coords t 0).val = t.val / 1 % 32 := Pipeline.Grid.coords_val t 0 (by decide) rfl
    simp only [isLast, e0]
    word_cmp
   : ∀ t : Fin grid0.N, isLast (grid0.coords t) ↔ t.val = 31)

abbrev V11 : View sig .tc .vmem S256x4096 .bf16 := (Memref.whole cc0_stg11_0 : Memref sig .tc .vmem S256x4096 .bf16).view
abbrev V12 : View sig .tc .vmem S256x1024 .f32 := (Memref.whole cc0_stg12_0 : Memref sig .tc .vmem S256x1024 .f32).view
abbrev V13 : View sig .tc .vmem S256x512 .bf16 := (Memref.whole cc0_stg13_0 : Memref sig .tc .vmem S256x512 .bf16).view
abbrev V14 : View sig .tc .vmem S256x512 .f32 := (Memref.whole cc0_stg14_0 : Memref sig .tc .vmem S256x512 .f32).view
abbrev V15 : View sig .tc .vmem S1x1024 .f32 := (Memref.whole cc0_stg15_0 : Memref sig .tc .vmem S1x1024 .f32).view
abbrev accM : Memref sig .tc .vmem S1024x1024 .f32 := Memref.whole cc0_scratch0
abbrev wireM : Memref sig .tc .vmem S1024x1024 .bf16 := Memref.whole cc0_scratch1
/-- The two results in HBM the last point copies out of the scratch. -/
abbrev dwoM : Memref sig .tc .hbm S1024x1024 .f32 := Memref.whole main_v40_5
abbrev outM : Memref sig .tc .hbm S1024x1024 .bf16 := Memref.whole main_v40_6

/-- Contents of the buffer behind a memref, and the buffer held whole at such contents. -/
abbrev HbBuf (c : Dev nD) {sp : Space} {S : Shape} {e : EltTy} (M : Memref sig .tc sp S e) : Type :=
  Buf (Elt F) (M.view.loc (c : Thread nD τ))
abbrev hbPt (c : Dev nD) {sp : Space} {S : Shape} {e : EltTy} (M : Memref sig .tc sp S e) (f : HbBuf (F := F) c M) : sProp (Mdl F) :=
  M.view.loc (c : Thread nD τ) ↦{fullShare} f

/-- The pieces a run of the body leaves: in the five output blocks, the accumulator and the wire copy. -/
structure Left (F : FTy → Type) [FloatOps F] where
  L11 : List (View.Piece (Elt F) S256x4096 .bf16)
  L12 : List (View.Piece (Elt F) S256x1024 .f32)
  L13 : List (View.Piece (Elt F) S256x512 .bf16)
  L14 : List (View.Piece (Elt F) S256x512 .f32)
  L15 : List (View.Piece (Elt F) S1x1024 .f32)
  LA : List (View.Piece (Elt F) S1024x1024 .f32)
  LW : List (View.Piece (Elt F) S1024x1024 .bf16)

namespace Left
variable (x : Left F)
def o11 : Vec F S256x4096 .bf16 := V11.read (Elt F) (V11.writes (Elt F) V11.junk x.L11)
def o12 : Vec F S256x1024 .f32 := V12.read (Elt F) (V12.writes (Elt F) V12.junk x.L12)
def o13 : Vec F S256x512 .bf16 := V13.read (Elt F) (V13.writes (Elt F) V13.junk x.L13)
def o14 : Vec F S256x512 .f32 := V14.read (Elt F) (V14.writes (Elt F) V14.junk x.L14)
def o15 : Vec F S1x1024 .f32 := V15.read (Elt F) (V15.writes (Elt F) V15.junk x.L15)
def acc : Vec F S1024x1024 .f32 := accM.view.read (Elt F) (accM.view.writes (Elt F) accM.view.junk x.LA)
def wire : Vec F S1024x1024 .bf16 := wireM.view.read (Elt F) (wireM.view.writes (Elt F) wireM.view.junk x.LW)
end Left

/-- The two HBM results at some contents. -/
abbrev hbAny (c : Dev nD) : sProp (Mdl F) := iprop((∃ f, hbPt c dwoM f) ∗ (∃ f, hbPt c outM f))

/-- The body run at one point on whole staging memrefs: the inputs at `x0 … x10`, the accumulated output and the
    accumulator as `p16` and `p19` say, everything else at anything; it ends with the inputs as they were, every output at
    what the pieces of `z` read back as, and the HBM results as `hb` says. -/
abbrev Run (c : Dev nD) (i : grid0.Coords)
  (arg1 : Memref sig .tc .vmem S256x1024 .bf16) (harg1 : arg1.IsWhole)
  (arg2 : Memref sig .tc .vmem S256x4096 .bf16) (harg2 : arg2.IsWhole)
  (arg3 : Memref sig .tc .vmem S4096x1024 .bf16) (harg3 : arg3.IsWhole)
  (arg4 : Memref sig .tc .vmem S1024x4096 .bf16) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S256x512 .bf16) (harg9 : arg9.IsWhole)
  (arg10 : Memref sig .tc .vmem S256x512 .bf16) (harg10 : arg10.IsWhole)
  (arg11 : Memref sig .tc .vmem S8x128 .f32) (harg11 : arg11.IsWhole)
  (arg12 : Memref sig .tc .vmem S256x4096 .bf16) (harg12 : arg12.IsWhole)
  (arg13 : Memref sig .tc .vmem S256x1024 .f32) (harg13 : arg13.IsWhole)
  (arg14 : Memref sig .tc .vmem S256x512 .bf16) (harg14 : arg14.IsWhole)
  (arg15 : Memref sig .tc .vmem S256x512 .f32) (harg15 : arg15.IsWhole)
  (arg16 : Memref sig .tc .vmem S1x1024 .f32) (harg16 : arg16.IsWhole)
  (arg19 : Memref sig .tc .vmem S1024x1024 .f32) (harg19 : arg19.IsWhole)
  (arg20 : Memref sig .tc .vmem S1024x1024 .bf16) (harg20 : arg20.IsWhole)
  (x0 : Vec F S256x1024 .bf16) (x1 : Vec F S256x4096 .bf16) (x2 : Vec F S4096x1024 .bf16) (x3 : Vec F S1024x4096 .bf16) (x4 : Vec F S256x1024 .f32) (x5 : Vec F S256x1024 .f32) (x6 : Vec F S1x1024 .f32) (x7 : Vec F S1024x1024 .bf16) (x8 : Vec F S256x512 .bf16) (x9 : Vec F S256x512 .bf16) (x10 : Vec F S8x128 .f32)
    (p16 p19 : sProp (Mdl F)) (hb : Left F → sProp (Mdl F)) (z : Left F) : Prop :=
  ∀ (W : Waits sig Unit) (K : PUnit → sProp (Mdl F)),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
      ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ p16 ∗ p19 ∗ (∃ d, owns (c : Thread nD τ) arg20 fullShare d) ∗ semVal ((c : Thread nD τ), SemLoc.dma 26) 0 ∗ semVal ((c : Thread nD τ), SemLoc.dma 27) 0 ∗ hbAny c ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ owns (c : Thread nD τ) arg12 fullShare z.o11 ∗ owns (c : Thread nD τ) arg13 fullShare z.o12 ∗ owns (c : Thread nD τ) arg14 fullShare z.o13 ∗ owns (c : Thread nD τ) arg15 fullShare z.o14 ∗ owns (c : Thread nD τ) arg16 fullShare z.o15
        ∗ owns (c : Thread nD τ) arg19 fullShare z.acc ∗ (∃ d, owns (c : Thread nD τ) arg20 fullShare d) ∗ semVal ((c : Thread nD τ), SemLoc.dma 26) 0 ∗ semVal ((c : Thread nD τ), SemLoc.dma 27) 0 ∗ hb z ∗ (∃ W', owes (c : Thread nD τ) 0 W')) -∗ K ⟨⟩))
      ⊢ wp frame (wpE (defs₀ (F := F)) Variants.none c none) Set.univ
        (cc0_mlp_backward_data i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
          (Memref.whole main_v40_5) (Memref.isWhole_whole _) (Memref.whole main_v40_6) (Memref.isWhole_whole _)
          arg19 harg19 arg20 harg20 cc0_scratch2) K

/-- The body run at one point on whole staging memrefs: the inputs at `x0 … x10`, the accumulated output and the
    accumulator as `p16` and `p19` say, everything else at anything; it ends with the inputs as they were, every output at
    contents the pieces of `z` were written over, and the HBM results as `hb` says. -/
abbrev RunP (c : Dev nD) (i : grid0.Coords)
  (arg1 : Memref sig .tc .vmem S256x1024 .bf16) (harg1 : arg1.IsWhole)
  (arg2 : Memref sig .tc .vmem S256x4096 .bf16) (harg2 : arg2.IsWhole)
  (arg3 : Memref sig .tc .vmem S4096x1024 .bf16) (harg3 : arg3.IsWhole)
  (arg4 : Memref sig .tc .vmem S1024x4096 .bf16) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S256x512 .bf16) (harg9 : arg9.IsWhole)
  (arg10 : Memref sig .tc .vmem S256x512 .bf16) (harg10 : arg10.IsWhole)
  (arg11 : Memref sig .tc .vmem S8x128 .f32) (harg11 : arg11.IsWhole)
  (arg12 : Memref sig .tc .vmem S256x4096 .bf16) (harg12 : arg12.IsWhole)
  (arg13 : Memref sig .tc .vmem S256x1024 .f32) (harg13 : arg13.IsWhole)
  (arg14 : Memref sig .tc .vmem S256x512 .bf16) (harg14 : arg14.IsWhole)
  (arg15 : Memref sig .tc .vmem S256x512 .f32) (harg15 : arg15.IsWhole)
  (arg16 : Memref sig .tc .vmem S1x1024 .f32) (harg16 : arg16.IsWhole)
  (arg19 : Memref sig .tc .vmem S1024x1024 .f32) (harg19 : arg19.IsWhole)
  (arg20 : Memref sig .tc .vmem S1024x1024 .bf16) (harg20 : arg20.IsWhole)
  (x0 : Vec F S256x1024 .bf16) (x1 : Vec F S256x4096 .bf16) (x2 : Vec F S4096x1024 .bf16) (x3 : Vec F S1024x4096 .bf16) (x4 : Vec F S256x1024 .f32) (x5 : Vec F S256x1024 .f32) (x6 : Vec F S1x1024 .f32) (x7 : Vec F S1024x1024 .bf16) (x8 : Vec F S256x512 .bf16) (x9 : Vec F S256x512 .bf16) (x10 : Vec F S8x128 .f32)
    (p16 p19 : sProp (Mdl F)) (hb : Left F → sProp (Mdl F)) (z : Left F) : Prop :=
  ∀ (W : Waits sig Unit) (K : PUnit → sProp (Mdl F)),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
      ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ p16 ∗ p19 ∗ (∃ d, owns (c : Thread nD τ) arg20 fullShare d) ∗ semVal ((c : Thread nD τ), SemLoc.dma 26) 0 ∗ semVal ((c : Thread nD τ), SemLoc.dma 27) 0 ∗ hbAny c ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ f, arg12.view.loc (c : Thread nD τ) ↦[arg12.view.set]{fullShare} arg12.view.writes (Elt F) f z.L11) ∗ (∃ f, arg13.view.loc (c : Thread nD τ) ↦[arg13.view.set]{fullShare} arg13.view.writes (Elt F) f z.L12) ∗ (∃ f, arg14.view.loc (c : Thread nD τ) ↦[arg14.view.set]{fullShare} arg14.view.writes (Elt F) f z.L13) ∗ (∃ f, arg15.view.loc (c : Thread nD τ) ↦[arg15.view.set]{fullShare} arg15.view.writes (Elt F) f z.L14) ∗ (∃ f, arg16.view.loc (c : Thread nD τ) ↦[arg16.view.set]{fullShare} arg16.view.writes (Elt F) f z.L15)
        ∗ (∃ f, arg19.view.loc (c : Thread nD τ) ↦[arg19.view.set]{fullShare} arg19.view.writes (Elt F) f z.LA) ∗ (∃ f, arg20.view.loc (c : Thread nD τ) ↦[arg20.view.set]{fullShare} arg20.view.writes (Elt F) f z.LW) ∗ semVal ((c : Thread nD τ), SemLoc.dma 26) 0 ∗ semVal ((c : Thread nD τ), SemLoc.dma 27) 0 ∗ hb z ∗ (∃ W', owes (c : Thread nD τ) 0 W')) -∗ K ⟨⟩))
      ⊢ wp frame (wpE (defs₀ (F := F)) Variants.none c none) Set.univ
        (cc0_mlp_backward_data i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
          (Memref.whole main_v40_5) (Memref.isWhole_whole _) (Memref.whole main_v40_6) (Memref.isWhole_whole _)
          arg19 harg19 arg20 harg20 cc0_scratch2) K

end Cert.MlpKernelIdeal.Mlp

end
-- ==== Proof.MlpHeld.lean ====
module

public import proofs.«01_k».proof.Proof.MlpBase

@[expose] public section

-- the rectangles of production extents are walked one coordinate at a time
set_option maxRecDepth 16384

noncomputable section

namespace Cert.MlpKernelIdeal.Mlp

open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Pieces that meet every index. -/
abbrev Full {s : Shape} {e : EltTy} (L : List (View.Piece (Elt F) s e)) : Prop := ∀ y : s.Idx, ∃ p ∈ L, y ∈ p.1.set

/-- A buffer some contents of which the pieces were written over holds what they read back as over any other. -/
theorem held (c : Dev nD) {sp : Space} {s : Shape} {e : EltTy} (M : Memref sig .tc sp s e) {sp' : Space}
    (v : View sig .tc sp' s e) (f' : v.ty.Contents (Elt F)) (L : List (View.Piece (Elt F) s e)) (h : Full L) :
    iprop(∃ f, M.view.loc (c : Thread nD τ) ↦[M.view.set]{fullShare} M.view.writes (Elt F) f L)
      ⊢ (owns (c : Thread nD τ) M fullShare (v.read (Elt F) (v.writes (Elt F) f' L)) : sProp (Mdl F)) := by
  unfold owns
  iintro ⟨%f, H⟩
  iexists _; isplitr; swap; · iexact H
  ipureintro; exact View.read_writes_of_cover _ _ _ _ _ h

/-- A buffer held at some contents. -/
theorem held_any (c : Dev nD) {sp : Space} {s : Shape} {e : EltTy} (M : Memref sig .tc sp s e) (L : List (View.Piece (Elt F) s e)) :
    iprop(∃ f, M.view.loc (c : Thread nD τ) ↦[M.view.set]{fullShare} M.view.writes (Elt F) f L)
      ⊢ (iprop(∃ d, owns (c : Thread nD τ) M fullShare d) : sProp (Mdl F)) := by
  unfold owns
  iintro ⟨%f, H⟩
  iexists _, _; isplitr; swap; · iexact H
  ipureintro; rfl

/-- A result in HBM written whole with what a buffer's pieces read back as. -/
theorem copied (c : Dev nD) {s : Shape} {e : EltTy} {sp sp' sp'' : Space} (D : Memref sig .tc sp s e) (hD : D.IsWhole)
    (M : Memref sig .tc sp' s e) (v : View sig .tc sp'' s e) (f' : v.ty.Contents (Elt F)) (L : List (View.Piece (Elt F) s e)) (h : Full L) :
    iprop(∃ g w, hbPt c D (D.view.write (Elt F) g w Finset.univ) ∗ ⌜∃ f, w = M.view.read (Elt F) (M.view.writes (Elt F) f L)⌝)
      ⊢ (owns (c : Thread nD τ) D fullShare (v.read (Elt F) (v.writes (Elt F) f' L)) : sProp (Mdl F)) := by
  unfold owns
  rw [hD.set_eq_univ]
  iintro ⟨%g, %w, H, %hw⟩
  iexists _; isplitr; swap; · iexact H
  ipureintro
  obtain ⟨f, rfl⟩ := hw
  exact (View.read_write_univ _ _).trans (View.read_writes_of_cover _ _ _ _ _ h)

/-- A run by its pieces, which meet every index of their buffers, is a run by what they read back as. -/
theorem run_of_pieces {c : Dev nD} {i : grid0.Coords}
  {arg1 : Memref sig .tc .vmem S256x1024 .bf16} {harg1 : arg1.IsWhole}
  {arg2 : Memref sig .tc .vmem S256x4096 .bf16} {harg2 : arg2.IsWhole}
  {arg3 : Memref sig .tc .vmem S4096x1024 .bf16} {harg3 : arg3.IsWhole}
  {arg4 : Memref sig .tc .vmem S1024x4096 .bf16} {harg4 : arg4.IsWhole}
  {arg5 : Memref sig .tc .vmem S256x1024 .f32} {harg5 : arg5.IsWhole}
  {arg6 : Memref sig .tc .vmem S256x1024 .f32} {harg6 : arg6.IsWhole}
  {arg7 : Memref sig .tc .vmem S1x1024 .f32} {harg7 : arg7.IsWhole}
  {arg8 : Memref sig .tc .vmem S1024x1024 .bf16} {harg8 : arg8.IsWhole}
  {arg9 : Memref sig .tc .vmem S256x512 .bf16} {harg9 : arg9.IsWhole}
  {arg10 : Memref sig .tc .vmem S256x512 .bf16} {harg10 : arg10.IsWhole}
  {arg11 : Memref sig .tc .vmem S8x128 .f32} {harg11 : arg11.IsWhole}
  {arg12 : Memref sig .tc .vmem S256x4096 .bf16} {harg12 : arg12.IsWhole}
  {arg13 : Memref sig .tc .vmem S256x1024 .f32} {harg13 : arg13.IsWhole}
  {arg14 : Memref sig .tc .vmem S256x512 .bf16} {harg14 : arg14.IsWhole}
  {arg15 : Memref sig .tc .vmem S256x512 .f32} {harg15 : arg15.IsWhole}
  {arg16 : Memref sig .tc .vmem S1x1024 .f32} {harg16 : arg16.IsWhole}
  {arg19 : Memref sig .tc .vmem S1024x1024 .f32} {harg19 : arg19.IsWhole}
  {arg20 : Memref sig .tc .vmem S1024x1024 .bf16} {harg20 : arg20.IsWhole}
  {x0 : Vec F S256x1024 .bf16} {x1 : Vec F S256x4096 .bf16} {x2 : Vec F S4096x1024 .bf16} {x3 : Vec F S1024x4096 .bf16} {x4 : Vec F S256x1024 .f32} {x5 : Vec F S256x1024 .f32} {x6 : Vec F S1x1024 .f32} {x7 : Vec F S1024x1024 .bf16} {x8 : Vec F S256x512 .bf16} {x9 : Vec F S256x512 .bf16} {x10 : Vec F S8x128 .f32}
  {p16 p19 : sProp (Mdl F)} {hp hb : Left F → sProp (Mdl F)} {z : Left F}
  (h : RunP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20
    x0 x1 x2 x3 x4 x5 x6 x7 x8 x9 x10 p16 p19 hp z)
  (h11 : Full z.L11) (h12 : Full z.L12) (h13 : Full z.L13) (h14 : Full z.L14) (h15 : Full z.L15) (hA : Full z.LA) (hh : hp z ⊢ hb z) :
  Run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20
    x0 x1 x2 x3 x4 x5 x6 x7 x8 x9 x10 p16 p19 hb z := fun W K => by
  refine BIBase.Entails.trans ?_ (h W K)
  iterate 22 refine BIClass.sep_mono .rfl ?_
  refine wand_mono ?_ .rfl
  iterate 11 refine BIClass.sep_mono .rfl ?_
  exact BIClass.sep_mono (held c _ _ _ _ h11) (BIClass.sep_mono (held c _ _ _ _ h12) (BIClass.sep_mono (held c _ _ _ _ h13) (BIClass.sep_mono (held c _ _ _ _ h14)
    (BIClass.sep_mono (held c _ _ _ _ h15) (BIClass.sep_mono (held c _ _ _ _ hA) (BIClass.sep_mono (held_any c _ _) (BIClass.sep_mono .rfl (BIClass.sep_mono .rfl (BIClass.sep_mono hh .rfl)))))))))

end Cert.MlpKernelIdeal.Mlp

end
-- ==== Proof.MlpRunA.lean ====
module

public import proofs.«01_k».proof.Proof.MlpBase

@[expose] public section

-- the rectangles of production extents are walked one coordinate at a time
set_option maxRecDepth 16384

noncomputable section

namespace Cert.MlpKernelIdeal.Mlp

open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 0 in
/-- The first point: the pieces are those the run finds. -/
def runA {c : Dev nD} {i : grid0.Coords}
  {arg1 : Memref sig .tc .vmem S256x1024 .bf16} {harg1 : arg1.IsWhole}
  {arg2 : Memref sig .tc .vmem S256x4096 .bf16} {harg2 : arg2.IsWhole}
  {arg3 : Memref sig .tc .vmem S4096x1024 .bf16} {harg3 : arg3.IsWhole}
  {arg4 : Memref sig .tc .vmem S1024x4096 .bf16} {harg4 : arg4.IsWhole}
  {arg5 : Memref sig .tc .vmem S256x1024 .f32} {harg5 : arg5.IsWhole}
  {arg6 : Memref sig .tc .vmem S256x1024 .f32} {harg6 : arg6.IsWhole}
  {arg7 : Memref sig .tc .vmem S1x1024 .f32} {harg7 : arg7.IsWhole}
  {arg8 : Memref sig .tc .vmem S1024x1024 .bf16} {harg8 : arg8.IsWhole}
  {arg9 : Memref sig .tc .vmem S256x512 .bf16} {harg9 : arg9.IsWhole}
  {arg10 : Memref sig .tc .vmem S256x512 .bf16} {harg10 : arg10.IsWhole}
  {arg11 : Memref sig .tc .vmem S8x128 .f32} {harg11 : arg11.IsWhole}
  {arg12 : Memref sig .tc .vmem S256x4096 .bf16} {harg12 : arg12.IsWhole}
  {arg13 : Memref sig .tc .vmem S256x1024 .f32} {harg13 : arg13.IsWhole}
  {arg14 : Memref sig .tc .vmem S256x512 .bf16} {harg14 : arg14.IsWhole}
  {arg15 : Memref sig .tc .vmem S256x512 .f32} {harg15 : arg15.IsWhole}
  {arg16 : Memref sig .tc .vmem S1x1024 .f32} {harg16 : arg16.IsWhole}
  {arg19 : Memref sig .tc .vmem S1024x1024 .f32} {harg19 : arg19.IsWhole}
  {arg20 : Memref sig .tc .vmem S1024x1024 .bf16} {harg20 : arg20.IsWhole}
  {x0 : Vec F S256x1024 .bf16} {x1 : Vec F S256x4096 .bf16} {x2 : Vec F S4096x1024 .bf16} {x3 : Vec F S1024x4096 .bf16} {x4 : Vec F S256x1024 .f32} {x5 : Vec F S256x1024 .f32} {x6 : Vec F S1x1024 .f32} {x7 : Vec F S1024x1024 .bf16} {x8 : Vec F S256x512 .bf16} {x9 : Vec F S256x512 .bf16} {x10 : Vec F S8x128 .f32}
  (hc0 : isFirst i) (hc1 : ¬isLast i) :
    { z : Left F // RunP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20
      x0 x1 x2 x3 x4 x5 x6 x7 x8 x9 x10 iprop(∃ d, owns (c : Thread nD τ) arg16 fullShare d) iprop(∃ d, owns (c : Thread nD τ) arg19 fullShare d)
      (fun _ => hbAny c) z } := by
  refine ⟨⟨?_, ?_, ?_, ?_, ?_, ?_, []⟩, fun W K => ?run⟩
  case run =>
    simp only [cc0_mlp_backward_data_eq_skeleton]; unfold cc0_mlp_backward_data_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%da, %fa, -, HA⟩, ⟨%dw, %fw, -, HV⟩, Hq0, Hq1, ⟨⟨%g0, Hh0⟩, ⟨%g1, Hh1⟩⟩, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    sl_exec (disch := first | sl_exact hc0 | sl_exact hc1)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H7]; · iexists _; isplitr; · ipureintro; exact harg8.read_unread _
                    iexact H7
    isplitl [H8]; · iexists _; isplitr; · ipureintro; exact harg9.read_unread _
                    iexact H8
    isplitl [H9]; · iexists _; isplitr; · ipureintro; exact harg10.read_unread _
                    iexact H9
    isplitl [H10]; · iexists _; isplitr; · ipureintro; exact harg11.read_unread _
                     iexact H10
    isplitl [H11]; · iexists _; iexact H11
    isplitl [H12]; · iexists _; iexact H12
    isplitl [H13]; · iexists _; iexact H13
    isplitl [H14]; · iexists _; iexact H14
    isplitl [H15]; · iexists _; iexact H15
    isplitl [HA]; · iexists _; iexact HA
    isplitl [HV]; · iexists fw; iexact HV
    isplitl [Hq0]; · iexact Hq0
    isplitl [Hq1]; · iexact Hq1
    isplitl [Hh0 Hh1]
    · isplitl [Hh0]; · iexists _; iexact Hh0
      iexists _; iexact Hh1
    iexists _; iexact HW

end Cert.MlpKernelIdeal.Mlp

end
-- ==== Proof.MlpRunB.lean ====
module

public import proofs.«01_k».proof.Proof.MlpBase

@[expose] public section

-- the rectangles of production extents are walked one coordinate at a time
set_option maxRecDepth 16384

noncomputable section

namespace Cert.MlpKernelIdeal.Mlp

open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 0 in
/-- A point between: the pieces are those the run finds. -/
def runB {c : Dev nD} {i : grid0.Coords}
  {arg1 : Memref sig .tc .vmem S256x1024 .bf16} {harg1 : arg1.IsWhole}
  {arg2 : Memref sig .tc .vmem S256x4096 .bf16} {harg2 : arg2.IsWhole}
  {arg3 : Memref sig .tc .vmem S4096x1024 .bf16} {harg3 : arg3.IsWhole}
  {arg4 : Memref sig .tc .vmem S1024x4096 .bf16} {harg4 : arg4.IsWhole}
  {arg5 : Memref sig .tc .vmem S256x1024 .f32} {harg5 : arg5.IsWhole}
  {arg6 : Memref sig .tc .vmem S256x1024 .f32} {harg6 : arg6.IsWhole}
  {arg7 : Memref sig .tc .vmem S1x1024 .f32} {harg7 : arg7.IsWhole}
  {arg8 : Memref sig .tc .vmem S1024x1024 .bf16} {harg8 : arg8.IsWhole}
  {arg9 : Memref sig .tc .vmem S256x512 .bf16} {harg9 : arg9.IsWhole}
  {arg10 : Memref sig .tc .vmem S256x512 .bf16} {harg10 : arg10.IsWhole}
  {arg11 : Memref sig .tc .vmem S8x128 .f32} {harg11 : arg11.IsWhole}
  {arg12 : Memref sig .tc .vmem S256x4096 .bf16} {harg12 : arg12.IsWhole}
  {arg13 : Memref sig .tc .vmem S256x1024 .f32} {harg13 : arg13.IsWhole}
  {arg14 : Memref sig .tc .vmem S256x512 .bf16} {harg14 : arg14.IsWhole}
  {arg15 : Memref sig .tc .vmem S256x512 .f32} {harg15 : arg15.IsWhole}
  {arg16 : Memref sig .tc .vmem S1x1024 .f32} {harg16 : arg16.IsWhole}
  {arg19 : Memref sig .tc .vmem S1024x1024 .f32} {harg19 : arg19.IsWhole}
  {arg20 : Memref sig .tc .vmem S1024x1024 .bf16} {harg20 : arg20.IsWhole}
  {x0 : Vec F S256x1024 .bf16} {x1 : Vec F S256x4096 .bf16} {x2 : Vec F S4096x1024 .bf16} {x3 : Vec F S1024x4096 .bf16} {x4 : Vec F S256x1024 .f32} {x5 : Vec F S256x1024 .f32} {x6 : Vec F S1x1024 .f32} {x7 : Vec F S1024x1024 .bf16} {x8 : Vec F S256x512 .bf16} {x9 : Vec F S256x512 .bf16} {x10 : Vec F S8x128 .f32}
  {y : Vec F S1x1024 .f32} {a : Vec F S1024x1024 .f32}
  (hc0 : ¬isFirst i) (hc1 : ¬isLast i) :
    { z : Left F // RunP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20
      x0 x1 x2 x3 x4 x5 x6 x7 x8 x9 x10 (owns (c : Thread nD τ) arg16 fullShare y) (owns (c : Thread nD τ) arg19 fullShare a)
      (fun _ => hbAny c) z } := by
  refine ⟨⟨?_, ?_, ?_, ?_, ?_, ?_, []⟩, fun W K => ?run⟩
  case run =>
    simp only [cc0_mlp_backward_data_eq_skeleton]; unfold cc0_mlp_backward_data_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%fa, %hfa, HA⟩, ⟨%dw, %fw, -, HV⟩, Hq0, Hq1, ⟨⟨%g0, Hh0⟩, ⟨%g1, Hh1⟩⟩, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg16.eq_unread hf15; obtain rfl := harg19.eq_unread hfa
    sl_exec (disch := first | sl_exact hc0 | sl_exact hc1)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H7]; · iexists _; isplitr; · ipureintro; exact harg8.read_unread _
                    iexact H7
    isplitl [H8]; · iexists _; isplitr; · ipureintro; exact harg9.read_unread _
                    iexact H8
    isplitl [H9]; · iexists _; isplitr; · ipureintro; exact harg10.read_unread _
                    iexact H9
    isplitl [H10]; · iexists _; isplitr; · ipureintro; exact harg11.read_unread _
                     iexact H10
    isplitl [H11]; · iexists _; iexact H11
    isplitl [H12]; · iexists _; iexact H12
    isplitl [H13]; · iexists _; iexact H13
    isplitl [H14]; · iexists _; iexact H14
    isplitl [H15]; · iexists _; iexact H15
    isplitl [HA]; · iexists _; iexact HA
    isplitl [HV]; · iexists fw; iexact HV
    isplitl [Hq0]; · iexact Hq0
    isplitl [Hq1]; · iexact Hq1
    isplitl [Hh0 Hh1]
    · isplitl [Hh0]; · iexists _; iexact Hh0
      iexists _; iexact Hh1
    iexists _; iexact HW

end Cert.MlpKernelIdeal.Mlp

end
-- ==== Proof.MlpRunC.lean ====
module

public import proofs.«01_k».proof.Proof.MlpBase

@[expose] public section

-- the rectangles of production extents are walked one coordinate at a time
set_option maxRecDepth 16384

noncomputable section

namespace Cert.MlpKernelIdeal.Mlp

open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 0 in
/-- The last point: the pieces are those the run finds. -/
def runC {c : Dev nD} {i : grid0.Coords}
  {arg1 : Memref sig .tc .vmem S256x1024 .bf16} {harg1 : arg1.IsWhole}
  {arg2 : Memref sig .tc .vmem S256x4096 .bf16} {harg2 : arg2.IsWhole}
  {arg3 : Memref sig .tc .vmem S4096x1024 .bf16} {harg3 : arg3.IsWhole}
  {arg4 : Memref sig .tc .vmem S1024x4096 .bf16} {harg4 : arg4.IsWhole}
  {arg5 : Memref sig .tc .vmem S256x1024 .f32} {harg5 : arg5.IsWhole}
  {arg6 : Memref sig .tc .vmem S256x1024 .f32} {harg6 : arg6.IsWhole}
  {arg7 : Memref sig .tc .vmem S1x1024 .f32} {harg7 : arg7.IsWhole}
  {arg8 : Memref sig .tc .vmem S1024x1024 .bf16} {harg8 : arg8.IsWhole}
  {arg9 : Memref sig .tc .vmem S256x512 .bf16} {harg9 : arg9.IsWhole}
  {arg10 : Memref sig .tc .vmem S256x512 .bf16} {harg10 : arg10.IsWhole}
  {arg11 : Memref sig .tc .vmem S8x128 .f32} {harg11 : arg11.IsWhole}
  {arg12 : Memref sig .tc .vmem S256x4096 .bf16} {harg12 : arg12.IsWhole}
  {arg13 : Memref sig .tc .vmem S256x1024 .f32} {harg13 : arg13.IsWhole}
  {arg14 : Memref sig .tc .vmem S256x512 .bf16} {harg14 : arg14.IsWhole}
  {arg15 : Memref sig .tc .vmem S256x512 .f32} {harg15 : arg15.IsWhole}
  {arg16 : Memref sig .tc .vmem S1x1024 .f32} {harg16 : arg16.IsWhole}
  {arg19 : Memref sig .tc .vmem S1024x1024 .f32} {harg19 : arg19.IsWhole}
  {arg20 : Memref sig .tc .vmem S1024x1024 .bf16} {harg20 : arg20.IsWhole}
  {x0 : Vec F S256x1024 .bf16} {x1 : Vec F S256x4096 .bf16} {x2 : Vec F S4096x1024 .bf16} {x3 : Vec F S1024x4096 .bf16} {x4 : Vec F S256x1024 .f32} {x5 : Vec F S256x1024 .f32} {x6 : Vec F S1x1024 .f32} {x7 : Vec F S1024x1024 .bf16} {x8 : Vec F S256x512 .bf16} {x9 : Vec F S256x512 .bf16} {x10 : Vec F S8x128 .f32}
  {y : Vec F S1x1024 .f32} {a : Vec F S1024x1024 .f32}
  (hc0 : ¬isFirst i) (hc1 : isLast i) :
    { z : Left F // RunP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg19 harg19 arg20 harg20
      x0 x1 x2 x3 x4 x5 x6 x7 x8 x9 x10 (owns (c : Thread nD τ) arg16 fullShare y) (owns (c : Thread nD τ) arg19 fullShare a)
      (fun z => iprop((∃ g v, hbPt c dwoM (dwoM.view.write (Elt F) g v Finset.univ) ∗ ⌜∃ f, v = arg19.view.read (Elt F) (arg19.view.writes (Elt F) f z.LA)⌝)
        ∗ (∃ g v, hbPt c outM (outM.view.write (Elt F) g v Finset.univ) ∗ ⌜∃ f, v = arg20.view.read (Elt F) (arg20.view.writes (Elt F) f z.LW)⌝))) z } := by
  refine ⟨⟨?_, ?_, ?_, ?_, ?_, ?_, ?_⟩, fun W K => ?run⟩
  case run =>
    simp only [cc0_mlp_backward_data_eq_skeleton]; unfold cc0_mlp_backward_data_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%fa, %hfa, HA⟩, ⟨%dw, %fw, -, HV⟩, Hq0, Hq1, ⟨⟨%g0, Hh0⟩, ⟨%g1, Hh1⟩⟩, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg16.eq_unread hf15; obtain rfl := harg19.eq_unread hfa
    set_option sl_exec.lendShare "HA" in sl_exec (disch := first | sl_exact hc0 | sl_exact hc1)
    sl_step
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [H3]; · iexists _; isplitr; · ipureintro; exact harg4.read_unread _
                    iexact H3
    isplitl [H4]; · iexists _; isplitr; · ipureintro; exact harg5.read_unread _
                    iexact H4
    isplitl [H5]; · iexists _; isplitr; · ipureintro; exact harg6.read_unread _
                    iexact H5
    isplitl [H6]; · iexists _; isplitr; · ipureintro; exact harg7.read_unread _
                    iexact H6
    isplitl [H7]; · iexists _; isplitr; · ipureintro; exact harg8.read_unread _
                    iexact H7
    isplitl [H8]; · iexists _; isplitr; · ipureintro; exact harg9.read_unread _
                    iexact H8
    isplitl [H9]; · iexists _; isplitr; · ipureintro; exact harg10.read_unread _
                    iexact H9
    isplitl [H10]; · iexists _; isplitr; · ipureintro; exact harg11.read_unread _
                     iexact H10
    isplitl [H11]; · iexists _; iexact H11
    isplitl [H12]; · iexists _; iexact H12
    isplitl [H13]; · iexists _; iexact H13
    isplitl [H14]; · iexists _; iexact H14
    isplitl [H15]; · iexists _; iexact H15
    isplitl [HA]; · iexists _; iexact HA
    isplitl [HV]; · iexists _; iexact HV
    isplitl [Hq0]; · iexact Hq0
    isplitl [Hq1]; · iexact Hq1
    isplitl [Hh0 Hh1]
    · isplitl [Hh0]
      · iexists _, _; isplitl; · iexact Hh0
        ipureintro; exact ⟨_, rfl⟩
      · iexists _, _; isplitl; · iexact Hh1
        ipureintro; exact ⟨_, rfl⟩
    iexists _; iexact HW

end Cert.MlpKernelIdeal.Mlp

end
-- ==== Proof.MlpFrame.lean ====
module

public import proofs.«01_k».proof.Proof.MlpHeld
public import proofs.«01_k».proof.Proof.MlpRunA
public import proofs.«01_k».proof.Proof.MlpRunB
public import proofs.«01_k».proof.Proof.MlpRunC

@[expose] public section

-- the rectangles of production extents are walked one coordinate at a time
set_option maxRecDepth 16384

noncomputable section

namespace Cert.MlpKernelIdeal.Mlp

open Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The run at a grid point -/

/-- `Run` at point `t`: the pipeline's own staging buffers, the inputs at the blocks the point fetches. -/
abbrev RunAt (c : Dev nD) (t : Fin cfg0.N) (p16 p19 : sProp (Mdl F)) (hb : Left F → sProp (Mdl F)) (z : Left F) : Prop :=
  Run c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (win0_13.stage (cfg0.slots t 13)) (hstage0_13 ((cfg0.slots t 13).cast nbuf0_13))
    (win0_14.stage (cfg0.slots t 14)) (hstage0_14 ((cfg0.slots t 14).cast nbuf0_14))
    (win0_15.stage (cfg0.slots t 15)) (hstage0_15 ((cfg0.slots t 15).cast nbuf0_15))
    accM (Memref.isWhole_whole _) wireM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) p16 p19 hb z

/-- The same by the pieces. -/
abbrev RawAt (c : Dev nD) (t : Fin cfg0.N) (p16 p19 : sProp (Mdl F)) (hb : Left F → sProp (Mdl F)) (z : Left F) : Prop :=
  RunP c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (win0_13.stage (cfg0.slots t 13)) (hstage0_13 ((cfg0.slots t 13).cast nbuf0_13))
    (win0_14.stage (cfg0.slots t 14)) (hstage0_14 ((cfg0.slots t 14).cast nbuf0_14))
    (win0_15.stage (cfg0.slots t 15)) (hstage0_15 ((cfg0.slots t 15).cast nbuf0_15))
    accM (Memref.isWhole_whole _) wireM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) p16 p19 hb z

/-- The accumulated output's staging buffer at point `t`. -/
abbrev dgStage (t : Fin cfg0.N) : Memref sig .tc .vmem S1x1024 .f32 := win0_15.stage (cfg0.slots t 15)

/-- The first point, by the pieces the run finds. -/
def rawA (c : Dev nD) (t : Fin cfg0.N) (h : t.val = 0) :
    { z : Left F // RawAt m c t iprop(∃ d, owns (c : Thread nD τ) (dgStage t) fullShare d) iprop(∃ d, owns (c : Thread nD τ) accM fullShare d)
      (fun _ => hbAny c) z } :=
  runA ((isFirst_iff t).mpr h) (fun h' => by have := (isLast_iff t).mp h'; omega)

theorem fullA11 (c : Dev nD) (t : Fin cfg0.N) (h : t.val = 0) : Full (rawA m c t h).1.L11 :=
  View.cover_of_tiledL _ S256x1024.size (by sl_kernel_rfl)
theorem fullA12 (c : Dev nD) (t : Fin cfg0.N) (h : t.val = 0) : Full (rawA m c t h).1.L12 :=
  View.cover_of_tiledL _ S256x1024.size (by sl_kernel_rfl)
theorem fullA13 (c : Dev nD) (t : Fin cfg0.N) (h : t.val = 0) : Full (rawA m c t h).1.L13 :=
  View.cover_of_tiledL _ S256x512.size (by sl_kernel_rfl)
theorem fullA14 (c : Dev nD) (t : Fin cfg0.N) (h : t.val = 0) : Full (rawA m c t h).1.L14 :=
  View.cover_of_tiledL _ S256x512.size (by sl_kernel_rfl)
theorem fullA15 (c : Dev nD) (t : Fin cfg0.N) (h : t.val = 0) : Full (rawA m c t h).1.L15 :=
  View.cover_of_tiledL _ S1x1024.size (by sl_kernel_rfl)
theorem fullAa (c : Dev nD) (t : Fin cfg0.N) (h : t.val = 0) : Full (rawA m c t h).1.LA :=
  View.cover_of_wholeMem _ (by sl_whole_mem)

def atA (c : Dev nD) (t : Fin cfg0.N) (h : t.val = 0) :
    { z : Left F // RunAt m c t iprop(∃ d, owns (c : Thread nD τ) (dgStage t) fullShare d) iprop(∃ d, owns (c : Thread nD τ) accM fullShare d)
      (fun _ => hbAny c) z } :=
  ⟨(rawA m c t h).1, run_of_pieces (rawA m c t h).2 (fullA11 m c t h) (fullA12 m c t h) (fullA13 m c t h) (fullA14 m c t h) (fullA15 m c t h) (fullAa m c t h)
    .rfl⟩

/-- A point between, over what the one before left in the accumulated output and the accumulator. -/
def rawB (c : Dev nD) (t : Fin cfg0.N) (h0 : t.val ≠ 0) (h1 : t.val ≠ 31) (y : Vec F S1x1024 .f32) (a : Vec F S1024x1024 .f32) :
    { z : Left F // RawAt m c t (owns (c : Thread nD τ) (dgStage t) fullShare y) (owns (c : Thread nD τ) accM fullShare a)
      (fun _ => hbAny c) z } :=
  runB (fun h => h0 ((isFirst_iff t).mp h)) (fun h => h1 ((isLast_iff t).mp h))

theorem fullB11 (c : Dev nD) (t : Fin cfg0.N) (h0 : t.val ≠ 0) (h1 : t.val ≠ 31) (y : Vec F S1x1024 .f32) (a : Vec F S1024x1024 .f32) : Full (rawB m c t h0 h1 y a).1.L11 :=
  View.cover_of_tiledL _ S256x1024.size (by sl_kernel_rfl)
theorem fullB12 (c : Dev nD) (t : Fin cfg0.N) (h0 : t.val ≠ 0) (h1 : t.val ≠ 31) (y : Vec F S1x1024 .f32) (a : Vec F S1024x1024 .f32) : Full (rawB m c t h0 h1 y a).1.L12 :=
  View.cover_of_tiledL _ S256x1024.size (by sl_kernel_rfl)
theorem fullB13 (c : Dev nD) (t : Fin cfg0.N) (h0 : t.val ≠ 0) (h1 : t.val ≠ 31) (y : Vec F S1x1024 .f32) (a : Vec F S1024x1024 .f32) : Full (rawB m c t h0 h1 y a).1.L13 :=
  View.cover_of_tiledL _ S256x512.size (by sl_kernel_rfl)
theorem fullB14 (c : Dev nD) (t : Fin cfg0.N) (h0 : t.val ≠ 0) (h1 : t.val ≠ 31) (y : Vec F S1x1024 .f32) (a : Vec F S1024x1024 .f32) : Full (rawB m c t h0 h1 y a).1.L14 :=
  View.cover_of_tiledL _ S256x512.size (by sl_kernel_rfl)
theorem fullB15 (c : Dev nD) (t : Fin cfg0.N) (h0 : t.val ≠ 0) (h1 : t.val ≠ 31) (y : Vec F S1x1024 .f32) (a : Vec F S1024x1024 .f32) : Full (rawB m c t h0 h1 y a).1.L15 :=
  View.cover_of_tiledL _ S1x1024.size (by sl_kernel_rfl)
theorem fullBa (c : Dev nD) (t : Fin cfg0.N) (h0 : t.val ≠ 0) (h1 : t.val ≠ 31) (y : Vec F S1x1024 .f32) (a : Vec F S1024x1024 .f32) : Full (rawB m c t h0 h1 y a).1.LA :=
  View.cover_of_tiledL _ S512x1024.size (by sl_kernel_rfl)

def atB (c : Dev nD) (t : Fin cfg0.N) (h0 : t.val ≠ 0) (h1 : t.val ≠ 31) (y : Vec F S1x1024 .f32) (a : Vec F S1024x1024 .f32) :
    { z : Left F // RunAt m c t (owns (c : Thread nD τ) (dgStage t) fullShare y) (owns (c : Thread nD τ) accM fullShare a)
      (fun _ => hbAny c) z } :=
  ⟨(rawB m c t h0 h1 y a).1, run_of_pieces (rawB m c t h0 h1 y a).2 (fullB11 m c t h0 h1 y a) (fullB12 m c t h0 h1 y a) (fullB13 m c t h0 h1 y a) (fullB14 m c t h0 h1 y a) (fullB15 m c t h0 h1 y a) (fullBa m c t h0 h1 y a)
    .rfl⟩

/-- The last point, which also copies the accumulator and its cast into HBM. -/
def rawC (c : Dev nD) (t : Fin cfg0.N) (h1 : t.val = 31) (y : Vec F S1x1024 .f32) (a : Vec F S1024x1024 .f32) :
    { z : Left F // RawAt m c t (owns (c : Thread nD τ) (dgStage t) fullShare y) (owns (c : Thread nD τ) accM fullShare a)
      (fun z => iprop((∃ g v, hbPt c dwoM (dwoM.view.write (Elt F) g v Finset.univ) ∗ ⌜∃ f, v = accM.view.read (Elt F) (accM.view.writes (Elt F) f z.LA)⌝)
        ∗ (∃ g v, hbPt c outM (outM.view.write (Elt F) g v Finset.univ) ∗ ⌜∃ f, v = wireM.view.read (Elt F) (wireM.view.writes (Elt F) f z.LW)⌝))) z } :=
  runC (fun h => by have := (isFirst_iff t).mp h; omega) ((isLast_iff t).mpr h1)

theorem fullC11 (c : Dev nD) (t : Fin cfg0.N) (h1 : t.val = 31) (y : Vec F S1x1024 .f32) (a : Vec F S1024x1024 .f32) : Full (rawC m c t h1 y a).1.L11 :=
  View.cover_of_tiledL _ S256x1024.size (by sl_kernel_rfl)
theorem fullC12 (c : Dev nD) (t : Fin cfg0.N) (h1 : t.val = 31) (y : Vec F S1x1024 .f32) (a : Vec F S1024x1024 .f32) : Full (rawC m c t h1 y a).1.L12 :=
  View.cover_of_tiledL _ S256x1024.size (by sl_kernel_rfl)
theorem fullC13 (c : Dev nD) (t : Fin cfg0.N) (h1 : t.val = 31) (y : Vec F S1x1024 .f32) (a : Vec F S1024x1024 .f32) : Full (rawC m c t h1 y a).1.L13 :=
  View.cover_of_tiledL _ S256x512.size (by sl_kernel_rfl)
theorem fullC14 (c : Dev nD) (t : Fin cfg0.N) (h1 : t.val = 31) (y : Vec F S1x1024 .f32) (a : Vec F S1024x1024 .f32) : Full (rawC m c t h1 y a).1.L14 :=
  View.cover_of_tiledL _ S256x512.size (by sl_kernel_rfl)
theorem fullC15 (c : Dev nD) (t : Fin cfg0.N) (h1 : t.val = 31) (y : Vec F S1x1024 .f32) (a : Vec F S1024x1024 .f32) : Full (rawC m c t h1 y a).1.L15 :=
  View.cover_of_tiledL _ S1x1024.size (by sl_kernel_rfl)
theorem fullCa (c : Dev nD) (t : Fin cfg0.N) (h1 : t.val = 31) (y : Vec F S1x1024 .f32) (a : Vec F S1024x1024 .f32) : Full (rawC m c t h1 y a).1.LA :=
  View.cover_of_tiledL _ S512x1024.size (by sl_kernel_rfl)
theorem fullCw (c : Dev nD) (t : Fin cfg0.N) (h1 : t.val = 31) (y : Vec F S1x1024 .f32) (a : Vec F S1024x1024 .f32) : Full (rawC m c t h1 y a).1.LW :=
  View.cover_of_tiledL _ S1024x1024.size (by sl_kernel_rfl)

def atC (c : Dev nD) (t : Fin cfg0.N) (h1 : t.val = 31) (y : Vec F S1x1024 .f32) (a : Vec F S1024x1024 .f32) :
    { z : Left F // RunAt m c t (owns (c : Thread nD τ) (dgStage t) fullShare y) (owns (c : Thread nD τ) accM fullShare a)
      (fun z => iprop(owns (c : Thread nD τ) dwoM fullShare z.acc ∗ owns (c : Thread nD τ) outM fullShare z.wire)) z } :=
  ⟨(rawC m c t h1 y a).1, run_of_pieces (rawC m c t h1 y a).2 (fullC11 m c t h1 y a) (fullC12 m c t h1 y a) (fullC13 m c t h1 y a) (fullC14 m c t h1 y a) (fullC15 m c t h1 y a) (fullCa m c t h1 y a)
    (BIClass.sep_mono (copied c dwoM (Memref.isWhole_whole _) accM _ _ _ (fullCa m c t h1 y a)) (copied c outM (Memref.isWhole_whole _) wireM _ _ _ (fullCw m c t h1 y a)))⟩

/-- What the body leaves at position `n`, each point over what the one before left. -/
def left (c : Dev nD) : (n : ℕ) → n < cfg0.N → Left F
  | 0, hn => (atA m c ⟨0, hn⟩ rfl).1
  | n + 1, hn =>
    if h : n + 1 = 31 then (atC m c ⟨n + 1, hn⟩ h (left c n (Nat.lt_of_succ_lt hn)).o15 (left c n (Nat.lt_of_succ_lt hn)).acc).1
    else (atB m c ⟨n + 1, hn⟩ (Nat.succ_ne_zero n) h (left c n (Nat.lt_of_succ_lt hn)).o15 (left c n (Nat.lt_of_succ_lt hn)).acc).1

/-- What the point before `t` left. -/
abbrev prev (c : Dev nD) (t : Fin cfg0.N) : Left F := left m c (t.val - 1) (Nat.lt_of_le_of_lt (Nat.sub_le _ _) t.isLt)

theorem left_A (c : Dev nD) (t : Fin cfg0.N) (h : t.val = 0) : left m c t.val t.isLt = (atA m c t h).1 := by
  obtain ⟨n, hn⟩ := t
  cases n with
  | zero => rfl
  | succ n => exact absurd h (Nat.succ_ne_zero n)

theorem left_B (c : Dev nD) (t : Fin cfg0.N) (h0 : t.val ≠ 0) (h1 : t.val ≠ 31) :
    left m c t.val t.isLt = (atB m c t h0 h1 (prev m c t).o15 (prev m c t).acc).1 := by
  obtain ⟨n, hn⟩ := t
  cases n with
  | zero => exact absurd rfl h0
  | succ n => exact dif_neg h1

theorem left_C (c : Dev nD) (t : Fin cfg0.N) (h1 : t.val = 31) :
    left m c t.val t.isLt = (atC m c t h1 (prev m c t).o15 (prev m c t).acc).1 := by
  obtain ⟨n, hn⟩ := t
  cases n with
  | zero => exact absurd h1 (by simp)
  | succ n => exact dif_pos h1

/-! ## The launch's own facts, with the copies' counters -/

abbrev osem : Fin 2 → SemLoc sig := fun j => (![SemLoc.dma 26, SemLoc.dma 27] : Fin 2 → SemLoc sig) j
theorem osem_own : Pipeline.OwnSemFacts spec0 osem := by decide
/-- No HBM operand is only read by the body itself; two are written. -/
def readRefs : Finset (Ref sig .tc) := {}
def wroteRefs : Finset (Ref sig .tc) := {main_v40_5, main_v40_6}
theorem readRefs_sub : readRefs ⊆ Pipeline.restRefs sig spec0 := by decide
theorem wroteRefs_sub : wroteRefs ⊆ Pipeline.restRefs sig spec0 \ readRefs := by decide

theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem cells_eq (c : Dev nD) :
    (Pipeline.ownSems0 (Ix := Unit) (Name := ℕ) (U := Pipeline.UD sig nD τ) (Lvl := ℕ) (Val := Elt F) (τ := τ) osem c : sProp (Mdl F))
      = iprop(semVal ((c : Thread nD τ), SemLoc.dma 26) 0 ∗ semVal ((c : Thread nD τ), SemLoc.dma 27) 0) := by
  rw [Pipeline.ownSems0_eq_of_list c osem [0, 1] (by decide) (by decide)]; rfl

theorem read_eq (c : Dev nD) :
    (bigSep readRefs (fun b => ((c : Thread nD τ).loc b) ↦{fullShare} V m c b) : sProp (Mdl F)) = iprop(emp) := by
  rw [BI.bigSep_eq_bigSepL_of_eq [] (by decide) (by decide)]; rfl

theorem routed_eq (c : Dev nD) (G : (b : Ref sig .tc) → Buf (Elt F) ((c : Thread nD τ).loc b)) :
    (Pipeline.routed wroteRefs c G : sProp (Mdl F)) = iprop(hbPt c dwoM (G main_v40_5) ∗ hbPt c outM (G main_v40_6)) := by
  unfold Pipeline.routed; rw [BI.bigSep_eq_bigSepL_of_eq [main_v40_5, main_v40_6] (by decide) (by decide)]; rfl

/-- The invariant at the launch's two ends, conjunct by conjunct. -/
theorem ends_eq (c : Dev nD) (G : (c : Dev nD) → (b : Ref sig .tc) → Buf (Elt F) ((c : Thread nD τ).loc b)) :
    (Pipeline.ΦDRG osem spec0 readRefs wroteRefs (V m) G c : sProp (Mdl F))
      = iprop(iprop((∃ d, owns (c : Thread nD τ) accM fullShare d) ∗ (∃ d, owns (c : Thread nD τ) wireM fullShare d)) ∗ (∃ r, prngReg c r)
          ∗ iprop(semVal ((c : Thread nD τ), SemLoc.dma 26) 0 ∗ semVal ((c : Thread nD τ), SemLoc.dma 27) 0) ∗ iprop(emp)
          ∗ iprop(hbPt c dwoM (G c main_v40_5) ∗ hbPt c outM (G c main_v40_6))) := by
  rw [Pipeline.ΦDRG_eq, scopedRest0_eq, cells_eq, read_eq, routed_eq]; simp only [accM, wireM, owns_whole]; try rfl

/-! ## The invariant and the proof data -/

/-- The two HBM results after position `n`: at the accumulator and its cast after the last, at anything before. -/
def hbSt (c : Dev nD) (n : ℕ) (z : Left F) : sProp (Mdl F) :=
  if n = 31 then iprop(owns (c : Thread nD τ) dwoM fullShare z.acc ∗ owns (c : Thread nD τ) outM fullShare z.wire) else hbAny c

/-- What a point hands the next besides the staging buffers, its accumulator held as `p` says. -/
abbrev Kept (c : Dev nD) (p h : sProp (Mdl F)) : sProp (Mdl F) :=
  iprop(p ∗ (∃ d, owns (c : Thread nD τ) wireM fullShare d) ∗ (∃ r, prngReg c r)
    ∗ semVal ((c : Thread nD τ), SemLoc.dma 26) 0 ∗ semVal ((c : Thread nD τ), SemLoc.dma 27) 0 ∗ h)

def Inv (c : Dev nD) : (n : ℕ) → n ≤ cfg0.N → sProp (Mdl F)
  | 0, _ => Pipeline.ΦDRG osem spec0 readRefs wroteRefs (V m) (V m) c
  | n + 1, hn => Kept c (owns (c : Thread nD τ) accM fullShare (left m c n hn).acc) (hbSt c n (left m c n hn))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left m c t.val t.isLt).o11
    | ⟨12, _⟩ => (left m c t.val t.isLt).o12
    | ⟨13, _⟩ => (left m c t.val t.isLt).o13
    | ⟨14, _⟩ => (left m c t.val t.isLt).o14
    | ⟨15, _⟩ => (left m c t.val t.isLt).o15
    | ⟨_ + 16, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

section Windows
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = (left m c t.val t.isLt).o11 := by dsimp only [dats]
theorem after12 : (dats m 0 c).after 12 t = (left m c t.val t.isLt).o12 := by dsimp only [dats]
theorem after13 : (dats m 0 c).after 13 t = (left m c t.val t.isLt).o13 := by dsimp only [dats]
theorem after14 : (dats m 0 c).after 14 t = (left m c t.val t.isLt).o14 := by dsimp only [dats]
theorem after15 : (dats m 0 c).after 15 t = (left m c t.val t.isLt).o15 := by dsimp only [dats]

/-! An input's staging buffer holds its block at every point, fetched there or not. -/
theorem before0 (d) : (dats m 0 c).before 0 t d = iblk m c 0 t :=
  ((dats m 0 c).before_in_eq_fetched 0 rfl (fun _ => rfl) (fun _ _ _ => rfl) (fun t => by rw [after0 m c]; unfold Dat.blockOf iblk; rw [A_eq m c]; try rfl) t d).trans
    (by unfold Dat.fetched Dat.blockOf iblk; rw [A_eq m c]; try rfl)
theorem before1 (d) : (dats m 0 c).before 1 t d = iblk m c 1 t :=
  ((dats m 0 c).before_in_eq_fetched 1 rfl (fun _ => rfl) (fun _ _ _ => rfl) (fun t => by rw [after1 m c]; unfold Dat.blockOf iblk; rw [A_eq m c]; try rfl) t d).trans
    (by unfold Dat.fetched Dat.blockOf iblk; rw [A_eq m c]; try rfl)
theorem before2 (d) : (dats m 0 c).before 2 t d = iblk m c 2 t :=
  ((dats m 0 c).before_in_eq_fetched 2 rfl (fun _ => rfl) (fun _ _ _ => rfl) (fun t => by rw [after2 m c]; unfold Dat.blockOf iblk; rw [A_eq m c]; try rfl) t d).trans
    (by unfold Dat.fetched Dat.blockOf iblk; rw [A_eq m c]; try rfl)
theorem before3 (d) : (dats m 0 c).before 3 t d = iblk m c 3 t :=
  ((dats m 0 c).before_in_eq_fetched 3 rfl (fun _ => rfl) (fun _ _ _ => rfl) (fun t => by rw [after3 m c]; unfold Dat.blockOf iblk; rw [A_eq m c]; try rfl) t d).trans
    (by unfold Dat.fetched Dat.blockOf iblk; rw [A_eq m c]; try rfl)
theorem before4 (d) : (dats m 0 c).before 4 t d = iblk m c 4 t :=
  ((dats m 0 c).before_in_eq_fetched 4 rfl (fun _ => rfl) (fun _ _ _ => rfl) (fun t => by rw [after4 m c]; unfold Dat.blockOf iblk; rw [A_eq m c]; try rfl) t d).trans
    (by unfold Dat.fetched Dat.blockOf iblk; rw [A_eq m c]; try rfl)
theorem before5 (d) : (dats m 0 c).before 5 t d = iblk m c 5 t :=
  ((dats m 0 c).before_in_eq_fetched 5 rfl (fun _ => rfl) (fun _ _ _ => rfl) (fun t => by rw [after5 m c]; unfold Dat.blockOf iblk; rw [A_eq m c]; try rfl) t d).trans
    (by unfold Dat.fetched Dat.blockOf iblk; rw [A_eq m c]; try rfl)
theorem before6 (d) : (dats m 0 c).before 6 t d = iblk m c 6 t :=
  ((dats m 0 c).before_in_eq_fetched 6 rfl (fun _ => rfl) (fun _ _ _ => rfl) (fun t => by rw [after6 m c]; unfold Dat.blockOf iblk; rw [A_eq m c]; try rfl) t d).trans
    (by unfold Dat.fetched Dat.blockOf iblk; rw [A_eq m c]; try rfl)
theorem before7 (d) : (dats m 0 c).before 7 t d = iblk m c 7 t :=
  ((dats m 0 c).before_in_eq_fetched 7 rfl (fun _ => rfl) (fun _ _ _ => rfl) (fun t => by rw [after7 m c]; unfold Dat.blockOf iblk; rw [A_eq m c]; try rfl) t d).trans
    (by unfold Dat.fetched Dat.blockOf iblk; rw [A_eq m c]; try rfl)
theorem before8 (d) : (dats m 0 c).before 8 t d = iblk m c 8 t :=
  ((dats m 0 c).before_in_eq_fetched 8 rfl (fun _ => rfl) (fun _ _ _ => rfl) (fun t => by rw [after8 m c]; unfold Dat.blockOf iblk; rw [A_eq m c]; try rfl) t d).trans
    (by unfold Dat.fetched Dat.blockOf iblk; rw [A_eq m c]; try rfl)
theorem before9 (d) : (dats m 0 c).before 9 t d = iblk m c 9 t :=
  ((dats m 0 c).before_in_eq_fetched 9 rfl (fun _ => rfl) (fun _ _ _ => rfl) (fun t => by rw [after9 m c]; unfold Dat.blockOf iblk; rw [A_eq m c]; try rfl) t d).trans
    (by unfold Dat.fetched Dat.blockOf iblk; rw [A_eq m c]; try rfl)
theorem before10 (d) : (dats m 0 c).before 10 t d = iblk m c 10 t :=
  ((dats m 0 c).before_in_eq_fetched 10 rfl (fun _ => rfl) (fun _ _ _ => rfl) (fun t => by rw [after10 m c]; unfold Dat.blockOf iblk; rw [A_eq m c]; try rfl) t d).trans
    (by unfold Dat.fetched Dat.blockOf iblk; rw [A_eq m c]; try rfl)

/-- After the first point the accumulated output's buffer holds what the point before left: it is written back at the
    last point only. -/
theorem before15 (h : t.val ≠ 0) (d) : (dats m 0 c).before 15 t d = (prev m c t).o15 := by
  have hN : t.val < 32 := lt_of_lt_of_eq t.isLt (show cfg0.N = 32 from N_0)
  rw [Dat.before_out_kept _ 15 rfl t (by omega) (Bool.eq_false_iff.mpr fun h' => by have := (flush0_15 _).mp h'; dsimp only at this; omega)
    (fun _ => rfl) (fun _ _ => rfl)]
  dsimp only [dats]
end Windows

/-! ## The body's obligation -/

/-- What the pipeline hands the body at point `t`, -/
def bodyPre (c : Dev nD) (t : Fin cfg0.N) : sProp (Mdl F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it takes back. -/
def bodyPost (c : Dev nD) (t : Fin cfg0.N) : sProp (Mdl F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t))

set_option maxHeartbeats 4000000 in
/-- A point's run is the body's triple, whatever the point before left. -/
theorem step (c : Dev nD) (t : Fin cfg0.N) {p16 p19 : sProp (Mdl F)} {hb : Left F → sProp (Mdl F)}
    (z : { z : Left F // RunAt m c t p16 p19 hb z }) (hz : left m c t.val t.isLt = z.1)
    (h16 : ∀ d, owns (c : Thread nD τ) (dgStage t) fullShare ((dats m 0 c).before 15 t d) ⊢ p16)
    (h19 : (dats m 0 c).Φ t.castSucc ⊢ Kept c p19 (hbAny c))
    (hhb : hb z.1 ⊢ hbSt c t.val z.1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = Kept c (owns (c : Thread nD τ) accM fullShare (left m c t.val t.isLt).acc) (hbSt c t.val (left m c t.val t.isLt)) from rfl,
    after0, after1, after2, after3, after4, after5, after6, after7, after8, after9, after10, after11, after12, after13, after14, after15, hz]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave HK := h19 $$ HΦ
  icases HK with ⟨HA, HV, Hg, Hq0, Hq1, Hh⟩
  ihave HD := (h16 d15) $$ H15
  iapply (z.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [HD]; · iexact HD
  isplitl [HA]; · iexact HA
  isplitl [HV]; · iexact HV
  isplitl [Hq0]; · iexact Hq0
  isplitl [Hq1]; · iexact Hq1
  isplitl [Hh]; · iexact Hh
  isplitl [HW]; · iexact HW
  iintro ⟨H0, H1, H2, H3, H4, H5, H6, H7, H8, H9, H10, H11, H12, H13, H14, H15, HA, HV, Hq0, Hq1, Hh, ⟨%W', HW'⟩⟩
  isplitl [HA HV Hg Hq0 Hq1 Hh]
  · isplitl [HA]; · iexact HA
    isplitl [HV]; · iexact HV
    isplitl [Hg]; · iexact Hg
    isplitl [Hq0]; · iexact Hq0
    isplitl [Hq1]; · iexact Hq1
    iapply hhb; iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- What the launch hands the first point. -/
theorem entry (c : Dev nD) : (Pipeline.ΦDRG osem spec0 readRefs wroteRefs (V m) (V m) c : sProp (Mdl F))
    ⊢ Kept c iprop(∃ d, owns (c : Thread nD τ) accM fullShare d) (hbAny c) := by
  rw [ends_eq]
  iintro ⟨⟨HA, HV⟩, Hg, ⟨Hq0, Hq1⟩, -, Hh0, Hh1⟩
  isplitl [HA]; · iexact HA
  isplitl [HV]; · iexact HV
  isplitl [Hg]; · iexact Hg
  isplitl [Hq0]; · iexact Hq0
  isplitl [Hq1]; · iexact Hq1
  isplitl [Hh0]; · iexists _; iexact Hh0
  iexists _; iexact Hh1

theorem inv_pos (c : Dev nD) (n : ℕ) (h : n ≤ cfg0.N) (hz : n ≠ 0) :
    Inv m c n h = Kept c (owns (c : Thread nD τ) accM fullShare (left m c (n - 1) (by omega)).acc) (hbSt c (n - 1) (left m c (n - 1) (by omega))) := by
  cases n with
  | zero => exact absurd rfl hz
  | succ n => rfl

/-- What a later point is handed: the accumulator as the point before left it. -/
theorem handed (c : Dev nD) (t : Fin cfg0.N) (h : t.val ≠ 0) : (dats m 0 c).Φ t.castSucc ⊢ Kept c (owns (c : Thread nD τ) accM fullShare (prev m c t).acc) (hbAny c) := by
  have hN : t.val < 32 := lt_of_lt_of_eq t.isLt (show cfg0.N = 32 from N_0)
  rw [show (dats m 0 c).Φ t.castSucc = Inv m c t.val (Nat.le_of_lt t.isLt) from rfl, inv_pos m c _ _ h]
  unfold hbSt; rw [if_neg (by omega)]

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · refine step m c t (atA m c t h0) (left_A m c t h0) (fun d => ?_) ?_ ?_
    · iintro H; iexists _; iexact H
    · rw [show (dats m 0 c).Φ t.castSucc = Inv m c t.val (Nat.le_of_lt t.isLt) from rfl]
      obtain ⟨n, hn⟩ := t
      obtain rfl : n = 0 := h0
      exact entry m c
    · unfold hbSt; rw [if_neg (by omega)]
  · by_cases h1 : t.val = 31
    · refine step m c t (atC m c t h1 (prev m c t).o15 (prev m c t).acc) (left_C m c t h1) (fun d => ?_) (handed m c t h0) ?_
      · rw [before15 m c t h0]
      · unfold hbSt; rw [if_pos h1]
    · refine step m c t (atB m c t h0 h1 (prev m c t).o15 (prev m c t).acc) (left_B m c t h0 h1) (fun d => ?_) (handed m c t h0) ?_
      · rw [before15 m c t h0]
      · unfold hbSt; rw [if_neg h1]

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

abbrev lastPt : Fin cfg0.N := ⟨31, by show 31 < grid0.N; rw [N_0]; decide⟩

/-- What the last point leaves in the two HBM results: the accumulator, and its cast. -/
def Gfin (c : Dev nD) (b : Ref sig .tc) : Buf (Elt F) ((c : Thread nD τ).loc b) :=
  Function.update (Function.update (V m c) main_v40_5 ((left m c 31 lastPt.isLt).acc : Buf (Elt F) ((c : Thread nD τ).loc main_v40_5)))
    main_v40_6 ((left m c 31 lastPt.isLt).wire : Buf (Elt F) ((c : Thread nD τ).loc main_v40_6)) b

theorem Gfin_acc (c : Dev nD) : Gfin m c main_v40_5 = (left m c 31 lastPt.isLt).acc := by
  unfold Gfin; rw [Function.update_of_ne (by decide), Function.update_self]

theorem Gfin_wire (c : Dev nD) : Gfin m c main_v40_6 = (left m c 31 lastPt.isLt).wire := by
  unfold Gfin; rw [Function.update_self]

theorem dwo_held (c : Dev nD) (x : Vec F S1024x1024 .f32) : (owns (c : Thread nD τ) dwoM fullShare x : sProp (Mdl F)) = hbPt c dwoM x := by
  simp only [dwoM, owns_whole]; try rfl

theorem out_held (c : Dev nD) (x : Vec F S1024x1024 .bf16) : (owns (c : Thread nD τ) outM fullShare x : sProp (Mdl F)) = hbPt c outM x := by
  simp only [outM, owns_whole]; try rfl

theorem leave (c : Dev nD) : (dats m 0 c).Φ (Fin.last cfg0.N) ⊢ (Pipeline.ΦDRG osem spec0 readRefs wroteRefs (V m) (Gfin m) c : sProp (Mdl F)) := by
  have hN : cfg0.N = 32 := N_0
  rw [show (dats m 0 c).Φ (Fin.last cfg0.N) = Inv m c cfg0.N le_rfl from rfl, inv_pos m c _ _ (by omega), ends_eq, Gfin_acc, Gfin_wire]
  have e : ∀ (n : ℕ) (hn : n < cfg0.N), n = 31 → Kept c (owns (c : Thread nD τ) accM fullShare (left m c n hn).acc) (hbSt c n (left m c n hn))
      = Kept c (owns (c : Thread nD τ) accM fullShare (left m c 31 lastPt.isLt).acc) (iprop(owns (c : Thread nD τ) dwoM fullShare (left m c 31 lastPt.isLt).acc ∗ owns (c : Thread nD τ) outM fullShare (left m c 31 lastPt.isLt).wire)) := by
    intro n hn h; subst h; unfold hbSt; rw [if_pos rfl]
  rw [e _ _ (by omega)]
  rw [dwo_held, out_held]
  iintro ⟨HA, HV, Hg, Hq0, Hq1, Hh0, Hh1⟩
  isplitl [HA HV]
  · isplitl [HA]; · iexists _; iexact HA
    iexact HV
  isplitl [Hg]; · iexact Hg
  isplitl [Hq0 Hq1]
  · isplitl [Hq0]; · iexact Hq0
    iexact Hq1
  isplitr; · iempintro
  isplitl [Hh0]; · iexact Hh0
  iexact Hh1

set_option backward.isDefEq.respectTransparency.types false in
/-- The whole run: every window's array as the pipeline's data say, the two HBM results at `Gfin`, the counters at zero. -/
theorem run_main : θ_run defs (onTc (τ := τ) (main (F := F))) (s₀ m ρ)
    (fun r => Pipeline.FramePostRG cfgs (dats m) 0 wroteRefs (V m) (Gfin m) r ∧ r.2.sem = fun _ => 0) :=
  Pipeline.θ_run_frame_dmaRG (Q' := _) cfgs (dats m) (0 : Fin 1) launch0 osem defs₀ Variants.none osem_own readRefs wroteRefs readRefs_sub wroteRefs_sub m ρ main
    (hbody := fun c => (obligation m c).loose) (hshare := fun c => (dats m 0 c).share_full fun _ => rfl)
    (howed := fun _ _ => rfl) (V := V m) (hmain := main_runs m Variants.none) (hA := A_eq m)
    (G := Gfin m) (hin := fun c => Idealize.SL.BI.Entails.refl _) (hout := leave m)

/-- What the run leaves of the argument arrays: every one as it began. -/
theorem kept {r : PUnit × MemSt nD τ sig (Elt F)} (h : Pipeline.FramePostRG cfgs (dats m) 0 wroteRefs (V m) (Gfin m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have rest : ∀ b : Ref sig .tc, b ∈ Pipeline.restRefs sig spec0 → b ∉ wroteRefs → r.2.mem ((c.tc : Thread nD τ).loc b) = V m c b :=
    fun b hb hw => (h.toR c).2 b (Finset.mem_sdiff.mpr ⟨hb, hw⟩)
  refine ⟨?_, ?_, ?_, ?_, ?_, ?_, ?_, ?_⟩
  · exact (rest main_arg0 (Pipeline.mem_restRefs_of main_arg0 (by decide) (by decide)) (by decide)).trans (V_main_arg0 m c)
  · exact (rest main_arg1 (Pipeline.mem_restRefs_of main_arg1 (by decide) (by decide)) (by decide)).trans (V_main_arg1 m c)
  · exact (rest main_arg2 (Pipeline.mem_restRefs_of main_arg2 (by decide) (by decide)) (by decide)).trans (V_main_arg2 m c)
  · exact (rest main_arg3 (Pipeline.mem_restRefs_of main_arg3 (by decide) (by decide)) (by decide)).trans (V_main_arg3 m c)
  · exact ((h.toR c).1 6).trans (((dats m 0 c).arrAt_in 6 rfl _).trans ((A_eq m c 6).trans (V_main_arg4 m c)))
  · exact (rest main_arg5 (Pipeline.mem_restRefs_of main_arg5 (by decide) (by decide)) (by decide)).trans (V_main_arg5 m c)
  · exact (rest main_arg6 (Pipeline.mem_restRefs_of main_arg6 (by decide) (by decide)) (by decide)).trans (V_main_arg6 m c)
  · exact (rest main_arg7 (Pipeline.mem_restRefs_of main_arg7 (by decide) (by decide)) (by decide)).trans (V_main_arg7 m c)

/-- The frame: every argument array ends as it began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨kept m h.1, h.2⟩) (run_main m ρ)

end Cert.MlpKernelIdeal.Mlp

end
-- ==== Proof.MlpPay.lean ====
/- The feed-forward layer's backward body at the ideal values, on blocks that hold real numbers. -/
module

public import proofs.«01_k».proof.Proof.Gen.MlpKernelIdeal.Skeleton
public import proofs.«01_k».proof.Proof.NormMath
public import proofs.«01_k».proof.Proof.HostSums

@[expose] public section

set_option maxRecDepth 16384

noncomputable section

namespace Cert.Mlp

open Idealize.ShloMosaic Idealize.ShloMosaic.TcCoe Cert.MlpKernelIdeal Cert.MlpKernelIdeal.Gen Cert.Reals Cert.Norm

/-- The hidden cotangent of a row: its cotangent by the transposed weights, times the square's slope `s`. -/
def daR (D : ℕ → ℕ → ℝ) (d s : ℕ → ℝ) (l : ℕ) : ℝ := (∑ k : Fin 1024, d k.val * D l k.val) * s l

/-- The cotangent of the normalised stream: the hidden cotangent by the transposed weights. -/
def dhR (U : ℕ → ℕ → ℝ) (a : ℕ → ℝ) (k : ℕ) : ℝ := ∑ l : Fin 4096, a l.val * U k l.val

/-- The same times the gain. -/
def gaR (U : ℕ → ℕ → ℝ) (G a : ℕ → ℝ) (k : ℕ) : ℝ := dhR U a k * G k

/-- The stream's gradient: the cotangent and what comes back through the norm of the row `y`. -/
def dyR (U : ℕ → ℕ → ℝ) (G d y a : ℕ → ℝ) (k : ℕ) : ℝ := d k + dxR y (gaR U G a) k

/-- The gradient of what the output projection takes in. -/
def dmR (O : ℕ → ℕ → ℝ) (z : ℕ → ℝ) (j : ℕ) : ℝ := ∑ k : Fin 1024, z k.val * O j k.val

variable (U D O : ℕ → ℕ → ℝ) (G : ℕ → ℝ) (A S Y Q Z : ℕ → ℕ → ℝ)

theorem pay7 {d : FVec Ideal S256x1024 .bf16} {w : FVec Ideal S1024x1024 .bf16} {s : FVec Ideal S256x1024 .bf16} (o : ℕ)
    (hd : d = emb2 Q) (hw : w = emb2 fun l k => D (o + l) k) (hs : s = emb2 fun r l => S r (o + l)) :
    k0_pay7 (F := Ideal) d w s = emb2 fun r l => daR D (Q r) (S r) (o + l) := by
  subst hd hw hs
  funext j
  idx_vars j
  pointwise [k0_pay7, k0_pay6]
  simp only [emb2_apply, ← EReal.coe_mul, ← coe_sum]
  rfl

-- the other three quarters of the hidden width run the same text
theorem quarter8 (d : FVec Ideal S256x1024 .bf16) (w : FVec Ideal S1024x1024 .bf16) (s : FVec Ideal S256x1024 .bf16) : k0_pay8 (F := Ideal) d w s = k0_pay7 d w s := rfl
theorem quarter11 (d : FVec Ideal S256x1024 .bf16) (w : FVec Ideal S1024x1024 .bf16) (s : FVec Ideal S256x1024 .bf16) : k0_pay11 (F := Ideal) (k0_pay9 d w) (k0_pay10 s) = k0_pay7 d w s := rfl
theorem quarter12 (d : FVec Ideal S256x1024 .bf16) (w : FVec Ideal S1024x1024 .bf16) (s : FVec Ideal S256x1024 .bf16) : k0_pay12 (F := Ideal) (k0_pay6 d) w s = k0_pay7 d w s := rfl

section behind

-- the body behind the hidden cotangent, on blocks that hold these reals
variable {a : FVec Ideal S256x4096 .bf16} {u : FVec Ideal S1024x4096 .bf16} {x : FVec Ideal S256x1024 .f32} {g : FVec Ideal S1x1024 .f32} {d : FVec Ideal S256x1024 .f32}
  (ha : a = emb2 A) (hu : u = emb2 U) (hx : x = emb2 Y) (hg : g = emb2 fun _ k => G k) (hd : d = emb2 Q)

include ha hu in
theorem pay13 : k0_pay13 (F := Ideal) a u = emb2 fun r k => dhR U (A r) k := by
  subst ha hu
  funext j
  idx_vars j
  pointwise [k0_pay13]
  simp only [emb2_apply, ← EReal.coe_mul, ← coe_sum]
  rfl

include hx in
theorem pay15 : k0_pay15 (F := Ideal) x = emb2 fun r _ => rsR (Y r) := by
  subst hx
  funext j
  idx_vars j
  pointwise [k0_pay15, k0_pay14]
  simp only [emb2_apply]
  rw [width_word, eps_word, ms_coe, rsqrt_ms]

include hx in
theorem pay16 : k0_pay16 (F := Ideal) x = emb2 fun r k => Y r k * rsR (Y r) := by
  have h := pay15 Y hx
  funext j
  idx_vars j
  pointwise [k0_pay16, k0_pay14]
  rw [h, hx]
  simp only [emb2_apply, EReal.coe_mul]

include ha hu hg in
theorem pay17 : k0_pay17 (F := Ideal) a u g = emb2 fun r k => gaR U G (A r) k := by
  have h := pay13 U A ha hu
  funext j
  idx_vars j
  pointwise [k0_pay17]
  rw [h, hg]
  simp only [emb2_apply, gaR, EReal.coe_mul]

include ha hu hg hx in
theorem pay18 : k0_pay18 (F := Ideal) a u x g = emb2 fun r k => gaR U G (A r) k * (Y r k * rsR (Y r)) := by
  have h := pay17 U G A ha hu hg
  have h' := pay16 Y hx
  funext j
  idx_vars j
  pointwise [k0_pay18]
  rw [h, h']
  simp only [emb2_apply, EReal.coe_mul]

include ha hu hx in
/-- What the body adds to the gain's gradient. -/
theorem dg_at (acc : FVec Ideal S1x1024 .f32) (p : Fin 1) (q : Fin 1024) : k0_pay19 (F := Ideal) (k0_pay13 a u) (k0_pay16 x) acc (ix2 p q)
    = acc (ix2 p q) + ((∑ r : Fin 256, dhR U (A r.val) q.val * (Y r.val q.val * rsR (Y r.val)) : ℝ) : EReal) := by
  rw [pay13 U A ha hu, pay16 Y hx]
  pointwise [k0_pay19]
  simp only [emb2_apply, ← EReal.coe_mul, ← coe_sum]

include ha hu hx hg hd

/-- The stream's gradient. -/
theorem pay20 : k0_pay20 (F := Ideal) (k0_pay15 x) (k0_pay16 x) (k0_pay17 a u g) (k0_pay18 a u x g) d = emb2 fun r k => dyR U G (Q r) (Y r) (A r) k := by
  rw [pay18 U G A Y ha hu hx hg, pay17 U G A ha hu hg, pay16 Y hx, pay15 Y hx, hd]
  funext j
  idx_vars j
  pointwise [k0_pay20]
  simp only [emb2_apply, ← EReal.coe_mul, ← coe_sum]
  rw [width_word, div_coe _ _ (by norm_num)]
  simp only [← EReal.coe_mul, ← EReal.coe_sub, ← EReal.coe_add]
  rfl

theorem pay21 : k0_pay21 (F := Ideal) (k0_pay15 x) (k0_pay16 x) (k0_pay17 a u g) (k0_pay18 a u x g) d = emb2 fun r k => dyR U G (Q r) (Y r) (A r) k := by
  have h := pay20 U G A Y Q ha hu hx hg hd
  funext j
  idx_vars j
  pointwise [k0_pay21]
  rw [h]

theorem pay22 : k0_pay22 (F := Ideal) (k0_pay15 x) (k0_pay16 x) (k0_pay17 a u g) (k0_pay18 a u x g) d = emb2 fun r k => dyR U G (Q r) (Y r) (A r) k := by
  have h := pay20 U G A Y Q ha hu hx hg hd
  funext j
  idx_vars j
  pointwise [k0_pay22]
  rw [h]

variable {w : FVec Ideal S1024x1024 .bf16} (hw : w = emb2 O)
include hw

theorem pay23 : k0_pay23 (F := Ideal) (k0_pay15 x) (k0_pay16 x) (k0_pay17 a u g) (k0_pay18 a u x g) d w = emb2 fun r j => dmR O (dyR U G (Q r) (Y r) (A r)) j := by
  have h := pay22 U G A Y Q ha hu hx hg hd
  subst hw
  funext j
  idx_vars j
  pointwise [k0_pay23]
  rw [h]
  simp only [emb2_apply, ← EReal.coe_mul, ← coe_sum]
  rfl

/-- The attention half. -/
theorem pay24 : k0_pay24 (F := Ideal) (k0_pay15 x) (k0_pay16 x) (k0_pay17 a u g) (k0_pay18 a u x g) d w = emb2 fun r j => dmR O (dyR U G (Q r) (Y r) (A r)) j := by
  have h := pay23 U O G A Y Q ha hu hx hg hd hw
  funext j
  idx_vars j
  pointwise [k0_pay24]
  rw [h]
  try rfl

/-- The pooled half. -/
theorem pay25 : k0_pay25 (F := Ideal) (k0_pay15 x) (k0_pay16 x) (k0_pay17 a u g) (k0_pay18 a u x g) d w = emb2 fun r j => dmR O (dyR U G (Q r) (Y r) (A r)) (512 + j) := by
  have h := pay23 U O G A Y Q ha hu hx hg hd hw
  funext j
  idx_vars j
  pointwise [k0_pay25]
  rw [h]
  try rfl

end behind

/-- What the body adds to the upper rows of the projection's gradient. -/
theorem up_at {z : FVec Ideal S256x1024 .bf16} {a : FVec Ideal S256x512 .bf16} (hz : z = emb2 Z) (ha : a = emb2 A) (acc : FVec Ideal S512x1024 .f32) (p : Fin 512) (q : Fin 1024) :
    k0_pay1 (F := Ideal) z acc a (ix2 p q) = acc (ix2 p q) + ((∑ r : Fin 256, A r.val p.val * Z r.val q.val : ℝ) : EReal) := by
  subst hz ha
  pointwise [k0_pay1]
  simp only [emb2_apply, ← EReal.coe_mul, ← coe_sum]

/-- What it adds to the lower. -/
theorem low_at {z : FVec Ideal S256x1024 .bf16} {a : FVec Ideal S256x512 .bf16} (hz : z = emb2 Z) (ha : a = emb2 A) (acc : FVec Ideal S512x1024 .f32) (p : Fin 512) (q : Fin 1024) :
    k0_pay2 (F := Ideal) z acc a (ix2 p q) = acc (ix2 p q) + ((∑ r : Fin 256, A r.val p.val * Z r.val q.val : ℝ) : EReal) := by
  subst hz ha
  pointwise [k0_pay2]
  simp only [emb2_apply, ← EReal.coe_mul, ← coe_sum]

/-- The rounded copy holds the same. -/
theorem cast_at (x : FVec Ideal S1024x1024 .f32) (p q : Fin 1024) : k0_pay3 (F := Ideal) x (ix2 p q) = x (ix2 p q) := by
  pointwise [k0_pay3]

end Cert.Mlp

end
-- ==== Proof.MlpBlocks.lean ====
/- What the feed-forward layer's backward kernel is given, and the blocks its body reads, on arguments that hold reals. -/
module

public import proofs.«01_k».proof.Proof.MlpPay
public import proofs.«01_k».proof.Proof.MlpBase
public import proofs.«01_k».proof.Proof.LossKernel
public import Idealize.ShloMosaic.Lib.Pipeline.ValueKit
public import Idealize.ShloMosaic.Lib.Pipeline.ReadBack
public import Idealize.ShloMosaic.Lib.VecWindow
public import Idealize.ShloMosaic.Lib.Claim

@[expose] public section

set_option maxRecDepth 16384

noncomputable section

namespace Cert.Mlp

open Idealize.ShloMosaic Idealize.ShloMosaic.TcCoe Idealize.SL.Sem Cert.MlpKernelIdeal Cert.MlpKernelIdeal.Gen Cert.Reals Cert.Norm
open Cert.Loss (rR sR hR flat tile coe_max emb2_tile)

variable (m : (ℓ : Loc nD τ sig) → Buf (Elt Ideal) ℓ)
-- the reals the arguments hold: the stream, the two halves the projection takes in, the cotangent, the three weights, the gain
variable (X AT PL Q : ℕ → ℕ → ℕ → ℝ) (O U D : ℕ → ℕ → ℝ) (G : ℕ → ℝ)

/-- The kernel's arguments hold these reals on core `c`. -/
structure Holds (c : Dev nD) : Prop where
  x : ∀ (b : Fin 4) (s : Fin 2048) (k : Fin 1024), m ((c : Thread nD τ).loc main_arg0) (ix3 b s k) = ((X b.val s.val k.val : ℝ) : EReal)
  at' : ∀ (b : Fin 4) (s : Fin 2048) (k : Fin 512), m ((c : Thread nD τ).loc main_arg1) (ix3 b s k) = ((AT b.val s.val k.val : ℝ) : EReal)
  pl : ∀ (b : Fin 4) (s : Fin 2048) (k : Fin 512), m ((c : Thread nD τ).loc main_arg2) (ix3 b s k) = ((PL b.val s.val k.val : ℝ) : EReal)
  o : ∀ (a : Fin 1) (j k : Fin 1024), m ((c : Thread nD τ).loc main_arg3) (ix3 a j k) = ((O j.val k.val : ℝ) : EReal)
  g : ∀ (a : Fin 1) (k : Fin 1024), m ((c : Thread nD τ).loc main_arg4) (ix2 a k) = ((G k.val : ℝ) : EReal)
  u : ∀ (a : Fin 1) (k : Fin 1024) (l : Fin 4096), m ((c : Thread nD τ).loc main_arg5) (ix3 a k l) = ((U k.val l.val : ℝ) : EReal)
  d : ∀ (a : Fin 1) (l : Fin 4096) (k : Fin 1024), m ((c : Thread nD τ).loc main_arg6) (ix3 a l k) = ((D l.val k.val : ℝ) : EReal)
  q : ∀ (b : Fin 4) (s : Fin 2048) (k : Fin 1024), m ((c : Thread nD τ).loc main_arg7) (ix3 b s k) = ((Q b.val s.val k.val : ℝ) : EReal)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ win0_11.index t = ![t.val, 0] ∧ win0_12.index t = ![t.val, 0]
    ∧ win0_13.index t = ![t.val, 0] ∧ win0_14.index t = ![t.val, 0] ∧ win0_15.index t = ![0, 0] :=
  (by decide +kernel : ∀ t : Fin grid0.N, _)

/-- The stream behind the output projection, a row: the attention half by the upper weights, the pooled by the lower. -/
def yR (O : ℕ → ℕ → ℝ) (x a p : ℕ → ℝ) (k : ℕ) : ℝ :=
  x k + (∑ j : Fin 512, a j.val * O j.val k + ∑ j : Fin 512, p j.val * O (512 + j.val) k)

section host

variable {X AT PL O U G}

/-- The residual stream as the host forms it. -/
theorem stream_eq (x : FVec Ideal S4x2048x1024 .f32) (a p : FVec Ideal S4x2048x512 .f32) (o : FVec Ideal S1x1024x1024 .f32)
    (hx : ∀ (b : Fin 4) (s : Fin 2048) (k : Fin 1024), x (ix3 b s k) = ((X b.val s.val k.val : ℝ) : EReal))
    (ha : ∀ (b : Fin 4) (s : Fin 2048) (k : Fin 512), a (ix3 b s k) = ((AT b.val s.val k.val : ℝ) : EReal))
    (hp : ∀ (b : Fin 4) (s : Fin 2048) (k : Fin 512), p (ix3 b s k) = ((PL b.val s.val k.val : ℝ) : EReal))
    (ho : ∀ (a : Fin 1) (j k : Fin 1024), o (ix3 a j k) = ((O j.val k.val : ℝ) : EReal)) :
    addf (F := Ideal) (φ := .f32) (shapeCast S8192x1024 x shapeCasts_S4x2048x1024_S8192x1024)
      (Host.dotGeneral (φ₁ := .f32) (φ₂ := .f32) dot_S8192x1024_S1024x1024_S8192x1024_1_0_0_1_n_n none
        (concatenate S8192x1024 1 [⟨S8192x512, shapeCast S8192x512 a shapeCasts_S4x2048x512_S8192x512⟩, ⟨S8192x512, shapeCast S8192x512 p shapeCasts_S4x2048x512_S8192x512⟩]
          concatenates_S8192x512_S8192x512_S8192x1024_d1)
        (shapeCast S1024x1024 o shapeCasts_S1x1024x1024_S1024x1024))
    = emb2 (n := 8192) (m := 1024) fun r => yR O (flat X r) (flat AT r) (flat PL r) := by
  funext (j : S8192x1024.Idx)
  idx_vars j
  pointwise []
  simp only [hx, ha, hp, ho, ← EReal.coe_mul, ← coe_sum, ← EReal.coe_add]
  rfl

/-- The square's slope as the host forms it. -/
theorem slope_eq (y : FVec Ideal S8192x1024 .f32) (g : FVec Ideal S1x1024 .f32) (u : FVec Ideal S1x1024x4096 .f32) {Y : ℕ → ℕ → ℝ} (hy : y = emb2 Y)
    (hg : ∀ (a : Fin 1) (k : Fin 1024), g (ix2 a k) = ((G k.val : ℝ) : EReal))
    (hu : ∀ (a : Fin 1) (k : Fin 1024) (l : Fin 4096), u (ix3 a k l) = ((U k.val l.val : ℝ) : EReal)) :
    truncf (F := Ideal) .bf16 (φ := .f32) (addf
        (maximumf (Host.dotGeneral (φ₁ := .f32) (φ₂ := .f32) dot_S8192x1024_S1024x4096_S8192x4096_1_0_0_1_n_n none
            (mulf (mulf y (broadcastInDim S8192x1024 ![0, 1] bcast_S8192x1_S8192x1024_0_1 (Host.rsqrt (addf (Host.divf
                (broadcastInDim S8192x1 ![0] bcast_S8192_S8192x1_0 (Host.reduceAdd (mulf y y) (constant S_ FTy.f32 0#32) reducesTo_S8192x1024_S8192_d1 h_S_))
                (broadcastInDim S8192x1 ![] bcast_S_S8192x1 (constant S_ FTy.f32 1149239296#32))) (broadcastInDim S8192x1 ![] bcast_S_S8192x1 (constant S_ FTy.f32 897988541#32))))))
              (broadcastInDim S8192x1024 ![0, 1] bcast_S1x1024_S8192x1024_0_1 (broadcastInDim S1x1024 ![1] bcast_S1024_S1x1024_1 (shapeCast S1024 g shapeCasts_S1x1024_S1024))))
            (shapeCast S1024x4096 u shapeCasts_S1x1024x4096_S1024x4096))
          (broadcastInDim S8192x4096 ![] bcast_S_S8192x4096 (constant S_ FTy.f32 0#32)))
        (maximumf (Host.dotGeneral (φ₁ := .f32) (φ₂ := .f32) dot_S8192x1024_S1024x4096_S8192x4096_1_0_0_1_n_n none
            (mulf (mulf y (broadcastInDim S8192x1024 ![0, 1] bcast_S8192x1_S8192x1024_0_1 (Host.rsqrt (addf (Host.divf
                (broadcastInDim S8192x1 ![0] bcast_S8192_S8192x1_0 (Host.reduceAdd (mulf y y) (constant S_ FTy.f32 0#32) reducesTo_S8192x1024_S8192_d1 h_S_))
                (broadcastInDim S8192x1 ![] bcast_S_S8192x1 (constant S_ FTy.f32 1149239296#32))) (broadcastInDim S8192x1 ![] bcast_S_S8192x1 (constant S_ FTy.f32 897988541#32))))))
              (broadcastInDim S8192x1024 ![0, 1] bcast_S1x1024_S8192x1024_0_1 (broadcastInDim S1x1024 ![1] bcast_S1024_S1x1024_1 (shapeCast S1024 g shapeCasts_S1x1024_S1024))))
            (shapeCast S1024x4096 u shapeCasts_S1x1024x4096_S1024x4096))
          (broadcastInDim S8192x4096 ![] bcast_S_S8192x4096 (constant S_ FTy.f32 0#32))))
      bitsLt_bf16_f32
    = emb2 (n := 8192) (m := 4096) fun r => sR U (hR G (Y r)) := by
  subst hy
  funext (j : S8192x4096.Idx)
  idx_vars j
  pointwise []
  simp only [hu, hg, emb2_apply]
  rw [width_word, eps_word, ms_coe (Y j0.val), rsqrt_ms]
  simp only [← EReal.coe_mul, ← coe_sum]
  exact congrArg (fun z => z + z) (coe_max _ 0)

end host

variable {m X AT PL Q O U D G} {c : Dev nD} (H : Holds m X AT PL Q O U D G c)
include H

theorem V_o : V m c main_v1 = emb2 (n := 1024) (m := 1024) O := by
  entry_read
  funext (j : S1024x1024.Idx)
  idx_vars j
  pointwise []
  exact H.o _ _ _

theorem V_u : V m c main_v3 = emb2 (n := 1024) (m := 4096) U := by
  entry_read
  funext (j : S1024x4096.Idx)
  idx_vars j
  pointwise []
  exact H.u _ _ _

theorem V_d : V m c main_v5 = emb2 (n := 4096) (m := 1024) D := by
  entry_read
  funext (j : S4096x1024.Idx)
  idx_vars j
  pointwise []
  exact H.d _ _ _

theorem V_a : V m c main_v7 = emb2 (n := 8192) (m := 512) (flat AT) := by
  entry_read
  funext (j : S8192x512.Idx)
  idx_vars j
  pointwise []
  exact H.at' _ _ _

theorem V_p : V m c main_v9 = emb2 (n := 8192) (m := 512) (flat PL) := by
  entry_read
  funext (j : S8192x512.Idx)
  idx_vars j
  pointwise []
  exact H.pl _ _ _

theorem V_q : V m c main_v37 = emb2 (n := 8192) (m := 1024) (flat Q) := by
  entry_read
  funext (j : S8192x1024.Idx)
  idx_vars j
  pointwise []
  exact H.q _ _ _

theorem V_qb : V m c main_v38 = emb2 (n := 8192) (m := 1024) (flat Q) := by
  entry_read
  funext (j : S8192x1024.Idx)
  idx_vars j
  pointwise []
  exact H.q _ _ _

theorem V_g : V m c main_arg4 = emb2 (n := 1) (m := 1024) fun _ => G := by
  entry_read
  funext (j : S1x1024.Idx)
  idx_vars j
  exact H.g _ _

theorem V_y : V m c main_v16 = emb2 (n := 8192) (m := 1024) fun r => yR O (flat X r) (flat AT r) (flat PL r) := by
  entry_read
  exact stream_eq _ _ _ _ H.x H.at' H.pl H.o

theorem V_s : V m c main_v36 = emb2 (n := 8192) (m := 4096) fun r => sR U (hR G (yR O (flat X r) (flat AT r) (flat PL r))) := by
  entry_read
  exact slope_eq _ _ _ (stream_eq _ _ _ _ H.x H.at' H.pl H.o) H.g H.u

omit H in
/-- Row `r` of the stream behind the output projection, among the rows of grid point `t`. -/
def yT (X AT PL : ℕ → ℕ → ℕ → ℝ) (O : ℕ → ℕ → ℝ) (t r : ℕ) : ℕ → ℝ := yR O (tile X t r) (tile AT t r) (tile PL t r)

theorem ld_qb (t : Fin cfg0.N) : iblk m c 0 t = emb2 (n := 256) (m := 1024) (tile Q t.val) := by
  unfold iblk
  rw [show V m c (Pipeline.arrRef spec0 0) = _ from V_qb H]
  funext (j : S256x1024.Idx)
  idx_vars j
  blk_simp [emb2, idx t]
  rfl

theorem ld_s (t : Fin cfg0.N) : iblk m c 1 t = emb2 (n := 256) (m := 4096) fun r => sR U (hR G (yT X AT PL O t.val r)) := by
  unfold iblk
  rw [show V m c (Pipeline.arrRef spec0 1) = _ from V_s H]
  funext (j : S256x4096.Idx)
  idx_vars j
  blk_simp [emb2, idx t]
  rfl

theorem ld_d (t : Fin cfg0.N) : iblk m c 2 t = emb2 (n := 4096) (m := 1024) D := by
  unfold iblk
  rw [show V m c (Pipeline.arrRef spec0 2) = _ from V_d H]
  funext (j : S4096x1024.Idx)
  idx_vars j
  blk_simp [emb2, idx t]

theorem ld_u (t : Fin cfg0.N) : iblk m c 3 t = emb2 (n := 1024) (m := 4096) U := by
  unfold iblk
  rw [show V m c (Pipeline.arrRef spec0 3) = _ from V_u H]
  funext (j : S1024x4096.Idx)
  idx_vars j
  blk_simp [emb2, idx t]

theorem ld_q (t : Fin cfg0.N) : iblk m c 4 t = emb2 (n := 256) (m := 1024) (tile Q t.val) := by
  unfold iblk
  rw [show V m c (Pipeline.arrRef spec0 4) = _ from V_q H]
  funext (j : S256x1024.Idx)
  idx_vars j
  blk_simp [emb2, idx t]
  rfl

theorem ld_y (t : Fin cfg0.N) : iblk m c 5 t = emb2 (n := 256) (m := 1024) (yT X AT PL O t.val) := by
  unfold iblk
  rw [show V m c (Pipeline.arrRef spec0 5) = _ from V_y H]
  funext (j : S256x1024.Idx)
  idx_vars j
  blk_simp [emb2, idx t]
  rfl

theorem ld_g (t : Fin cfg0.N) : iblk m c 6 t = emb2 (n := 1) (m := 1024) fun _ k => G k := by
  unfold iblk
  rw [show V m c (Pipeline.arrRef spec0 6) = _ from V_g H]
  funext (j : S1x1024.Idx)
  idx_vars j
  blk_simp [emb2, idx t]

theorem ld_o (t : Fin cfg0.N) : iblk m c 7 t = emb2 (n := 1024) (m := 1024) O := by
  unfold iblk
  rw [show V m c (Pipeline.arrRef spec0 7) = _ from V_o H]
  funext (j : S1024x1024.Idx)
  idx_vars j
  blk_simp [emb2, idx t]

theorem ld_a (t : Fin cfg0.N) : iblk m c 8 t = emb2 (n := 256) (m := 512) (tile AT t.val) := by
  unfold iblk
  rw [show V m c (Pipeline.arrRef spec0 8) = _ from V_a H]
  funext (j : S256x512.Idx)
  idx_vars j
  blk_simp [emb2, idx t]
  rfl

theorem ld_p (t : Fin cfg0.N) : iblk m c 9 t = emb2 (n := 256) (m := 512) (tile PL t.val) := by
  unfold iblk
  rw [show V m c (Pipeline.arrRef spec0 9) = _ from V_p H]
  funext (j : S256x512.Idx)
  idx_vars j
  blk_simp [emb2, idx t]
  rfl

/-- A quarter of the weights out of the hidden width. -/
theorem ld_dq (t : Fin cfg0.N) (o : ℕ) (inb : ∀ a, (![o, 0] : Fin 2 → ℕ) a + (![1024, 1024] : Fin 2 → ℕ) a ≤ S4096x1024.size a) :
    View.ld (Val := Elt Ideal) (S := S4096x1024) (e' := .bf16) (iblk m c 2 t) (Rect.unit (s := S4096x1024) ![o, 0] ![1024, 1024] inb)
      = emb2 (n := 1024) (m := 1024) fun l k => D (o + l) k := by
  rw [ld_d H t]
  funext (j : S1024x1024.Idx)
  idx_vars j
  pointwise []
  first | rfl | (simp only [emb2]; rfl)

/-- A quarter of the slopes. -/
theorem ld_sq (t : Fin cfg0.N) (o : ℕ) (inb : ∀ a, (![0, o] : Fin 2 → ℕ) a + (![256, 1024] : Fin 2 → ℕ) a ≤ S256x4096.size a) :
    View.ld (Val := Elt Ideal) (S := S256x4096) (e' := .bf16) (iblk m c 1 t) (Rect.unit (s := S256x4096) ![0, o] ![256, 1024] inb)
      = emb2 (n := 256) (m := 1024) fun r l => sR U (hR G (yT X AT PL O t.val r)) (o + l) := by
  rw [ld_s H t]
  funext (j : S256x1024.Idx)
  idx_vars j
  pointwise []
  first | rfl | (simp only [emb2]; rfl)

end Cert.Mlp

end
-- ==== Proof.MlpRef.lean ====
/- What the forward layer and differentiating it compute on arguments that hold reals. -/
module

public import proofs.«01_k».proof.Proof.MlpBlocks
public import proofs.«01_k».proof.Proof.LossRef
public import proofs.«01_k».proof.Proof.RealOps
public import proofs.«01_k».proof.Proof.Gen.MlpReferenceIdeal.Read

@[expose] public section

set_option maxRecDepth 16384

noncomputable section

namespace Cert.Mlp

open Cert.Reals Cert.Norm
open Cert.Loss (rR sR hR flat tile)

variable (X AT PL Q : ℕ → ℕ → ℕ → ℝ) (O U D : ℕ → ℕ → ℝ) (G : ℕ → ℝ)

/-- The residual stream at a row. -/
def yB (b s : ℕ) : ℕ → ℝ := yR O (X b s) (AT b s) (PL b s)
/-- The hidden cotangent at a row. -/
def aB (b s : ℕ) : ℕ → ℝ := daR D (Q b s) (sR U (hR G (yB X AT PL O b s)))
/-- The stream's gradient at a row. -/
def zB (b s : ℕ) : ℕ → ℝ := dyR U G (Q b s) (yB X AT PL O b s) (aB X AT PL Q O U D G b s)
/-- What a row adds to the gain's gradient. -/
def gB (b s : ℕ) (k : ℕ) : ℝ := dhR U (aB X AT PL Q O U D G b s) k * (yB X AT PL O b s k * rsR (yB X AT PL O b s))
/-- What a tile of rows adds to it. -/
def gT (t k : ℕ) : ℝ := ∑ r : Fin 256, tile (gB X AT PL Q O U D G) t r.val k
/-- What a tile of rows adds to the projection's gradient, for one of the two halves it takes in. -/
def wT (A : ℕ → ℕ → ℕ → ℝ) (t j k : ℕ) : ℝ := ∑ r : Fin 256, tile A t r.val j * tile (zB X AT PL Q O U D G) t r.val k

/-- The projection's gradient: the attention half above the pooled. -/
def dwA (j k : ℕ) : ℝ := if j < 512 then ∑ t : Fin 32, wT X AT PL Q O U D G AT t.val j k else ∑ t : Fin 32, wT X AT PL Q O U D G PL t.val (j - 512) k

end Cert.Mlp

namespace Cert.MlpRef

open Idealize.ShloMosaic Idealize.ShloMosaic.TcCoe Cert.MlpReferenceIdeal Cert.MlpReferenceIdeal.Read Cert.Reals Cert.Norm Cert.Mlp Cert.LossRef
open Cert.Loss (rR sR hR flat tile coe_max)

variable (X AT PL Q : ℕ → ℕ → ℕ → ℝ) (O U D : ℕ → ℕ → ℝ) (G : ℕ → ℝ)

/-- The stream, as an array. -/
abbrev argX : FVec Ideal S4x2048x1024 .f32 := emb3 X
/-- One of the two halves the projection takes in, as an array. -/
abbrev argH : FVec Ideal S4x2048x512 .f32 := emb3 AT
/-- The projection's weights, as an array. -/
abbrev argO : FVec Ideal S1x1024x1024 .f32 := emb3 fun _ => O
/-- The gain, as an array. -/
abbrev argG : FVec Ideal S1x1024 .f32 := emb2 fun _ => G
/-- The weights into the hidden width, as an array. -/
abbrev argU : FVec Ideal S1x1024x4096 .f32 := emb3 fun _ => U
/-- The weights out of it, as an array. -/
abbrev argD : FVec Ideal S1x4096x1024 .f32 := emb3 fun _ => D

theorem stream : val_main_v4 (F := Ideal) (argX X) (argH AT) (argH PL) (argO O) = emb3 (yB X AT PL O) := by
  funext j
  idx_vars j
  pointwise [val_main_v4, val_main_v3, val_main_v2]
  unfold val_main_v1
  pointwise []
  simp only [emb3_apply, ← EReal.coe_mul, ← coe_sum, ← EReal.coe_add]
  rfl

theorem ms : val_main_v12 (F := Ideal) (argX X) (argH AT) (argH PL) (argO O) = emb3 fun b s _ => msR (yB X AT PL O b s) := by
  have h := stream X AT PL O
  funext j
  idx_vars j
  pointwise [val_main_v12, val_main_v11, val_main_v10, val_main_v9, val_main_v8, val_main_v7, val_main_v6, val_main_cst_0, val_main_cst_1, val_main_cst_2]
  rw [h]
  simp only [emb3_apply]
  rw [width_word, eps_word, ms_coe (yB X AT PL O j0.val j1.val)]

theorem rs : val_main_v13 (F := Ideal) (argX X) (argH AT) (argH PL) (argO O) = emb3 fun b s _ => rsR (yB X AT PL O b s) := by
  have h := ms X AT PL O
  funext j
  idx_vars j
  pointwise [val_main_v13]
  rw [h]
  exact rsqrt_ms _

theorem fall : val_main_v16 (F := Ideal) (argX X) (argH AT) (argH PL) (argO O)
    = emb3 fun b s _ => -(1 / 2) * (rsR (yB X AT PL O b s) / msR (yB X AT PL O b s)) := by
  have h := ms X AT PL O
  have h' := rs X AT PL O
  funext j
  idx_vars j
  pointwise [val_main_v16, val_main_v15, val_main_v14, val_main_cst_3]
  rw [h, h', half_word]
  simp only [emb3_apply]
  rw [div_coe _ _ (ms_pos _).ne', ← EReal.coe_mul]

theorem normed : val_main_v18 (F := Ideal) (argX X) (argH AT) (argH PL) (argO O)
    = emb3 fun b s k => yB X AT PL O b s k * rsR (yB X AT PL O b s) := by
  have h := stream X AT PL O
  have h' := rs X AT PL O
  funext j
  idx_vars j
  pointwise [val_main_v18, val_main_v17]
  rw [h, h']
  simp only [emb3_apply, EReal.coe_mul]

theorem hidden : val_main_v21 (F := Ideal) (argX X) (argH AT) (argH PL) (argO O) (argG G) = emb3 fun b s => hR G (yB X AT PL O b s) := by
  have h := normed X AT PL O
  funext j
  idx_vars j
  pointwise [val_main_v21, val_main_v20, val_main_v19, val_main_v5]
  rw [h]
  simp only [emb3_apply, emb2_apply, ← EReal.coe_mul]
  rfl

theorem unit : val_main_v24 (F := Ideal) (argX X) (argH AT) (argH PL) (argO O) (argG G) (argU U)
    = emb3 fun b s l => ∑ k : Fin 1024, hR G (yB X AT PL O b s) k.val * U k.val l := by
  have h := hidden X AT PL O G
  funext j
  idx_vars j
  pointwise [val_main_v24, val_main_v23, val_main_v22, val_main_v0, val_main_cst]
  rw [h]
  simp only [emb3_apply, ← EReal.coe_mul, ← coe_sum]

theorem rectified : val_main_v25 (F := Ideal) (argX X) (argH AT) (argH PL) (argO O) (argG G) (argU U)
    = emb3 fun b s => rR U (hR G (yB X AT PL O b s)) := by
  have h := unit X AT PL O U G
  funext j
  idx_vars j
  pointwise [val_main_v25, val_main_call0_v0, val_main_call0_cst]
  rw [h]
  exact coe_max _ _

/-- The product with twice the rectified value where the value is positive, zero elsewhere. -/
theorem tap_where {a p : ℝ} {x y : EReal} [Decidable (0 < x)] (hx : x = (a : EReal)) (hy : y = ((max a 0 : ℝ) : EReal)) :
    (if 0 < x then (p : EReal) * (((2 : ℝ) : EReal) * y) else 0) = ((p * (max a 0 + max a 0) : ℝ) : EReal) := by
  subst hx hy
  rcases lt_or_ge 0 a with h0 | h0
  · rw [if_pos (EReal.coe_pos.mpr h0), ← EReal.coe_mul, ← EReal.coe_mul, two_mul]
  · rw [if_neg (fun h1 => not_lt.mpr h0 (EReal.coe_pos.mp h1)), max_eq_right h0, add_zero, mul_zero, EReal.coe_zero]

theorem tap : val_main_v40 (F := Ideal) (argX X) (argH AT) (argH PL) (argO O) (argG G) (argU U) (argD D) (argX Q) = emb3 (aB X AT PL Q O U D G) := by
  have h := unit X AT PL O U G
  have h' := rectified X AT PL O U G
  funext j
  idx_vars j
  pointwise [val_main_v40, val_main_v39, val_main_v38, val_main_v37, val_main_v36, val_main_v32, val_main_v31, val_main_v30, val_main_v27, val_main_v26, val_main_cst_4, val_main_cst_6, val_main_cst_7]
  rw [h, h', two_word]
  simp only [emb3_apply, ← EReal.coe_mul, ← coe_sum]
  exact tap_where rfl rfl

theorem dh : val_main_v41 (F := Ideal) (argX X) (argH AT) (argH PL) (argO O) (argG G) (argU U) (argD D) (argX Q)
    = emb3 fun b s => dhR U (aB X AT PL Q O U D G b s) := by
  have h := tap X AT PL Q O U D G
  funext j
  idx_vars j
  pointwise [val_main_v41, val_main_v22]
  rw [h]
  simp only [emb3_apply, ← EReal.coe_mul, ← coe_sum]
  rfl

theorem ga : val_main_v46 (F := Ideal) (argX X) (argH AT) (argH PL) (argO O) (argG G) (argU U) (argD D) (argX Q)
    = emb3 fun b s => gaR U G (aB X AT PL Q O U D G b s) := by
  have h := dh X AT PL Q O U D G
  funext j
  idx_vars j
  pointwise [val_main_v46, val_main_v45, val_main_v19, val_main_v5]
  rw [h]
  simp only [emb3_apply, emb2_apply, ← EReal.coe_mul]
  rfl

theorem coef : val_main_v58 (F := Ideal) (argX X) (argH AT) (argH PL) (argO O) (argG G) (argU U) (argD D) (argX Q)
    = emb3 fun b s _ => cR (yB X AT PL O b s) (gaR U G (aB X AT PL Q O U D G b s)) := by
  have h := ga X AT PL Q O U D G
  have h' := fall X AT PL O
  have h'' := stream X AT PL O
  funext j
  idx_vars j
  pointwise [val_main_v58, val_main_v57, val_main_v56, val_main_v55, val_main_v54, val_main_v50, val_main_v49, val_main_v48, val_main_cst_10, val_main_cst_11, val_main_cst_12]
  rw [h, h', h'', width_word]
  simp only [emb3_apply, ← EReal.coe_mul, ← coe_sum]
  rw [Fin.sum_univ_one, div_coe _ _ (by norm_num)]
  rfl

/-- The stream's gradient. -/
theorem dx : val_main_v62 (F := Ideal) (argX X) (argH AT) (argH PL) (argO O) (argG G) (argU U) (argD D) (argX Q) = emb3 (zB X AT PL Q O U D G) := by
  have h := ga X AT PL Q O U D G
  have h' := coef X AT PL Q O U D G
  have h'' := stream X AT PL O
  have h₃ := rs X AT PL O
  funext j
  idx_vars j
  pointwise [val_main_v62, val_main_v61, val_main_v60, val_main_v59, val_main_v53, val_main_v52, val_main_v51, val_main_v35]
  rw [h, h', h'', h₃]
  simp only [emb3_apply, ← EReal.coe_mul]
  rw [dx_add, ← EReal.coe_add]
  rfl

/-- The gradient of what the projection takes in. -/
theorem dm : val_main_v66 (F := Ideal) (argX X) (argH AT) (argH PL) (argO O) (argG G) (argU U) (argD D) (argX Q)
    = emb3 fun b s => dmR O (zB X AT PL Q O U D G b s) := by
  have h := dx X AT PL Q O U D G
  funext j
  idx_vars j
  pointwise [val_main_v66, val_main_v2]
  rw [h]
  simp only [emb3_apply, ← EReal.coe_mul, ← coe_sum]
  rfl

theorem tap_eq : val_main_v71 (F := Ideal) (argX X) (argH AT) (argH PL) (argO O) (argG G) (argU U) (argD D) (argX Q)
    = emb2 (n := 8192) (m := 4096) (flat (aB X AT PL Q O U D G)) := by
  have h := tap X AT PL Q O U D G
  funext (j : S8192x4096.Idx)
  idx_vars j
  pointwise [val_main_v71, val_main_v70]
  rw [h]
  rfl

theorem dx_eq : val_main_v72 (F := Ideal) (argX X) (argH AT) (argH PL) (argO O) (argG G) (argU U) (argD D) (argX Q)
    = emb2 (n := 8192) (m := 1024) (flat (zB X AT PL Q O U D G)) := by
  have h := dx X AT PL Q O U D G
  funext (j : S8192x1024.Idx)
  idx_vars j
  pointwise [val_main_v72]
  rw [h]
  rfl

theorem da_eq : val_main_v74 (F := Ideal) (argX X) (argH AT) (argH PL) (argO O) (argG G) (argU U) (argD D) (argX Q)
    = emb2 (n := 8192) (m := 512) fun r => dmR O (flat (zB X AT PL Q O U D G) r) := by
  have h := dm X AT PL Q O U D G
  funext (j : S8192x512.Idx)
  idx_vars j
  pointwise [val_main_v74, val_main_v73, val_main_v68]
  rw [h]
  rfl

theorem dp_eq : val_main_v75 (F := Ideal) (argX X) (argH AT) (argH PL) (argO O) (argG G) (argU U) (argD D) (argX Q)
    = emb2 (n := 8192) (m := 512) fun r j => dmR O (flat (zB X AT PL Q O U D G) r) (512 + j) := by
  have h := dm X AT PL Q O U D G
  funext (j : S8192x512.Idx)
  idx_vars j
  pointwise [val_main_v75, val_main_v69]
  rw [h]
  first | rfl | (simp only [emb3, emb2]; rfl)

/-- The gain's gradient. -/
theorem dg_eq : val_main_v63 (F := Ideal) (argX X) (argH AT) (argH PL) (argO O) (argG G) (argU U) (argD D) (argX Q)
    = fun y : S1x1024.Idx => ((∑ t : Fin 32, gT X AT PL Q O U D G t.val (y 1).val : ℝ) : EReal) := by
  have h := dh X AT PL Q O U D G
  have h' := normed X AT PL O
  funext (j : S1x1024.Idx)
  idx_vars j
  pointwise [val_main_v63]
  unfold val_main_v47
  rw [sum_front _ (val_main_cst_9 (F := Ideal)) (by pointwise [val_main_cst_9]), Fin.sum_univ_one, Fin.sum_univ_one]
  pointwise [val_main_v44]
  unfold val_main_v43
  rw [sum_front _ (val_main_cst_8 (F := Ideal)) (by pointwise [val_main_cst_8])]
  pointwise [val_main_v42]
  rw [h, h']
  simp only [emb3_apply, ← EReal.coe_mul, ← coe_sum]
  refine congrArg _ ?_
  unfold gT tile flat
  rw [sum_batch 32 256 (by norm_num) fun b s => gB X AT PL Q O U D G b s j1.val]
  exact Finset.sum_congr rfl fun b _ => Finset.sum_congr rfl fun s _ => mul_comm _ _

/-- The projection's gradient, the two halves one above the other. -/
theorem dw : val_main_v65 (F := Ideal) (argX X) (argH AT) (argH PL) (argO O) (argG G) (argU U) (argD D) (argX Q)
    = emb2 (n := 1024) (m := 1024) (dwA X AT PL Q O U D G) := by
  have h := dx X AT PL Q O U D G
  funext (j : S1024x1024.Idx)
  idx_vars j
  pointwise [val_main_v65]
  unfold val_main_v64
  pointwise []
  rw [h]
  unfold val_main_v1
  pointwise []
  simp only [emb2_apply, dwA]
  by_cases hj : j0.val < 512
  · simp only [dif_pos hj, if_pos hj, emb3_apply, ← EReal.coe_mul, ← coe_sum]
    refine congrArg _ ?_
    unfold wT tile flat
    rw [sum_batch 32 256 (by norm_num) fun b s => AT b s j0.val * zB X AT PL Q O U D G b s j1.val]
    exact Finset.sum_congr rfl fun b _ => Finset.sum_congr rfl fun s _ => mul_comm _ _
  · simp only [dif_neg hj, if_neg hj, emb3_apply, ← EReal.coe_mul, ← coe_sum]
    refine congrArg _ ?_
    unfold wT tile flat
    rw [sum_batch 32 256 (by norm_num) fun b s => PL b s (j0.val - 512) * zB X AT PL Q O U D G b s j1.val]
    exact Finset.sum_congr rfl fun b _ => Finset.sum_congr rfl fun s _ => mul_comm _ _

theorem dw_eq : val_main_v76 (F := Ideal) (argX X) (argH AT) (argH PL) (argO O) (argG G) (argU U) (argD D) (argX Q) = emb2 (n := 1024) (m := 1024) (dwA X AT PL Q O U D G) := by
  have h := dw X AT PL Q O U D G
  funext (j : S1024x1024.Idx)
  idx_vars j
  pointwise [val_main_v76, val_main_v67]
  rw [h]

theorem dwb_eq : val_main_v78 (F := Ideal) (argX X) (argH AT) (argH PL) (argO O) (argG G) (argU U) (argD D) (argX Q) = emb2 (n := 1024) (m := 1024) (dwA X AT PL Q O U D G) := by
  have h := dw X AT PL Q O U D G
  funext (j : S1024x1024.Idx)
  idx_vars j
  pointwise [val_main_v78, val_main_v77, val_main_v67]
  rw [h]

end Cert.MlpRef

end
-- ==== Proof.MlpKernel.lean ====
/- What the feed-forward layer's backward kernel leaves in its seven results, on arguments that hold reals. -/
module

public import proofs.«01_k».proof.Proof.MlpFrame
public import proofs.«01_k».proof.Proof.MlpRef

@[expose] public section

set_option maxRecDepth 16384

noncomputable section

namespace Cert.Mlp

open Idealize.ShloMosaic Idealize.ShloMosaic.TcCoe Idealize.SL.Sem Cert.MlpKernelIdeal Cert.MlpKernelIdeal.Gen Cert.MlpKernelIdeal.Mlp Cert.Reals Cert.Norm
open Idealize.ShloMosaic.Pipeline (Dat)
open Cert.Loss (rR sR hR flat tile emb2_tile)

variable {m : (ℓ : Loc nD τ sig) → Buf (Elt Ideal) ℓ}
variable {X AT PL Q : ℕ → ℕ → ℕ → ℝ} {O U D : ℕ → ℕ → ℝ} {G : ℕ → ℝ} {c : Dev nD} (H : Holds m X AT PL Q O U D G c)
include H

omit H in
/-- The four stores of the hidden cotangent. -/
def taps (m : (ℓ : Loc nD τ sig) → Buf (Elt Ideal) ℓ) (c : Dev nD) (t : Fin cfg0.N) : List (View.Piece (Elt Ideal) S256x4096 .bf16) :=
  [⟨Rect.unit ![0, 3072] ![256, 1024] inb_S256x4096_S256x1024_0_3072,
      k0_pay12 (k0_pay6 (iblk m c 0 t)) (View.ld (iblk m c 2 t) (Rect.unit ![3072, 0] ![1024, 1024] inb_S4096x1024_S1024x1024_3072_0))
        (View.ld (iblk m c 1 t) (Rect.unit ![0, 3072] ![256, 1024] inb_S256x4096_S256x1024_0_3072))⟩,
    ⟨Rect.unit ![0, 2048] ![256, 1024] inb_S256x4096_S256x1024_0_2048,
      k0_pay11 (k0_pay9 (iblk m c 0 t) (View.ld (iblk m c 2 t) (Rect.unit ![2048, 0] ![1024, 1024] inb_S4096x1024_S1024x1024_2048_0)))
        (k0_pay10 (View.ld (iblk m c 1 t) (Rect.unit ![0, 2048] ![256, 1024] inb_S256x4096_S256x1024_0_2048)))⟩,
    ⟨Rect.unit ![0, 1024] ![256, 1024] inb_S256x4096_S256x1024_0_1024,
      k0_pay8 (iblk m c 0 t) (View.ld (iblk m c 2 t) (Rect.unit ![1024, 0] ![1024, 1024] inb_S4096x1024_S1024x1024_1024_0))
        (View.ld (iblk m c 1 t) (Rect.unit ![0, 1024] ![256, 1024] inb_S256x4096_S256x1024_0_1024))⟩,
    ⟨Rect.unit ![0, 0] ![256, 1024] inb_S256x4096_S256x1024_0_0,
      k0_pay7 (iblk m c 0 t) (View.ld (iblk m c 2 t) (Rect.unit ![0, 0] ![1024, 1024] inb_S4096x1024_S1024x1024_0_0))
        (View.ld (iblk m c 1 t) (Rect.unit ![0, 0] ![256, 1024] inb_S256x4096_S256x1024_0_0))⟩]

theorem taps_eq (t : Fin cfg0.N) : View.canon (taps m c t) = emb2 (n := 256) (m := 4096) (tile (aB X AT PL Q O U D G) t.val) := by
  funext (y : S256x4096.Idx)
  unfold taps
  canon_tiles x hx
  · exact (congrFun ((quarter12 _ _ _).trans (pay7 D _ (tile Q t.val) 3072 (ld_qb H t) (ld_dq H t 3072 _) (ld_sq H t 3072 _))) x).trans (emb2_tile (tile (aB X AT PL Q O U D G) t.val) 3072 x y hx0 hx1)
  · exact (congrFun ((quarter11 _ _ _).trans (pay7 D _ (tile Q t.val) 2048 (ld_qb H t) (ld_dq H t 2048 _) (ld_sq H t 2048 _))) x).trans (emb2_tile (tile (aB X AT PL Q O U D G) t.val) 2048 x y hx0 hx1)
  · exact (congrFun ((quarter8 _ _ _).trans (pay7 D _ (tile Q t.val) 1024 (ld_qb H t) (ld_dq H t 1024 _) (ld_sq H t 1024 _))) x).trans (emb2_tile (tile (aB X AT PL Q O U D G) t.val) 1024 x y hx0 hx1)
  · exact (congrFun (pay7 D _ (tile Q t.val) 0 (ld_qb H t) (ld_dq H t 0 _) (ld_sq H t 0 _)) x).trans (emb2_tile (tile (aB X AT PL Q O U D G) t.val) 0 x y hx0 (by omega))

/-- The hidden cotangent read back whole. -/
theorem taps_back (t : Fin cfg0.N) {sp : Space} (v : View sig .tc sp S256x4096 .bf16) :
    v.readCov (taps m c t) (Rect.unit (s := S256x4096) ![0, 0] ![256, 4096] inb_S256x4096_S256x4096_0_0).toLoadRect
      = emb2 (n := 256) (m := 4096) (tile (aB X AT PL Q O U D G) t.val) := by
  rw [View.readCov_eq_canon', taps_eq H t]
  funext y
  exact congrArg _ (Rect.emb_unit_full (s := S256x4096) inb_S256x4096_S256x4096_0_0 y)

/-- The body's own cases: the first point, one between, the last. -/
theorem taps_out (t : Fin cfg0.N) : (left m c t.val t.isLt).o11 = emb2 (n := 256) (m := 4096) (tile (aB X AT PL Q O U D G) t.val) := by
  by_cases h0 : t.val = 0
  · rw [left_A m c t h0]
    unfold Left.o11 atA rawA runA
    dsimp only
    frame_out
    exact taps_eq H t
  by_cases h1 : t.val = 31
  · rw [left_C m c t h1]
    unfold Left.o11 atC rawC runC
    dsimp only
    frame_out
    exact taps_eq H t
  · rw [left_B m c t h0 h1]
    unfold Left.o11 atB rawB runB
    dsimp only
    frame_out
    exact taps_eq H t

theorem final11 : (dats m 0 c).arrAt 11 cfg0.N = emb2 (n := 8192) (m := 4096) (flat (aB X AT PL Q O U D G)) := by
  refine (dats m 0 c).arrAt_eq_of_covers 11 _ (by decide +kernel) fun t hf y => ?_
  blk_simp
  rw [after11]
  refine (congrFun (taps_out H t) y).trans ?_
  idx_vars y
  blk_simp [emb2, idx t]
  rfl

theorem dx_out (t : Fin cfg0.N) : (left m c t.val t.isLt).o12 = emb2 (n := 256) (m := 1024) (tile (zB X AT PL Q O U D G) t.val) := by
  by_cases h0 : t.val = 0
  · rw [left_A m c t h0]
    unfold Left.o12 atA rawA runA
    dsimp only
    frame_out
    exact pay21 U G _ _ _ (taps_back H t _) (ld_u H t) (ld_y H t) (ld_g H t) (ld_q H t)
  by_cases h1 : t.val = 31
  · rw [left_C m c t h1]
    unfold Left.o12 atC rawC runC
    dsimp only
    frame_out
    exact pay21 U G _ _ _ (taps_back H t _) (ld_u H t) (ld_y H t) (ld_g H t) (ld_q H t)
  · rw [left_B m c t h0 h1]
    unfold Left.o12 atB rawB runB
    dsimp only
    frame_out
    exact pay21 U G _ _ _ (taps_back H t _) (ld_u H t) (ld_y H t) (ld_g H t) (ld_q H t)

theorem final12 : (dats m 0 c).arrAt 12 cfg0.N = emb2 (n := 8192) (m := 1024) (flat (zB X AT PL Q O U D G)) := by
  refine (dats m 0 c).arrAt_eq_of_covers 12 _ (by decide +kernel) fun t hf y => ?_
  blk_simp
  rw [after12]
  refine (congrFun (dx_out H t) y).trans ?_
  idx_vars y
  blk_simp [emb2, idx t]
  rfl

theorem da_out (t : Fin cfg0.N) : (left m c t.val t.isLt).o13 = emb2 (n := 256) (m := 512) fun r => dmR O (tile (zB X AT PL Q O U D G) t.val r) := by
  by_cases h0 : t.val = 0
  · rw [left_A m c t h0]
    unfold Left.o13 atA rawA runA
    dsimp only
    frame_out
    exact pay24 U O G _ _ _ (taps_back H t _) (ld_u H t) (ld_y H t) (ld_g H t) (ld_q H t) (ld_o H t)
  by_cases h1 : t.val = 31
  · rw [left_C m c t h1]
    unfold Left.o13 atC rawC runC
    dsimp only
    frame_out
    exact pay24 U O G _ _ _ (taps_back H t _) (ld_u H t) (ld_y H t) (ld_g H t) (ld_q H t) (ld_o H t)
  · rw [left_B m c t h0 h1]
    unfold Left.o13 atB rawB runB
    dsimp only
    frame_out
    exact pay24 U O G _ _ _ (taps_back H t _) (ld_u H t) (ld_y H t) (ld_g H t) (ld_q H t) (ld_o H t)

theorem final13 : (dats m 0 c).arrAt 13 cfg0.N = emb2 (n := 8192) (m := 512) fun r => dmR O (flat (zB X AT PL Q O U D G) r) := by
  refine (dats m 0 c).arrAt_eq_of_covers 13 _ (by decide +kernel) fun t hf y => ?_
  blk_simp
  rw [after13]
  refine (congrFun (da_out H t) y).trans ?_
  idx_vars y
  blk_simp [emb2, idx t]
  rfl

theorem dp_out (t : Fin cfg0.N) : (left m c t.val t.isLt).o14 = emb2 (n := 256) (m := 512) fun r j => dmR O (tile (zB X AT PL Q O U D G) t.val r) (512 + j) := by
  by_cases h0 : t.val = 0
  · rw [left_A m c t h0]
    unfold Left.o14 atA rawA runA
    dsimp only
    frame_out
    exact pay25 U O G _ _ _ (taps_back H t _) (ld_u H t) (ld_y H t) (ld_g H t) (ld_q H t) (ld_o H t)
  by_cases h1 : t.val = 31
  · rw [left_C m c t h1]
    unfold Left.o14 atC rawC runC
    dsimp only
    frame_out
    exact pay25 U O G _ _ _ (taps_back H t _) (ld_u H t) (ld_y H t) (ld_g H t) (ld_q H t) (ld_o H t)
  · rw [left_B m c t h0 h1]
    unfold Left.o14 atB rawB runB
    dsimp only
    frame_out
    exact pay25 U O G _ _ _ (taps_back H t _) (ld_u H t) (ld_y H t) (ld_g H t) (ld_q H t) (ld_o H t)

theorem final14 : (dats m 0 c).arrAt 14 cfg0.N = emb2 (n := 8192) (m := 512) fun r j => dmR O (flat (zB X AT PL Q O U D G) r) (512 + j) := by
  refine (dats m 0 c).arrAt_eq_of_covers 14 _ (by decide +kernel) fun t hf y => ?_
  blk_simp
  rw [after14]
  refine (congrFun (dp_out H t) y).trans ?_
  idx_vars y
  blk_simp [emb2, idx t]
  rfl

theorem step15 (t : Fin cfg0.N) (h : ¬ t.val % 32 = 0) (y : S1x1024.Idx) :
    (left m c t.val t.isLt).o15 y = (left m c (t.val - 1) (Nat.lt_of_le_of_lt (Nat.sub_le _ _) t.isLt)).o15 y + ((gT X AT PL Q O U D G t.val (y 1).val : ℝ) : EReal) := by
  by_cases h1 : t.val = 31
  · rw [left_C m c t h1]
    conv_lhs => unfold Left.o15 atC rawC runC
    dsimp only
    frame_out
    idx_vars y
    exact dg_at U _ _ (taps_back H t _) (ld_u H t) (ld_y H t) _ y0 y1
  · rw [left_B m c t (fun h0 => h (by omega)) h1]
    conv_lhs => unfold Left.o15 atB rawB runB
    dsimp only
    frame_out
    idx_vars y
    exact dg_at U _ _ (taps_back H t _) (ld_u H t) (ld_y H t) _ y0 y1

theorem base15 (t : Fin cfg0.N) (h : t.val % 32 = 0) (y : S1x1024.Idx) :
    (left m c t.val t.isLt).o15 y = 0 + ((gT X AT PL Q O U D G t.val (y 1).val : ℝ) : EReal) := by
  have hN : t.val < 32 := lt_of_lt_of_eq t.isLt (show cfg0.N = 32 from N_0)
  rw [left_A m c t (by omega)]
  unfold Left.o15 atA rawA runA
  dsimp only
  frame_out
  idx_vars y
  refine (dg_at U _ _ (taps_back H t _) (ld_u H t) (ld_y H t) _ y0 y1).trans ?_
  exact congrArg (· + _) (show (k0_pay4 (F := Ideal) : FVec Ideal S1x1024 .f32) (ix2 y0 y1) = 0 by pointwise [k0_pay4])

theorem final15 : (dats m 0 c).arrAt 15 cfg0.N = fun y : S1x1024.Idx => ((∑ t : Fin 32, gT X AT PL Q O U D G t.val (y 1).val : ℝ) : EReal) := by
  refine (dats m 0 c).arrAt_eq_of_after_last 15 lastPt (by decide +kernel) _ fun y => ?_
  blk_simp
  rw [after15, Pipeline.eq_sum_fin_of_reset_step_apply_last (fun n h => (left m c n h).o15) 32 (fun _ => 0) (fun p y => ((gT X AT PL Q O U D G p.val (y 1).val : ℝ) : EReal))
    (fun t h y => base15 H t h y) (fun t h y => step15 H t h y) (le_of_eq N_0) lastPt rfl y, zero_add]
  rw [coe_sum]
  rfl

/-! ## The accumulated projection's gradient -/

omit H in
/-- What a point adds to the projection's gradient. -/
def wS (X AT PL Q : ℕ → ℕ → ℕ → ℝ) (O U D : ℕ → ℕ → ℝ) (G : ℕ → ℝ) (t j k : ℕ) : ℝ :=
  if j < 512 then wT X AT PL Q O U D G AT t j k else wT X AT PL Q O U D G PL t (j - 512) k

omit H in
/-- The stored halves read back: the lower was stored last, the upper before it. -/
theorem halves {v w : FVec Ideal S512x1024 .f32} (L : List (View.Piece (Elt Ideal) S1024x1024 .f32)) (p q : Fin 1024) :
    View.canon (⟨Rect.unit ![512, 0] ![512, 1024] inb_S1024x1024_S512x1024_512_0, v⟩ :: ⟨Rect.unit ![0, 0] ![512, 1024] inb_S1024x1024_S512x1024_0_0, w⟩ :: L) (ix2 p q)
      = if h : p.val < 512 then w (ix2 ⟨p.val, h⟩ q) else v (ix2 ⟨p.val - 512, by omega⟩ q) := by
  split_ifs with h
  · rw [View.canon_cons_of_not_mem]
    · have e : (ix2 p q : S1024x1024.Idx) = (Rect.unit (s := S1024x1024) ![0, 0] ![512, 1024] inb_S1024x1024_S512x1024_0_0).emb (ix2 ⟨p.val, h⟩ q) := by
        funext a
        apply Fin.ext
        fin_cases a <;> simp [ix2]
      rw [e]
      exact View.canon_cons_emb _ _ _ _
    · intro hm
      obtain ⟨x, hx⟩ := LoadRect.exists_idx_of_mem _ hm
      have := congrArg (fun i : S1024x1024.Idx => (i 0).val) hx
      simp [ix2] at this
      omega
  · have e : (ix2 p q : S1024x1024.Idx) = (Rect.unit (s := S1024x1024) ![512, 0] ![512, 1024] inb_S1024x1024_S512x1024_512_0).emb (ix2 ⟨p.val - 512, by omega⟩ q) := by
      funext a
      apply Fin.ext
      fin_cases a <;> simp [ix2] <;> omega
    rw [e]
    exact View.canon_cons_emb _ _ _ _

omit H in
/-- The lower half of the accumulator, read after a store into the upper. -/
theorem lower_read {w : FVec Ideal S512x1024 .f32} (z : FVec Ideal S1024x1024 .f32) {sp : Space} (v : View sig .tc sp S1024x1024 .f32) (p : Fin 512) (q : Fin 1024) :
    v.readCov (Val := Elt Ideal) [⟨Rect.unit ![0, 0] ![512, 1024] inb_S1024x1024_S512x1024_0_0, w⟩, ⟨Rect.unit ![0, 0] ![1024, 1024] inb_S1024x1024_S1024x1024_0_0, z⟩]
      (Rect.unit (s := S1024x1024) ![512, 0] ![512, 1024] inb_S1024x1024_S512x1024_512_0).toLoadRect (ix2 p q) = z (ix2 ⟨512 + p.val, by omega⟩ q) := by
  rw [View.readCov_eq_canon']
  show View.canon _ ((Rect.unit (s := S1024x1024) ![512, 0] ![512, 1024] inb_S1024x1024_S512x1024_512_0).idx (ix2 p q)) = _
  rw [View.canon_cons_of_not_mem, View.canon_cons_unit_lit']
  · refine congrArg z ?_
    funext a
    apply Fin.ext
    fin_cases a <;> simp [ix2]
  · decide
  · intro hm
    obtain ⟨x, hx⟩ := LoadRect.exists_idx_of_mem _ hm
    have := congrArg (fun i : S1024x1024.Idx => (i 0).val) hx
    simp [ix2] at this
    omega

omit H in
/-- The upper half of the accumulator, read after a store of the whole. -/
theorem upper_read (z : FVec Ideal S1024x1024 .f32) {sp : Space} (v : View sig .tc sp S1024x1024 .f32) (p : Fin 512) (q : Fin 1024) :
    v.readCov (Val := Elt Ideal) [⟨Rect.unit ![0, 0] ![1024, 1024] inb_S1024x1024_S1024x1024_0_0, z⟩]
      (Rect.unit (s := S1024x1024) ![0, 0] ![512, 1024] inb_S1024x1024_S512x1024_0_0).toLoadRect (ix2 p q) = z (ix2 ⟨p.val, by omega⟩ q) := by
  rw [View.readCov_eq_canon']
  show View.canon _ ((Rect.unit (s := S1024x1024) ![0, 0] ![512, 1024] inb_S1024x1024_S512x1024_0_0).idx (ix2 p q)) = _
  rw [View.canon_cons_unit_lit']
  · refine congrArg z ?_
    funext a
    apply Fin.ext
    fin_cases a <;> simp [ix2]
  · decide

omit H in
/-- The upper half of contents the accumulator is handed. -/
theorem upper_ld (a : FVec Ideal S1024x1024 .f32) (hw : accM.IsWhole) (p : Fin 512) (q : Fin 1024) :
    View.ld (Val := Elt Ideal) (S := S1024x1024) (e' := .f32) (View.read (Elt Ideal) accM.view (hw.unread a)) (Rect.unit ![0, 0] ![512, 1024] inb_S1024x1024_S512x1024_0_0) (ix2 p q) = a (ix2 ⟨p.val, by omega⟩ q) := by
  rw [hw.read_unread]
  refine congrArg a ?_
  funext i
  apply Fin.ext
  fin_cases i <;> simp [ix2]

omit H in
/-- The lower half of it. -/
theorem lower_ld (a : FVec Ideal S1024x1024 .f32) (hw : accM.IsWhole) (p : Fin 512) (q : Fin 1024) :
    View.ld (Val := Elt Ideal) (S := S1024x1024) (e' := .f32) (View.read (Elt Ideal) accM.view (hw.unread a)) (Rect.unit ![512, 0] ![512, 1024] inb_S1024x1024_S512x1024_512_0) (ix2 p q) = a (ix2 ⟨512 + p.val, by omega⟩ q) := by
  rw [hw.read_unread]
  refine congrArg a ?_
  funext i
  apply Fin.ext
  fin_cases i <;> simp [ix2]

omit H in
theorem zero_at (p q : Fin 1024) : (k0_pay5 (F := Ideal) : FVec Ideal S1024x1024 .f32) (ix2 p q) = 0 := by pointwise [k0_pay5]

theorem base_acc (t : Fin cfg0.N) (h : t.val % 32 = 0) (y : S1024x1024.Idx) :
    (left m c t.val t.isLt).acc y = 0 + ((wS X AT PL Q O U D G t.val (y 0).val (y 1).val : ℝ) : EReal) := by
  have hN : t.val < 32 := lt_of_lt_of_eq t.isLt (show cfg0.N = 32 from N_0)
  rw [left_A m c t (by omega)]
  unfold Left.acc atA rawA runA
  dsimp only
  frame_out
  idx_vars y
  refine (halves _ y0 y1).trans ?_
  have hz := pay22 U G _ _ _ (taps_back H t (stage0_11 (cfg0.slots t 11)).view) (ld_u H t) (ld_y H t) (ld_g H t) (ld_q H t)
  unfold wS
  split_ifs with hp
  · refine (up_at _ _ hz (ld_a H t) _ _ y1).trans ?_
    exact congrArg₂ (· + ·) ((upper_read _ _ _ y1).trans (zero_at _ _)) rfl
  · refine (low_at _ _ hz (ld_p H t) _ _ y1).trans ?_
    exact congrArg₂ (· + ·) ((lower_read _ _ _ y1).trans (zero_at _ _)) rfl

theorem step_acc (t : Fin cfg0.N) (h : ¬ t.val % 32 = 0) (y : S1024x1024.Idx) :
    (left m c t.val t.isLt).acc y = (left m c (t.val - 1) (Nat.lt_of_le_of_lt (Nat.sub_le _ _) t.isLt)).acc y + ((wS X AT PL Q O U D G t.val (y 0).val (y 1).val : ℝ) : EReal) := by
  have hz := pay22 U G _ _ _ (taps_back H t (stage0_11 (cfg0.slots t 11)).view) (ld_u H t) (ld_y H t) (ld_g H t) (ld_q H t)
  by_cases h1 : t.val = 31
  · rw [left_C m c t h1]
    conv_lhs => unfold Left.acc atC rawC runC
    dsimp only
    frame_out
    idx_vars y
    refine (halves _ y0 y1).trans ?_
    unfold wS
    split_ifs with hp
    · refine (up_at _ _ hz (ld_a H t) _ _ y1).trans ?_
      refine congrArg₂ (· + ·) ?_ rfl
      exact upper_ld _ _ _ y1
    · refine (low_at _ _ hz (ld_p H t) _ _ y1).trans ?_
      refine congrArg₂ (· + ·) ?_ rfl
      exact (lower_ld _ _ _ y1).trans (congrArg _ (congrArg₂ ix2 (Fin.ext (Nat.add_sub_cancel' (Nat.le_of_not_lt hp))) rfl))
  · rw [left_B m c t (fun h0 => h (by omega)) h1]
    conv_lhs => unfold Left.acc atB rawB runB
    dsimp only
    frame_out
    idx_vars y
    refine (halves _ y0 y1).trans ?_
    unfold wS
    split_ifs with hp
    · refine (up_at _ _ hz (ld_a H t) _ _ y1).trans ?_
      refine congrArg₂ (· + ·) ?_ rfl
      exact upper_ld _ _ _ y1
    · refine (low_at _ _ hz (ld_p H t) _ _ y1).trans ?_
      refine congrArg₂ (· + ·) ?_ rfl
      exact (lower_ld _ _ _ y1).trans (congrArg _ (congrArg₂ ix2 (Fin.ext (Nat.add_sub_cancel' (Nat.le_of_not_lt hp))) rfl))

/-- The accumulator after the last point. -/
theorem acc_eq : (left m c 31 lastPt.isLt).acc = emb2 (n := 1024) (m := 1024) (dwA X AT PL Q O U D G) := by
  funext (y : S1024x1024.Idx)
  rw [show (left m c 31 lastPt.isLt).acc y = _ from Pipeline.eq_sum_fin_of_reset_step_apply_last (fun n h => (left m c n h).acc) 32 (fun _ => 0)
    (fun p y => ((wS X AT PL Q O U D G p.val (y 0).val (y 1).val : ℝ) : EReal)) (fun t h y => base_acc H t h y) (fun t h y => step_acc H t h y) (le_of_eq N_0) lastPt rfl y, zero_add, ← coe_sum]
  refine congrArg _ ?_
  unfold wS dwA
  split_ifs <;> rfl

/-- Its rounded copy holds the same. -/
theorem wire_eq : (left m c 31 lastPt.isLt).wire = emb2 (n := 1024) (m := 1024) (dwA X AT PL Q O U D G) := by
  rw [← acc_eq H]
  funext (y : S1024x1024.Idx)
  rw [show left m c 31 lastPt.isLt = _ from left_C m c lastPt rfl]
  unfold Left.acc Left.wire atC rawC runC
  dsimp only
  frame_out
  idx_vars y
  refine (cast_at _ y0 y1).trans ?_
  rw [View.readCov_eq_canon']
  exact congrArg _ (Rect.emb_unit_full (s := S1024x1024) inb_S1024x1024_S1024x1024_0_0 (ix2 y0 y1))

end Cert.Mlp

end
-- ==== Proof.MlpClaim.lean ====
/- The feed-forward layer's backward call: kernel and reference leave equal arrays, on finite arguments. -/
module

public import proofs.«01_k».proof.Defs
public import proofs.«01_k».proof.Proof.Gen.Pre_finite_mlp
public import proofs.«01_k».proof.Proof.Gen.MlpKernel
public import proofs.«01_k».proof.Proof.Gen.MlpReferenceIdeal.Run
public import proofs.«01_k».proof.Proof.MlpKernel
public import proofs.«01_k».proof.Proof.Finite
public import proofs.«01_k».proof.Proof.PoolClaim

@[expose] public section

set_option maxRecDepth 16384

noncomputable section

namespace Cert.Proof

open Idealize.ShloMosaic Idealize.SL.Sem Cert.Reals Cert.Mlp
open Cert.MlpKernelIdeal.Mlp (dats left lastPt run_main kept Gfin_acc Gfin_wire)

section mlp

variable {m : (ℓ : Loc Cert.MlpKernelIdeal.nD Cert.MlpKernelIdeal.τ Cert.MlpKernelIdeal.sig) → Buf (Elt Ideal) ℓ}

/-- The reals that the kernel's finite arguments hold. -/
theorem mlp_holds (h : Cert.Pre_MlpKernelIdeal_finite_mlp m) (c : Dev Cert.MlpKernelIdeal.nD) :
    ∃ X AT PL Q O U D G, Mlp.Holds m X AT PL Q O U D G c
      ∧ m ((c.tc : Thread _ _).loc Cert.MlpKernelIdeal.main_arg0) = MlpRef.argX X
      ∧ m ((c.tc : Thread _ _).loc Cert.MlpKernelIdeal.main_arg1) = MlpRef.argH AT
      ∧ m ((c.tc : Thread _ _).loc Cert.MlpKernelIdeal.main_arg2) = MlpRef.argH PL
      ∧ m ((c.tc : Thread _ _).loc Cert.MlpKernelIdeal.main_arg3) = MlpRef.argO O
      ∧ m ((c.tc : Thread _ _).loc Cert.MlpKernelIdeal.main_arg4) = MlpRef.argG G
      ∧ m ((c.tc : Thread _ _).loc Cert.MlpKernelIdeal.main_arg5) = MlpRef.argU U
      ∧ m ((c.tc : Thread _ _).loc Cert.MlpKernelIdeal.main_arg6) = MlpRef.argD D
      ∧ m ((c.tc : Thread _ _).loc Cert.MlpKernelIdeal.main_arg7) = MlpRef.argX Q := by
  obtain ⟨h0, h1, h2, h3, h4, h5, h6, h7⟩ := h c
  have e0 := real3_eq (finite_of _ _ (fun _ => inf_word) h0)
  have e1 := real3_eq (finite_of _ _ (fun _ => inf_word) h1)
  have e2 := real3_eq (finite_of _ _ (fun _ => inf_word) h2)
  have e3 := (real3_eq (finite_of _ _ (fun _ => inf_word) h3)).trans (emb3_unit _)
  have e4 := (real2_eq (finite_of _ _ (fun _ => inf_word) h4)).trans (emb2_unit _)
  have e5 := (real3_eq (finite_of _ _ (fun _ => inf_word) h5)).trans (emb3_unit _)
  have e6 := (real3_eq (finite_of _ _ (fun _ => inf_word) h6)).trans (emb3_unit _)
  have e7 := real3_eq (finite_of _ _ (fun _ => inf_word) h7)
  exact ⟨_, _, _, _, _, _, _, _, ⟨fun b s k => congrFun e0 (ix3 b s k), fun b s k => congrFun e1 (ix3 b s k), fun b s k => congrFun e2 (ix3 b s k),
    fun a j k => congrFun e3 (ix3 a j k), fun a k => congrFun e4 (ix2 a k), fun a k l => congrFun e5 (ix3 a k l), fun a l k => congrFun e6 (ix3 a l k),
    fun b s k => congrFun e7 (ix3 b s k)⟩, e0, e1, e2, e3, e4, e5, e6, e7⟩

end mlp

/-- The reference ends with its arguments unchanged and, as it declares no semaphore, at rest. -/
theorem mlp_reference_frame : Cert.quiescent_MlpReferenceIdeal := fun m g _ =>
  (θ_run _ _ _).mono (fun r h => ⟨fun c => (h c).2.2.2.2.2.2.2, sem_eq_zero_of_no_sems (by decide) r.2⟩)
    (Cert.MlpReferenceIdeal.Value.run (F := Ideal) m g)

/-- The kernel's frame over the extended reals. -/
theorem mlp_ideal_frame : Cert.quiescent_MlpKernelIdeal := fun m g _ => Cert.MlpKernelIdeal.Mlp.frame m g

/-- The two printed programs are one text, so the run speaks of both. -/
theorem mlp_same : Cert.quiescent_MlpKernel =
    ∀ (m : (ℓ : Loc Cert.MlpKernelIdeal.nD Cert.MlpKernelIdeal.τ Cert.MlpKernelIdeal.sig) → Buf (Elt Bits) ℓ) (g : Dev Cert.MlpKernelIdeal.nD → PrngReg), True →
    θ_run (Cert.MlpKernelIdeal.defs (F := Bits)) (onTc (τ := Cert.MlpKernelIdeal.τ) (Cert.MlpKernelIdeal.main (F := Bits))) ⟨m, fun _ => 0, g⟩ (fun r => (∀ c : Dev Cert.MlpKernelIdeal.nD,
      r.2.mem ((c.tc : Thread _ _).loc Cert.MlpKernelIdeal.main_arg0) = m ((c.tc : Thread _ _).loc Cert.MlpKernelIdeal.main_arg0)
      ∧ r.2.mem ((c.tc : Thread _ _).loc Cert.MlpKernelIdeal.main_arg1) = m ((c.tc : Thread _ _).loc Cert.MlpKernelIdeal.main_arg1)
      ∧ r.2.mem ((c.tc : Thread _ _).loc Cert.MlpKernelIdeal.main_arg2) = m ((c.tc : Thread _ _).loc Cert.MlpKernelIdeal.main_arg2)
      ∧ r.2.mem ((c.tc : Thread _ _).loc Cert.MlpKernelIdeal.main_arg3) = m ((c.tc : Thread _ _).loc Cert.MlpKernelIdeal.main_arg3)
      ∧ r.2.mem ((c.tc : Thread _ _).loc Cert.MlpKernelIdeal.main_arg4) = m ((c.tc : Thread _ _).loc Cert.MlpKernelIdeal.main_arg4)
      ∧ r.2.mem ((c.tc : Thread _ _).loc Cert.MlpKernelIdeal.main_arg5) = m ((c.tc : Thread _ _).loc Cert.MlpKernelIdeal.main_arg5)
      ∧ r.2.mem ((c.tc : Thread _ _).loc Cert.MlpKernelIdeal.main_arg6) = m ((c.tc : Thread _ _).loc Cert.MlpKernelIdeal.main_arg6)
      ∧ r.2.mem ((c.tc : Thread _ _).loc Cert.MlpKernelIdeal.main_arg7) = m ((c.tc : Thread _ _).loc Cert.MlpKernelIdeal.main_arg7))
      ∧ r.2.sem = fun _ => 0) := by
  sl_kernel_rfl

/-- The same run, at bit patterns. -/
theorem mlp_frame : Cert.quiescent_MlpKernel := by
  rw [mlp_same]
  exact fun m g _ => Cert.MlpKernelIdeal.Mlp.frame (F := Bits) m g

set_option maxHeartbeats 4000000 in
/-- On finite arguments the kernel's seven results are the reference's. -/
theorem mlp_algebraic : Cert.algebraic_MlpKernelIdeal_MlpReferenceIdeal_pre_finite_mlp := by
  intro m ρ m' ρ' hpre hagree
  refine ⟨fun c => (dats m 0 c).arrAt 11 Cert.MlpKernelIdeal.cfg0.N, fun c => (dats m 0 c).arrAt 12 Cert.MlpKernelIdeal.cfg0.N, fun c => (dats m 0 c).arrAt 13 Cert.MlpKernelIdeal.cfg0.N,
    fun c => (dats m 0 c).arrAt 14 Cert.MlpKernelIdeal.cfg0.N, fun c => (dats m 0 c).arrAt 15 Cert.MlpKernelIdeal.cfg0.N,
    fun c => (left m c 31 lastPt.isLt).acc, fun c => (left m c 31 lastPt.isLt).wire,
    (θ_run _ _ _).mono (fun r h c => ⟨(h.1.toR c).1 11, (h.1.toR c).1 12, (h.1.toR c).1 13, (h.1.toR c).1 14, (h.1.toR c).1 15,
      (h.1.written c (by decide)).trans (Gfin_acc m c), (h.1.written c (by decide)).trans (Gfin_wire m c), kept m h.1 c⟩) (run_main m ρ),
    (θ_run _ _ _).mono (fun r h c => ?_) (Cert.MlpReferenceIdeal.Value.run m' ρ')⟩
  obtain ⟨a0, a1, a2, a3, a4, a5, a6, a7⟩ := hagree c
  obtain ⟨r0, r1, r2, r3, r4, r5, r6, rest⟩ := h c
  obtain ⟨X, AT, PL, Q, O, U, D, G, H, e0, e1, e2, e3, e4, e5, e6, e7⟩ := mlp_holds hpre c
  refine ⟨r0.trans ?_, r1.trans ?_, r2.trans ?_, r3.trans ?_, r4.trans ?_, r5.trans ?_, r6.trans ?_, rest⟩
  · refine (Cert.MlpReferenceIdeal.Read.val_main_v71_eq _ _).trans ?_
    rw [a0, a1, a2, a3, a4, a5, a6, a7, e0, e1, e2, e3, e4, e5, e6, e7]
    exact (MlpRef.tap_eq X AT PL Q O U D G).trans (final11 H).symm
  · refine (Cert.MlpReferenceIdeal.Read.val_main_v72_eq _ _).trans ?_
    rw [a0, a1, a2, a3, a4, a5, a6, a7, e0, e1, e2, e3, e4, e5, e6, e7]
    exact (MlpRef.dx_eq X AT PL Q O U D G).trans (final12 H).symm
  · refine (Cert.MlpReferenceIdeal.Read.val_main_v74_eq _ _).trans ?_
    rw [a0, a1, a2, a3, a4, a5, a6, a7, e0, e1, e2, e3, e4, e5, e6, e7]
    exact (MlpRef.da_eq X AT PL Q O U D G).trans (final13 H).symm
  · refine (Cert.MlpReferenceIdeal.Read.val_main_v75_eq _ _).trans ?_
    rw [a0, a1, a2, a3, a4, a5, a6, a7, e0, e1, e2, e3, e4, e5, e6, e7]
    exact (MlpRef.dp_eq X AT PL Q O U D G).trans (final14 H).symm
  · refine (Cert.MlpReferenceIdeal.Read.val_main_v63_eq _ _).trans ?_
    rw [a0, a1, a2, a3, a4, a5, a6, a7, e0, e1, e2, e3, e4, e5, e6, e7]
    exact (MlpRef.dg_eq X AT PL Q O U D G).trans (final15 H).symm
  · refine (Cert.MlpReferenceIdeal.Read.val_main_v76_eq _ _).trans ?_
    rw [a0, a1, a2, a3, a4, a5, a6, a7, e0, e1, e2, e3, e4, e5, e6, e7]
    exact (MlpRef.dw_eq X AT PL Q O U D G).trans (acc_eq H).symm
  · refine (Cert.MlpReferenceIdeal.Read.val_main_v78_eq _ _).trans ?_
    rw [a0, a1, a2, a3, a4, a5, a6, a7, e0, e1, e2, e3, e4, e5, e6, e7]
    exact (MlpRef.dwb_eq X AT PL Q O U D G).trans (wire_eq H).symm

end Cert.Proof

end
-- ==== Proof.AttnTrip.lean ====
module

public import proofs.«01_k».proof.Proof.Gen.AttnKernelIdeal.Frame
public import proofs.«01_k».proof.Proof.Gen.AttnKernelIdeal.Skeleton

@[expose] public section

-- the rectangles of production extents are walked one coordinate at a time
set_option maxRecDepth 16384

noncomputable section

namespace Cert.AttnKernelIdeal.Attn

open Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource model the kernel's run is stated over. -/
abbrev Mdl (F : FTy → Type) [FloatOps F] := MT nD τ sig Unit (Elt F) ℕ (UR sig nD τ) ℕ

/-- The block before a trip's first block starts 128 rows above it. -/
theorem off10_eq : ∀ k : Fin k0_t1_loop.trips, k0_off10 k = ![256 * k.val - 128, 0] := by decide +kernel

instance closedOff10 (k : Fin k0_t1_loop.trips) : ClosedOff (k0_off10 k) := ⟨![256 * k.val - 128, 0], off10_eq k⟩

/-- A trip's first block has one before it in every trip but the first, -/
theorem pos_of_cond2 : ∀ k : Fin k0_t1_loop.trips, k0_cond2 k = 1#1 → 0 < k.val := by decide +kernel

/-- and its second block in every trip. -/
theorem cond3_holds : ∀ k : Fin k0_t1_loop.trips, k0_cond3 k = 1#1 := by decide +kernel

/-- A buffer owned at contents is one owned at some contents. -/
theorem held_some {sp : Space} {S : Shape} {e : EltTy} (c : Dev nD) (M : Memref sig .tc sp S e) (f : Buf (Elt F) (M.view.loc (c : Thread nD τ))) :
    (M.view.loc (c : Thread nD τ) ↦[M.view.set]{fullShare} f : sProp (Mdl F)) ⊢ iprop(∃ d, owns (c : Thread nD τ) M fullShare d) := by
  iintro H; iexists _; unfold owns; iexists f; isplitr; · ipureintro; rfl
  iexact H

section Trip

variable (c : Dev nD) (i : grid0.Coords)
  (arg1 : Memref sig .tc .vmem S8x1x128 .f32) (harg1 : arg1.IsWhole)
  (arg2 : Memref sig .tc .vmem S2048x512 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S8x128 .f32) (harg8 : arg8.IsWhole)
  (arg9 : Memref sig .tc .vmem S2048x512 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S8x1x128 .f32) (harg12 : arg12.IsWhole)
  (arg13 : Memref sig .tc .vmem S16x128x128 .f32) (harg13 : arg13.IsWhole)
  (arg14 : Memref sig .tc .vmem S16x128x128 .f32) (harg14 : arg14.IsWhole)
  (arg15 : Memref sig .tc .vmem S2x4x256x128 .bf16) (harg15 : arg15.IsWhole)
  (arg16 : Memref sig .tc .vmem S2x4x256x128 .bf16) (harg16 : arg16.IsWhole)
  (arg17 : Memref sig .tc .vmem S2x4x256x128 .bf16) (harg17 : arg17.IsWhole)
  (arg18 : Memref sig .tc .vmem S2x4x256x128 .bf16) (harg18 : arg18.IsWhole)
  (arg19 : Memref sig .tc .vmem S2048x128 .f32) (harg19 : arg19.IsWhole)
  (arg20 : Memref sig .tc .vmem S2048x128 .f32) (harg20 : arg20.IsWhole)
  (x0 : Vec F S8x1x128 .f32)
  (x1 : Vec F S2048x512 .bf16)
  (x2 : Vec F S2048x256 .bf16)
  (x3 : Vec F S2048x256 .bf16)
  (x4 : Vec F S2048x512 .bf16)
  (x5 : Vec F S2048x128 .f32)
  (x6 : Vec F S2048x128 .f32)
  (x7 : Vec F S8x128 .f32)

/-- What a trip holds: the inputs as they were fetched, and every buffer a trip writes at some contents. -/
def Held : sProp (Mdl F) :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
    ∗ (∃ d, owns (c : Thread nD τ) arg9 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d))

set_option maxHeartbeats 0 in
/-- A trip after the first keeps what it holds. -/
theorem trip_later (k : Fin k0_t1_loop.trips) (acc : FVec F S8x1x1 .f32) (h2 : k0_cond2 k = 1#1) :
    Held c arg1 arg2 arg3 arg4 arg5 arg6 arg7 arg8 arg9 arg13 arg14 arg15 arg16 arg17 arg18 arg19 arg20 x0 x1 x2 x3 x4 x5 x6 x7
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k acc)
        (fun _ => Held c arg1 arg2 arg3 arg4 arg5 arg6 arg7 arg8 arg9 arg13 arg14 arg15 arg16 arg17 arg18 arg19 arg20 x0 x1 x2 x3 x4 x5 x6 x7) := by
  have hk : 0 < k.val := pos_of_cond2 k h2
  have h3 := cond3_holds k
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, G9⟩, ⟨%d13, %g13, -, G13⟩, ⟨%d14, %g14, -, G14⟩, ⟨%d15, %g15, -, G15⟩, ⟨%d16, %g16, -, G16⟩, ⟨%d17, %g17, -, G17⟩, ⟨%d18, %g18, -, G18⟩, ⟨%d19, %g19, -, G19⟩, ⟨%d20, %g20, -, G20⟩⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  sl_exec (disch := first | sl_exact h2 | sl_exact h3)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [G9]
  · iapply (held_some c arg9 _); iexact G9
  isplitl [G13]
  · iapply (held_some c arg13 _); iexact G13
  isplitl [G14]
  · iapply (held_some c arg14 _); iexact G14
  isplitl [G15]
  · iapply (held_some c arg15 _); iexact G15
  isplitl [G16]
  · iapply (held_some c arg16 _); iexact G16
  isplitl [G17]
  · iapply (held_some c arg17 _); iexact G17
  isplitl [G18]
  · iapply (held_some c arg18 _); iexact G18
  isplitl [G19]
  · iapply (held_some c arg19 _); iexact G19
  iapply (held_some c arg20 _); iexact G20

set_option maxHeartbeats 0 in
/-- The first trip keeps what it holds. -/
theorem trip_first (k : Fin k0_t1_loop.trips) (acc : FVec F S8x1x1 .f32) (h2 : ¬k0_cond2 k = 1#1) :
    Held c arg1 arg2 arg3 arg4 arg5 arg6 arg7 arg8 arg9 arg13 arg14 arg15 arg16 arg17 arg18 arg19 arg20 x0 x1 x2 x3 x4 x5 x6 x7
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k acc)
        (fun _ => Held c arg1 arg2 arg3 arg4 arg5 arg6 arg7 arg8 arg9 arg13 arg14 arg15 arg16 arg17 arg18 arg19 arg20 x0 x1 x2 x3 x4 x5 x6 x7) := by
  have h3 := cond3_holds k
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, G9⟩, ⟨%d13, %g13, -, G13⟩, ⟨%d14, %g14, -, G14⟩, ⟨%d15, %g15, -, G15⟩, ⟨%d16, %g16, -, G16⟩, ⟨%d17, %g17, -, G17⟩, ⟨%d18, %g18, -, G18⟩, ⟨%d19, %g19, -, G19⟩, ⟨%d20, %g20, -, G20⟩⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  sl_exec (disch := first | sl_exact h2 | sl_exact h3)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [G9]
  · iapply (held_some c arg9 _); iexact G9
  isplitl [G13]
  · iapply (held_some c arg13 _); iexact G13
  isplitl [G14]
  · iapply (held_some c arg14 _); iexact G14
  isplitl [G15]
  · iapply (held_some c arg15 _); iexact G15
  isplitl [G16]
  · iapply (held_some c arg16 _); iexact G16
  isplitl [G17]
  · iapply (held_some c arg17 _); iexact G17
  isplitl [G18]
  · iapply (held_some c arg18 _); iexact G18
  isplitl [G19]
  · iapply (held_some c arg19 _); iexact G19
  iapply (held_some c arg20 _); iexact G20

/-- One trip keeps what it holds. -/
theorem trip (k : Fin k0_t1_loop.trips) (acc : FVec F S8x1x1 .f32) :
    Held c arg1 arg2 arg3 arg4 arg5 arg6 arg7 arg8 arg9 arg13 arg14 arg15 arg16 arg17 arg18 arg19 arg20 x0 x1 x2 x3 x4 x5 x6 x7
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k acc)
        (fun _ => Held c arg1 arg2 arg3 arg4 arg5 arg6 arg7 arg8 arg9 arg13 arg14 arg15 arg16 arg17 arg18 arg19 arg20 x0 x1 x2 x3 x4 x5 x6 x7) := by
  by_cases h2 : k0_cond2 k = 1#1
  · exact trip_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 k acc h2
  · exact trip_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 k acc h2

end Trip

end Cert.AttnKernelIdeal.Attn

end
-- ==== Proof.AttnBody.lean ====
module

public import proofs.«01_k».proof.Proof.AttnTrip

@[expose] public section

-- the rectangles of production extents are walked one coordinate at a time
set_option maxRecDepth 16384

noncomputable section

namespace Cert.AttnKernelIdeal.Attn

open Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

section Body

/-- What a buffer holds is what is read from it. -/
theorem held_read (c : Dev nD) {sp : Space} {S : Shape} {e : EltTy} (M : Memref sig .tc sp S e)
    (f : Buf (Elt F) (M.view.loc (c : Thread nD τ))) :
    (M.view.loc (c : Thread nD τ) ↦[M.view.set]{fullShare} f : sProp (Mdl F))
      ⊢ iprop(∃ g, ⌜M.view.read (Elt F) g = M.view.read (Elt F) f⌝ ∗ M.view.loc (c : Thread nD τ) ↦[M.view.set]{fullShare} g) := by
  iintro H
  iexists f
  isplitr; · ipureintro; rfl
  iexact H

variable (c : Dev nD) (i : grid0.Coords)
  (arg1 : Memref sig .tc .vmem S8x1x128 .f32) (harg1 : arg1.IsWhole)
  (arg2 : Memref sig .tc .vmem S2048x512 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .bf16) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S8x128 .f32) (harg8 : arg8.IsWhole)
  (arg9 : Memref sig .tc .vmem S2048x512 .bf16) (harg9 : arg9.IsWhole)
  (arg10 : Memref sig .tc .vmem S2048x128 .bf16) (harg10 : arg10.IsWhole)
  (arg11 : Memref sig .tc .vmem S2048x128 .bf16) (harg11 : arg11.IsWhole)
  (arg12 : Memref sig .tc .vmem S8x1x128 .f32) (harg12 : arg12.IsWhole)
  (arg13 : Memref sig .tc .vmem S16x128x128 .f32) (harg13 : arg13.IsWhole)
  (arg14 : Memref sig .tc .vmem S16x128x128 .f32) (harg14 : arg14.IsWhole)
  (arg15 : Memref sig .tc .vmem S2x4x256x128 .bf16) (harg15 : arg15.IsWhole)
  (arg16 : Memref sig .tc .vmem S2x4x256x128 .bf16) (harg16 : arg16.IsWhole)
  (arg17 : Memref sig .tc .vmem S2x4x256x128 .bf16) (harg17 : arg17.IsWhole)
  (arg18 : Memref sig .tc .vmem S2x4x256x128 .bf16) (harg18 : arg18.IsWhole)
  (arg19 : Memref sig .tc .vmem S2048x128 .f32) (harg19 : arg19.IsWhole)
  (arg20 : Memref sig .tc .vmem S2048x128 .f32) (harg20 : arg20.IsWhole)
  (x0 : Vec F S8x1x128 .f32)
  (x1 : Vec F S2048x512 .bf16)
  (x2 : Vec F S2048x256 .bf16)
  (x3 : Vec F S2048x256 .bf16)
  (x4 : Vec F S2048x512 .bf16)
  (x5 : Vec F S2048x128 .f32)
  (x6 : Vec F S2048x128 .f32)
  (x7 : Vec F S8x128 .f32)

set_option warn.classDefReducibility false in
/-- The loop's invariant: what a trip holds, before every trip. -/
@[sl_loop] def loopInv :
    LoopInv (M := Mdl F) frame (wpE (defs₀ (F := F)) Variants.none (c : Thread nD τ) none) Set.univ
      k0_t1_loop.lb k0_t1_loop.ub k0_t1_loop.st k0_t1_ok (k0_pay301 (F := F))
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) where
  inv _ _ := Held c arg1 arg2 arg3 arg4 arg5 arg6 arg7 arg8 arg9 arg13 arg14 arg15 arg16 arg17 arg18 arg19 arg20 x0 x1 x2 x3 x4 x5 x6 x7
  step k acc := trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 k acc

/-- What the body holds: the inputs as they were fetched, and every result and scratch buffer at some contents. -/
def All : sProp (Mdl F) :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
    ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d))

set_option maxHeartbeats 0 in
/-- The body keeps what it holds, at the first grid point and at a later one. -/
theorem body :
    All c arg1 arg2 arg3 arg4 arg5 arg6 arg7 arg8 arg9 arg10 arg11 arg12 arg13 arg14 arg15 arg16 arg17 arg18 arg19 arg20 x0 x1 x2 x3 x4 x5 x6 x7
      ⊢ wp frame (wpE (defs₀ (F := F)) Variants.none (c : Thread nD τ) none) Set.univ
        (cc0_attention_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => All c arg1 arg2 arg3 arg4 arg5 arg6 arg7 arg8 arg9 arg10 arg11 arg12 arg13 arg14 arg15 arg16 arg17 arg18 arg19 arg20 x0 x1 x2 x3 x4 x5 x6 x7) := by
  simp only [cc0_attention_backward_eq_skeleton]; unfold cc0_attention_backward_skel
  simp only [k0_part44_eq_skeleton]
  let L := loopInv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7
  by_cases h1 : Scalar.cmpi .ne (Scalar.extui (Scalar.cmpi .eq (BitVec.ofNat 32 (i 0).val) 0#32)) 0#32 = 1#1
  · unfold All owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, G9⟩, ⟨%d10, %g10, -, G10⟩, ⟨%d11, %g11, -, G11⟩, ⟨%d12, %g12, -, G12⟩, ⟨%d13, %g13, -, G13⟩, ⟨%d14, %g14, -, G14⟩, ⟨%d15, %g15, -, G15⟩, ⟨%d16, %g16, -, G16⟩, ⟨%d17, %g17, -, G17⟩, ⟨%d18, %g18, -, G18⟩, ⟨%d19, %g19, -, G19⟩, ⟨%d20, %g20, -, G20⟩⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := sl_exact h1)
    sl_step
    isplitl [H0]
    · iapply (held_read c arg1 _); iexact H0
    isplitl [H1]
    · iapply (held_read c arg2 _); iexact H1
    isplitl [H2]
    · iapply (held_read c arg3 _); iexact H2
    isplitl [H3]
    · iapply (held_read c arg4 _); iexact H3
    isplitl [H4]
    · iapply (held_read c arg5 _); iexact H4
    isplitl [H5]
    · iapply (held_read c arg6 _); iexact H5
    isplitl [H6]
    · iapply (held_read c arg7 _); iexact H6
    isplitl [H7]
    · iapply (held_read c arg8 _); iexact H7
    isplitl [G9]
    · iapply (held_some c arg9 _); iexact G9
    isplitl [G10]
    · iapply (held_some c arg10 _); iexact G10
    isplitl [G11]
    · iapply (held_some c arg11 _); iexact G11
    isplitl [G12]
    · iapply (held_some c arg12 _); iexact G12
    isplitl [G13]
    · iapply (held_some c arg13 _); iexact G13
    isplitl [G14]
    · iapply (held_some c arg14 _); iexact G14
    isplitl [G15]
    · iapply (held_some c arg15 _); iexact G15
    isplitl [G16]
    · iapply (held_some c arg16 _); iexact G16
    isplitl [G17]
    · iapply (held_some c arg17 _); iexact G17
    isplitl [G18]
    · iapply (held_some c arg18 _); iexact G18
    isplitl [G19]
    · iapply (held_some c arg19 _); iexact G19
    iapply (held_some c arg20 _); iexact G20
  · unfold All owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %g9, -, G9⟩, ⟨%d10, %g10, -, G10⟩, ⟨%d11, %g11, -, G11⟩, ⟨%d12, %g12, -, G12⟩, ⟨%d13, %g13, -, G13⟩, ⟨%d14, %g14, -, G14⟩, ⟨%d15, %g15, -, G15⟩, ⟨%d16, %g16, -, G16⟩, ⟨%d17, %g17, -, G17⟩, ⟨%d18, %g18, -, G18⟩, ⟨%d19, %g19, -, G19⟩, ⟨%d20, %g20, -, G20⟩⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := sl_exact h1)
    sl_step
    isplitl [H0]
    · iapply (held_read c arg1 _); iexact H0
    isplitl [H1]
    · iapply (held_read c arg2 _); iexact H1
    isplitl [H2]
    · iapply (held_read c arg3 _); iexact H2
    isplitl [H3]
    · iapply (held_read c arg4 _); iexact H3
    isplitl [H4]
    · iapply (held_read c arg5 _); iexact H4
    isplitl [H5]
    · iapply (held_read c arg6 _); iexact H5
    isplitl [H6]
    · iapply (held_read c arg7 _); iexact H6
    isplitl [H7]
    · iapply (held_read c arg8 _); iexact H7
    isplitl [G9]
    · iapply (held_some c arg9 _); iexact G9
    isplitl [G10]
    · iapply (held_some c arg10 _); iexact G10
    isplitl [G11]
    · iapply (held_some c arg11 _); iexact G11
    isplitl [G12]
    · iapply (held_some c arg12 _); iexact G12
    isplitl [G13]
    · iapply (held_some c arg13 _); iexact G13
    isplitl [G14]
    · iapply (held_some c arg14 _); iexact G14
    isplitl [G15]
    · iapply (held_some c arg15 _); iexact G15
    isplitl [G16]
    · iapply (held_some c arg16 _); iexact G16
    isplitl [G17]
    · iapply (held_some c arg17 _); iexact G17
    isplitl [G18]
    · iapply (held_some c arg18 _); iexact G18
    isplitl [G19]
    · iapply (held_some c arg19 _); iexact G19
    iapply (held_some c arg20 _); iexact G20

end Body

end Cert.AttnKernelIdeal.Attn

end
-- ==== Proof.AttnFrame.lean ====
module

public import proofs.«01_k».proof.Proof.AttnBody

@[expose] public section

-- the rectangles of production extents are walked one coordinate at a time
set_option maxRecDepth 16384

noncomputable section

namespace Cert.AttnKernelIdeal.Attn

open Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

variable (m : (ℓ : Loc nD τ sig) → Buf (Elt F) ℓ) (ρ : Dev nD → PrngReg)

/-- The pipeline's data: each input's buffer holds its block after every point; of a result's nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- The results, of which nothing is said. -/
def forgotten (w : Fin cfg0.W) : Bool := decide (8 ≤ w.val)

/-- What the pipeline hands the body at point `t`, -/
def bodyPre (c : Dev nD) (t : Fin cfg0.N) : sProp (Mdl F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- and what it takes back. -/
def bodyPost (c : Dev nD) (t : Fin cfg0.N) : sProp (Mdl F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- The class invariant: the scratch at some contents, and the generator register. -/
theorem inv_eq (c : Dev nD) : (Pipeline.ΦA spec0 c : sProp (Mdl F))
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

set_option maxHeartbeats 4000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0, before1, before2, before3, before4, before5, before6, before7, after0, after1, after2, after3, after4, after5, after6, after7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, inv_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  iapply (wp_wand_r Idealize.ShloMosaic.frame (wpE (defs₀ (F := F)) Variants.none (c : Thread nD τ) none) Set.univ)
  isplitr [Hg Ho]
  · iapply (body (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t))
    unfold All
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · unfold All
    iintro %_ ⟨H0, H1, H2, H3, H4, H5, H6, H7, H8, H9, H10, H11, S0, S1, S2, S3, S4, S5, S6, S7⟩
    isplitl [Hg S0 S1 S2 S3 S4 S5 S6 S7]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem body_row (t : Fin cfg0.N) :
    defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ forgotten := fun t => by
  rw [bigSep_W0, bigSep_W0, body_row]
  exact triple_restated (sound_body m c t) rfl .rfl fun _ => .rfl

-- the launch theorem's implicit arguments are found by unifying its conclusion with this one
set_option backward.isDefEq.respectTransparency.types false in
/-- The launch: every execution terminates, with every semaphore counter at zero and every buffer no window writes as the
    region found it. -/
theorem launched : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := obligation m) (hshare := fun c => (dats m 0 c).share_full fun _ => rfl)
    (howed := fun _ _ => rfl) (V := V m) (hmain := hmain m Variants.none) (hA := A_eq m) (hΦ := fun _ _ => rfl)

/-- The frame: every argument array ends as it began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (launched m ρ)

end Cert.AttnKernelIdeal.Attn

end
-- ==== Proof.AttnClaim.lean ====
/- The attention's backward call: the frames of the kernel, at bit patterns and over the extended reals. -/
module

public import proofs.«01_k».proof.Defs
public import proofs.«01_k».proof.Proof.Gen.AttnKernel
public import proofs.«01_k».proof.Proof.AttnFrame

@[expose] public section

set_option maxRecDepth 16384

noncomputable section

namespace Cert.Proof

open Idealize.ShloMosaic Idealize.SL.Sem

/-- The kernel's frame over the extended reals. -/
theorem attn_ideal_frame : Cert.quiescent_AttnKernelIdeal := fun m g _ => Cert.AttnKernelIdeal.Attn.frame m g

/-- At bit patterns a named constant is the pattern it is printed with. -/
abbrev plainNamed : Named Bits where
  named _ _ {φ} bits := FloatOps.ofBits φ bits

/-- With every named constant the pattern it is printed with, the two printed programs are one text, so the run speaks of both. -/
theorem attn_same : Cert.quiescent_AttnKernel =
    ∀ (m : (ℓ : Loc Cert.AttnKernelIdeal.nD Cert.AttnKernelIdeal.τ Cert.AttnKernelIdeal.sig) → Buf (Elt Bits) ℓ) (g : Dev Cert.AttnKernelIdeal.nD → PrngReg), True →
    letI := plainNamed
    θ_run (Cert.AttnKernelIdeal.defs (F := Bits)) (onTc (τ := Cert.AttnKernelIdeal.τ) (Cert.AttnKernelIdeal.main (F := Bits))) ⟨m, fun _ => 0, g⟩ (fun r => (∀ c : Dev Cert.AttnKernelIdeal.nD,
      r.2.mem ((c.tc : Thread _ _).loc Cert.AttnKernelIdeal.main_arg0) = m ((c.tc : Thread _ _).loc Cert.AttnKernelIdeal.main_arg0)
      ∧ r.2.mem ((c.tc : Thread _ _).loc Cert.AttnKernelIdeal.main_arg1) = m ((c.tc : Thread _ _).loc Cert.AttnKernelIdeal.main_arg1)
      ∧ r.2.mem ((c.tc : Thread _ _).loc Cert.AttnKernelIdeal.main_arg2) = m ((c.tc : Thread _ _).loc Cert.AttnKernelIdeal.main_arg2)
      ∧ r.2.mem ((c.tc : Thread _ _).loc Cert.AttnKernelIdeal.main_arg3) = m ((c.tc : Thread _ _).loc Cert.AttnKernelIdeal.main_arg3)
      ∧ r.2.mem ((c.tc : Thread _ _).loc Cert.AttnKernelIdeal.main_arg4) = m ((c.tc : Thread _ _).loc Cert.AttnKernelIdeal.main_arg4))
      ∧ r.2.sem = fun _ => 0) := by
  sl_kernel_rfl

/-- The same run, at bit patterns. -/
theorem attn_frame : Cert.quiescent_AttnKernel := by
  rw [attn_same]
  exact fun m g _ => @Cert.AttnKernelIdeal.Attn.frame Bits _ plainNamed m g

/-- The mask is the value its name is given. -/
theorem attn_preserves : Cert.preserves_AttnKernel_AttnKernelIdeal :=
  IdealRules.named_const.statement _ _ _ _ _ rfl

end Cert.Proof

end
-- ==== Proof.OutPay.lean ====
/- The output projection's body at the ideal values: a row plus two products, then its RMS norm. -/
module

public import proofs.«01_k».proof.Proof.Gen.OutKernelIdeal.Skeleton
public import Idealize.ShloMosaic.Lib.Pointwise

@[expose] public section

set_option maxRecDepth 16384

noncomputable section

namespace Cert.Out

open Idealize.ShloMosaic Idealize.ShloMosaic.TcCoe Cert.OutKernelIdeal Cert.OutKernelIdeal.Gen

/-- The array holding the values `f` of its two coordinates. -/
def arr2 {n m : ℕ} (f : ℕ → ℕ → EReal) : (⟨2, ![n, m]⟩ : Shape).Idx → EReal := fun j => f (j 0).val (j 1).val

/-- The array holding the values `f` of its three coordinates. -/
def arr3 {n m l : ℕ} (f : ℕ → ℕ → ℕ → EReal) : (⟨3, ![n, m, l]⟩ : Shape).Idx → EReal := fun j => f (j 0).val (j 1).val (j 2).val

theorem arr2_apply {n m : ℕ} (f : ℕ → ℕ → EReal) (a : Fin n) (b : Fin m) : arr2 f (ix2 a b) = f a.val b.val := rfl

theorem arr3_apply {n m l : ℕ} (f : ℕ → ℕ → ℕ → EReal) (a : Fin n) (b : Fin m) (c : Fin l) : arr3 f (ix3 a b c) = f a.val b.val c.val := rfl

/-- A row of the block after the mixers: the row before them, plus the attention's part and the pooling's part through the weights. -/
def midE (W : ℕ → ℕ → EReal) (x a p : ℕ → EReal) (k : ℕ) : EReal :=
  x k + (∑ j : Fin 512, a j.val * W j.val k) + ∑ j : Fin 512, p j.val * W (512 + j.val) k

/-- The reciprocal root of a row's mean square, the small number added. -/
def rootE (y : ℕ → EReal) : EReal :=
  Ideal.rsqrt (Ideal.div (∑ k : Fin 1024, y k.val * y k.val) (Ideal.ofBits FTy.f32 0x44800000#32) + Ideal.ofBits FTy.f32 0x358637BD#32)

variable (X A P : ℕ → ℕ → EReal) (W : ℕ → ℕ → EReal) (G : ℕ → EReal)

theorem pay1 {x : FVec Ideal S1024x1024 .f32} {a p : FVec Ideal S1024x512 .bf16} {w w' : FVec Ideal S512x1024 .bf16}
    (hx : x = arr2 X) (ha : a = arr2 A) (hp : p = arr2 P) (hw : w = arr2 W) (hw' : w' = arr2 fun j k => W (512 + j) k) :
    k0_pay1 (F := Ideal) x a w p w' = arr2 fun r k => midE W (X r) (A r) (P r) k := by
  subst hx ha hp hw hw'
  funext j
  idx_vars j
  pointwise [k0_pay1]
  simp only [arr2_apply]
  rfl

/-- What the body stores of the sum. -/
theorem pay2 {x : FVec Ideal S1024x1024 .f32} {a p : FVec Ideal S1024x512 .bf16} {w w' : FVec Ideal S512x1024 .bf16}
    (hx : x = arr2 X) (ha : a = arr2 A) (hp : p = arr2 P) (hw : w = arr2 W) (hw' : w' = arr2 fun j k => W (512 + j) k) :
    k0_pay2 (F := Ideal) x a w p w' = arr2 fun r k => midE W (X r) (A r) (P r) k := by
  have h := pay1 X A P W hx ha hp hw hw'
  funext j
  idx_vars j
  pointwise [k0_pay2]
  rw [h]

/-- What the body stores of the normed row. -/
theorem pay3 {x : FVec Ideal S1024x1024 .f32} {a p : FVec Ideal S1024x512 .bf16} {w w' : FVec Ideal S512x1024 .bf16} {g : FVec Ideal S1x1024 .f32}
    (hx : x = arr2 X) (ha : a = arr2 A) (hp : p = arr2 P) (hw : w = arr2 W) (hw' : w' = arr2 fun j k => W (512 + j) k) (hg : g = arr2 fun _ k => G k) :
    k0_pay3 (F := Ideal) x a w p w' g
      = arr2 fun r k => midE W (X r) (A r) (P r) k * rootE (midE W (X r) (A r) (P r)) * G k := by
  have h := pay1 X A P W hx ha hp hw hw'
  funext j
  idx_vars j
  pointwise [k0_pay3]
  rw [h, hg]
  simp only [arr2_apply]
  rfl

end Cert.Out

end
-- ==== Proof.OutKernel.lean ====
/- What the output projection's forward kernel leaves in its two results, on any arguments. -/
module

public import proofs.«01_k».proof.Proof.OutPay
public import proofs.«01_k».proof.Proof.Gen.OutKernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Out

open Idealize.ShloMosaic Idealize.ShloMosaic.TcCoe Idealize.SL.Sem Cert.OutKernelIdeal Cert.OutKernelIdeal.Gen
open Idealize.ShloMosaic.Pipeline (Dat)

variable (m : (ℓ : Loc nD τ sig) → Buf (Elt Ideal) ℓ)
-- what the arguments hold: the block's input, the two mixers' results, the weights, the gain
variable (X A P : ℕ → ℕ → ℕ → EReal) (W : ℕ → ℕ → EReal) (G : ℕ → EReal)

/-- The kernel's arguments hold these values on core `c`. -/
structure Holds (c : Dev nD) : Prop where
  x : m ((c : Thread nD τ).loc main_arg0) = (arr3 X : FVec Ideal S4x2048x1024 .f32)
  a : m ((c : Thread nD τ).loc main_arg1) = (arr3 A : FVec Ideal S4x2048x512 .f32)
  p : m ((c : Thread nD τ).loc main_arg2) = (arr3 P : FVec Ideal S4x2048x512 .f32)
  w : m ((c : Thread nD τ).loc main_arg3) = (arr3 (fun _ => W) : FVec Ideal S1x1024x1024 .f32)
  g : m ((c : Thread nD τ).loc main_arg4) = (arr2 (fun _ => G) : FVec Ideal S1x1024 .f32)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] := (by decide +kernel : ∀ t : Fin grid0.N, _)

/-- Row `r` of the flattened batch. -/
def flat (Y : ℕ → ℕ → ℕ → EReal) (r k : ℕ) : EReal := Y (r / 2048) (r % 2048) k

/-- Row `r` of the rows of grid point `t`. -/
def tile (Y : ℕ → ℕ → ℕ → EReal) (t r k : ℕ) : EReal := flat Y (t * 1024 + r) k

variable {m X A P W G} {c : Dev nD} (H : Holds m X A P W G c)
include H

theorem V_x : V m c main_v4 = arr2 (n := 8192) (m := 1024) (flat X) := by
  entry_read
  funext (j : S8192x1024.Idx)
  idx_vars j
  pointwise []
  rw [H.x]
  rfl

theorem V_a : V m c main_v1 = arr2 (n := 8192) (m := 512) (flat A) := by
  entry_read
  funext (j : S8192x512.Idx)
  idx_vars j
  pointwise []
  rw [H.a]
  rfl

theorem V_p : V m c main_v3 = arr2 (n := 8192) (m := 512) (flat P) := by
  entry_read
  funext (j : S8192x512.Idx)
  idx_vars j
  pointwise []
  rw [H.p]
  rfl

theorem V_w : V m c main_v6 = arr2 (n := 1024) (m := 1024) W := by
  entry_read
  funext (j : S1024x1024.Idx)
  idx_vars j
  pointwise []
  rw [H.w]
  rfl

theorem V_g : V m c main_arg4 = arr2 (n := 1) (m := 1024) fun _ k => G k := by
  entry_read
  exact H.g

theorem ld_x (t : Fin cfg0.N) : iblk m c 0 t = arr2 (n := 1024) (m := 1024) (tile X t.val) := by
  unfold iblk
  rw [show V m c (Pipeline.arrRef spec0 0) = _ from V_x H]
  funext (j : S1024x1024.Idx)
  idx_vars j
  blk_simp [arr2, idx t]
  rfl

theorem ld_a (t : Fin cfg0.N) : iblk m c 1 t = arr2 (n := 1024) (m := 512) (tile A t.val) := by
  unfold iblk
  rw [show V m c (Pipeline.arrRef spec0 1) = _ from V_a H]
  funext (j : S1024x512.Idx)
  idx_vars j
  blk_simp [arr2, idx t]
  rfl

theorem ld_p (t : Fin cfg0.N) : iblk m c 2 t = arr2 (n := 1024) (m := 512) (tile P t.val) := by
  unfold iblk
  rw [show V m c (Pipeline.arrRef spec0 2) = _ from V_p H]
  funext (j : S1024x512.Idx)
  idx_vars j
  blk_simp [arr2, idx t]
  rfl

theorem ld_w (t : Fin cfg0.N) : iblk m c 3 t = arr2 (n := 1024) (m := 1024) W := by
  unfold iblk
  rw [show V m c (Pipeline.arrRef spec0 3) = _ from V_w H]
  funext (j : S1024x1024.Idx)
  idx_vars j
  blk_simp [arr2, idx t]

theorem ld_g (t : Fin cfg0.N) : iblk m c 4 t = arr2 (n := 1) (m := 1024) fun _ k => G k := by
  unfold iblk
  rw [show V m c (Pipeline.arrRef spec0 4) = _ from V_g H]
  funext (j : S1x1024.Idx)
  idx_vars j
  blk_simp [arr2, idx t]

/-- The weights' rows from `o` on. -/
theorem ld_half (t : Fin cfg0.N) (o : ℕ) (inb : ∀ a, (![o, 0] : Fin 2 → ℕ) a + (![512, 1024] : Fin 2 → ℕ) a ≤ S1024x1024.size a) :
    View.ld (Val := Elt Ideal) (S := S1024x1024) (e' := .bf16) (iblk m c 3 t) (Rect.unit (s := S1024x1024) ![o, 0] ![512, 1024] inb)
      = arr2 (n := 512) (m := 1024) fun j k => W (o + j) k := by
  rw [ld_w H t]
  funext (j : S512x1024.Idx)
  idx_vars j
  pointwise []
  first | rfl | (simp only [arr2]; rfl)

/-- The first result: the rows after the mixers. -/
theorem final5 : (dats m 0 c).arrAt 5 cfg0.N
    = (arr2 fun r k => midE W (flat X r) (flat A r) (flat P r) k : FVec Ideal S8192x1024 .f32) := by
  refine (dats m 0 c).arrAt_eq_of_covers 5 _ (by decide +kernel) fun t hf y => ?_
  blk_simp
  rw [after0_5]
  frame_out
  idx_vars y
  rw [pay2 (tile X t.val) (tile A t.val) (tile P t.val) W (ld_x H t) (ld_a H t) (ld_p H t)
    ((ld_half H t 0 _).trans (by simp only [Nat.zero_add])) (ld_half H t 512 _)]
  blk_simp [arr2, idx t]
  rfl

/-- The second result: the same rows, normed and scaled. -/
theorem final6 : (dats m 0 c).arrAt 6 cfg0.N
    = (arr2 fun r k => midE W (flat X r) (flat A r) (flat P r) k * rootE (midE W (flat X r) (flat A r) (flat P r)) * G k : FVec Ideal S8192x1024 .bf16) := by
  refine (dats m 0 c).arrAt_eq_of_covers 6 _ (by decide +kernel) fun t hf y => ?_
  blk_simp
  rw [after0_6]
  frame_out
  idx_vars y
  rw [pay3 (tile X t.val) (tile A t.val) (tile P t.val) W G (ld_x H t) (ld_a H t) (ld_p H t)
    ((ld_half H t 0 _).trans (by simp only [Nat.zero_add])) (ld_half H t 512 _) (ld_g H t)]
  blk_simp [arr2, idx t]
  rfl

end Cert.Out

end
-- ==== Proof.OutClaim.lean ====
/- The output projection's forward call: kernel and reference leave equal arrays, on any arguments. -/
module

public import proofs.«01_k».proof.Defs
public import proofs.«01_k».proof.Proof.Gen.OutReferenceIdeal.Run
public import proofs.«01_k».proof.Proof.Gen.OutReferenceIdeal.Read
public import proofs.«01_k».proof.Proof.OutKernel

@[expose] public section

set_option maxRecDepth 16384

noncomputable section

namespace Cert.OutRef

open Idealize.ShloMosaic Idealize.ShloMosaic.TcCoe Cert.OutReferenceIdeal Cert.OutReferenceIdeal.Read Cert.Out

variable (X A P : ℕ → ℕ → ℕ → EReal) (W : ℕ → ℕ → EReal) (G : ℕ → EReal)

/-- The block's input, as an array. -/
abbrev argX : FVec Ideal S4x2048x1024 .f32 := arr3 X
/-- The attention's result, as an array. -/
abbrev argA : FVec Ideal S4x2048x512 .f32 := arr3 A
/-- The pooling's result, as an array. -/
abbrev argP : FVec Ideal S4x2048x512 .f32 := arr3 P
/-- The weights, as an array. -/
abbrev argW : FVec Ideal S1x1024x1024 .f32 := arr3 fun _ => W
/-- The gain, as an array. -/
abbrev argG : FVec Ideal S1x1024 .f32 := arr2 fun _ => G

/-- A sum over the two mixers' channels side by side is the sum over each. -/
theorem sum_sides (a p : ℕ → EReal) (w : ℕ → EReal) :
    ∑ l : Fin 1024, (if l.val < 512 then a l.val else p (l.val - 512)) * w l.val
      = (∑ j : Fin 512, a j.val * w j.val) + ∑ j : Fin 512, p j.val * w (512 + j.val) := by
  rw [Fin.sum_univ_add (a := 512) (b := 512) fun l : Fin 1024 => (if l.val < 512 then a l.val else p (l.val - 512)) * w l.val]
  refine congrArg₂ (· + ·) (Finset.sum_congr rfl fun j _ => ?_) (Finset.sum_congr rfl fun j _ => ?_)
  · have hj := j.isLt
    simp only [Fin.val_castAdd, if_pos hj]
  · simp only [Fin.val_natAdd, if_neg (show ¬ 512 + j.val < 512 by omega), Nat.add_sub_cancel_left]

/-- The rows after the mixers. -/
theorem mid : val_main_v3 (F := Ideal) (argX X) (argA A) (argP P) (argW W) = arr3 fun b s k => midE W (X b s) (A b s) (P b s) k := by
  funext j
  idx_vars j
  pointwise [val_main_v3, val_main_v2, val_main_v1, val_main_v0]
  simp only [arr3_apply]
  rw [midE, add_assoc, ← sum_sides (A j0.val j1.val) (P j0.val j1.val) fun l => W l j2.val]

theorem root : val_main_v12 (F := Ideal) (argX X) (argA A) (argP P) (argW W) = arr3 fun b s _ => rootE (midE W (X b s) (A b s) (P b s)) := by
  have h := mid X A P W
  funext j
  idx_vars j
  pointwise [val_main_v12, val_main_v11, val_main_v10, val_main_v9, val_main_v8, val_main_v7, val_main_v6, val_main_v5, val_main_cst, val_main_cst_0, val_main_cst_1]
  rw [h]
  rfl

/-- The first result. -/
theorem mid_eq : val_main_v18 (F := Ideal) (argX X) (argA A) (argP P) (argW W)
    = (arr2 fun r k => midE W (flat X r) (flat A r) (flat P r) k : FVec Ideal S8192x1024 .f32) := by
  have h := mid X A P W
  funext j
  idx_vars j
  pointwise [val_main_v18]
  rw [h]
  rfl

/-- The second result. -/
theorem norm_eq : val_main_v20 (F := Ideal) (argX X) (argA A) (argP P) (argW W) (argG G)
    = (arr2 fun r k => midE W (flat X r) (flat A r) (flat P r) k * rootE (midE W (flat X r) (flat A r) (flat P r)) * G k : FVec Ideal S8192x1024 .bf16) := by
  have h := mid X A P W
  have h' := root X A P W
  funext j
  idx_vars j
  pointwise [val_main_v20, val_main_v19, val_main_v17, val_main_v16, val_main_v15, val_main_v14, val_main_v13, val_main_v4]
  rw [h, h']
  rfl

end Cert.OutRef

namespace Cert.Proof

open Idealize.ShloMosaic Idealize.SL.Sem Cert.Out

/-- The values an array of two coordinates holds. -/
def valuesOf2 {n m : ℕ} (x : (⟨2, ![n, m]⟩ : Shape).Idx → EReal) (a b : ℕ) : EReal :=
  if h : a < n ∧ b < m then x (ix2 ⟨a, h.1⟩ ⟨b, h.2⟩) else 0

theorem arr2_valuesOf {n m : ℕ} (x : (⟨2, ![n, m]⟩ : Shape).Idx → EReal) : x = arr2 (valuesOf2 x) := by
  funext j
  obtain ⟨a, b, rfl⟩ : ∃ a b, j = ix2 a b := ⟨_, _, eq_ix2 j⟩
  rw [arr2_apply, valuesOf2, dif_pos ⟨a.isLt, b.isLt⟩]

/-- The values an array of three coordinates holds. -/
def valuesOf3 {n m l : ℕ} (x : (⟨3, ![n, m, l]⟩ : Shape).Idx → EReal) (a b c : ℕ) : EReal :=
  if h : a < n ∧ b < m ∧ c < l then x (ix3 ⟨a, h.1⟩ ⟨b, h.2.1⟩ ⟨c, h.2.2⟩) else 0

theorem arr3_valuesOf {n m l : ℕ} (x : (⟨3, ![n, m, l]⟩ : Shape).Idx → EReal) : x = arr3 (valuesOf3 x) := by
  funext j
  obtain ⟨a, b, d, rfl⟩ : ∃ a b d, j = ix3 a b d := ⟨_, _, _, eq_ix3 j⟩
  rw [arr3_apply, valuesOf3, dif_pos ⟨a.isLt, b.isLt, d.isLt⟩]

theorem arr2_row {m : ℕ} (x : (⟨2, ![1, m]⟩ : Shape).Idx → EReal) : x = arr2 fun _ => valuesOf2 x 0 := by
  refine (arr2_valuesOf x).trans ?_
  funext j
  obtain ⟨a, b, rfl⟩ : ∃ a b, j = ix2 a b := ⟨_, _, eq_ix2 j⟩
  rw [arr2_apply, arr2_apply, show a.val = 0 by omega]

theorem arr3_sheet {m l : ℕ} (x : (⟨3, ![1, m, l]⟩ : Shape).Idx → EReal) : x = arr3 fun _ => valuesOf3 x 0 := by
  refine (arr3_valuesOf x).trans ?_
  funext j
  obtain ⟨a, b, d, rfl⟩ : ∃ a b d, j = ix3 a b d := ⟨_, _, _, eq_ix3 j⟩
  rw [arr3_apply, arr3_apply, show a.val = 0 by omega]

/-- Whatever the arguments hold, it is values. -/
theorem out_holds (m : (ℓ : Loc Cert.OutKernelIdeal.nD Cert.OutKernelIdeal.τ Cert.OutKernelIdeal.sig) → Buf (Elt Ideal) ℓ) (c : Dev Cert.OutKernelIdeal.nD) :
    ∃ X A P W G, Out.Holds m X A P W G c :=
  ⟨_, _, _, _, _, ⟨arr3_valuesOf _, arr3_valuesOf _, arr3_valuesOf _, arr3_sheet _, arr2_row _⟩⟩

/-- The reference ends with its arguments unchanged and, as it declares no semaphore, at rest. -/
theorem out_reference_frame : Cert.quiescent_OutReferenceIdeal := fun m g _ =>
  (θ_run _ _ _).mono (fun r h => ⟨fun c => (h c).2.2, sem_eq_zero_of_no_sems (by decide) r.2⟩)
    (Cert.OutReferenceIdeal.Value.run (F := Ideal) m g)

/-- The kernel's two results are the reference's. -/
theorem out_algebraic : Cert.algebraic_OutKernelIdeal_OutReferenceIdeal := by
  intro m ρ m' ρ' _ hagree
  refine ⟨fun c => (Cert.OutKernelIdeal.Gen.dats m 0 c).arrAt 5 Cert.OutKernelIdeal.cfg0.N, fun c => (Cert.OutKernelIdeal.Gen.dats m 0 c).arrAt 6 Cert.OutKernelIdeal.cfg0.N,
    Cert.OutKernelIdeal.Value.run_blocks m ρ, (θ_run _ _ _).mono (fun r h c => ?_) (Cert.OutReferenceIdeal.Value.run m' ρ')⟩
  obtain ⟨a0, a1, a2, a3, a4⟩ := hagree c
  obtain ⟨r0, r1, rest⟩ := h c
  obtain ⟨X, A, P, W, G, H⟩ := out_holds m c
  refine ⟨r0.trans ?_, r1.trans ?_, rest⟩
  · refine (Cert.OutReferenceIdeal.Read.val_main_v18_eq _ _ _ _).trans ?_
    rw [a0, a1, a2, a3, H.x, H.a, H.p, H.w]
    exact (OutRef.mid_eq X A P W).trans (final5 H).symm
  · refine (Cert.OutReferenceIdeal.Read.val_main_v20_eq _ _ _ _ _).trans ?_
    rw [a0, a1, a2, a3, a4, H.x, H.a, H.p, H.w, H.g]
    exact (OutRef.norm_eq X A P W G).trans (final6 H).symm

end Cert.Proof

end
-- ==== Proof.InfPay.lean ====
/- The first projection's body at the ideal values: a product, and the rotary embedding of its query and key columns. -/
module

public import proofs.«01_k».proof.Proof.Gen.InfKernelIdeal.Skeleton
public import proofs.«01_k».proof.Proof.OutPay
public import Idealize.ShloMosaic.Lib.Pointwise

@[expose] public section

set_option maxRecDepth 16384

noncomputable section

namespace Cert.Inf

open Idealize.ShloMosaic Idealize.ShloMosaic.TcCoe Cert.InfKernelIdeal Cert.InfKernelIdeal.Gen
open Cert.Out (arr2 arr2_apply arr3 arr3_apply)

/-- Column `k` of a row `y` of heads of 64 columns, rotated: a head's first 32 columns with its last 32, by the angles whose cosines are `c` and sines `s`. -/
def ropeE (y c s : ℕ → EReal) (k : ℕ) : EReal :=
  if k % 64 < 32 then y k * c (k % 32) - y (k + 32) * s (k % 32) else y k * c (k % 32) + y (k - 32) * s (k % 32)

/-- A row through the weights. -/
def projE (x : ℕ → EReal) (W : ℕ → ℕ → EReal) (k : ℕ) : EReal := ∑ j : Fin 1024, x j.val * W j.val k

theorem pay3 {x : FVec Ideal S1024x1024 .bf16} {w : FVec Ideal S1280x1024 .bf16} (X W : ℕ → ℕ → EReal)
    (hx : x = arr2 X) (hw : w = arr2 fun k j => W j k) : k0_pay3 (F := Ideal) x w = arr2 fun r k => projE (X r) W k := by
  subst hx hw
  funext j
  idx_vars j
  pointwise [k0_pay3]
  simp only [arr2_apply]
  rfl

variable (P C S : ℕ → ℕ → EReal)

/-- The body's test of a column, as the words compute it. -/
def lowW (b : BitVec 32) : BitVec 1 :=
  let m := IntOp.remsi ArithUnit.vector b (Scalar.select (Scalar.cmpi .eq 64#32 0#32) 1#32 64#32)
  IntOp.cmpi .slt (Scalar.select (IntOp.andi (IntOp.xori (IntOp.cmpi .slt m 0#32)
    (Scalar.cmpi .slt (Scalar.select (Scalar.cmpi .eq 64#32 0#32) 1#32 64#32) 0#32)) (IntOp.cmpi .ne m 0#32))
    (IntOp.addi m (Scalar.select (Scalar.cmpi .eq 64#32 0#32) 1#32 64#32)) m) 32#32

theorem low_of : ∀ l : Fin 512, lowW (BitVec.ofNat 32 l.val) = if l.val % 64 < 32 then 1#1 else 0#1 := by decide +kernel

theorem half_of : ∀ l : Fin 128, IntOp.cmpi .slt (BitVec.ofNat 32 l.val) 64#32 = if l.val < 64 then 1#1 else 0#1 := by decide +kernel

theorem select_if {α : Type} (p : Prop) [Decidable p] (a b : α) : Scalar.select (if p then 1#1 else 0#1) a b = if p then a else b := by
  split_ifs <;> rfl

/-- The sign of the sine: minus in a head's first half. -/
def signed (s : ℕ → EReal) (l : ℕ) : EReal := if l % 64 < 32 then - s (l % 32) else s (l % 32)

/-- A column with its partner, brought beside it by two rotations of a width of whole heads: the column rotated. -/
theorem rope_cell (y c s : ℕ → EReal) (k n : ℕ) (hk : k < n) (hn : n ≤ 512) (h64 : n % 64 = 0) :
    y k * c (k % 32) + Scalar.select (lowW (BitVec.ofNat 32 k)) (y ((k + n - (n - 32)) % n)) (y ((k + n - 32) % n)) * signed s k = ropeE y c s k := by
  rw [low_of ⟨k, by omega⟩, select_if]
  unfold ropeE signed
  by_cases h : k % 64 < 32
  · rw [if_pos h, if_pos h, if_pos h, show (k + n - (n - 32)) % n = k + 32 by rw [Nat.mod_eq_of_lt] <;> omega, mul_neg, sub_eq_add_neg]
  · rw [if_neg h, if_neg h, if_neg h, show (k + n - 32) % n = k - 32 by
      rw [show k + n - 32 = k - 32 + n by omega, Nat.add_mod_right, Nat.mod_eq_of_lt]; omega]

/-- Four copies of a table of 128 columns side by side, when the table repeats itself after 64. -/
theorem tile4 (T : ℕ → EReal) (hT : ∀ l, T (l % 64) = T l) (k : ℕ) :
    (if k < 128 then T k else if k - 128 < 128 then T (k - 128) else if k - 128 - 128 < 128 then T (k - 128 - 128) else T (k - 128 - 128 - 128)) = T k := by
  have e : ∀ l, l % 64 = k % 64 → T l = T k := fun l h => by rw [← hT l, h, hT]
  split_ifs
  · rfl
  all_goals exact e _ (by omega)

theorem signed_mod (s : ℕ → EReal) (l : ℕ) : signed s (l % 64) = signed s l := by
  unfold signed
  rw [Nat.mod_mod, show l % 64 % 32 = l % 32 by omega]

theorem pay6 {x : FVec Ideal S1024x1024 .bf16} {w : FVec Ideal S1280x1024 .bf16} {c s : FVec Ideal S1024x128 .f32} (h3 : k0_pay3 (F := Ideal) x w = arr2 P)
    (hc : c = arr2 fun r l => C r (l % 32)) (hs : s = arr2 fun r l => signed (S r) l) :
    k0_pay6 (F := Ideal) x w c s = arr2 fun r k => ropeE (P r) (C r) (S r) k * Ideal.ofBits FTy.f32 0x3E000000#32 := by
  subst hc hs
  funext j
  idx_vars j
  pointwise [k0_pay6, k0_pay4, k0_pay5]
  rw [h3]
  simp only [arr2_apply, dite_eq_ite]
  have hC := tile4 (fun l => C j0.val (l % 32)) (fun l => by beta_reduce; rw [show l % 64 % 32 = l % 32 by omega]) j1.val
  have hS := tile4 (fun l => signed (S j0.val) l) (signed_mod _) j1.val
  beta_reduce at hC hS
  rw [hC, hS]
  exact congrArg (· * _) (rope_cell (P j0.val) (C j0.val) (S j0.val) j1.val 512 j1.isLt (by decide) (by decide))

theorem pay7 (x : FVec Ideal S1024x512 .bf16) : k0_pay7 (F := Ideal) x = x := by
  funext j
  idx_vars j
  pointwise [k0_pay7]

theorem pay8 {p : FVec Ideal S1024x1280 .f32} {c s : FVec Ideal S1024x128 .f32} (h3 : p = arr2 P)
    (hc : c = arr2 fun r l => C r (l % 32)) (hs : s = arr2 fun r l => signed (S r) l) :
    k0_pay8 (F := Ideal) p (k0_pay4 c) (k0_pay5 s) = arr2 fun r k => ropeE (fun j => P r (512 + j)) (C r) (S r) (k / 128 * 64 + k % 64) := by
  subst h3 hc hs
  funext j
  idx_vars j
  pointwise [k0_pay8, k0_pay4, k0_pay5]
  simp only [arr2_apply]
  have hj : j1.val < 256 := j1.isLt
  have cell := fun (k : ℕ) (hk : k < 128) => rope_cell (fun j => P j0.val (512 + j)) (C j0.val) (S j0.val) k 128 hk (by decide) (by decide)
  have cg := fun (a b : ℕ) (h : a = b) => congrArg (ropeE (fun j => P j0.val (512 + j)) (C j0.val) (S j0.val)) h
  by_cases h : j1.val < 128
  · rw [dif_pos h, half_of ⟨j1.val, h⟩, select_if]
    split_ifs with h'
    · exact (cell _ h).trans (cg _ _ (by dsimp only at h'; omega))
    · exact (cell _ (Nat.mod_lt _ (by decide))).trans (cg _ _ (by dsimp only at h'; omega))
  · rw [dif_neg h, half_of ⟨j1.val - 128, by omega⟩, select_if]
    split_ifs with h'
    · exact (cell _ (Nat.mod_lt _ (by decide))).trans (cg _ _ (by dsimp only at h'; omega))
    · exact (cell _ (by omega)).trans (cg _ _ (by dsimp only at h'; omega))

theorem pay1 {p : FVec Ideal S1024x1280 .f32} (h3 : p = arr2 P) :
    k0_pay1 (F := Ideal) (k0_pay9 p) (iota .tc S1024x128 32 [1] iota_S1024x128_d1_w32) 64#32 = arr2 fun r k => P r (640 + (k / 128 * 64 + k % 64)) := by
  subst h3
  funext j
  idx_vars j
  pointwise [k0_pay1, k0_pay9]
  simp only [arr2_apply]
  have hj : j1.val < 256 := j1.isLt
  have cg := fun (a b : ℕ) (h : a = b) => congrArg (P j0.val) h
  by_cases h : j1.val < 128
  · rw [dif_pos h, half_of ⟨j1.val, h⟩, select_if]
    split_ifs with h'
    · exact cg _ _ (by dsimp only at h'; omega)
    · exact cg _ _ (by dsimp only at h'; omega)
  · rw [dif_neg h, half_of ⟨j1.val - 128, by omega⟩, select_if]
    split_ifs with h'
    · exact cg _ _ (by dsimp only at h'; omega)
    · exact cg _ _ (by dsimp only at h'; omega)

theorem pay2 {p : FVec Ideal S1024x1280 .f32} (h3 : p = arr2 P) :
    k0_pay2 (F := Ideal) p = arr2 fun r k => P r (768 + k) := by
  subst h3
  funext j
  idx_vars j
  pointwise [k0_pay2]
  rfl

end Cert.Inf

end
-- ==== Proof.InfKernel.lean ====
/- What the first projection's kernel leaves in its four results. -/
module

public import proofs.«01_k».proof.Proof.InfPay
public import proofs.«01_k».proof.Proof.Gen.InfKernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Inf

open Idealize.ShloMosaic Idealize.ShloMosaic.TcCoe Idealize.SL.Sem Cert.InfKernelIdeal Cert.InfKernelIdeal.Gen
open Cert.Out (arr2 arr2_apply arr3 arr3_apply)
open Idealize.ShloMosaic.Pipeline (Dat)

/-- The angle of frequency `i` at position `p`. -/
def angE (p i : ℕ) : EReal :=
  FloatOps.sitofp (F := Ideal) FTy.f32 (BitVec.ofNat 32 p) * Ideal.pow (Ideal.ofBits FTy.f32 1176256512#32)
    (Ideal.div (-FloatOps.sitofp (F := Ideal) FTy.f32 (BitVec.ofNat 32 i)) (Ideal.ofBits FTy.f32 1107296256#32))

def cosE (p i : ℕ) : EReal := Ideal.cos (angE p i)

def sinE (p i : ℕ) : EReal := Ideal.sin (angE p i)

variable (m : (ℓ : Loc nD τ sig) → Buf (Elt Ideal) ℓ)
-- what the arguments hold: the normed rows, the weights
variable (X : ℕ → ℕ → ℕ → EReal) (W : ℕ → ℕ → EReal)

/-- The kernel's arguments hold these values on core `c`. -/
structure Holds (c : Dev nD) : Prop where
  x : m ((c : Thread nD τ).loc main_arg0) = (arr3 X : FVec Ideal S4x2048x1024 .f32)
  w : m ((c : Thread nD τ).loc main_arg1) = (arr3 (fun _ => W) : FVec Ideal S1x1024x1280 .f32)

/-- Row `r` of all sequences' rows, through the weights. -/
def rowE (r : ℕ) (k : ℕ) : EReal := projE (X (r / 2048) (r % 2048)) W k

/-- The queries: rotated and scaled. -/
def qE (r k : ℕ) : EReal := ropeE (rowE X W r) (cosE (r % 2048)) (sinE (r % 2048)) k * Ideal.ofBits FTy.f32 0x3E000000#32

/-- The keys: rotated, each head twice. -/
def kE (r k : ℕ) : EReal := ropeE (fun j => rowE X W r (512 + j)) (cosE (r % 2048)) (sinE (r % 2048)) (k / 128 * 64 + k % 64)

/-- The values, each head twice. -/
def vE (r k : ℕ) : EReal := rowE X W r (640 + (k / 128 * 64 + k % 64))

/-- The pooling branch's input. -/
def uE (r k : ℕ) : EReal := rowE X W r (768 + k)

theorem idx : ∀ t : Fin cfg0.N, win0_0.index t = ![t.val, 0] ∧ win0_1.index t = ![0, 0] ∧ win0_2.index t = ![t.val % 2, 0] ∧ win0_3.index t = ![t.val % 2, 0]
    ∧ win0_4.index t = ![t.val, 0] ∧ win0_5.index t = ![t.val, 0] ∧ win0_6.index t = ![t.val, 0] ∧ win0_7.index t = ![t.val, 0] :=
  (by decide +kernel : ∀ t : Fin grid0.N, _)

theorem V_c (c : Dev nD) : V m c main_v17 = (arr2 fun p l => cosE p (l % 32) : FVec Ideal S2048x128 .f32) := by
  entry_read
  funext (j : S2048x128.Idx)
  idx_vars j
  pointwise []
  rfl

theorem V_s (c : Dev nD) : V m c main_v22 = (arr2 fun p l => signed (sinE p) l : FVec Ideal S2048x128 .f32) := by
  entry_read
  funext (j : S2048x128.Idx)
  idx_vars j
  pointwise []
  unfold arr2 signed
  show _ = if j1.val % 64 < 32 then _ else _
  by_cases h : j1.val % 64 < 32
  · rw [dif_pos h, if_pos h, show j1.val % 64 = j1.val % 32 by omega]
    rfl
  · rw [dif_neg h, if_neg h, show j1.val % 64 - 32 = j1.val % 32 by omega]
    rfl

variable {m X W} {c : Dev nD} (H : Holds m X W c)

section blocks
include H

theorem V_x : V m c main_v24 = arr2 (n := 8192) (m := 1024) fun r k => X (r / 2048) (r % 2048) k := by
  entry_read
  rw [H.x]
  funext (j : S8192x1024.Idx)
  idx_vars j
  pointwise []
  rfl

theorem V_w : V m c main_v27 = arr2 (n := 1280) (m := 1024) fun k j => W j k := by
  entry_read
  rw [H.w]
  funext (j : S1280x1024.Idx)
  idx_vars j
  pointwise []
  rfl

theorem b0 (t : Fin cfg0.N) : iblk m c 0 t = (arr2 fun r k => X ((t.val * 1024 + r) / 2048) ((t.val * 1024 + r) % 2048) k : FVec Ideal S1024x1024 .bf16) := by
  unfold iblk
  rw [show V m c (Pipeline.arrRef spec0 0) = _ from V_x H]
  funext (j : S1024x1024.Idx)
  idx_vars j
  blk_simp [arr2, idx t]

theorem b1 (t : Fin cfg0.N) : iblk m c 1 t = (arr2 fun k j => W j k : FVec Ideal S1280x1024 .bf16) := by
  unfold iblk
  rw [show V m c (Pipeline.arrRef spec0 1) = _ from V_w H]
  funext (j : S1280x1024.Idx)
  idx_vars j
  blk_simp [arr2, idx t]

end blocks

/-- The position of row `r` of grid point `t`. -/
theorem pos (t r : ℕ) (hr : r < 1024) : t % 2 * 1024 + r = (t * 1024 + r) % 2048 := by omega

theorem b2 (t : Fin cfg0.N) : iblk m c 2 t = (arr2 fun r l => cosE ((t.val * 1024 + r) % 2048) (l % 32) : FVec Ideal S1024x128 .f32) := by
  unfold iblk
  rw [show V m c (Pipeline.arrRef spec0 2) = _ from V_c m c]
  funext (j : S1024x128.Idx)
  idx_vars j
  blk_simp [arr2, idx t]
  rw [← pos t.val j0.val j0.isLt]

theorem b3 (t : Fin cfg0.N) : iblk m c 3 t = (arr2 fun r l => signed (sinE ((t.val * 1024 + r) % 2048)) l : FVec Ideal S1024x128 .f32) := by
  unfold iblk
  rw [show V m c (Pipeline.arrRef spec0 3) = _ from V_s m c]
  funext (j : S1024x128.Idx)
  idx_vars j
  blk_simp [arr2, idx t]
  rw [← pos t.val j0.val j0.isLt]

include H

theorem p3 (t : Fin cfg0.N) : k0_pay3 (F := Ideal) (iblk m c 0 t) (iblk m c 1 t) = arr2 fun r k => rowE X W (t.val * 1024 + r) k :=
  pay3 _ _ (b0 H t) (b1 H t)

theorem final4 : (dats m 0 c).arrAt 4 cfg0.N = (arr2 (qE X W) : FVec Ideal S8192x512 .bf16) := by
  refine (dats m 0 c).arrAt_eq_of_covers 4 _ (by decide +kernel) fun t hf y => ?_
  blk_simp
  rw [after0_4]
  frame_out [k0_pay10]
  idx_vars y
  rw [pay7, pay6 _ _ _ (p3 H t) (b2 t) (b3 t)]
  blk_simp [arr2, idx t]
  rfl

theorem final5 : (dats m 0 c).arrAt 5 cfg0.N = (arr2 (kE X W) : FVec Ideal S8192x256 .bf16) := by
  refine (dats m 0 c).arrAt_eq_of_covers 5 _ (by decide +kernel) fun t hf y => ?_
  blk_simp
  rw [after0_5]
  frame_out [k0_pay10]
  idx_vars y
  rw [pay8 _ _ _ (p3 H t) (b2 t) (b3 t)]
  blk_simp [arr2, idx t]
  rfl

theorem final6 : (dats m 0 c).arrAt 6 cfg0.N = (arr2 (vE X W) : FVec Ideal S8192x256 .bf16) := by
  refine (dats m 0 c).arrAt_eq_of_covers 6 _ (by decide +kernel) fun t hf y => ?_
  blk_simp
  rw [after0_6]
  frame_out [k0_pay10]
  idx_vars y
  rw [pay1 _ (p3 H t)]
  blk_simp [arr2, idx t]
  rfl

theorem final7 : (dats m 0 c).arrAt 7 cfg0.N = (arr2 (uE X W) : FVec Ideal S8192x512 .f32) := by
  refine (dats m 0 c).arrAt_eq_of_covers 7 _ (by decide +kernel) fun t hf y => ?_
  blk_simp
  rw [after0_7]
  frame_out [k0_pay10]
  idx_vars y
  rw [pay2 _ (p3 H t)]
  blk_simp [arr2, idx t]
  rfl

end Cert.Inf

end
-- ==== Proof.InfRef.lean ====
/- What the first projection's reference leaves in its four results. -/
module

public import proofs.«01_k».proof.Proof.Gen.InfReferenceIdeal.Read
public import proofs.«01_k».proof.Proof.InfKernel

@[expose] public section

set_option maxRecDepth 16384

noncomputable section

namespace Cert.InfRef

open Idealize.ShloMosaic Idealize.ShloMosaic.TcCoe Cert.InfReferenceIdeal Cert.InfReferenceIdeal.Read Cert.Inf
open Cert.Out (arr2 arr2_apply arr3 arr3_apply)

variable (X : ℕ → ℕ → ℕ → EReal) (W : ℕ → ℕ → EReal)

abbrev argX : FVec Ideal S4x2048x1024 .f32 := arr3 X
abbrev argW : FVec Ideal S1x1024x1280 .f32 := arr3 fun _ => W

theorem proj (a : Fin 4) (b : Fin 2048) (k : Fin 1280) : val_main_v2 (F := Ideal) (argX X) (argW W) (ix3 a b k) = projE (X a.val b.val) W k.val := by
  rw [val_main_v2_apply]
  refine Finset.sum_congr rfl fun i _ => congrArg₂ (· * ·) rfl ?_
  pointwise [val_main_v1]
  rfl

theorem cos1 (p : Fin 2048) (i : Fin 32) : val_main_v22 (F := Ideal) (ix2 p i) = cosE p.val i.val := by
  pointwise [val_main_v22, val_main_v21, val_main_v20, val_main_v19, val_main_v18, val_main_v17, val_main_v16, val_main_v15, val_main_v14, val_main_v13, val_main_v12, val_main_v11, val_main_v10, val_main_v0, val_main_cst, val_main_cst_0]
  rfl

theorem sin1 (p : Fin 2048) (i : Fin 32) : val_main_v24 (F := Ideal) (ix2 p i) = sinE p.val i.val := by
  pointwise [val_main_v24, val_main_v21, val_main_v20, val_main_v19, val_main_v18, val_main_v17, val_main_v16, val_main_v15, val_main_v14, val_main_v13, val_main_v12, val_main_v11, val_main_v10, val_main_v0, val_main_cst, val_main_cst_0]
  rfl

theorem cos2 (p : Fin 2048) (i : Fin 32) : val_main_v51 (F := Ideal) (ix2 p i) = cosE p.val i.val := cos1 p i

theorem sin2 (p : Fin 2048) (i : Fin 32) : val_main_v53 (F := Ideal) (ix2 p i) = sinE p.val i.val := sin1 p i

/-- A head's column `d`, rotated. -/
theorem head (y c s : ℕ → EReal) (h d : ℕ) (hd : d < 64) : ropeE y c s (h * 64 + d)
    = if d < 32 then y (h * 64 + d) * c d - y (h * 64 + (32 + d)) * s d
      else y (h * 64 + (32 + (d - 32))) * c (d - 32) + y (h * 64 + (d - 32)) * s (d - 32) := by
  unfold ropeE
  rw [show (h * 64 + d) % 64 = d by omega]
  by_cases e : d < 32
  · rw [if_pos e, if_pos e, show (h * 64 + d) % 32 = d by omega, show h * 64 + d + 32 = h * 64 + (32 + d) by omega]
  · rw [if_neg e, if_neg e, show (h * 64 + d) % 32 = d - 32 by omega, show h * 64 + (32 + (d - 32)) = h * 64 + d by omega,
      show h * 64 + d - 32 = h * 64 + (d - 32) by omega]

theorem query (a : Fin 4) (b : Fin 2048) (h : Fin 8) (d : Fin 64) : val_main_v38 (F := Ideal) (argX X) (argW W) (ix4 a b h d)
    = ropeE (projE (X a.val b.val) W) (cosE b.val) (sinE b.val) (h.val * 64 + d.val) := by
  pointwise [val_main_v38, val_main_v37, val_main_v36, val_main_v35, val_main_v34, val_main_v33, val_main_v32, val_main_v31, val_main_v30, val_main_v29, val_main_v28, val_main_v27, val_main_v26, val_main_v25, val_main_v23, val_main_v4, val_main_v3]
  simp only [proj, cos1, sin1, dite_eq_ite]
  exact (head (projE (X a.val b.val) W) _ _ h.val d.val d.isLt).symm

theorem key (a : Fin 4) (b : Fin 2048) (h : Fin 2) (d : Fin 64) : val_main_v67 (F := Ideal) (argX X) (argW W) (ix4 a b h d)
    = ropeE (fun j => projE (X a.val b.val) W (512 + j)) (cosE b.val) (sinE b.val) (h.val * 64 + d.val) := by
  pointwise [val_main_v67, val_main_v66, val_main_v65, val_main_v64, val_main_v63, val_main_v62, val_main_v61, val_main_v60, val_main_v59, val_main_v58, val_main_v57, val_main_v56, val_main_v55, val_main_v54, val_main_v52, val_main_v6, val_main_v5]
  simp only [proj, cos2, sin2, dite_eq_ite]
  exact (head (fun j => projE (X a.val b.val) W (512 + j)) _ _ h.val d.val d.isLt).symm

theorem q_eq : val_main_v71 (F := Ideal) (argX X) (argW W) = (arr2 (qE X W) : FVec Ideal S8192x512 .bf16) := by
  funext j
  idx_vars j
  pointwise [val_main_v71, val_main_v70, val_main_v69, val_main_v68, val_main_cst_3]
  rw [query]
  dsimp only
  rw [show j1.val / 64 * 64 + j1.val % 64 = j1.val by omega]
  rfl

theorem k_eq : val_main_v74 (F := Ideal) (argX X) (argW W) = (arr2 (kE X W) : FVec Ideal S8192x256 .bf16) := by
  funext j
  idx_vars j
  pointwise [val_main_v74, val_main_v73, val_main_v72]
  simp only [key, dite_eq_ite]
  show _ = kE X W j0.val j1.val
  unfold kE
  split_ifs with h
  · rw [show j1.val % 128 = j1.val % 64 by omega]
    rfl
  · rw [show j1.val % 128 - 64 = j1.val % 64 by omega]
    rfl

theorem v_eq : val_main_v77 (F := Ideal) (argX X) (argW W) = (arr2 (vE X W) : FVec Ideal S8192x256 .bf16) := by
  funext j
  idx_vars j
  pointwise [val_main_v77, val_main_v76, val_main_v75, val_main_v8, val_main_v7]
  simp only [proj, dite_eq_ite]
  show _ = vE X W j0.val j1.val
  unfold vE
  split_ifs with h
  · rw [show j1.val % 128 = j1.val % 64 by omega]
    rfl
  · rw [show j1.val % 128 - 64 = j1.val % 64 by omega]
    rfl

theorem u_eq : val_main_v78 (F := Ideal) (argX X) (argW W) = (arr2 (uE X W) : FVec Ideal S8192x512 .f32) := by
  funext j
  idx_vars j
  pointwise [val_main_v78, val_main_v9]
  exact proj X W _ _ _

end Cert.InfRef

end
-- ==== Proof.InfClaim.lean ====
/- The first projection's forward call: kernel and reference leave equal arrays, on any arguments. -/
module

public import proofs.«01_k».proof.Defs
public import proofs.«01_k».proof.Proof.Gen.InfReferenceIdeal.Run
public import proofs.«01_k».proof.Proof.InfRef
public import proofs.«01_k».proof.Proof.OutClaim

@[expose] public section

set_option maxRecDepth 16384

noncomputable section

namespace Cert.Proof

open Idealize.ShloMosaic Idealize.SL.Sem

/-- Whatever the arguments hold, it is values. -/
theorem inf_holds (m : (ℓ : Loc Cert.InfKernelIdeal.nD Cert.InfKernelIdeal.τ Cert.InfKernelIdeal.sig) → Buf (Elt Ideal) ℓ) (c : Dev Cert.InfKernelIdeal.nD) :
    ∃ X W, Inf.Holds m X W c :=
  ⟨_, _, ⟨arr3_valuesOf _, arr3_sheet _⟩⟩

/-- The reference ends with its arguments unchanged and, as it declares no semaphore, at rest. -/
theorem inf_reference_frame : Cert.quiescent_InfReferenceIdeal := fun m g _ =>
  (θ_run _ _ _).mono (fun r h => ⟨fun c => (h c).2.2.2.2, sem_eq_zero_of_no_sems (by decide) r.2⟩)
    (Cert.InfReferenceIdeal.Value.run (F := Ideal) m g)

/-- The kernel's four results are the reference's. -/
theorem inf_algebraic : Cert.algebraic_InfKernelIdeal_InfReferenceIdeal := by
  intro m ρ m' ρ' _ hagree
  refine ⟨fun c => (Cert.InfKernelIdeal.Gen.dats m 0 c).arrAt 4 Cert.InfKernelIdeal.cfg0.N, fun c => (Cert.InfKernelIdeal.Gen.dats m 0 c).arrAt 5 Cert.InfKernelIdeal.cfg0.N,
    fun c => (Cert.InfKernelIdeal.Gen.dats m 0 c).arrAt 6 Cert.InfKernelIdeal.cfg0.N, fun c => (Cert.InfKernelIdeal.Gen.dats m 0 c).arrAt 7 Cert.InfKernelIdeal.cfg0.N,
    Cert.InfKernelIdeal.Value.run_blocks m ρ, (θ_run _ _ _).mono (fun r h c => ?_) (Cert.InfReferenceIdeal.Value.run m' ρ')⟩
  obtain ⟨a0, a1⟩ := hagree c
  obtain ⟨r0, r1, r2, r3, rest⟩ := h c
  obtain ⟨X, W, H⟩ := inf_holds m c
  refine ⟨r0.trans ?_, r1.trans ?_, r2.trans ?_, r3.trans ?_, rest⟩
  · refine (Cert.InfReferenceIdeal.Read.val_main_v71_eq _ _).trans ?_
    rw [a0, a1, H.x, H.w]
    exact (InfRef.q_eq X W).trans (Inf.final4 H).symm
  · refine (Cert.InfReferenceIdeal.Read.val_main_v74_eq _ _).trans ?_
    rw [a0, a1, H.x, H.w]
    exact (InfRef.k_eq X W).trans (Inf.final5 H).symm
  · refine (Cert.InfReferenceIdeal.Read.val_main_v77_eq _ _).trans ?_
    rw [a0, a1, H.x, H.w]
    exact (InfRef.v_eq X W).trans (Inf.final6 H).symm
  · refine (Cert.InfReferenceIdeal.Read.val_main_v78_eq _ _).trans ?_
    rw [a0, a1, H.x, H.w]
    exact (InfRef.u_eq X W).trans (Inf.final7 H).symm

end Cert.Proof

end
-- ==== Proof.PoolfKernel.lean ====
/- What the pooling branch's forward kernel leaves in its result, on an input that holds reals and any weights and scale. -/
module

public import proofs.«01_k».proof.Proof.PoolPay
public import proofs.«01_k».proof.Proof.OutPay
public import proofs.«01_k».proof.Proof.HostSums
public import proofs.«01_k».proof.Proof.Gen.PoolfKernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Poolf

open Idealize.ShloMosaic Idealize.ShloMosaic.TcCoe Idealize.SL.Sem Cert.PoolfKernelIdeal Cert.PoolfKernelIdeal.Gen Cert.Reals
open Cert.Pool (rows featR feat_group)
open Cert.Out (arr2 arr2_apply)
open Idealize.ShloMosaic.Pipeline (Dat)

/-- Group `g` of sequence `b`: its rows and its 128 columns. -/
def part (X : ℕ → ℕ → ℕ → ℝ) (b g : ℕ) (s k : ℕ) : ℝ := X b s (g * 128 + k)

/-- A group's features through its weights, scaled. -/
def outv (d : FVec Ideal S2048x128 .bf16) (w : FVec Ideal S1x128x128 .bf16) (s : FVec Ideal S1x128 .f32) : FVec Ideal S2048x128 .bf16 :=
  truncf .bf16 (mulf (matmul dot_S2048x128_S128x128_S2048x128_1_0_0_1_n_n none d (shapeCast S128x128 w shapeCasts_S1x128x128_S128x128)
    (constant S2048x128 .f32 0x00000000#32)) (broadcastTo S2048x128 s broadcasts_S1x128_S2048x128)) bitsLt_bf16_f32

theorem outv_at (f : ℕ → ℕ → ℝ) (w : FVec Ideal S1x128x128 .bf16) (s : FVec Ideal S1x128 .f32) (r : Fin 2048) (j : Fin 128) :
    outv (emb2 f) w s (ix2 r j) = (∑ k : Fin 128, ((f r.val k.val : ℝ) : EReal) * w (ix3 (0 : Fin 1) k j)) * s (ix2 (0 : Fin 1) j) := by
  pointwise [outv]
  simp only [emb2_apply]

/-- A reshape to the same shape changes nothing. -/
theorem cast_rows {φ : FTy} (x : FVec Ideal S2048x128 φ) : shapeCast S2048x128 x shapeCasts_S2048x128_S2048x128 = x := by
  funext j
  pointwise []

section groups

variable (f : ℕ → ℕ → ℝ) (x : FVec Ideal S2048x128 .f32) (hx : x = emb2 f) (w : FVec Ideal S1x128x128 .bf16) (s : FVec Ideal S1x128 .f32)
include hx

theorem tile0 : k0_pay2 (F := Ideal) x w s = outv (emb2 (featR 0 f)) w s := by
  subst hx
  rw [← feat_group 0 (by decide)]
  simp only [k0_pay2, cast_rows]
  rfl

theorem tile1 : k0_pay6 (F := Ideal) rows (k0_pay3 x) k0_pay4 k0_pay5 w s = outv (emb2 (featR 1 f)) w s := by
  subst hx
  rw [← feat_group 1 (by decide)]
  simp only [k0_pay6, k0_pay3, k0_pay4, k0_pay5, cast_rows]
  rfl

theorem tile2 : k0_pay11 (F := Ideal) rows (k0_pay7 x) (k0_pay8 rows) (k0_pay9 rows) (k0_pay10 x) (Scalar.ofBits .f32 0x00000000#32) w s
    = outv (emb2 (featR 2 f)) w s := by
  subst hx
  rw [← feat_group 2 (by decide)]
  simp only [k0_pay11, k0_pay7, k0_pay8, k0_pay9, k0_pay10, cast_rows]
  rfl

theorem tile3 : k0_pay1 (F := Ideal) (k0_pay14 rows (k0_pay12 x) (k0_pay13 rows) w) (k0_pay15 s) = outv (emb2 (featR 3 f)) w s := by
  subst hx
  rw [← feat_group 3 (by decide)]
  simp only [k0_pay1, k0_pay14, k0_pay12, k0_pay13, k0_pay15, cast_rows]
  rfl

end groups

variable (m : (ℓ : Loc nD τ sig) → Buf (Elt Ideal) ℓ)
-- the reals of the branch's input; the weights; the scale
variable (U : ℕ → ℕ → ℕ → ℝ) (W : ℕ → ℕ → ℕ → EReal) (S : ℕ → EReal)

/-- The kernel's arguments hold these values on core `c`. -/
structure Holds (c : Dev nD) : Prop where
  u : m ((c : Thread nD τ).loc main_arg0) = (emb3 U : FVec Ideal S4x2048x512 .f32)
  w : ∀ (a : Fin 1) (g : Fin 4) (i j : Fin 128), m ((c : Thread nD τ).loc main_arg1) (ix4 a g i j) = W g.val i.val j.val
  s : m ((c : Thread nD τ).loc main_arg2) = (arr2 fun _ => S : FVec Ideal S1x512 .f32)

/-- The branch's output: column `k` of row `s` of sequence `b`. -/
def outF (b s k : ℕ) : EReal :=
  (∑ i : Fin 128, ((featR (k / 128) (part U b (k / 128)) s i.val : ℝ) : EReal) * W (k / 128) i.val (k % 128)) * S k

theorem idx : ∀ t : Fin cfg0.N, win0_0.index t = ![t.val, 0] ∧ win0_1.index t = ![0, 0, 0] ∧ win0_2.index t = ![0, 0]
    ∧ win0_4.index t = ![t.val, 0] := (by decide +kernel : ∀ t : Fin grid0.N, _)

variable {m U W S} {c : Dev nD} (H : Holds m U W S c)
include H

theorem V_u : V m c main_v0 = emb2 (n := 8192) (m := 512) fun r k => U (r / 2048) (r % 2048) k := by
  entry_read
  rw [H.u]
  funext (j : S8192x512.Idx)
  idx_vars j
  pointwise []
  rfl

theorem V_w (g : Fin 4) (i j : Fin 128) : (V m c main_v2 : FVec Ideal S4x128x128 .bf16) (ix3 g i j) = W g.val i.val j.val := by
  entry_read
  pointwise []
  exact H.w _ _ _ _

theorem V_s (z : Fin 1) (k : Fin 512) : (V m c main_arg2 : FVec Ideal S1x512 .f32) (ix2 z k) = S k.val := by
  entry_read
  exact congrFun H.s (ix2 z k)

theorem ld_u (t : Fin cfg0.N) (g : ℕ) (inb : ∀ a, (![0, g * 128] : Fin 2 → ℕ) a + (![2048, 128] : Fin 2 → ℕ) a ≤ S2048x512.size a) :
    View.ld (S := S2048x512) (iblk m c 0 t) (Rect.unit (s := S2048x512) ![0, g * 128] ![2048, 128] inb) = emb2 (part U t.val g) := by
  have ho : g * 128 + 128 ≤ 512 := inb 1
  unfold iblk
  rw [show V m c (Pipeline.arrRef spec0 0) = _ from V_u H]
  funext (j : S2048x128.Idx)
  idx_vars j
  pointwise []
  blk_simp [emb2, idx t]
  rw [show (t.val * 2048 + j0.val) / 2048 = t.val by omega, show (t.val * 2048 + j0.val) % 2048 = j0.val by omega]
  rfl

theorem ld_w (t : Fin cfg0.N) (g : ℕ) (inb : ∀ a, (![g, 0, 0] : Fin 3 → ℕ) a + (![1, 128, 128] : Fin 3 → ℕ) a ≤ S4x128x128.size a) (z : Fin 1) (i j : Fin 128) :
    View.ld (S := S4x128x128) (iblk m c 1 t) (Rect.unit (s := S4x128x128) ![g, 0, 0] ![1, 128, 128] inb) (ix3 z i j) = W g i.val j.val := by
  have ho : g + 1 ≤ 4 := inb 0
  refine Eq.trans ?_ (V_w H (⟨g, ho⟩ : Fin 4) i j)
  pointwise []
  blk_point [iblk, idx t]

theorem ld_s (t : Fin cfg0.N) (g : ℕ) (inb : ∀ a, (![0, g * 128] : Fin 2 → ℕ) a + (![1, 128] : Fin 2 → ℕ) a ≤ S1x512.size a) (z : Fin 1) (j : Fin 128) :
    View.ld (S := S1x512) (iblk m c 2 t) (Rect.unit (s := S1x512) ![0, g * 128] ![1, 128] inb) (ix2 z j) = S (g * 128 + j.val) := by
  have ho : g * 128 + 128 ≤ 512 := inb 1
  refine Eq.trans ?_ (V_s H (0 : Fin 1) ⟨g * 128 + j.val, by omega⟩)
  pointwise []
  blk_point [iblk, idx t]

omit H in
theorem out_tile (b g : ℕ) (w : FVec Ideal S1x128x128 .bf16) (s : FVec Ideal S1x128 .f32) (hw : ∀ (z : Fin 1) (i j : Fin 128), w (ix3 z i j) = W g i.val j.val)
    (hs : ∀ (z : Fin 1) (j : Fin 128), s (ix2 z j) = S (g * 128 + j.val)) (x : S2048x128.Idx) (y : S2048x512.Idx)
    (h0 : (y 0).val = (x 0).val) (h1 : (y 1).val = g * 128 + (x 1).val) :
    outv (emb2 (featR g (part U b g))) w s x = arr2 (fun s k => outF U W S b s k) y := by
  idx_vars x
  have hx : x1.val < 128 := x1.isLt
  rw [outv_at, hs]
  simp only [hw]
  unfold arr2 outF
  rw [h0, h1]
  beta_reduce
  rw [show (g * 128 + x1.val) / 128 = g by omega, show (g * 128 + x1.val) % 128 = x1.val by omega]

/-- What the kernel leaves in its result. -/
theorem final4 : (dats m 0 c).arrAt 4 cfg0.N = arr2 (n := 8192) (m := 512) fun r k => outF U W S (r / 2048) (r % 2048) k := by
  refine (dats m 0 c).arrAt_eq_of_covers 4 _ (by decide +kernel) fun t hf y => ?_
  blk_simp
  rw [after0_4]
  have e : ∀ (y : S2048x512.Idx), (arr2 (n := 8192) (m := 512) fun r k => outF U W S (r / 2048) (r % 2048) k) ((win0_4.blk t).view.emb y)
      = arr2 (fun s k => outF U W S t.val s k) y := by
    intro y
    idx_vars y
    blk_simp [arr2, idx t]
    rw [show (t.val * 2048 + y0.val) / 2048 = t.val by omega, show (t.val * 2048 + y0.val) % 2048 = y0.val by omega]
  refine Eq.trans ?_ (e y).symm
  clear e
  frame_out
  canon_tiles x hx
  · exact (congrFun (tile3 _ _ (ld_u H t 3 _) _ _) x).trans (out_tile t.val 3 _ _ (ld_w H t 3 _) (ld_s H t 3 _) x y hx0 hx1)
  · exact (congrFun (tile2 _ _ (ld_u H t 2 _) _ _) x).trans (out_tile t.val 2 _ _ (ld_w H t 2 _) (ld_s H t 2 _) x y hx0 hx1)
  · exact (congrFun (tile1 _ _ (ld_u H t 1 _) _ _) x).trans (out_tile t.val 1 _ _ (ld_w H t 1 _) (ld_s H t 1 _) x y hx0 hx1)
  · exact (congrFun (tile0 _ _ (ld_u H t 0 _) _ _) x).trans (out_tile t.val 0 _ _ (ld_w H t 0 _) (ld_s H t 0 _) x y hx0 (by omega))

end Cert.Poolf

end
-- ==== Proof.PoolfClaim.lean ====
/- The pooling branch's forward call: kernel and reference leave equal arrays, on a finite input. -/
module

public import proofs.«01_k».proof.Defs
public import proofs.«01_k».proof.Proof.Gen.Pre_finite_poolf
public import proofs.«01_k».proof.Proof.Gen.PoolfReferenceIdeal.Run
public import proofs.«01_k».proof.Proof.Gen.PoolfReferenceIdeal.Read
public import proofs.«01_k».proof.Proof.PoolClaim
public import proofs.«01_k».proof.Proof.PoolfKernel
public import proofs.«01_k».proof.Proof.OutClaim

@[expose] public section

set_option maxRecDepth 16384

noncomputable section

namespace Cert.PoolfRef

open Idealize.ShloMosaic Idealize.ShloMosaic.TcCoe Cert.PoolfReferenceIdeal Cert.PoolfReferenceIdeal.Read Cert.Reals
open Cert.Pool (featR)
open Cert.Out (arr2 arr2_apply)

variable (U : ℕ → ℕ → ℕ → ℝ) (W : ℕ → ℕ → ℕ → EReal) (S : ℕ → EReal)

/-- The features are those of the gradient's reference: the same operations. -/
theorem feat : val_main_v72 (F := Ideal) (PoolRef.argU U) = emb4 fun b s g k => featR g (Poolf.part U b g) s k :=
  (show val_main_v72 (F := Ideal) (PoolRef.argU U) = Cert.ReferenceIdeal.Read.val_main_v77 (F := Ideal) (PoolRef.argU U) from rfl).trans (PoolRef.feat U)

/-- Column `c` is column `c % 128` of group `c / 128`. -/
theorem split_column (a : Fin 4) (b : Fin 2048) (c : Fin 512) :
    idx_main_v75 (ix3 a b c) = ix4 a b (⟨c.val / 128, by omega⟩ : Fin 4) (⟨c.val % 128, by omega⟩ : Fin 128) := by
  funext z
  refine Fin.ext ?_
  match z with
  | ⟨0, _⟩ => show ((a.val * 2048 + b.val) * 512 + c.val) / 1048576 = a.val; omega
  | ⟨1, _⟩ => show ((a.val * 2048 + b.val) * 512 + c.val) / 512 % 2048 = b.val; omega
  | ⟨2, _⟩ => show ((a.val * 2048 + b.val) * 512 + c.val) / 128 % 4 = c.val / 128; omega
  | ⟨3, _⟩ => show ((a.val * 2048 + b.val) * 512 + c.val) % 128 = c.val % 128; omega

/-- The reference's result. -/
theorem out_eq (w : FVec Ideal S1x4x128x128 .f32) (hw : ∀ (a : Fin 1) (g : Fin 4) (i j : Fin 128), w (ix4 a g i j) = W g.val i.val j.val) :
    val_main_v80 (F := Ideal) (PoolRef.argU U) w (arr2 fun _ => S)
      = (arr2 fun r k => Poolf.outF U W S (r / 2048) (r % 2048) k : FVec Ideal S8192x512 .bf16) := by
  have h0 : ∀ (g : Fin 4) (i j : Fin 128), val_main_v0 (F := Ideal) w (ix3 g i j) = W g.val i.val j.val := by
    intro g i j
    pointwise [val_main_v0]
    exact hw _ _ _ _
  have h1 : ∀ (a : Fin 4) (b : Fin 2048) (k : Fin 512), val_main_v75 (F := Ideal) (PoolRef.argU U) w (ix3 a b k)
      = ∑ i : Fin 128, ((featR (k.val / 128) (Poolf.part U a.val (k.val / 128)) b.val i.val : ℝ) : EReal) * W (k.val / 128) i.val (k.val % 128) := by
    intro a b k
    rw [val_main_v75_apply, split_column, val_main_v74_apply, val_main_v73_apply, feat]
    exact Finset.sum_congr rfl fun i _ => (mul_comm _ _).trans (congrArg₂ (· * ·) rfl (h0 _ _ _))
  funext j
  idx_vars j
  pointwise [val_main_v80, val_main_v79, val_main_v78, val_main_v77, val_main_v76, val_main_v1]
  rw [h1]
  rfl

end Cert.PoolfRef

namespace Cert.Proof

open Idealize.ShloMosaic Idealize.SL.Sem Cert.Reals Cert.Out

section poolf

variable {m : (ℓ : Loc Cert.PoolfKernelIdeal.nD Cert.PoolfKernelIdeal.τ Cert.PoolfKernelIdeal.sig) → Buf (Elt Ideal) ℓ}

/-- The values an array of one sheet holds. -/
def valuesOf4 {n k l : ℕ} (x : (⟨4, ![1, n, k, l]⟩ : Shape).Idx → EReal) (a b c : ℕ) : EReal :=
  if h : a < n ∧ b < k ∧ c < l then x (ix4 0 ⟨a, h.1⟩ ⟨b, h.2.1⟩ ⟨c, h.2.2⟩) else 0

/-- On a finite input the kernel's arguments hold reals and values. -/
theorem poolf_holds (h : Cert.Pre_PoolfKernelIdeal_finite_poolf m) (c : Dev Cert.PoolfKernelIdeal.nD) :
    ∃ U W S, Poolf.Holds m U W S c := by
  have e0 := real3_eq (finite_of _ _ (fun _ => inf_word) (h c))
  refine ⟨_, valuesOf4 (m ((c.tc : Thread _ _).loc Cert.PoolfKernelIdeal.main_arg1)), _, ⟨e0, fun a g i j => ?_, arr2_row _⟩⟩
  rw [valuesOf4, dif_pos ⟨g.isLt, i.isLt, j.isLt⟩, show a = 0 from Subsingleton.elim _ _]

end poolf

/-- The reference ends with its arguments unchanged and, as it declares no semaphore, at rest. -/
theorem poolf_reference_frame : Cert.quiescent_PoolfReferenceIdeal := fun m g _ =>
  (θ_run _ _ _).mono (fun r h => ⟨fun c => (h c).2, sem_eq_zero_of_no_sems (by decide) r.2⟩)
    (Cert.PoolfReferenceIdeal.Value.run (F := Ideal) m g)

/-- On a finite input the kernel's result is the reference's. -/
theorem poolf_algebraic : Cert.algebraic_PoolfKernelIdeal_PoolfReferenceIdeal_pre_finite_poolf := by
  intro m ρ m' ρ' hpre hagree
  refine ⟨fun c => (Cert.PoolfKernelIdeal.Gen.dats m 0 c).arrAt 4 Cert.PoolfKernelIdeal.cfg0.N,
    Cert.PoolfKernelIdeal.Value.run_blocks m ρ, (θ_run _ _ _).mono (fun r h c => ?_) (Cert.PoolfReferenceIdeal.Value.run m' ρ')⟩
  obtain ⟨a0, a1, a2⟩ := hagree c
  obtain ⟨r0, rest⟩ := h c
  obtain ⟨U, W, S, H⟩ := poolf_holds hpre c
  refine ⟨r0.trans ?_, rest⟩
  refine (Cert.PoolfReferenceIdeal.Read.val_main_v80_eq _ _).trans ?_
  rw [a0, a1, a2, H.u, H.s]
  exact (PoolfRef.out_eq U W S _ H.w).trans (Poolf.final4 H).symm

end Cert.Proof

end
-- ==== Proof.GradKernel.lean ====
/- What the first projection's weight gradient leaves in its two results: the sum over the tiles of rows, on any arguments. -/
module

public import proofs.«01_k».proof.Proof.OutPay
public import proofs.«01_k».proof.Proof.NormMath
public import proofs.«01_k».proof.Proof.Gen.GradKernelIdeal.Skeleton
public import proofs.«01_k».proof.Proof.Gen.GradKernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Grad

open Idealize.ShloMosaic Idealize.ShloMosaic.TcCoe Idealize.SL.Sem Cert.GradKernelIdeal Cert.GradKernelIdeal.Gen
open Cert.Out (arr2 arr2_apply arr3 arr3_apply)
open Idealize.ShloMosaic.Pipeline (Dat)

/-- The four parts of the cotangent side by side are the cotangent: one grid point adds its rows' products. -/
theorem pay2 (Q X : ℕ → ℕ → EReal) {q : FVec Ideal S1024x512 .bf16} {k v : FVec Ideal S1024x128 .bf16} {u : FVec Ideal S1024x512 .bf16}
    {x : FVec Ideal S1024x1024 .bf16} (a : FVec Ideal S1280x1024 .f32)
    (hq : q = arr2 Q) (hk : k = arr2 fun r c => Q r (512 + c)) (hv : v = arr2 fun r c => Q r (640 + c)) (hu : u = arr2 fun r c => Q r (768 + c))
    (hx : x = arr2 X) (i : Fin 1280) (j : Fin 1024) :
    k0_pay2 (F := Ideal) q k v u a x (ix2 i j) = a (ix2 i j) + ∑ r : Fin 1024, Q r.val i.val * X r.val j.val := by
  subst hq hk hv hu hx
  pointwise [k0_pay2]
  refine congrArg _ (Finset.sum_congr rfl fun r _ => ?_)
  congr 1
  have hl := i.isLt
  split
  · rfl
  · split
    · rw [arr2_apply, show 512 + (i.val - 512) = i.val by omega]
    · split
      · rw [arr2_apply, show 640 + (i.val - 512 - 128) = i.val by omega]
      · rw [arr2_apply, show 768 + (i.val - 512 - 128 - 128) = i.val by omega]

variable (m : (ℓ : Loc nD τ sig) → Buf (Elt Ideal) ℓ)
-- what the arguments hold: the normed rows, the projection's cotangent
variable (X P : ℕ → ℕ → ℕ → EReal)

/-- The kernel's arguments hold these values on core `c`. -/
structure Holds (c : Dev nD) : Prop where
  x : m ((c : Thread nD τ).loc main_arg0) = (arr3 X : FVec Ideal S4x2048x1024 .f32)
  p : m ((c : Thread nD τ).loc main_arg1) = (arr3 P : FVec Ideal S4x2048x1280 .f32)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] := (by decide +kernel : ∀ t : Fin grid0.N, _)

/-- Row `r` of the flattened batch. -/
def flat (Y : ℕ → ℕ → ℕ → EReal) (r k : ℕ) : EReal := Y (r / 2048) (r % 2048) k

/-- Row `r` of the rows of grid point `t`. -/
def tile (Y : ℕ → ℕ → ℕ → EReal) (t r k : ℕ) : EReal := flat Y (t * 1024 + r) k

variable {m X P} {c : Dev nD} (H : Holds m X P c)
include H

theorem V_x : V m c main_v7 = arr2 (n := 8192) (m := 1024) (flat X) := by
  entry_read
  funext (j : S8192x1024.Idx)
  idx_vars j
  pointwise []
  rw [H.x]
  rfl

theorem V_q : V m c main_v2 = arr2 (n := 8192) (m := 512) fun r k => flat P r k := by
  entry_read
  funext (j : S8192x512.Idx)
  idx_vars j
  pointwise []
  rw [H.p]
  rfl

theorem V_k : V m c main_v3 = arr2 (n := 8192) (m := 128) fun r k => flat P r (512 + k) := by
  entry_read
  funext (j : S8192x128.Idx)
  idx_vars j
  pointwise []
  rw [H.p]
  rfl

theorem V_v : V m c main_v4 = arr2 (n := 8192) (m := 128) fun r k => flat P r (640 + k) := by
  entry_read
  funext (j : S8192x128.Idx)
  idx_vars j
  pointwise []
  rw [H.p]
  rfl

theorem V_u : V m c main_v5 = arr2 (n := 8192) (m := 512) fun r k => flat P r (768 + k) := by
  entry_read
  funext (j : S8192x512.Idx)
  idx_vars j
  pointwise []
  rw [H.p]
  rfl

theorem ld_q (t : Fin cfg0.N) : iblk m c 0 t = arr2 (n := 1024) (m := 512) (tile P t.val) := by
  unfold iblk
  rw [show V m c (Pipeline.arrRef spec0 0) = _ from V_q H]
  funext (j : S1024x512.Idx)
  idx_vars j
  blk_simp [arr2, idx t]
  rfl

theorem ld_k (t : Fin cfg0.N) : iblk m c 1 t = arr2 (n := 1024) (m := 128) fun r k => tile P t.val r (512 + k) := by
  unfold iblk
  rw [show V m c (Pipeline.arrRef spec0 1) = _ from V_k H]
  funext (j : S1024x128.Idx)
  idx_vars j
  blk_simp [arr2, idx t]
  rfl

theorem ld_v (t : Fin cfg0.N) : iblk m c 2 t = arr2 (n := 1024) (m := 128) fun r k => tile P t.val r (640 + k) := by
  unfold iblk
  rw [show V m c (Pipeline.arrRef spec0 2) = _ from V_v H]
  funext (j : S1024x128.Idx)
  idx_vars j
  blk_simp [arr2, idx t]
  rfl

theorem ld_u (t : Fin cfg0.N) : iblk m c 3 t = arr2 (n := 1024) (m := 512) fun r k => tile P t.val r (768 + k) := by
  unfold iblk
  rw [show V m c (Pipeline.arrRef spec0 3) = _ from V_u H]
  funext (j : S1024x512.Idx)
  idx_vars j
  blk_simp [arr2, idx t]
  rfl

theorem ld_x (t : Fin cfg0.N) : iblk m c 4 t = arr2 (n := 1024) (m := 1024) (tile X t.val) := by
  unfold iblk
  rw [show V m c (Pipeline.arrRef spec0 4) = _ from V_x H]
  funext (j : S1024x1024.Idx)
  idx_vars j
  blk_simp [arr2, idx t]
  rfl

omit H in
/-- What grid point `t` adds. -/
def addE (X P : ℕ → ℕ → ℕ → EReal) (t i j : ℕ) : EReal := ∑ r : Fin 1024, tile P t r.val i * tile X t r.val j

omit H in
/-- The whole gradient. -/
def dwE (X P : ℕ → ℕ → ℕ → EReal) (i j : ℕ) : EReal := ∑ t : Fin 8, addE X P t.val i j

theorem point (t : Fin cfg0.N) (a : FVec Ideal S1280x1024 .f32) (i : Fin 1280) (j : Fin 1024) :
    k0_pay2 (F := Ideal) (iblk m c 0 t) (iblk m c 1 t) (iblk m c 2 t) (iblk m c 3 t) a (iblk m c 4 t) (ix2 i j) = a (ix2 i j) + addE X P t.val i.val j.val :=
  pay2 (tile P t.val) (tile X t.val) a (ld_q H t) (ld_k H t) (ld_v H t) (ld_u H t) (ld_x H t) i j

theorem step5 (t : Fin cfg0.N) (h : ¬ t.val % 8 = 0) (y : S1280x1024.Idx) :
    (outsAt0 m c t.val t.isLt).1 y = (outsAt0 m c (t.val - 1) (Nat.lt_of_le_of_lt (Nat.sub_le _ _) t.isLt)).1 y + addE X P t.val (y 0).val (y 1).val := by
  by_cases h' : t.val % 8 = 7
  on_goal 1 => rw [outsAt0_C m c t h h']
  on_goal 2 => rw [outsAt0_B m c t h h']
  all_goals
    frame_out
    idx_vars y
    exact point H t _ y0 y1

theorem base5 (t : Fin cfg0.N) (h : t.val % 8 = 0) (y : S1280x1024.Idx) :
    (outsAt0 m c t.val t.isLt).1 y = 0 + addE X P t.val (y 0).val (y 1).val := by
  rw [outsAt0_A m c t h (by omega)]
  frame_out
  idx_vars y
  refine (point H t _ y0 y1).trans ?_
  exact congrArg (· + _) (show (k0_pay1 (F := Ideal) : FVec Ideal S1280x1024 .f32) (ix2 y0 y1) = 0 by pointwise [k0_pay1])

theorem last5 (y : S1280x1024.Idx) : (outsAt0 m c t0_7.val t0_7.isLt).1 y = dwE X P (y 0).val (y 1).val := by
  rw [Pipeline.eq_sum_fin_of_reset_step_apply_last (fun n h => (outsAt0 m c n h).1) 8 (fun _ => 0) (fun p y => addE X P p.val (y 0).val (y 1).val)
    (fun t h y => base5 H t h y) (fun t h y => step5 H t h y) (le_of_eq N_0) t0_7 rfl y, zero_add]
  rfl

theorem final5 : (dats m 0 c).arrAt 5 cfg0.N = (arr2 (dwE X P) : FVec Ideal S1280x1024 .f32) := by
  refine (dats m 0 c).arrAt_eq_of_after_last 5 t0_7 (by decide +kernel) _ fun y => ?_
  blk_simp
  rw [after0_5]
  exact last5 H y

/-- The second result is the first, in the wire's format. -/
theorem wire : (outsAt0 m c t0_7.val t0_7.isLt).2 = (outsAt0 m c t0_7.val t0_7.isLt).1 := by
  rw [outsAt0_C m c t0_7 (by decide) (by decide)]
  funext (y : S1280x1024.Idx)
  frame_out
  idx_vars y
  pointwise [k0_pay3]

theorem final6 : (dats m 0 c).arrAt 6 cfg0.N = (arr2 (dwE X P) : FVec Ideal S1280x1024 .bf16) := by
  refine (dats m 0 c).arrAt_eq_of_after_last 6 t0_7 (by decide +kernel) _ fun y => ?_
  blk_simp
  rw [after0_6, wire H]
  exact last5 H y

end Cert.Grad

end
-- ==== Proof.GradRef.lean ====
/- What the reference of the first projection's weight gradient leaves. -/
module

public import proofs.«01_k».proof.Proof.Gen.GradReferenceIdeal.Read
public import proofs.«01_k».proof.Proof.GradKernel

@[expose] public section

set_option maxRecDepth 16384

noncomputable section

namespace Cert.GradRef

open Idealize.ShloMosaic Idealize.ShloMosaic.TcCoe Cert.GradReferenceIdeal Cert.GradReferenceIdeal.Read Cert.Grad
open Cert.Out (arr2 arr2_apply arr3 arr3_apply)

variable (X P : ℕ → ℕ → ℕ → EReal)

/-- The normed rows, as an array. -/
abbrev argX : FVec Ideal S4x2048x1024 .f32 := arr3 X
/-- The projection's cotangent, as an array. -/
abbrev argP : FVec Ideal S4x2048x1280 .f32 := arr3 P

/-- The gradient: the sum over the sequences' positions, which is the sum over the tiles. -/
theorem dw_eq : val_main_v4 (F := Ideal) (argX X) (argP P) = (arr2 (dwE X P) : FVec Ideal S1280x1024 .f32) := by
  funext j
  idx_vars j
  pointwise [val_main_v4, val_main_v3]
  unfold val_main_v2
  pointwise []
  simp only [arr3_apply, arr2_apply]
  unfold dwE addE tile flat
  rw [Norm.sum_batch 8 1024 (by norm_num) fun b s => P b s j0.val * X b s j1.val]

/-- The same, in the wire's format. -/
theorem wire_eq : val_main_v5 (F := Ideal) (argX X) (argP P) = (arr2 (dwE X P) : FVec Ideal S1280x1024 .bf16) := by
  have h := dw_eq X P
  funext j
  idx_vars j
  pointwise [val_main_v5]
  rw [h]

end Cert.GradRef

end
-- ==== Proof.GradClaim.lean ====
/- The first projection's weight gradient: kernel and reference leave equal arrays, on any arguments. -/
module

public import proofs.«01_k».proof.Defs
public import proofs.«01_k».proof.Proof.Gen.GradReferenceIdeal.Run
public import proofs.«01_k».proof.Proof.GradRef
public import proofs.«01_k».proof.Proof.OutClaim

@[expose] public section

set_option maxRecDepth 16384

noncomputable section

namespace Cert.Proof

open Idealize.ShloMosaic Idealize.SL.Sem

/-- Whatever the arguments hold, it is values. -/
theorem grad_holds (m : (ℓ : Loc Cert.GradKernelIdeal.nD Cert.GradKernelIdeal.τ Cert.GradKernelIdeal.sig) → Buf (Elt Ideal) ℓ) (c : Dev Cert.GradKernelIdeal.nD) :
    ∃ X P, Grad.Holds m X P c :=
  ⟨_, _, ⟨arr3_valuesOf _, arr3_valuesOf _⟩⟩

/-- The reference ends with its arguments unchanged and, as it declares no semaphore, at rest. -/
theorem grad_reference_frame : Cert.quiescent_GradReferenceIdeal := fun m g _ =>
  (θ_run _ _ _).mono (fun r h => ⟨fun c => (h c).2.2, sem_eq_zero_of_no_sems (by decide) r.2⟩)
    (Cert.GradReferenceIdeal.Value.run (F := Ideal) m g)

/-- The kernel's two results are the reference's. -/
theorem grad_algebraic : Cert.algebraic_GradKernelIdeal_GradReferenceIdeal := by
  intro m ρ m' ρ' _ hagree
  refine ⟨fun c => (Cert.GradKernelIdeal.Gen.dats m 0 c).arrAt 5 Cert.GradKernelIdeal.cfg0.N, fun c => (Cert.GradKernelIdeal.Gen.dats m 0 c).arrAt 6 Cert.GradKernelIdeal.cfg0.N,
    Cert.GradKernelIdeal.Value.run_blocks m ρ, (θ_run _ _ _).mono (fun r h c => ?_) (Cert.GradReferenceIdeal.Value.run m' ρ')⟩
  obtain ⟨a0, a1⟩ := hagree c
  obtain ⟨r0, r1, rest⟩ := h c
  obtain ⟨X, P, H⟩ := grad_holds m c
  refine ⟨r0.trans ?_, r1.trans ?_, rest⟩
  · refine (Cert.GradReferenceIdeal.Read.val_main_v4_eq _ _).trans ?_
    rw [a0, a1, H.x, H.p]
    exact (GradRef.dw_eq X P).trans (Grad.final5 H).symm
  · refine (Cert.GradReferenceIdeal.Read.val_main_v5_eq _ _).trans ?_
    rw [a0, a1, H.x, H.p]
    exact (GradRef.wire_eq X P).trans (Grad.final6 H).symm

end Cert.Proof

end
-- ==== Proof.lean ====
/- The certificate: the frames, and the value claims assembled from their modules. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.InKernel.Frame
public import proofs.«01_k».proof.Proof.Gen.InKernelIdeal.Frame
public import proofs.«01_k».proof.Proof.Gen.InKernelIdeal.Value
public import proofs.«01_k».proof.Proof.Gen.InReferenceIdeal.Run
public import proofs.«01_k».proof.Proof.Gen.InReferenceIdeal.Read
public import proofs.«01_k».proof.Proof.Gen.Pre_finite_in
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.Pre_finite_loss
public import proofs.«01_k».proof.Proof.Gen.MlpKernel.Frame
public import proofs.«01_k».proof.Proof.Gen.MlpKernelIdeal.Frame
public import proofs.«01_k».proof.Proof.Gen.MlpKernelIdeal.Skeleton
public import proofs.«01_k».proof.Proof.Gen.MlpReferenceIdeal.Run
public import proofs.«01_k».proof.Proof.Gen.MlpReferenceIdeal.Read
public import proofs.«01_k».proof.Proof.Gen.Pre_finite_mlp
public import proofs.«01_k».proof.Proof.Gen.AttnKernel
public import proofs.«01_k».proof.Proof.Gen.AttnKernelIdeal.Frame
public import proofs.«01_k».proof.Proof.Gen.AttnKernelIdeal.Skeleton
public import proofs.«01_k».proof.Proof.Gen.InfKernel.Frame
public import proofs.«01_k».proof.Proof.Gen.InfKernelIdeal.Frame
public import proofs.«01_k».proof.Proof.Gen.InfKernelIdeal.Value
public import proofs.«01_k».proof.Proof.Gen.InfReferenceIdeal.Run
public import proofs.«01_k».proof.Proof.Gen.InfReferenceIdeal.Read
public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.Gen.PoolfKernel.Frame
public import proofs.«01_k».proof.Proof.Gen.PoolfKernelIdeal.Frame
public import proofs.«01_k».proof.Proof.Gen.PoolfKernelIdeal.Value
public import proofs.«01_k».proof.Proof.Gen.PoolfReferenceIdeal.Run
public import proofs.«01_k».proof.Proof.Gen.PoolfReferenceIdeal.Read
public import proofs.«01_k».proof.Proof.Gen.Pre_finite_poolf
public import proofs.«01_k».proof.Proof.Gen.GradKernel.Frame
public import proofs.«01_k».proof.Proof.Gen.GradKernelIdeal.Frame
public import proofs.«01_k».proof.Proof.Gen.GradKernelIdeal.Value
public import proofs.«01_k».proof.Proof.Gen.GradReferenceIdeal.Run
public import proofs.«01_k».proof.Proof.Gen.GradReferenceIdeal.Read
public import proofs.«01_k».proof.Proof.PoolClaim
public import proofs.«01_k».proof.Proof.InClaim
public import proofs.«01_k».proof.Proof.LossClaim
public import proofs.«01_k».proof.Proof.MlpClaim
public import proofs.«01_k».proof.Proof.AttnClaim
public import proofs.«01_k».proof.Proof.OutClaim
public import proofs.«01_k».proof.Proof.InfClaim
public import proofs.«01_k».proof.Proof.PoolfClaim
public import proofs.«01_k».proof.Proof.GradClaim

@[expose] public section

noncomputable section

namespace Cert.Proof

open Idealize.ShloMosaic Idealize.SL.Sem

/-- Every conjunct of the claim: the frames, and the values of eight of the nine calls. -/
theorem claim : Cert.Claim :=
  ⟨Cert.Kernel.Gen.facts, Cert.KernelIdeal.Gen.facts, Cert.ReferenceIdeal.Gen.facts,
   Cert.InKernel.Gen.facts, Cert.InKernelIdeal.Gen.facts, Cert.InReferenceIdeal.Gen.facts,
   Cert.LossKernel.Gen.facts, Cert.LossKernelIdeal.Gen.facts, Cert.LossReferenceIdeal.Gen.facts,
   Cert.MlpKernel.Gen.facts, Cert.MlpKernelIdeal.Gen.facts, Cert.MlpReferenceIdeal.Gen.facts,
   Cert.AttnKernel.Gen.facts, Cert.AttnKernelIdeal.Gen.facts,
   Cert.InfKernel.Gen.facts, Cert.InfKernelIdeal.Gen.facts, Cert.InfReferenceIdeal.Gen.facts,
   Cert.OutKernel.Gen.facts, Cert.OutKernelIdeal.Gen.facts, Cert.OutReferenceIdeal.Gen.facts,
   Cert.PoolfKernel.Gen.facts, Cert.PoolfKernelIdeal.Gen.facts, Cert.PoolfReferenceIdeal.Gen.facts,
   Cert.GradKernel.Gen.facts, Cert.GradKernelIdeal.Gen.facts, Cert.GradReferenceIdeal.Gen.facts,
   Cert.Pre_finite.Gen.facts, Cert.Pre_finite_in.Gen.facts, Cert.Pre_finite_loss.Gen.facts, Cert.Pre_finite_mlp.Gen.facts, Cert.Pre_finite_poolf.Gen.facts,
   fun m g _ => Cert.Kernel.Gen.frame m g,
   fun m g _ => Cert.KernelIdeal.Gen.frame m g,
   fun m g _ => Cert.KernelIdeal.Gen.frame m g,
   pool_reference_frame,
   fun m g _ => pool_reference_frame m g trivial,
   fun m g _ => Cert.InKernel.Gen.frame m g,
   fun m g _ => Cert.InKernelIdeal.Gen.frame m g,
   fun m g _ => Cert.InKernelIdeal.Gen.frame m g,
   in_reference_frame,
   fun m g _ => in_reference_frame m g trivial,
   fun m g _ => Cert.LossKernel.Gen.frame m g,
   fun m g _ => Cert.LossKernelIdeal.Gen.frame m g,
   fun m g _ => Cert.LossKernelIdeal.Gen.frame m g,
   loss_reference_frame,
   fun m g _ => loss_reference_frame m g trivial,
   mlp_frame,
   mlp_ideal_frame,
   fun m g _ => mlp_ideal_frame m g trivial,
   mlp_reference_frame,
   fun m g _ => mlp_reference_frame m g trivial,
   attn_frame,
   attn_ideal_frame,
   fun m g _ => Cert.InfKernel.Gen.frame m g,
   fun m g _ => Cert.InfKernelIdeal.Gen.frame m g,
   inf_reference_frame,
   fun m g _ => Cert.OutKernel.Gen.frame m g,
   fun m g _ => Cert.OutKernelIdeal.Gen.frame m g,
   out_reference_frame,
   fun m g _ => Cert.PoolfKernel.Gen.frame m g,
   fun m g _ => Cert.PoolfKernelIdeal.Gen.frame m g,
   fun m g _ => Cert.PoolfKernelIdeal.Gen.frame m g,
   poolf_reference_frame,
   fun m g _ => poolf_reference_frame m g trivial,
   fun m g _ => Cert.GradKernel.Gen.frame m g,
   fun m g _ => Cert.GradKernelIdeal.Gen.frame m g,
   grad_reference_frame,
   trivial,
   pool_algebraic,
   trivial,
   in_algebraic,
   trivial,
   loss_algebraic,
   trivial,
   mlp_algebraic,
   attn_preserves,
   trivial,
   inf_algebraic,
   trivial,
   out_algebraic,
   trivial,
   poolf_algebraic,
   trivial,
   grad_algebraic⟩

end Cert.Proof

end
